-- ==== Defs.lean ====
def Pre_AttA (m : (ℓ : Loc Cert.AttA.nD Cert.AttA.τ Cert.AttA.sig) → Buf (Elt Bits) ℓ) : Prop :=
  True

def Pre_AttAIdeal [hPre_finite_a : Cert.Pre_finite_a.Facts] (m : (ℓ : Loc Cert.AttAIdeal.nD Cert.AttAIdeal.τ Cert.AttAIdeal.sig) → Buf (Elt Ideal) ℓ) : Prop :=
  ∀ c : Dev Cert.AttAIdeal.nD,
    (Cert.Pre_finite_a.fn (F := Ideal) (m ((c.tc : Thread Cert.AttAIdeal.nD Cert.AttAIdeal.τ).loc Cert.AttAIdeal.main_arg0)) (m ((c.tc : Thread Cert.AttAIdeal.nD Cert.AttAIdeal.τ).loc Cert.AttAIdeal.main_arg1)) (m ((c.tc : Thread Cert.AttAIdeal.nD Cert.AttAIdeal.τ).loc Cert.AttAIdeal.main_arg2))) = (fun _ => 1#1)

def Pre_AttAIdeal_none (m : (ℓ : Loc Cert.AttAIdeal.nD Cert.AttAIdeal.τ Cert.AttAIdeal.sig) → Buf (Elt Ideal) ℓ) : Prop :=
  True

def Pre_RefAIdeal [hPre_finite_a : Cert.Pre_finite_a.Facts] (m : (ℓ : Loc Cert.RefAIdeal.nD Cert.RefAIdeal.τ Cert.RefAIdeal.sig) → Buf (Elt Ideal) ℓ) : Prop :=
  ∀ c : Dev Cert.RefAIdeal.nD,
    (Cert.Pre_finite_a.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2))) = (fun _ => 1#1)

def Pre_AttB (m : (ℓ : Loc Cert.AttB.nD Cert.AttB.τ Cert.AttB.sig) → Buf (Elt Bits) ℓ) : Prop :=
  True

def Pre_AttBIdeal [hPre_finite_b : Cert.Pre_finite_b.Facts] (m : (ℓ : Loc Cert.AttBIdeal.nD Cert.AttBIdeal.τ Cert.AttBIdeal.sig) → Buf (Elt Ideal) ℓ) : Prop :=
  ∀ c : Dev Cert.AttBIdeal.nD,
    (Cert.Pre_finite_b.fn (F := Ideal) (m ((c.tc : Thread Cert.AttBIdeal.nD Cert.AttBIdeal.τ).loc Cert.AttBIdeal.main_arg0)) (m ((c.tc : Thread Cert.AttBIdeal.nD Cert.AttBIdeal.τ).loc Cert.AttBIdeal.main_arg1)) (m ((c.tc : Thread Cert.AttBIdeal.nD Cert.AttBIdeal.τ).loc Cert.AttBIdeal.main_arg2))) = (fun _ => 1#1)

def Pre_AttBIdeal_none (m : (ℓ : Loc Cert.AttBIdeal.nD Cert.AttBIdeal.τ Cert.AttBIdeal.sig) → Buf (Elt Ideal) ℓ) : Prop :=
  True

def Pre_RefBIdeal [hPre_finite_b : Cert.Pre_finite_b.Facts] (m : (ℓ : Loc Cert.RefBIdeal.nD Cert.RefBIdeal.τ Cert.RefBIdeal.sig) → Buf (Elt Ideal) ℓ) : Prop :=
  ∀ c : Dev Cert.RefBIdeal.nD,
    (Cert.Pre_finite_b.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def quiescent_AttA [hAttA : Cert.AttA.Facts] : Prop :=
  ∀ (m : (ℓ : Loc Cert.AttA.nD Cert.AttA.τ Cert.AttA.sig) → Buf (Elt Bits) ℓ) (g : Dev Cert.AttA.nD → PrngReg), Pre_AttA m →
    θ_run (Cert.AttA.defs (F := Bits)) (onTc (τ := Cert.AttA.τ) (Cert.AttA.main (F := Bits))) ⟨m, fun _ => 0, g⟩ (fun r => (∀ c : Dev Cert.AttA.nD,
      r.2.mem ((c.tc : Thread Cert.AttA.nD Cert.AttA.τ).loc Cert.AttA.main_arg0) = m ((c.tc : Thread Cert.AttA.nD Cert.AttA.τ).loc Cert.AttA.main_arg0)
      ∧ r.2.mem ((c.tc : Thread Cert.AttA.nD Cert.AttA.τ).loc Cert.AttA.main_arg1) = m ((c.tc : Thread Cert.AttA.nD Cert.AttA.τ).loc Cert.AttA.main_arg1)
      ∧ r.2.mem ((c.tc : Thread Cert.AttA.nD Cert.AttA.τ).loc Cert.AttA.main_arg2) = m ((c.tc : Thread Cert.AttA.nD Cert.AttA.τ).loc Cert.AttA.main_arg2))
      ∧ r.2.sem = fun _ => 0)

def quiescent_AttAIdeal [hAttAIdeal : Cert.AttAIdeal.Facts] [hPre_finite_a : Cert.Pre_finite_a.Facts] : Prop :=
  ∀ (m : (ℓ : Loc Cert.AttAIdeal.nD Cert.AttAIdeal.τ Cert.AttAIdeal.sig) → Buf (Elt Ideal) ℓ) (g : Dev Cert.AttAIdeal.nD → PrngReg), Pre_AttAIdeal m →
    θ_run (Cert.AttAIdeal.defs (F := Ideal)) (onTc (τ := Cert.AttAIdeal.τ) (Cert.AttAIdeal.main (F := Ideal))) ⟨m, fun _ => 0, g⟩ (fun r => (∀ c : Dev Cert.AttAIdeal.nD,
      r.2.mem ((c.tc : Thread Cert.AttAIdeal.nD Cert.AttAIdeal.τ).loc Cert.AttAIdeal.main_arg0) = m ((c.tc : Thread Cert.AttAIdeal.nD Cert.AttAIdeal.τ).loc Cert.AttAIdeal.main_arg0)
      ∧ r.2.mem ((c.tc : Thread Cert.AttAIdeal.nD Cert.AttAIdeal.τ).loc Cert.AttAIdeal.main_arg1) = m ((c.tc : Thread Cert.AttAIdeal.nD Cert.AttAIdeal.τ).loc Cert.AttAIdeal.main_arg1)
      ∧ r.2.mem ((c.tc : Thread Cert.AttAIdeal.nD Cert.AttAIdeal.τ).loc Cert.AttAIdeal.main_arg2) = m ((c.tc : Thread Cert.AttAIdeal.nD Cert.AttAIdeal.τ).loc Cert.AttAIdeal.main_arg2))
      ∧ r.2.sem = fun _ => 0)

def quiescent_AttAIdeal_pre_none [hAttAIdeal : Cert.AttAIdeal.Facts] : Prop :=
  ∀ (m : (ℓ : Loc Cert.AttAIdeal.nD Cert.AttAIdeal.τ Cert.AttAIdeal.sig) → Buf (Elt Ideal) ℓ) (g : Dev Cert.AttAIdeal.nD → PrngReg), Pre_AttAIdeal_none m →
    θ_run (Cert.AttAIdeal.defs (F := Ideal)) (onTc (τ := Cert.AttAIdeal.τ) (Cert.AttAIdeal.main (F := Ideal))) ⟨m, fun _ => 0, g⟩ (fun r => (∀ c : Dev Cert.AttAIdeal.nD,
      r.2.mem ((c.tc : Thread Cert.AttAIdeal.nD Cert.AttAIdeal.τ).loc Cert.AttAIdeal.main_arg0) = m ((c.tc : Thread Cert.AttAIdeal.nD Cert.AttAIdeal.τ).loc Cert.AttAIdeal.main_arg0)
      ∧ r.2.mem ((c.tc : Thread Cert.AttAIdeal.nD Cert.AttAIdeal.τ).loc Cert.AttAIdeal.main_arg1) = m ((c.tc : Thread Cert.AttAIdeal.nD Cert.AttAIdeal.τ).loc Cert.AttAIdeal.main_arg1)
      ∧ r.2.mem ((c.tc : Thread Cert.AttAIdeal.nD Cert.AttAIdeal.τ).loc Cert.AttAIdeal.main_arg2) = m ((c.tc : Thread Cert.AttAIdeal.nD Cert.AttAIdeal.τ).loc Cert.AttAIdeal.main_arg2))
      ∧ r.2.sem = fun _ => 0)

def quiescent_RefAIdeal [hRefAIdeal : Cert.RefAIdeal.Facts] [hPre_finite_a : Cert.Pre_finite_a.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2))
      ∧ r.2.sem = fun _ => 0)

def quiescent_AttB [hAttB : Cert.AttB.Facts] : Prop :=
  ∀ (m : (ℓ : Loc Cert.AttB.nD Cert.AttB.τ Cert.AttB.sig) → Buf (Elt Bits) ℓ) (g : Dev Cert.AttB.nD → PrngReg), Pre_AttB m →
    θ_run (Cert.AttB.defs (F := Bits)) (onTc (τ := Cert.AttB.τ) (Cert.AttB.main (F := Bits))) ⟨m, fun _ => 0, g⟩ (fun r => (∀ c : Dev Cert.AttB.nD,
      r.2.mem ((c.tc : Thread Cert.AttB.nD Cert.AttB.τ).loc Cert.AttB.main_arg0) = m ((c.tc : Thread Cert.AttB.nD Cert.AttB.τ).loc Cert.AttB.main_arg0)
      ∧ r.2.mem ((c.tc : Thread Cert.AttB.nD Cert.AttB.τ).loc Cert.AttB.main_arg1) = m ((c.tc : Thread Cert.AttB.nD Cert.AttB.τ).loc Cert.AttB.main_arg1)
      ∧ r.2.mem ((c.tc : Thread Cert.AttB.nD Cert.AttB.τ).loc Cert.AttB.main_arg2) = m ((c.tc : Thread Cert.AttB.nD Cert.AttB.τ).loc Cert.AttB.main_arg2))
      ∧ r.2.sem = fun _ => 0)

def quiescent_AttBIdeal [hAttBIdeal : Cert.AttBIdeal.Facts] [hPre_finite_b : Cert.Pre_finite_b.Facts] : Prop :=
  ∀ (m : (ℓ : Loc Cert.AttBIdeal.nD Cert.AttBIdeal.τ Cert.AttBIdeal.sig) → Buf (Elt Ideal) ℓ) (g : Dev Cert.AttBIdeal.nD → PrngReg), Pre_AttBIdeal m →
    θ_run (Cert.AttBIdeal.defs (F := Ideal)) (onTc (τ := Cert.AttBIdeal.τ) (Cert.AttBIdeal.main (F := Ideal))) ⟨m, fun _ => 0, g⟩ (fun r => (∀ c : Dev Cert.AttBIdeal.nD,
      r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
      ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
      ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2))
      ∧ r.2.sem = fun _ => 0)

def quiescent_AttBIdeal_pre_none [hAttBIdeal : Cert.AttBIdeal.Facts] : Prop :=
  ∀ (m : (ℓ : Loc Cert.AttBIdeal.nD Cert.AttBIdeal.τ Cert.AttBIdeal.sig) → Buf (Elt Ideal) ℓ) (g : Dev Cert.AttBIdeal.nD → PrngReg), Pre_AttBIdeal_none m →
    θ_run (Cert.AttBIdeal.defs (F := Ideal)) (onTc (τ := Cert.AttBIdeal.τ) (Cert.AttBIdeal.main (F := Ideal))) ⟨m, fun _ => 0, g⟩ (fun r => (∀ c : Dev Cert.AttBIdeal.nD,
      r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
      ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
      ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2))
      ∧ r.2.sem = fun _ => 0)

def quiescent_RefBIdeal [hRefBIdeal : Cert.RefBIdeal.Facts] [hPre_finite_b : Cert.Pre_finite_b.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9)
      ∧ r.2.mem ((c.tc : Thread Cert.RefMergeIdeal.nD Cert.RefMergeIdeal.τ).loc Cert.RefMergeIdeal.main_arg10) = m ((c.tc : Thread Cert.RefMergeIdeal.nD Cert.RefMergeIdeal.τ).loc Cert.RefMergeIdeal.main_arg10)
      ∧ r.2.mem ((c.tc : Thread Cert.RefMergeIdeal.nD Cert.RefMergeIdeal.τ).loc Cert.RefMergeIdeal.main_arg11) = m ((c.tc : Thread Cert.RefMergeIdeal.nD Cert.RefMergeIdeal.τ).loc Cert.RefMergeIdeal.main_arg11)
      ∧ r.2.mem ((c.tc : Thread Cert.RefMergeIdeal.nD Cert.RefMergeIdeal.τ).loc Cert.RefMergeIdeal.main_arg12) = m ((c.tc : Thread Cert.RefMergeIdeal.nD Cert.RefMergeIdeal.τ).loc Cert.RefMergeIdeal.main_arg12)
      ∧ r.2.mem ((c.tc : Thread Cert.RefMergeIdeal.nD Cert.RefMergeIdeal.τ).loc Cert.RefMergeIdeal.main_arg13) = m ((c.tc : Thread Cert.RefMergeIdeal.nD Cert.RefMergeIdeal.τ).loc Cert.RefMergeIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14)
      ∧ r.2.mem ((c.tc : Thread Cert.Proj.nD Cert.Proj.τ).loc Cert.Proj.main_arg15) = m ((c.tc : Thread Cert.Proj.nD Cert.Proj.τ).loc Cert.Proj.main_arg15)
      ∧ r.2.mem ((c.tc : Thread Cert.Proj.nD Cert.Proj.τ).loc Cert.Proj.main_arg16) = m ((c.tc : Thread Cert.Proj.nD Cert.Proj.τ).loc Cert.Proj.main_arg16)
      ∧ r.2.mem ((c.tc : Thread Cert.Proj.nD Cert.Proj.τ).loc Cert.Proj.main_arg17) = m ((c.tc : Thread Cert.Proj.nD Cert.Proj.τ).loc Cert.Proj.main_arg17))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
      ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
      ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
      ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3)
      ∧ r.2.mem ((c.tc : Thread Cert.RefProjIdeal.nD Cert.RefProjIdeal.τ).loc Cert.RefProjIdeal.main_arg4) = m ((c.tc : Thread Cert.RefProjIdeal.nD Cert.RefProjIdeal.τ).loc Cert.RefProjIdeal.main_arg4)
      ∧ r.2.mem ((c.tc : Thread Cert.RefProjIdeal.nD Cert.RefProjIdeal.τ).loc Cert.RefProjIdeal.main_arg5) = m ((c.tc : Thread Cert.RefProjIdeal.nD Cert.RefProjIdeal.τ).loc Cert.RefProjIdeal.main_arg5)
      ∧ r.2.mem ((c.tc : Thread Cert.RefProjIdeal.nD Cert.RefProjIdeal.τ).loc Cert.RefProjIdeal.main_arg6) = m ((c.tc : Thread Cert.RefProjIdeal.nD Cert.RefProjIdeal.τ).loc Cert.RefProjIdeal.main_arg6)
      ∧ r.2.mem ((c.tc : Thread Cert.RefProjIdeal.nD Cert.RefProjIdeal.τ).loc Cert.RefProjIdeal.main_arg7) = m ((c.tc : Thread Cert.RefProjIdeal.nD Cert.RefProjIdeal.τ).loc Cert.RefProjIdeal.main_arg7)
      ∧ r.2.mem ((c.tc : Thread Cert.RefProjIdeal.nD Cert.RefProjIdeal.τ).loc Cert.RefProjIdeal.main_arg8) = m ((c.tc : Thread Cert.RefProjIdeal.nD Cert.RefProjIdeal.τ).loc Cert.RefProjIdeal.main_arg8)
      ∧ r.2.mem ((c.tc : Thread Cert.RefProjIdeal.nD Cert.RefProjIdeal.τ).loc Cert.RefProjIdeal.main_arg9) = m ((c.tc : Thread Cert.RefProjIdeal.nD Cert.RefProjIdeal.τ).loc Cert.RefProjIdeal.main_arg9)
      ∧ r.2.mem ((c.tc : Thread Cert.RefProjIdeal.nD Cert.RefProjIdeal.τ).loc Cert.RefProjIdeal.main_arg10) = m ((c.tc : Thread Cert.RefProjIdeal.nD Cert.RefProjIdeal.τ).loc Cert.RefProjIdeal.main_arg10)
      ∧ r.2.mem ((c.tc : Thread Cert.RefProjIdeal.nD Cert.RefProjIdeal.τ).loc Cert.RefProjIdeal.main_arg11) = m ((c.tc : Thread Cert.RefProjIdeal.nD Cert.RefProjIdeal.τ).loc Cert.RefProjIdeal.main_arg11)
      ∧ r.2.mem ((c.tc : Thread Cert.RefProjIdeal.nD Cert.RefProjIdeal.τ).loc Cert.RefProjIdeal.main_arg12) = m ((c.tc : Thread Cert.RefProjIdeal.nD Cert.RefProjIdeal.τ).loc Cert.RefProjIdeal.main_arg12)
      ∧ r.2.mem ((c.tc : Thread Cert.RefProjIdeal.nD Cert.RefProjIdeal.τ).loc Cert.RefProjIdeal.main_arg13) = m ((c.tc : Thread Cert.RefProjIdeal.nD Cert.RefProjIdeal.τ).loc Cert.RefProjIdeal.main_arg13)
      ∧ r.2.mem ((c.tc : Thread Cert.RefProjIdeal.nD Cert.RefProjIdeal.τ).loc Cert.RefProjIdeal.main_arg14) = m ((c.tc : Thread Cert.RefProjIdeal.nD Cert.RefProjIdeal.τ).loc Cert.RefProjIdeal.main_arg14)
      ∧ r.2.mem ((c.tc : Thread Cert.RefProjIdeal.nD Cert.RefProjIdeal.τ).loc Cert.RefProjIdeal.main_arg15) = m ((c.tc : Thread Cert.RefProjIdeal.nD Cert.RefProjIdeal.τ).loc Cert.RefProjIdeal.main_arg15)
      ∧ r.2.mem ((c.tc : Thread Cert.RefProjIdeal.nD Cert.RefProjIdeal.τ).loc Cert.RefProjIdeal.main_arg16) = m ((c.tc : Thread Cert.RefProjIdeal.nD Cert.RefProjIdeal.τ).loc Cert.RefProjIdeal.main_arg16)
      ∧ r.2.mem ((c.tc : Thread Cert.RefProjIdeal.nD Cert.RefProjIdeal.τ).loc Cert.RefProjIdeal.main_arg17) = m ((c.tc : Thread Cert.RefProjIdeal.nD Cert.RefProjIdeal.τ).loc Cert.RefProjIdeal.main_arg17))
      ∧ r.2.sem = fun _ => 0)

def preserves_AttA_AttAIdeal : Prop :=
  True

def algebraic_AttAIdeal_RefAIdeal_on_latent_rows_AttAIdeal [hAttAIdeal : Cert.AttAIdeal.Facts] [hRefAIdeal : Cert.RefAIdeal.Facts] [hPre_finite_a : Cert.Pre_finite_a.Facts] [hOn_latent_rows_AttAIdeal : Cert.On_latent_rows_AttAIdeal.Facts] : Prop :=
  ∀ (m : (ℓ : Loc Cert.AttAIdeal.nD Cert.AttAIdeal.τ Cert.AttAIdeal.sig) → Buf (Elt Ideal) ℓ) (g : Dev Cert.AttAIdeal.nD → PrngReg)
    (m' : (ℓ : Loc Cert.RefAIdeal.nD Cert.RefAIdeal.τ Cert.RefAIdeal.sig) → Buf (Elt Ideal) ℓ) (g' : Dev Cert.RefAIdeal.nD → PrngReg), Pre_AttAIdeal m →
    (∀ c : Dev Cert.AttAIdeal.nD,
      m' ((c.tc : Thread Cert.RefAIdeal.nD Cert.RefAIdeal.τ).loc Cert.RefAIdeal.main_arg0) = m ((c.tc : Thread Cert.AttAIdeal.nD Cert.AttAIdeal.τ).loc Cert.AttAIdeal.main_arg0)
      ∧ m' ((c.tc : Thread Cert.RefAIdeal.nD Cert.RefAIdeal.τ).loc Cert.RefAIdeal.main_arg1) = m ((c.tc : Thread Cert.AttAIdeal.nD Cert.AttAIdeal.τ).loc Cert.AttAIdeal.main_arg1)
      ∧ m' ((c.tc : Thread Cert.RefAIdeal.nD Cert.RefAIdeal.τ).loc Cert.RefAIdeal.main_arg2) = m ((c.tc : Thread Cert.AttAIdeal.nD Cert.AttAIdeal.τ).loc Cert.AttAIdeal.main_arg2)) →
    ∃ (v0 : (c : Dev Cert.AttAIdeal.nD) → Buf (Elt Ideal) ((c.tc : Thread Cert.AttAIdeal.nD Cert.AttAIdeal.τ).loc Cert.AttAIdeal.main_v0)),
      θ_run (Cert.AttAIdeal.defs (F := Ideal)) (onTc (τ := Cert.AttAIdeal.τ) (Cert.AttAIdeal.main (F := Ideal))) ⟨m, fun _ => 0, g⟩ (fun r => ∀ c : Dev Cert.AttAIdeal.nD,
          (∀ i : (⟨2, ![17408, 512]⟩ : Shape).Idx, (Cert.On_latent_rows_AttAIdeal.fn (F := Ideal) (m ((c.tc : Thread Cert.AttAIdeal.nD Cert.AttAIdeal.τ).loc Cert.AttAIdeal.main_arg0)) (m ((c.tc : Thread Cert.AttAIdeal.nD Cert.AttAIdeal.τ).loc Cert.AttAIdeal.main_arg1)) (m ((c.tc : Thread Cert.AttAIdeal.nD Cert.AttAIdeal.τ).loc Cert.AttAIdeal.main_arg2))) i = 1#1 → r.2.mem ((c.tc : Thread Cert.AttAIdeal.nD Cert.AttAIdeal.τ).loc Cert.AttAIdeal.main_v0) i = v0 c i)
          ∧ r.2.mem ((c.tc : Thread Cert.AttAIdeal.nD Cert.AttAIdeal.τ).loc Cert.AttAIdeal.main_arg0) = m ((c.tc : Thread Cert.AttAIdeal.nD Cert.AttAIdeal.τ).loc Cert.AttAIdeal.main_arg0)
          ∧ r.2.mem ((c.tc : Thread Cert.AttAIdeal.nD Cert.AttAIdeal.τ).loc Cert.AttAIdeal.main_arg1) = m ((c.tc : Thread Cert.AttAIdeal.nD Cert.AttAIdeal.τ).loc Cert.AttAIdeal.main_arg1)
          ∧ r.2.mem ((c.tc : Thread Cert.AttAIdeal.nD Cert.AttAIdeal.τ).loc Cert.AttAIdeal.main_arg2) = m ((c.tc : Thread Cert.AttAIdeal.nD Cert.AttAIdeal.τ).loc Cert.AttAIdeal.main_arg2))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          (∀ i : (⟨2, ![17408, 512]⟩ : Shape).Idx, (Cert.On_latent_rows_AttAIdeal.fn (F := Ideal) (m ((c.tc : Thread Cert.AttAIdeal.nD Cert.AttAIdeal.τ).loc Cert.AttAIdeal.main_arg0)) (m ((c.tc : Thread Cert.AttAIdeal.nD Cert.AttAIdeal.τ).loc Cert.AttAIdeal.main_arg1)) (m ((c.tc : Thread Cert.AttAIdeal.nD Cert.AttAIdeal.τ).loc Cert.AttAIdeal.main_arg2))) i = 1#1 → r.2.mem ((c.tc : Thread Cert.RefAIdeal.nD Cert.RefAIdeal.τ).loc Cert.RefAIdeal.main_v56) i = v0 c i)
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2))

def preserves_AttB_AttBIdeal : Prop :=
  True

def algebraic_AttBIdeal_RefBIdeal_on_latent_rows_AttBIdeal [hAttBIdeal : Cert.AttBIdeal.Facts] [hRefBIdeal : Cert.RefBIdeal.Facts] [hPre_finite_b : Cert.Pre_finite_b.Facts] [hOn_latent_rows_AttBIdeal : Cert.On_latent_rows_AttBIdeal.Facts] : Prop :=
  ∀ (m : (ℓ : Loc Cert.AttBIdeal.nD Cert.AttBIdeal.τ Cert.AttBIdeal.sig) → Buf (Elt Ideal) ℓ) (g : Dev Cert.AttBIdeal.nD → PrngReg)
    (m' : (ℓ : Loc Cert.RefBIdeal.nD Cert.RefBIdeal.τ Cert.RefBIdeal.sig) → Buf (Elt Ideal) ℓ) (g' : Dev Cert.RefBIdeal.nD → PrngReg), Pre_AttBIdeal m →
    (∀ c : Dev Cert.AttBIdeal.nD,
      m' ((c.tc : Thread Cert.RefBIdeal.nD Cert.RefBIdeal.τ).loc Cert.RefBIdeal.main_arg0) = m ((c.tc : Thread Cert.AttBIdeal.nD Cert.AttBIdeal.τ).loc Cert.AttBIdeal.main_arg0)
      ∧ m' ((c.tc : Thread Cert.RefBIdeal.nD Cert.RefBIdeal.τ).loc Cert.RefBIdeal.main_arg1) = m ((c.tc : Thread Cert.AttBIdeal.nD Cert.AttBIdeal.τ).loc Cert.AttBIdeal.main_arg1)
      ∧ m' ((c.tc : Thread Cert.RefBIdeal.nD Cert.RefBIdeal.τ).loc Cert.RefBIdeal.main_arg2) = m ((c.tc : Thread Cert.AttBIdeal.nD Cert.AttBIdeal.τ).loc Cert.AttBIdeal.main_arg2)) →
    ∃ (v0 : (c : Dev Cert.AttBIdeal.nD) → Buf (Elt Ideal) ((c.tc : Thread Cert.AttBIdeal.nD Cert.AttBIdeal.τ).loc Cert.AttBIdeal.main_v0)),
      θ_run (Cert.AttBIdeal.defs (F := Ideal)) (onTc (τ := Cert.AttBIdeal.τ) (Cert.AttBIdeal.main (F := Ideal))) ⟨m, fun _ => 0, g⟩ (fun r => ∀ c : Dev Cert.AttBIdeal.nD,
          (∀ i : (⟨2, ![17408, 512]⟩ : Shape).Idx, (Cert.On_latent_rows_AttBIdeal.fn (F := Ideal) (m ((c.tc : Thread Cert.AttBIdeal.nD Cert.AttBIdeal.τ).loc Cert.AttBIdeal.main_arg0)) (m ((c.tc : Thread Cert.AttBIdeal.nD Cert.AttBIdeal.τ).loc Cert.AttBIdeal.main_arg1)) (m ((c.tc : Thread Cert.AttBIdeal.nD Cert.AttBIdeal.τ).loc Cert.AttBIdeal.main_arg2))) i = 1#1 → r.2.mem ((c.tc : Thread Cert.AttBIdeal.nD Cert.AttBIdeal.τ).loc Cert.AttBIdeal.main_v0) i = v0 c i)
          ∧ r.2.mem ((c.tc : Thread Cert.AttBIdeal.nD Cert.AttBIdeal.τ).loc Cert.AttBIdeal.main_arg0) = m ((c.tc : Thread Cert.AttBIdeal.nD Cert.AttBIdeal.τ).loc Cert.AttBIdeal.main_arg0)
          ∧ r.2.mem ((c.tc : Thread Cert.AttBIdeal.nD Cert.AttBIdeal.τ).loc Cert.AttBIdeal.main_arg1) = m ((c.tc : Thread Cert.AttBIdeal.nD Cert.AttBIdeal.τ).loc Cert.AttBIdeal.main_arg1)
          ∧ r.2.mem ((c.tc : Thread Cert.AttBIdeal.nD Cert.AttBIdeal.τ).loc Cert.AttBIdeal.main_arg2) = m ((c.tc : Thread Cert.AttBIdeal.nD Cert.AttBIdeal.τ).loc Cert.AttBIdeal.main_arg2))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          (∀ i : (⟨2, ![17408, 512]⟩ : Shape).Idx, (Cert.On_latent_rows_AttBIdeal.fn (F := Ideal) (m ((c.tc : Thread Cert.AttBIdeal.nD Cert.AttBIdeal.τ).loc Cert.AttBIdeal.main_arg0)) (m ((c.tc : Thread Cert.AttBIdeal.nD Cert.AttBIdeal.τ).loc Cert.AttBIdeal.main_arg1)) (m ((c.tc : Thread Cert.AttBIdeal.nD Cert.AttBIdeal.τ).loc Cert.AttBIdeal.main_arg2))) i = 1#1 → r.2.mem ((c.tc : Thread Cert.RefBIdeal.nD Cert.RefBIdeal.τ).loc Cert.RefBIdeal.main_v56) i = v0 c i)
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1)
          ∧ r.2.mem ((c.tc : Thread Cert.RefBIdeal.nD Cert.RefBIdeal.τ).loc Cert.RefBIdeal.main_arg2) = m' ((c.tc : Thread Cert.RefBIdeal.nD Cert.RefBIdeal.τ).loc Cert.RefBIdeal.main_arg2))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v84) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)
      ∧ m' ((c.tc : Thread Cert.RefMergeIdeal.nD Cert.RefMergeIdeal.τ).loc Cert.RefMergeIdeal.main_arg10) = m ((c.tc : Thread Cert.MergeIdeal.nD Cert.MergeIdeal.τ).loc Cert.MergeIdeal.main_arg10)
      ∧ m' ((c.tc : Thread Cert.RefMergeIdeal.nD Cert.RefMergeIdeal.τ).loc Cert.RefMergeIdeal.main_arg11) = m ((c.tc : Thread Cert.MergeIdeal.nD Cert.MergeIdeal.τ).loc Cert.MergeIdeal.main_arg11)
      ∧ m' ((c.tc : Thread Cert.RefMergeIdeal.nD Cert.RefMergeIdeal.τ).loc Cert.RefMergeIdeal.main_arg12) = m ((c.tc : Thread Cert.MergeIdeal.nD Cert.MergeIdeal.τ).loc Cert.MergeIdeal.main_arg12)
      ∧ m' ((c.tc : Thread Cert.RefMergeIdeal.nD Cert.RefMergeIdeal.τ).loc Cert.RefMergeIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v293) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9)
          ∧ r.2.mem ((c.tc : Thread Cert.RefMergeIdeal.nD Cert.RefMergeIdeal.τ).loc Cert.RefMergeIdeal.main_arg10) = m' ((c.tc : Thread Cert.RefMergeIdeal.nD Cert.RefMergeIdeal.τ).loc Cert.RefMergeIdeal.main_arg10)
          ∧ r.2.mem ((c.tc : Thread Cert.RefMergeIdeal.nD Cert.RefMergeIdeal.τ).loc Cert.RefMergeIdeal.main_arg11) = m' ((c.tc : Thread Cert.RefMergeIdeal.nD Cert.RefMergeIdeal.τ).loc Cert.RefMergeIdeal.main_arg11)
          ∧ r.2.mem ((c.tc : Thread Cert.RefMergeIdeal.nD Cert.RefMergeIdeal.τ).loc Cert.RefMergeIdeal.main_arg12) = m' ((c.tc : Thread Cert.RefMergeIdeal.nD Cert.RefMergeIdeal.τ).loc Cert.RefMergeIdeal.main_arg12)
          ∧ r.2.mem ((c.tc : Thread Cert.RefMergeIdeal.nD Cert.RefMergeIdeal.τ).loc Cert.RefMergeIdeal.main_arg13) = m' ((c.tc : Thread Cert.RefMergeIdeal.nD Cert.RefMergeIdeal.τ).loc Cert.RefMergeIdeal.main_arg13))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)
      ∧ m' ((c.tc : Thread Cert.RefProjIdeal.nD Cert.RefProjIdeal.τ).loc Cert.RefProjIdeal.main_arg4) = m ((c.tc : Thread Cert.ProjIdeal.nD Cert.ProjIdeal.τ).loc Cert.ProjIdeal.main_arg4)
      ∧ m' ((c.tc : Thread Cert.RefProjIdeal.nD Cert.RefProjIdeal.τ).loc Cert.RefProjIdeal.main_arg5) = m ((c.tc : Thread Cert.ProjIdeal.nD Cert.ProjIdeal.τ).loc Cert.ProjIdeal.main_arg5)
      ∧ m' ((c.tc : Thread Cert.RefProjIdeal.nD Cert.RefProjIdeal.τ).loc Cert.RefProjIdeal.main_arg6) = m ((c.tc : Thread Cert.ProjIdeal.nD Cert.ProjIdeal.τ).loc Cert.ProjIdeal.main_arg6)
      ∧ m' ((c.tc : Thread Cert.RefProjIdeal.nD Cert.RefProjIdeal.τ).loc Cert.RefProjIdeal.main_arg7) = m ((c.tc : Thread Cert.ProjIdeal.nD Cert.ProjIdeal.τ).loc Cert.ProjIdeal.main_arg7)
      ∧ m' ((c.tc : Thread Cert.RefProjIdeal.nD Cert.RefProjIdeal.τ).loc Cert.RefProjIdeal.main_arg8) = m ((c.tc : Thread Cert.ProjIdeal.nD Cert.ProjIdeal.τ).loc Cert.ProjIdeal.main_arg8)
      ∧ m' ((c.tc : Thread Cert.RefProjIdeal.nD Cert.RefProjIdeal.τ).loc Cert.RefProjIdeal.main_arg9) = m ((c.tc : Thread Cert.ProjIdeal.nD Cert.ProjIdeal.τ).loc Cert.ProjIdeal.main_arg9)
      ∧ m' ((c.tc : Thread Cert.RefProjIdeal.nD Cert.RefProjIdeal.τ).loc Cert.RefProjIdeal.main_arg10) = m ((c.tc : Thread Cert.ProjIdeal.nD Cert.ProjIdeal.τ).loc Cert.ProjIdeal.main_arg10)
      ∧ m' ((c.tc : Thread Cert.RefProjIdeal.nD Cert.RefProjIdeal.τ).loc Cert.RefProjIdeal.main_arg11) = m ((c.tc : Thread Cert.ProjIdeal.nD Cert.ProjIdeal.τ).loc Cert.ProjIdeal.main_arg11)
      ∧ m' ((c.tc : Thread Cert.RefProjIdeal.nD Cert.RefProjIdeal.τ).loc Cert.RefProjIdeal.main_arg12) = m ((c.tc : Thread Cert.ProjIdeal.nD Cert.ProjIdeal.τ).loc Cert.ProjIdeal.main_arg12)
      ∧ m' ((c.tc : Thread Cert.RefProjIdeal.nD Cert.RefProjIdeal.τ).loc Cert.RefProjIdeal.main_arg13) = m ((c.tc : Thread Cert.ProjIdeal.nD Cert.ProjIdeal.τ).loc Cert.ProjIdeal.main_arg13)
      ∧ m' ((c.tc : Thread Cert.RefProjIdeal.nD Cert.RefProjIdeal.τ).loc Cert.RefProjIdeal.main_arg14) = m ((c.tc : Thread Cert.ProjIdeal.nD Cert.ProjIdeal.τ).loc Cert.ProjIdeal.main_arg14)
      ∧ m' ((c.tc : Thread Cert.RefProjIdeal.nD Cert.RefProjIdeal.τ).loc Cert.RefProjIdeal.main_arg15) = m ((c.tc : Thread Cert.ProjIdeal.nD Cert.ProjIdeal.τ).loc Cert.ProjIdeal.main_arg15)
      ∧ m' ((c.tc : Thread Cert.RefProjIdeal.nD Cert.RefProjIdeal.τ).loc Cert.RefProjIdeal.main_arg16) = m ((c.tc : Thread Cert.ProjIdeal.nD Cert.ProjIdeal.τ).loc Cert.ProjIdeal.main_arg16)
      ∧ m' ((c.tc : Thread Cert.RefProjIdeal.nD Cert.RefProjIdeal.τ).loc Cert.RefProjIdeal.main_arg17) = m ((c.tc : Thread Cert.ProjIdeal.nD Cert.ProjIdeal.τ).loc Cert.ProjIdeal.main_arg17)) →
    ∃ (v0 : (c : Dev Cert.ProjIdeal.nD) → Buf (Elt Ideal) ((c.tc : Thread Cert.ProjIdeal.nD Cert.ProjIdeal.τ).loc Cert.ProjIdeal.main_v57_3)) (v1 : (c : Dev Cert.ProjIdeal.nD) → Buf (Elt Ideal) ((c.tc : Thread Cert.ProjIdeal.nD Cert.ProjIdeal.τ).loc Cert.ProjIdeal.main_v57_4)) (v2 : (c : Dev Cert.ProjIdeal.nD) → Buf (Elt Ideal) ((c.tc : Thread Cert.ProjIdeal.nD Cert.ProjIdeal.τ).loc Cert.ProjIdeal.main_v57_5)) (v3 : (c : Dev Cert.ProjIdeal.nD) → Buf (Elt Ideal) ((c.tc : Thread Cert.ProjIdeal.nD Cert.ProjIdeal.τ).loc Cert.ProjIdeal.main_v57_6)) (v4 : (c : Dev Cert.ProjIdeal.nD) → Buf (Elt Ideal) ((c.tc : Thread Cert.ProjIdeal.nD Cert.ProjIdeal.τ).loc Cert.ProjIdeal.main_v57_7)) (v5 : (c : Dev Cert.ProjIdeal.nD) → Buf (Elt Ideal) ((c.tc : Thread Cert.ProjIdeal.nD Cert.ProjIdeal.τ).loc Cert.ProjIdeal.main_v57_8)) (v6 : (c : Dev Cert.ProjIdeal.nD) → Buf (Elt Ideal) ((c.tc : Thread Cert.ProjIdeal.nD Cert.ProjIdeal.τ).loc Cert.ProjIdeal.main_v57_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v57_3) = v0 c
          ∧ r.2.mem ((c.tc : Thread Cert.ProjIdeal.nD Cert.ProjIdeal.τ).loc Cert.ProjIdeal.main_v57_4) = v1 c
          ∧ r.2.mem ((c.tc : Thread Cert.ProjIdeal.nD Cert.ProjIdeal.τ).loc Cert.ProjIdeal.main_v57_5) = v2 c
          ∧ r.2.mem ((c.tc : Thread Cert.ProjIdeal.nD Cert.ProjIdeal.τ).loc Cert.ProjIdeal.main_v57_6) = v3 c
          ∧ r.2.mem ((c.tc : Thread Cert.ProjIdeal.nD Cert.ProjIdeal.τ).loc Cert.ProjIdeal.main_v57_7) = v4 c
          ∧ r.2.mem ((c.tc : Thread Cert.ProjIdeal.nD Cert.ProjIdeal.τ).loc Cert.ProjIdeal.main_v57_8) = v5 c
          ∧ r.2.mem ((c.tc : Thread Cert.ProjIdeal.nD Cert.ProjIdeal.τ).loc Cert.ProjIdeal.main_v57_9) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14)
          ∧ r.2.mem ((c.tc : Thread Cert.ProjIdeal.nD Cert.ProjIdeal.τ).loc Cert.ProjIdeal.main_arg15) = m ((c.tc : Thread Cert.ProjIdeal.nD Cert.ProjIdeal.τ).loc Cert.ProjIdeal.main_arg15)
          ∧ r.2.mem ((c.tc : Thread Cert.ProjIdeal.nD Cert.ProjIdeal.τ).loc Cert.ProjIdeal.main_arg16) = m ((c.tc : Thread Cert.ProjIdeal.nD Cert.ProjIdeal.τ).loc Cert.ProjIdeal.main_arg16)
          ∧ r.2.mem ((c.tc : Thread Cert.ProjIdeal.nD Cert.ProjIdeal.τ).loc Cert.ProjIdeal.main_arg17) = m ((c.tc : Thread Cert.ProjIdeal.nD Cert.ProjIdeal.τ).loc Cert.ProjIdeal.main_arg17))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v195) = v0 c
          ∧ r.2.mem ((c.tc : Thread Cert.RefProjIdeal.nD Cert.RefProjIdeal.τ).loc Cert.RefProjIdeal.main_v197) = v1 c
          ∧ r.2.mem ((c.tc : Thread Cert.RefProjIdeal.nD Cert.RefProjIdeal.τ).loc Cert.RefProjIdeal.main_v199) = v2 c
          ∧ r.2.mem ((c.tc : Thread Cert.RefProjIdeal.nD Cert.RefProjIdeal.τ).loc Cert.RefProjIdeal.main_v200) = v3 c
          ∧ r.2.mem ((c.tc : Thread Cert.RefProjIdeal.nD Cert.RefProjIdeal.τ).loc Cert.RefProjIdeal.main_v201) = v4 c
          ∧ r.2.mem ((c.tc : Thread Cert.RefProjIdeal.nD Cert.RefProjIdeal.τ).loc Cert.RefProjIdeal.main_v203) = v5 c
          ∧ r.2.mem ((c.tc : Thread Cert.RefProjIdeal.nD Cert.RefProjIdeal.τ).loc Cert.RefProjIdeal.main_v205) = v6 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3)
          ∧ r.2.mem ((c.tc : Thread Cert.RefProjIdeal.nD Cert.RefProjIdeal.τ).loc Cert.RefProjIdeal.main_arg4) = m' ((c.tc : Thread Cert.RefProjIdeal.nD Cert.RefProjIdeal.τ).loc Cert.RefProjIdeal.main_arg4)
          ∧ r.2.mem ((c.tc : Thread Cert.RefProjIdeal.nD Cert.RefProjIdeal.τ).loc Cert.RefProjIdeal.main_arg5) = m' ((c.tc : Thread Cert.RefProjIdeal.nD Cert.RefProjIdeal.τ).loc Cert.RefProjIdeal.main_arg5)
          ∧ r.2.mem ((c.tc : Thread Cert.RefProjIdeal.nD Cert.RefProjIdeal.τ).loc Cert.RefProjIdeal.main_arg6) = m' ((c.tc : Thread Cert.RefProjIdeal.nD Cert.RefProjIdeal.τ).loc Cert.RefProjIdeal.main_arg6)
          ∧ r.2.mem ((c.tc : Thread Cert.RefProjIdeal.nD Cert.RefProjIdeal.τ).loc Cert.RefProjIdeal.main_arg7) = m' ((c.tc : Thread Cert.RefProjIdeal.nD Cert.RefProjIdeal.τ).loc Cert.RefProjIdeal.main_arg7)
          ∧ r.2.mem ((c.tc : Thread Cert.RefProjIdeal.nD Cert.RefProjIdeal.τ).loc Cert.RefProjIdeal.main_arg8) = m' ((c.tc : Thread Cert.RefProjIdeal.nD Cert.RefProjIdeal.τ).loc Cert.RefProjIdeal.main_arg8)
          ∧ r.2.mem ((c.tc : Thread Cert.RefProjIdeal.nD Cert.RefProjIdeal.τ).loc Cert.RefProjIdeal.main_arg9) = m' ((c.tc : Thread Cert.RefProjIdeal.nD Cert.RefProjIdeal.τ).loc Cert.RefProjIdeal.main_arg9)
          ∧ r.2.mem ((c.tc : Thread Cert.RefProjIdeal.nD Cert.RefProjIdeal.τ).loc Cert.RefProjIdeal.main_arg10) = m' ((c.tc : Thread Cert.RefProjIdeal.nD Cert.RefProjIdeal.τ).loc Cert.RefProjIdeal.main_arg10)
          ∧ r.2.mem ((c.tc : Thread Cert.RefProjIdeal.nD Cert.RefProjIdeal.τ).loc Cert.RefProjIdeal.main_arg11) = m' ((c.tc : Thread Cert.RefProjIdeal.nD Cert.RefProjIdeal.τ).loc Cert.RefProjIdeal.main_arg11)
          ∧ r.2.mem ((c.tc : Thread Cert.RefProjIdeal.nD Cert.RefProjIdeal.τ).loc Cert.RefProjIdeal.main_arg12) = m' ((c.tc : Thread Cert.RefProjIdeal.nD Cert.RefProjIdeal.τ).loc Cert.RefProjIdeal.main_arg12)
          ∧ r.2.mem ((c.tc : Thread Cert.RefProjIdeal.nD Cert.RefProjIdeal.τ).loc Cert.RefProjIdeal.main_arg13) = m' ((c.tc : Thread Cert.RefProjIdeal.nD Cert.RefProjIdeal.τ).loc Cert.RefProjIdeal.main_arg13)
          ∧ r.2.mem ((c.tc : Thread Cert.RefProjIdeal.nD Cert.RefProjIdeal.τ).loc Cert.RefProjIdeal.main_arg14) = m' ((c.tc : Thread Cert.RefProjIdeal.nD Cert.RefProjIdeal.τ).loc Cert.RefProjIdeal.main_arg14)
          ∧ r.2.mem ((c.tc : Thread Cert.RefProjIdeal.nD Cert.RefProjIdeal.τ).loc Cert.RefProjIdeal.main_arg15) = m' ((c.tc : Thread Cert.RefProjIdeal.nD Cert.RefProjIdeal.τ).loc Cert.RefProjIdeal.main_arg15)
          ∧ r.2.mem ((c.tc : Thread Cert.RefProjIdeal.nD Cert.RefProjIdeal.τ).loc Cert.RefProjIdeal.main_arg16) = m' ((c.tc : Thread Cert.RefProjIdeal.nD Cert.RefProjIdeal.τ).loc Cert.RefProjIdeal.main_arg16)
          ∧ r.2.mem ((c.tc : Thread Cert.RefProjIdeal.nD Cert.RefProjIdeal.τ).loc Cert.RefProjIdeal.main_arg17) = m' ((c.tc : Thread Cert.RefProjIdeal.nD Cert.RefProjIdeal.τ).loc Cert.RefProjIdeal.main_arg17))

def Claim : Prop :=
  ∃ (hAttA : Cert.AttA.Facts) (hAttAIdeal : Cert.AttAIdeal.Facts) (hRefAIdeal : Cert.RefAIdeal.Facts) (hAttB : Cert.AttB.Facts) (hAttBIdeal : Cert.AttBIdeal.Facts) (hRefBIdeal : Cert.RefBIdeal.Facts) (hFfn : Cert.Ffn.Facts) (hFfnIdeal : Cert.FfnIdeal.Facts) (hRefFfnIdeal : Cert.RefFfnIdeal.Facts) (hMerge : Cert.Merge.Facts) (hMergeIdeal : Cert.MergeIdeal.Facts) (hRefMergeIdeal : Cert.RefMergeIdeal.Facts) (hProj : Cert.Proj.Facts) (hProjIdeal : Cert.ProjIdeal.Facts) (hRefProjIdeal : Cert.RefProjIdeal.Facts) (hPre_finite_a : Cert.Pre_finite_a.Facts) (hPre_finite_b : Cert.Pre_finite_b.Facts) (hOn_latent_rows_AttAIdeal : Cert.On_latent_rows_AttAIdeal.Facts) (hOn_latent_rows_AttBIdeal : Cert.On_latent_rows_AttBIdeal.Facts),
    quiescent_AttA (hAttA := hAttA)
    ∧ quiescent_AttAIdeal (hAttAIdeal := hAttAIdeal) (hPre_finite_a := hPre_finite_a)
    ∧ quiescent_AttAIdeal_pre_none (hAttAIdeal := hAttAIdeal)
    ∧ quiescent_RefAIdeal (hRefAIdeal := hRefAIdeal) (hPre_finite_a := hPre_finite_a)
    ∧ quiescent_AttB (hAttB := hAttB)
    ∧ quiescent_AttBIdeal (hAttBIdeal := hAttBIdeal) (hPre_finite_b := hPre_finite_b)
    ∧ quiescent_AttBIdeal_pre_none (hAttBIdeal := hAttBIdeal)
    ∧ quiescent_RefBIdeal (hRefBIdeal := hRefBIdeal) (hPre_finite_b := hPre_finite_b)
    ∧ quiescent_Ffn (hFfn := hFfn)
    ∧ quiescent_FfnIdeal (hFfnIdeal := hFfnIdeal)
    ∧ quiescent_RefFfnIdeal (hRefFfnIdeal := hRefFfnIdeal)
    ∧ quiescent_Merge (hMerge := hMerge)
    ∧ quiescent_MergeIdeal (hMergeIdeal := hMergeIdeal)
    ∧ quiescent_RefMergeIdeal (hRefMergeIdeal := hRefMergeIdeal)
    ∧ quiescent_Proj (hProj := hProj)
    ∧ quiescent_ProjIdeal (hProjIdeal := hProjIdeal)
    ∧ quiescent_RefProjIdeal (hRefProjIdeal := hRefProjIdeal)
    ∧ preserves_AttA_AttAIdeal
    ∧ algebraic_AttAIdeal_RefAIdeal_on_latent_rows_AttAIdeal (hAttAIdeal := hAttAIdeal) (hRefAIdeal := hRefAIdeal) (hPre_finite_a := hPre_finite_a) (hOn_latent_rows_AttAIdeal := hOn_latent_rows_AttAIdeal)
    ∧ preserves_AttB_AttBIdeal
    ∧ algebraic_AttBIdeal_RefBIdeal_on_latent_rows_AttBIdeal (hAttBIdeal := hAttBIdeal) (hRefBIdeal := hRefBIdeal) (hPre_finite_b := hPre_finite_b) (hOn_latent_rows_AttBIdeal := hOn_latent_rows_AttBIdeal)
    ∧ preserves_Ffn_FfnIdeal
    ∧ algebraic_FfnIdeal_RefFfnIdeal (hFfnIdeal := hFfnIdeal) (hRefFfnIdeal := hRefFfnIdeal)
    ∧ preserves_Merge_MergeIdeal
    ∧ algebraic_MergeIdeal_RefMergeIdeal (hMergeIdeal := hMergeIdeal) (hRefMergeIdeal := hRefMergeIdeal)
    ∧ preserves_Proj_ProjIdeal
    ∧ algebraic_ProjIdeal_RefProjIdeal (hProjIdeal := hProjIdeal) (hRefProjIdeal := hRefProjIdeal)
-- ==== On_latent_rows_AttAIdeal.lean ====
abbrev S17408x1024 : Shape := ⟨2, ![17408, 1024]⟩
abbrev S17408x512 : Shape := ⟨2, ![17408, 512]⟩
abbrev S_ : Shape := ⟨0, ![]⟩

class Facts : Prop where
  bcast_S_S17408x512 : S_.BroadcastsInDim S17408x512 (![] : Fin 0 → Fin S17408x512.rank)

variable [Facts]

def fn {F : FTy → Type} [FloatOps F] (main_arg0 : FVec F S17408x1024 .bf16) (main_arg1 : FVec F S17408x1024 .bf16) (main_arg2 : FVec F S17408x512 .bf16) : IVec S17408x512 1 :=
  let main_v0 : IVec S17408x512 32 := iotaInDim S17408x512 32 0
  let main_c : IVec S_ 32 := constantI S_ 32 16384#32
  let main_v1 : IVec S17408x512 32 := broadcastInDim S17408x512 ![] bcast_S_S17408x512 main_c
  let main_v2 : IVec S17408x512 1 := cmpi .slt main_v0 main_v1
  main_v2
-- ==== On_latent_rows_AttBIdeal.lean ====
abbrev S17408x512 : Shape := ⟨2, ![17408, 512]⟩
abbrev S17408x256 : Shape := ⟨2, ![17408, 256]⟩
abbrev S_ : Shape := ⟨0, ![]⟩

class Facts : Prop where
  bcast_S_S17408x512 : S_.BroadcastsInDim S17408x512 (![] : Fin 0 → Fin S17408x512.rank)

variable [Facts]

def fn {F : FTy → Type} [FloatOps F] (main_arg0 : FVec F S17408x512 .bf16) (main_arg1 : FVec F S17408x256 .bf16) (main_arg2 : FVec F S17408x256 .bf16) : IVec S17408x512 1 :=
  let main_v0 : IVec S17408x512 32 := iotaInDim S17408x512 32 0
  let main_c : IVec S_ 32 := constantI S_ 32 16384#32
  let main_v1 : IVec S17408x512 32 := broadcastInDim S17408x512 ![] bcast_S_S17408x512 main_c
  let main_v2 : IVec S17408x512 1 := cmpi .slt main_v0 main_v1
  main_v2
-- ==== Pre_finite_a.lean ====
abbrev S17408x1024 : Shape := ⟨2, ![17408, 1024]⟩
abbrev S17408x512 : Shape := ⟨2, ![17408, 512]⟩
abbrev S17408x2048 : Shape := ⟨2, ![17408, 2048]⟩
abbrev S_ : Shape := ⟨0, ![]⟩

class Facts : Prop where
  concatenates_S17408x1024_S17408x1024_S17408x2048_d1 : Shape.Concatenates [S17408x1024, S17408x1024] S17408x2048 1
  bitsLt_bf16_f32 : FTy.bits .bf16 < FTy.bits .f32
  bcast_S_S17408x2048 : S_.BroadcastsInDim S17408x2048 (![] : Fin 0 → Fin S17408x2048.rank)

variable [Facts]

def fn {F : FTy → Type} [FloatOps F] (main_arg0 : FVec F S17408x1024 .bf16) (main_arg1 : FVec F S17408x1024 .bf16) (main_arg2 : FVec F S17408x512 .bf16) : IVec S17408x2048 1 :=
  let main_v0 : FVec F S17408x2048 .bf16 := (fun a b => concatenate S17408x2048 1 [⟨S17408x1024, a⟩, ⟨S17408x1024, b⟩] concatenates_S17408x1024_S17408x1024_S17408x2048_d1) main_arg0 main_arg1
  let main_v1 : FVec F S17408x2048 .f32 := (extf .f32 · bitsLt_bf16_f32) main_v0
  let main_v2 : FVec F S17408x2048 .f32 := Host.absf main_v1
  let main_cst : FVec F S_ .f32 := constant S_ .f32 0x7F800000#32
  let main_v3 : FVec F S17408x2048 .f32 := broadcastInDim S17408x2048 ![] bcast_S_S17408x2048 main_cst
  let main_v4 : IVec S17408x2048 1 := cmpf .olt main_v2 main_v3
  main_v4
-- ==== Pre_finite_b.lean ====
abbrev S17408x512 : Shape := ⟨2, ![17408, 512]⟩
abbrev S17408x256 : Shape := ⟨2, ![17408, 256]⟩
abbrev S17408x768 : Shape := ⟨2, ![17408, 768]⟩
abbrev S_ : Shape := ⟨0, ![]⟩

class Facts : Prop where
  concatenates_S17408x512_S17408x256_S17408x768_d1 : Shape.Concatenates [S17408x512, S17408x256] S17408x768 1
  bitsLt_bf16_f32 : FTy.bits .bf16 < FTy.bits .f32
  bcast_S_S17408x768 : S_.BroadcastsInDim S17408x768 (![] : Fin 0 → Fin S17408x768.rank)

variable [Facts]

def fn {F : FTy → Type} [FloatOps F] (main_arg0 : FVec F S17408x512 .bf16) (main_arg1 : FVec F S17408x256 .bf16) (main_arg2 : FVec F S17408x256 .bf16) : IVec S17408x768 1 :=
  let main_v0 : FVec F S17408x768 .bf16 := (fun a b => concatenate S17408x768 1 [⟨S17408x512, a⟩, ⟨S17408x256, b⟩] concatenates_S17408x512_S17408x256_S17408x768_d1) main_arg0 main_arg1
  let main_v1 : FVec F S17408x768 .f32 := (extf .f32 · bitsLt_bf16_f32) main_v0
  let main_v2 : FVec F S17408x768 .f32 := Host.absf main_v1
  let main_cst : FVec F S_ .f32 := constant S_ .f32 0x7F800000#32
  let main_v3 : FVec F S17408x768 .f32 := broadcastInDim S17408x768 ![] bcast_S_S17408x768 main_cst
  let main_v4 : IVec S17408x768 1 := cmpf .olt main_v2 main_v3
  main_v4
-- ==== AttA.lean ====
abbrev S17408x1024 : Shape := ⟨2, ![17408, 1024]⟩
abbrev S17408x512 : Shape := ⟨2, ![17408, 512]⟩
abbrev S512x256 : Shape := ⟨2, ![512, 256]⟩
abbrev S4096x256 : Shape := ⟨2, ![4096, 256]⟩
abbrev S256x256 : Shape := ⟨2, ![256, 256]⟩
abbrev S4096x128 : Shape := ⟨2, ![4096, 128]⟩
abbrev S256x128 : Shape := ⟨2, ![256, 128]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 12
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x512, .bf16⟩
  | .hbm, ⟨3, _⟩ => ⟨S17408x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RefAIdeal.lean ====
abbrev S17408x1024 : Shape := ⟨2, ![17408, 1024]⟩
abbrev S17408x512 : Shape := ⟨2, ![17408, 512]⟩
abbrev S16384x1024 : Shape := ⟨2, ![16384, 1024]⟩
abbrev S4x4096x1024 : Shape := ⟨3, ![4, 4096, 1024]⟩
abbrev S1024x1024 : Shape := ⟨2, ![1024, 1024]⟩
abbrev S4x256x1024 : Shape := ⟨3, ![4, 256, 1024]⟩
abbrev S16384x512 : Shape := ⟨2, ![16384, 512]⟩
abbrev S4x4096x512 : Shape := ⟨3, ![4, 4096, 512]⟩
abbrev S1024x512 : Shape := ⟨2, ![1024, 512]⟩
abbrev S4x256x512 : Shape := ⟨3, ![4, 256, 512]⟩
abbrev S4x4096x4x1x256 : Shape := ⟨5, ![4, 4096, 4, 1, 256]⟩
abbrev S4x4096x4x256 : Shape := ⟨4, ![4, 4096, 4, 256]⟩
abbrev S4x4096x4x128 : Shape := ⟨4, ![4, 4096, 4, 128]⟩
abbrev S4x256x4x256 : Shape := ⟨4, ![4, 256, 4, 256]⟩
abbrev S4x256x4x128 : Shape := ⟨4, ![4, 256, 4, 128]⟩
abbrev S4x4x4096x4096x1 : Shape := ⟨5, ![4, 4, 4096, 4096, 1]⟩
abbrev S4x4x1x4096x4096 : Shape := ⟨5, ![4, 4, 1, 4096, 4096]⟩
abbrev S4x4x256x4096x1 : Shape := ⟨5, ![4, 4, 256, 4096, 1]⟩
abbrev S4x4x1x4096x256 : Shape := ⟨5, ![4, 4, 1, 4096, 256]⟩
abbrev S4x4x1x4096x4352 : Shape := ⟨5, ![4, 4, 1, 4096, 4352]⟩
abbrev S_ : Shape := ⟨0, ![]⟩
abbrev S4x4x1x4096 : Shape := ⟨4, ![4, 4, 1, 4096]⟩
abbrev S4x4x1x4096x1 : Shape := ⟨5, ![4, 4, 1, 4096, 1]⟩
abbrev S4x4x128x1x4096 : Shape := ⟨5, ![4, 4, 128, 1, 4096]⟩
abbrev S4x4096x4x1x128 : Shape := ⟨5, ![4, 4096, 4, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x512, .bf16⟩
  | .hbm, ⟨3, _⟩ => ⟨S17408x1024, .f32⟩
  | .hbm, ⟨4, _⟩ => ⟨S16384x1024, .f32⟩
  | .hbm, ⟨5, _⟩ => ⟨S4x4096x1024, .f32⟩
  | .hbm, ⟨6, _⟩ => ⟨S1024x1024, .f32⟩
  | .hbm, ⟨7, _⟩ => ⟨S4x256x1024, .f32⟩
  | .hbm, ⟨8, _⟩ => ⟨S17408x1024, .f32⟩
  | .hbm, ⟨9, _⟩ => ⟨S16384x1024, .f32⟩
  | .hbm, ⟨10, _⟩ => ⟨S4x4096x1024, .f32⟩
  | .hbm, ⟨11, _⟩ => ⟨S1024x1024, .f32⟩
  | .hbm, ⟨12, _⟩ => ⟨S4x256x1024, .f32⟩
  | .hbm, ⟨13, _⟩ => ⟨S17408x512, .f32⟩
  | .hbm, ⟨14, _⟩ => ⟨S16384x512, .f32⟩
  | .hbm, ⟨15, _⟩ => ⟨S4x4096x512, .f32⟩
  | .hbm, ⟨16, _⟩ => ⟨S1024x512, .f32⟩
  | .hbm, ⟨17, _⟩ => ⟨S4x256x512, .f32⟩
  | .hbm, ⟨18, _⟩ => ⟨S17408x1024, .f32⟩
  | .hbm, ⟨19, _⟩ => ⟨S16384x1024, .f32⟩
  | .hbm, ⟨20, _⟩ => ⟨S4x4096x1024, .f32⟩
  | .hbm, ⟨21, _⟩ => ⟨S1024x1024, .f32⟩
  | .hbm, ⟨22, _⟩ => ⟨S4x256x1024, .f32⟩
  | .hbm, ⟨23, _⟩ => ⟨S17408x512, .f32⟩
  | .hbm, ⟨24, _⟩ => ⟨S16384x512, .f32⟩
  | .hbm, ⟨25, _⟩ => ⟨S4x4096x512, .f32⟩
  | .hbm, ⟨26, _⟩ => ⟨S1024x512, .f32⟩
  | .hbm, ⟨27, _⟩ => ⟨S4x256x512, .f32⟩
  | .hbm, ⟨28, _⟩ => ⟨S4x4096x4x1x256, .f32⟩
  | .hbm, ⟨29, _⟩ => ⟨S4x4096x4x256, .f32⟩
  | .hbm, ⟨30, _⟩ => ⟨S4x4096x4x128, .f32⟩
  | .hbm, ⟨31, _⟩ => ⟨S4x256x4x256, .f32⟩
  | .hbm, ⟨32, _⟩ => ⟨S4x256x4x128, .f32⟩
  | .hbm, ⟨33, _⟩ => ⟨S4x4x4096x4096x1, .f32⟩
  | .hbm, ⟨34, _⟩ => ⟨S4x4x1x4096x4096, .f32⟩
  | .hbm, ⟨35, _⟩ => ⟨S4x4x256x4096x1, .f32⟩
  | .hbm, ⟨36, _⟩ => ⟨S4x4x1x4096x256, .f32⟩
  | .hbm, ⟨37, _⟩ => ⟨S4x4x1x4096x4352, .f32⟩
  | .hbm, ⟨38, _⟩ => ⟨S_, .f32⟩
  | .hbm, ⟨39, _⟩ => ⟨S4x4x1x4096, .f32⟩
  | .hbm, ⟨40, _⟩ => ⟨S_, .f32⟩
  | .hbm, ⟨41, _⟩ => ⟨S4x4x1x4096, .f32⟩
  | .hbm, ⟨42, _⟩ => ⟨S4x4x1x4096, .f32⟩
  | .hbm, ⟨43, _⟩ => ⟨S4x4x1x4096x1, .f32⟩
  | .hbm, ⟨44, _⟩ => ⟨S4x4x1x4096x4352, .f32⟩
  | .hbm, ⟨45, _⟩ => ⟨S4x4x1x4096x4352, .f32⟩
  | .hbm, ⟨46, _⟩ => ⟨S4x4x1x4096x4352, .f32⟩
  | .hbm, ⟨47, _⟩ => ⟨S_, .f32⟩
  | .hbm, ⟨48, _⟩ => ⟨S4x4x1x4096, .f32⟩
  | .hbm, ⟨49, _⟩ => ⟨S4x4x1x4096x1, .f32⟩
  | .hbm, ⟨50, _⟩ => ⟨S4x4x1x4096x4352, .f32⟩
  | .hbm, ⟨51, _⟩ => ⟨S4x4x1x4096x4352, .f32⟩
  | .hbm, ⟨52, _⟩ => ⟨S4x4x1x4096x4096, .f32⟩
  | .hbm, ⟨53, _⟩ => ⟨S4x4x128x1x4096, .f32⟩
  | .hbm, ⟨54, _⟩ => ⟨S4x4096x4x1x128, .f32⟩
  | .hbm, ⟨55, _⟩ => ⟨S4x4x1x4096x256, .f32⟩
  | .hbm, ⟨56, _⟩ => ⟨S4x4x128x1x4096, .f32⟩
  | .hbm, ⟨57, _⟩ => ⟨S4x4096x4x1x128, .f32⟩
  | .hbm, ⟨58, _⟩ => ⟨S4x4096x4x1x128, .f32⟩
  | .hbm, ⟨59, _⟩ => ⟨S16384x512, .f32⟩
  | .hbm, ⟨60, _⟩ => ⟨S_, .f32⟩
  | .hbm, ⟨61, _⟩ => ⟨S1024x512, .f32⟩
  | .hbm, ⟨62, _⟩ => ⟨S17408x512, .f32⟩
  | .hbm, ⟨63, _⟩ => ⟨S17408x512, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_2 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]
-- ==== AttB.lean ====
abbrev S17408x512 : Shape := ⟨2, ![17408, 512]⟩
abbrev S17408x256 : Shape := ⟨2, ![17408, 256]⟩
abbrev S512x128 : Shape := ⟨2, ![512, 128]⟩
abbrev S4096x128 : Shape := ⟨2, ![4096, 128]⟩
abbrev S256x128 : Shape := ⟨2, ![256, 128]⟩
abbrev S512x4096 : Shape := ⟨2, ![512, 4096]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 12
  | .smem => 0
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S17408x256, .bf16⟩
  | .hbm, ⟨3, _⟩ => ⟨S17408x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RefBIdeal.lean ====
abbrev S17408x512 : Shape := ⟨2, ![17408, 512]⟩
abbrev S17408x256 : Shape := ⟨2, ![17408, 256]⟩
abbrev S16384x512 : Shape := ⟨2, ![16384, 512]⟩
abbrev S4x4096x512 : Shape := ⟨3, ![4, 4096, 512]⟩
abbrev S1024x512 : Shape := ⟨2, ![1024, 512]⟩
abbrev S4x256x512 : Shape := ⟨3, ![4, 256, 512]⟩
abbrev S16384x256 : Shape := ⟨2, ![16384, 256]⟩
abbrev S4x4096x256 : Shape := ⟨3, ![4, 4096, 256]⟩
abbrev S1024x256 : Shape := ⟨2, ![1024, 256]⟩
abbrev S4x256x256 : Shape := ⟨3, ![4, 256, 256]⟩
abbrev S4x4096x2x2x128 : Shape := ⟨5, ![4, 4096, 2, 2, 128]⟩
abbrev S4x4096x2x128 : Shape := ⟨4, ![4, 4096, 2, 128]⟩
abbrev S4x256x2x128 : Shape := ⟨4, ![4, 256, 2, 128]⟩
abbrev S4x2x4096x4096x2 : Shape := ⟨5, ![4, 2, 4096, 4096, 2]⟩
abbrev S4x2x2x4096x4096 : Shape := ⟨5, ![4, 2, 2, 4096, 4096]⟩
abbrev S4x2x256x4096x2 : Shape := ⟨5, ![4, 2, 256, 4096, 2]⟩
abbrev S4x2x2x4096x256 : Shape := ⟨5, ![4, 2, 2, 4096, 256]⟩
abbrev S4x2x2x4096x4352 : Shape := ⟨5, ![4, 2, 2, 4096, 4352]⟩
abbrev S_ : Shape := ⟨0, ![]⟩
abbrev S4x2x2x4096 : Shape := ⟨4, ![4, 2, 2, 4096]⟩
abbrev S4x2x2x4096x1 : Shape := ⟨5, ![4, 2, 2, 4096, 1]⟩
abbrev S4x2x128x2x4096 : Shape := ⟨5, ![4, 2, 128, 2, 4096]⟩

abbrev nBuf : Space → Nat
  | .hbm => 64
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S17408x256, .bf16⟩
  | .hbm, ⟨3, _⟩ => ⟨S17408x512, .f32⟩
  | .hbm, ⟨4, _⟩ => ⟨S16384x512, .f32⟩
  | .hbm, ⟨5, _⟩ => ⟨S4x4096x512, .f32⟩
  | .hbm, ⟨6, _⟩ => ⟨S1024x512, .f32⟩
  | .hbm, ⟨7, _⟩ => ⟨S4x256x512, .f32⟩
  | .hbm, ⟨8, _⟩ => ⟨S17408x256, .f32⟩
  | .hbm, ⟨9, _⟩ => ⟨S16384x256, .f32⟩
  | .hbm, ⟨10, _⟩ => ⟨S4x4096x256, .f32⟩
  | .hbm, ⟨11, _⟩ => ⟨S1024x256, .f32⟩
  | .hbm, ⟨12, _⟩ => ⟨S4x256x256, .f32⟩
  | .hbm, ⟨13, _⟩ => ⟨S17408x256, .f32⟩
  | .hbm, ⟨14, _⟩ => ⟨S16384x256, .f32⟩
  | .hbm, ⟨15, _⟩ => ⟨S4x4096x256, .f32⟩
  | .hbm, ⟨16, _⟩ => ⟨S1024x256, .f32⟩
  | .hbm, ⟨17, _⟩ => ⟨S4x256x256, .f32⟩
  | .hbm, ⟨18, _⟩ => ⟨S17408x256, .f32⟩
  | .hbm, ⟨19, _⟩ => ⟨S16384x256, .f32⟩
  | .hbm, ⟨20, _⟩ => ⟨S4x4096x256, .f32⟩
  | .hbm, ⟨21, _⟩ => ⟨S1024x256, .f32⟩
  | .hbm, ⟨22, _⟩ => ⟨S4x256x256, .f32⟩
  | .hbm, ⟨23, _⟩ => ⟨S17408x256, .f32⟩
  | .hbm, ⟨24, _⟩ => ⟨S16384x256, .f32⟩
  | .hbm, ⟨25, _⟩ => ⟨S4x4096x256, .f32⟩
  | .hbm, ⟨26, _⟩ => ⟨S1024x256, .f32⟩
  | .hbm, ⟨27, _⟩ => ⟨S4x256x256, .f32⟩
  | .hbm, ⟨28, _⟩ => ⟨S4x4096x2x2x128, .f32⟩
  | .hbm, ⟨29, _⟩ => ⟨S4x4096x2x128, .f32⟩
  | .hbm, ⟨30, _⟩ => ⟨S4x4096x2x128, .f32⟩
  | .hbm, ⟨31, _⟩ => ⟨S4x256x2x128, .f32⟩
  | .hbm, ⟨32, _⟩ => ⟨S4x256x2x128, .f32⟩
  | .hbm, ⟨33, _⟩ => ⟨S4x2x4096x4096x2, .f32⟩
  | .hbm, ⟨34, _⟩ => ⟨S4x2x2x4096x4096, .f32⟩
  | .hbm, ⟨35, _⟩ => ⟨S4x2x256x4096x2, .f32⟩
  | .hbm, ⟨36, _⟩ => ⟨S4x2x2x4096x256, .f32⟩
  | .hbm, ⟨37, _⟩ => ⟨S4x2x2x4096x4352, .f32⟩
  | .hbm, ⟨38, _⟩ => ⟨S_, .f32⟩
  | .hbm, ⟨39, _⟩ => ⟨S4x2x2x4096, .f32⟩
  | .hbm, ⟨40, _⟩ => ⟨S_, .f32⟩
  | .hbm, ⟨41, _⟩ => ⟨S4x2x2x4096, .f32⟩
  | .hbm, ⟨42, _⟩ => ⟨S4x2x2x4096, .f32⟩
  | .hbm, ⟨43, _⟩ => ⟨S4x2x2x4096x1, .f32⟩
  | .hbm, ⟨44, _⟩ => ⟨S4x2x2x4096x4352, .f32⟩
  | .hbm, ⟨45, _⟩ => ⟨S4x2x2x4096x4352, .f32⟩
  | .hbm, ⟨46, _⟩ => ⟨S4x2x2x4096x4352, .f32⟩
  | .hbm, ⟨47, _⟩ => ⟨S_, .f32⟩
  | .hbm, ⟨48, _⟩ => ⟨S4x2x2x4096, .f32⟩
  | .hbm, ⟨49, _⟩ => ⟨S4x2x2x4096x1, .f32⟩
  | .hbm, ⟨50, _⟩ => ⟨S4x2x2x4096x4352, .f32⟩
  | .hbm, ⟨51, _⟩ => ⟨S4x2x2x4096x4352, .f32⟩
  | .hbm, ⟨52, _⟩ => ⟨S4x2x2x4096x4096, .f32⟩
  | .hbm, ⟨53, _⟩ => ⟨S4x2x128x2x4096, .f32⟩
  | .hbm, ⟨54, _⟩ => ⟨S4x4096x2x2x128, .f32⟩
  | .hbm, ⟨55, _⟩ => ⟨S4x2x2x4096x256, .f32⟩
  | .hbm, ⟨56, _⟩ => ⟨S4x2x128x2x4096, .f32⟩
  | .hbm, ⟨57, _⟩ => ⟨S4x4096x2x2x128, .f32⟩
  | .hbm, ⟨58, _⟩ => ⟨S4x4096x2x2x128, .f32⟩
  | .hbm, ⟨59, _⟩ => ⟨S16384x512, .f32⟩
  | .hbm, ⟨60, _⟩ => ⟨S_, .f32⟩
  | .hbm, ⟨61, _⟩ => ⟨S1024x512, .f32⟩
  | .hbm, ⟨62, _⟩ => ⟨S17408x512, .f32⟩
  | .hbm, ⟨63, _⟩ => ⟨S17408x512, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_cst : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_2 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩

abbrev nD : Nat := 1
abbrev τ : Topo := Topo.v7x

variable {F : FTy → Type} [FloatOps F]
-- ==== Ffn.lean ====
abbrev S17408x2048 : Shape := ⟨2, ![17408, 2048]⟩
abbrev S4x8x9x1x2048 : Shape := ⟨5, ![4, 8, 9, 1, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S1x2048 : Shape := ⟨2, ![1, 2048]⟩
abbrev S5632x2048 : Shape := ⟨2, ![5632, 2048]⟩
abbrev S512x2048 : Shape := ⟨2, ![512, 2048]⟩
abbrev S1x1x1x1x2048 : Shape := ⟨5, ![1, 1, 1, 1, 2048]⟩
abbrev S1x2048x512 : Shape := ⟨3, ![1, 2048, 512]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 23
  | .vmem => 18
  | .smem => 0
  | _ => 0

abbrev bufTy : (tb : Table) → Fin (tcTables nBuf tb) → BufTy
  | .hbm, ⟨0, _⟩ => ⟨S17408x2048, .f32⟩
  | .hbm, ⟨1, _⟩ => ⟨S4x8x9x1x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S2048x5504, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5504, .f32⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S1x2048x5632, .f32⟩
  | .hbm, ⟨14, _⟩ => ⟨S1x2048x5632, .f32⟩
  | .hbm, ⟨15, _⟩ => ⟨S2x2048x5632, .f32⟩
  | .hbm, ⟨16, _⟩ => ⟨S2x2048x5632, .bf16⟩
  | .hbm, ⟨17, _⟩ => ⟨S1x2048, .f32⟩
  | .hbm, ⟨18, _⟩ => ⟨S_, .i32⟩
  | .hbm, ⟨19, _⟩ => ⟨S_, .f32⟩
  | .hbm, ⟨20, _⟩ => ⟨S5632x2048, .f32⟩
  | .hbm, ⟨21, _⟩ => ⟨S5632x2048, .bf16⟩
  | .hbm, ⟨22, _⟩ => ⟨S17408x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![34, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v17.toNat, c0_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v17.toNat, c1_i32_5.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v17.toNat, c2_i32.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefFfnIdeal.lean ====
abbrev S17408x2048 : Shape := ⟨2, ![17408, 2048]⟩
abbrev S4x8x9x1x2048 : Shape := ⟨5, ![4, 8, 9, 1, 2048]⟩
abbrev S2048 : Shape := ⟨1, ![2048]⟩
abbrev S2048x11008 : Shape := ⟨2, ![2048, 11008]⟩
abbrev S5504x2048 : Shape := ⟨2, ![5504, 2048]⟩
abbrev S16384x2048 : Shape := ⟨2, ![16384, 2048]⟩
abbrev S4x4096x2048 : Shape := ⟨3, ![4, 4096, 2048]⟩
abbrev S1024x2048 : Shape := ⟨2, ![1024, 2048]⟩
abbrev S4x256x2048 : Shape := ⟨3, ![4, 256, 2048]⟩
abbrev S1x4x9x1x2048 : Shape := ⟨5, ![1, 4, 9, 1, 2048]⟩
abbrev S4x9x1x2048 : Shape := ⟨4, ![4, 9, 1, 2048]⟩
abbrev S4x1x9x2048 : Shape := ⟨4, ![4, 1, 9, 2048]⟩
abbrev S1x1x9x1x2048 : Shape := ⟨5, ![1, 1, 9, 1, 2048]⟩
abbrev S1x9x1x2048 : Shape := ⟨4, ![1, 9, 1, 2048]⟩
abbrev S1x1x9x2048 : Shape := ⟨4, ![1, 1, 9, 2048]⟩
abbrev S4x1x1x2048 : Shape := ⟨4, ![4, 1, 1, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11008 : Shape := ⟨3, ![4, 4096, 11008]⟩
abbrev S4x4096x5504 : Shape := ⟨3, ![4, 4096, 5504]⟩
abbrev S1x1x1x2048 : Shape := ⟨4, ![1, 1, 1, 2048]⟩
abbrev S4x256 : Shape := ⟨2, ![4, 256]⟩
abbrev S4x256x1 : Shape := ⟨3, ![4, 256, 1]⟩
abbrev S4x256x11008 : Shape := ⟨3, ![4, 256, 11008]⟩
abbrev S4x256x5504 : Shape := ⟨3, ![4, 256, 5504]⟩

abbrev nBuf : Space → Nat
  | .hbm => 116
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x8x9x1x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S16384x2048, .f32⟩
  | .hbm, ⟨6, _⟩ => ⟨S4x4096x2048, .f32⟩
  | .hbm, ⟨7, _⟩ => ⟨S1024x2048, .f32⟩
  | .hbm, ⟨8, _⟩ => ⟨S4x256x2048, .f32⟩
  | .hbm, ⟨9, _⟩ => ⟨S1x4x9x1x2048, .f32⟩
  | .hbm, ⟨10, _⟩ => ⟨S4x9x1x2048, .f32⟩
  | .hbm, ⟨11, _⟩ => ⟨S4x1x9x2048, .f32⟩
  | .hbm, ⟨12, _⟩ => ⟨S1x1x9x1x2048, .f32⟩
  | .hbm, ⟨13, _⟩ => ⟨S1x9x1x2048, .f32⟩
  | .hbm, ⟨14, _⟩ => ⟨S1x1x9x2048, .f32⟩
  | .hbm, ⟨15, _⟩ => ⟨S4x1x1x2048, .f32⟩
  | .hbm, ⟨16, _⟩ => ⟨S4x1x2048, .f32⟩
  | .hbm, ⟨17, _⟩ => ⟨S_, .f32⟩
  | .hbm, ⟨18, _⟩ => ⟨S4x1x2048, .f32⟩
  | .hbm, ⟨19, _⟩ => ⟨S4x1x2048, .f32⟩
  | .hbm, ⟨20, _⟩ => ⟨S4x4096x2048, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x1x1x2048, .f32⟩
  | .hbm, ⟨37, _⟩ => ⟨S4x1x2048, .f32⟩
  | .hbm, ⟨38, _⟩ => ⟨S4x1x1x2048, .f32⟩
  | .hbm, ⟨39, _⟩ => ⟨S4x1x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x11008, .f32⟩
  | .hbm, ⟨48, _⟩ => ⟨S4x4096x5504, .f32⟩
  | .hbm, ⟨49, _⟩ => ⟨S4x4096x5504, .f32⟩
  | .hbm, ⟨50, _⟩ => ⟨S4x4096x5504, .f32⟩
  | .hbm, ⟨51, _⟩ => ⟨S4x4096x5504, .f32⟩
  | .hbm, ⟨52, _⟩ => ⟨S_, .f32⟩
  | .hbm, ⟨53, _⟩ => ⟨S4x4096x5504, .f32⟩
  | .hbm, ⟨54, _⟩ => ⟨S4x4096x5504, .f32⟩
  | .hbm, ⟨55, _⟩ => ⟨S_, .f32⟩
  | .hbm, ⟨56, _⟩ => ⟨S4x4096x5504, .f32⟩
  | .hbm, ⟨57, _⟩ => ⟨S4x4096x5504, .f32⟩
  | .hbm, ⟨58, _⟩ => ⟨S4x4096x5504, .f32⟩
  | .hbm, ⟨59, _⟩ => ⟨S4x4096x5504, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S1x1x1x2048, .f32⟩
  | .hbm, ⟨65, _⟩ => ⟨S1x1x2048, .f32⟩
  | .hbm, ⟨66, _⟩ => ⟨S_, .f32⟩
  | .hbm, ⟨67, _⟩ => ⟨S1x1x2048, .f32⟩
  | .hbm, ⟨68, _⟩ => ⟨S1x1x2048, .f32⟩
  | .hbm, ⟨69, _⟩ => ⟨S4x256x2048, .f32⟩
  | .hbm, ⟨70, _⟩ => ⟨S_, .f32⟩
  | .hbm, ⟨71, _⟩ => ⟨S4x256, .f32⟩
  | .hbm, ⟨72, _⟩ => ⟨S4x256x1, .f32⟩
  | .hbm, ⟨73, _⟩ => ⟨S_, .f32⟩
  | .hbm, ⟨74, _⟩ => ⟨S4x256x1, .f32⟩
  | .hbm, ⟨75, _⟩ => ⟨S4x256x1, .f32⟩
  | .hbm, ⟨76, _⟩ => ⟨S_, .f32⟩
  | .hbm, ⟨77, _⟩ => ⟨S4x256x1, .f32⟩
  | .hbm, ⟨78, _⟩ => ⟨S4x256x1, .f32⟩
  | .hbm, ⟨79, _⟩ => ⟨S4x256x1, .f32⟩
  | .hbm, ⟨80, _⟩ => ⟨S4x256x2048, .f32⟩
  | .hbm, ⟨81, _⟩ => ⟨S4x256x2048, .f32⟩
  | .hbm, ⟨82, _⟩ => ⟨S1x1x2048, .f32⟩
  | .hbm, ⟨83, _⟩ => ⟨S4x256x2048, .f32⟩
  | .hbm, ⟨84, _⟩ => ⟨S4x256x2048, .f32⟩
  | .hbm, ⟨85, _⟩ => ⟨S1x1x1x2048, .f32⟩
  | .hbm, ⟨86, _⟩ => ⟨S1x1x2048, .f32⟩
  | .hbm, ⟨87, _⟩ => ⟨S1x1x1x2048, .f32⟩
  | .hbm, ⟨88, _⟩ => ⟨S1x1x2048, .f32⟩
  | .hbm, ⟨89, _⟩ => ⟨S_, .f32⟩
  | .hbm, ⟨90, _⟩ => ⟨S1x1x2048, .f32⟩
  | .hbm, ⟨91, _⟩ => ⟨S1x1x2048, .f32⟩
  | .hbm, ⟨92, _⟩ => ⟨S4x256x2048, .f32⟩
  | .hbm, ⟨93, _⟩ => ⟨S4x256x2048, .f32⟩
  | .hbm, ⟨94, _⟩ => ⟨S4x256x2048, .f32⟩
  | .hbm, ⟨95, _⟩ => ⟨S4x256x2048, .f32⟩
  | .hbm, ⟨96, _⟩ => ⟨S4x256x11008, .f32⟩
  | .hbm, ⟨97, _⟩ => ⟨S4x256x5504, .f32⟩
  | .hbm, ⟨98, _⟩ => ⟨S4x256x5504, .f32⟩
  | .hbm, ⟨99, _⟩ => ⟨S4x256x5504, .f32⟩
  | .hbm, ⟨100, _⟩ => ⟨S4x256x5504, .f32⟩
  | .hbm, ⟨101, _⟩ => ⟨S_, .f32⟩
  | .hbm, ⟨102, _⟩ => ⟨S4x256x5504, .f32⟩
  | .hbm, ⟨103, _⟩ => ⟨S4x256x5504, .f32⟩
  | .hbm, ⟨104, _⟩ => ⟨S_, .f32⟩
  | .hbm, ⟨105, _⟩ => ⟨S4x256x5504, .f32⟩
  | .hbm, ⟨106, _⟩ => ⟨S4x256x5504, .f32⟩
  | .hbm, ⟨107, _⟩ => ⟨S4x256x5504, .f32⟩
  | .hbm, ⟨108, _⟩ => ⟨S4x256x5504, .f32⟩
  | .hbm, ⟨109, _⟩ => ⟨S4x256x2048, .f32⟩
  | .hbm, ⟨110, _⟩ => ⟨S4x256x2048, .f32⟩
  | .hbm, ⟨111, _⟩ => ⟨S4x256x2048, .f32⟩
  | .hbm, ⟨112, _⟩ => ⟨S4x256x2048, .f32⟩
  | .hbm, ⟨113, _⟩ => ⟨S16384x2048, .f32⟩
  | .hbm, ⟨114, _⟩ => ⟨S1024x2048, .f32⟩
  | .hbm, ⟨115, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Merge.lean ====
abbrev S17408x2048 : Shape := ⟨2, ![17408, 2048]⟩
abbrev S4x8x9x1x2048 : Shape := ⟨5, ![4, 8, 9, 1, 2048]⟩
abbrev S2048 : Shape := ⟨1, ![2048]⟩
abbrev S17408x512 : Shape := ⟨2, ![17408, 512]⟩
abbrev S3x512 : Shape := ⟨2, ![3, 512]⟩
abbrev S512 : Shape := ⟨1, ![512]⟩
abbrev S4x512x2048 : Shape := ⟨3, ![4, 512, 2048]⟩
abbrev S4x2048x2048 : Shape := ⟨3, ![4, 2048, 2048]⟩
abbrev S4x2048 : Shape := ⟨2, ![4, 2048]⟩
abbrev S2048x2048 : Shape := ⟨2, ![2048, 2048]⟩
abbrev S1x512 : Shape := ⟨2, ![1, 512]⟩
abbrev S4x1x2048 : Shape := ⟨3, ![4, 1, 2048]⟩
abbrev S1x2048 : Shape := ⟨2, ![1, 2048]⟩
abbrev S512x2048 : Shape := ⟨2, ![512, 2048]⟩
abbrev S1x1x1x1x2048 : Shape := ⟨5, ![1, 1, 1, 1, 2048]⟩
abbrev S512x512 : Shape := ⟨2, ![512, 512]⟩
abbrev S8x512 : Shape := ⟨2, ![8, 512]⟩
abbrev S4x2048x512 : Shape := ⟨3, ![4, 2048, 512]⟩
abbrev S4x1x512 : Shape := ⟨3, ![4, 1, 512]⟩
abbrev S4x512x512 : Shape := ⟨3, ![4, 512, 512]⟩
abbrev S512x1 : Shape := ⟨2, ![512, 1]⟩
abbrev S1x2048x512 : Shape := ⟨3, ![1, 2048, 512]⟩
abbrev S2048x512 : Shape := ⟨2, ![2048, 512]⟩
abbrev S1x1x512 : Shape := ⟨3, ![1, 1, 512]⟩
abbrev S1x512x512 : Shape := ⟨3, ![1, 512, 512]⟩

abbrev nBuf : Space → Nat
  | .hbm => 21
  | .vmem => 37
  | .smem => 0
  | _ => 0

abbrev bufTy : (tb : Table) → Fin (tcTables nBuf tb) → BufTy
  | .hbm, ⟨0, _⟩ => ⟨S17408x2048, .f32⟩
  | .hbm, ⟨1, _⟩ => ⟨S4x8x9x1x2048, .f32⟩
  | .hbm, ⟨2, _⟩ => ⟨S2048, .f32⟩
  | .hbm, ⟨3, _⟩ => ⟨S17408x512, .bf16⟩
  | .hbm, ⟨4, _⟩ => ⟨S17408x512, .bf16⟩
  | .hbm, ⟨5, _⟩ => ⟨S17408x512, .f32⟩
  | .hbm, ⟨6, _⟩ => ⟨S17408x512, .f32⟩
  | .hbm, ⟨7, _⟩ => ⟨S17408x512, .bf16⟩
  | .hbm, ⟨8, _⟩ => ⟨S3x512, .f32⟩
  | .hbm, ⟨9, _⟩ => ⟨S512, .f32⟩
  | .hbm, ⟨10, _⟩ => ⟨S4x512x2048, .f32⟩
  | .hbm, ⟨11, _⟩ => ⟨S4x2048x2048, .f32⟩
  | .hbm, ⟨12, _⟩ => ⟨S4x2048, .f32⟩
  | .hbm, ⟨13, _⟩ => ⟨S2048x2048, .f32⟩
  | .hbm, ⟨14, _⟩ => ⟨S1x512, .f32⟩
  | .hbm, ⟨15, _⟩ => ⟨S4x2048x2048, .bf16⟩
  | .hbm, ⟨16, _⟩ => ⟨S4x1x2048, .f32⟩
  | .hbm, ⟨17, _⟩ => ⟨S4x512x2048, .bf16⟩
  | .hbm, ⟨18, _⟩ => ⟨S2048x2048, .bf16⟩
  | .hbm, ⟨19, _⟩ => ⟨S1x2048, .f32⟩
  | .hbm, ⟨20, _⟩ => ⟨S17408x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S512x512, .bf16⟩
  | .local _ .vmem, ⟨22, _⟩ => ⟨S512x512, .bf16⟩
  | .local _ .vmem, ⟨23, _⟩ => ⟨S3x512, .f32⟩
  | .local _ .vmem, ⟨24, _⟩ => ⟨S1x512, .f32⟩
  | .local _ .vmem, ⟨25, _⟩ => ⟨S4x2048x512, .bf16⟩
  | .local _ .vmem, ⟨26, _⟩ => ⟨S4x2048x512, .bf16⟩
  | .local _ .vmem, ⟨27, _⟩ => ⟨S4x1x512, .f32⟩
  | .local _ .vmem, ⟨28, _⟩ => ⟨S4x1x512, .f32⟩
  | .local _ .vmem, ⟨29, _⟩ => ⟨S4x512x512, .bf16⟩
  | .local _ .vmem, ⟨30, _⟩ => ⟨S4x512x512, .bf16⟩
  | .local _ .vmem, ⟨31, _⟩ => ⟨S512x2048, .bf16⟩
  | .local _ .vmem, ⟨32, _⟩ => ⟨S512x2048, .bf16⟩
  | .local _ .vmem, ⟨33, _⟩ => ⟨S512x2048, .f32⟩
  | .local _ .vmem, ⟨34, _⟩ => ⟨S512x2048, .f32⟩
  | .local _ .vmem, ⟨35, _⟩ => ⟨S512x2048, .bf16⟩
  | .local _ .vmem, ⟨36, _⟩ => ⟨S512x512, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v17.toNat, c3_i32.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c4_i32_5 : BitVec 32 := 4#32
  let c0_i32_6 : BitVec 32 := 0#32
  let c0_i32_7 : BitVec 32 := 0#32
  let c0_i32_8 : BitVec 32 := 0#32
  ![c0_i32_4.toNat, v17.toNat, c4_i32_5.toNat, c0_i32_6.toNat, c0_i32_7.toNat]

def cc0_transform_4 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, v17.toNat, c5_i32.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c2175_i32 : BitVec 32 := 2175#32
  let v2 : BitVec 32 := Scalar.minsi v1 c2175_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S4x2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S4x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S4x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== RefMergeIdeal.lean ====
abbrev S17408x2048 : Shape := ⟨2, ![17408, 2048]⟩
abbrev S4x8x9x1x2048 : Shape := ⟨5, ![4, 8, 9, 1, 2048]⟩
abbrev S2048 : Shape := ⟨1, ![2048]⟩
abbrev S17408x512 : Shape := ⟨2, ![17408, 512]⟩
abbrev S3x512 : Shape := ⟨2, ![3, 512]⟩
abbrev S512 : Shape := ⟨1, ![512]⟩
abbrev S4x512x2048 : Shape := ⟨3, ![4, 512, 2048]⟩
abbrev S4x2048x2048 : Shape := ⟨3, ![4, 2048, 2048]⟩
abbrev S4x2048 : Shape := ⟨2, ![4, 2048]⟩
abbrev S2048x2048 : Shape := ⟨2, ![2048, 2048]⟩
abbrev S1x4x9x1x2048 : Shape := ⟨5, ![1, 4, 9, 1, 2048]⟩
abbrev S4x9x1x2048 : Shape := ⟨4, ![4, 9, 1, 2048]⟩
abbrev S4x1x9x2048 : Shape := ⟨4, ![4, 1, 9, 2048]⟩
abbrev S1x1x9x1x2048 : Shape := ⟨5, ![1, 1, 9, 1, 2048]⟩
abbrev S1x9x1x2048 : Shape := ⟨4, ![1, 9, 1, 2048]⟩
abbrev S1x1x9x2048 : Shape := ⟨4, ![1, 1, 9, 2048]⟩
abbrev S16384x2048 : Shape := ⟨2, ![16384, 2048]⟩
abbrev S4x4096x2048 : Shape := ⟨3, ![4, 4096, 2048]⟩
abbrev S1024x2048 : Shape := ⟨2, ![1024, 2048]⟩
abbrev S4x256x2048 : Shape := ⟨3, ![4, 256, 2048]⟩
abbrev S16384x512 : Shape := ⟨2, ![16384, 512]⟩
abbrev S4x4096x512 : Shape := ⟨3, ![4, 4096, 512]⟩
abbrev S1024x512 : Shape := ⟨2, ![1024, 512]⟩
abbrev S4x256x512 : Shape := ⟨3, ![4, 256, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x1x2048 : Shape := ⟨4, ![4, 1, 1, 2048]⟩
abbrev S4x1x2048 : Shape := ⟨3, ![4, 1, 2048]⟩
abbrev S4x4098x512 : Shape := ⟨3, ![4, 4098, 512]⟩
abbrev S1x512 : Shape := ⟨2, ![1, 512]⟩
abbrev S1x1x512 : Shape := ⟨3, ![1, 1, 512]⟩
abbrev S1x2048x2048 : Shape := ⟨3, ![1, 2048, 2048]⟩
abbrev S1x2048 : Shape := ⟨2, ![1, 2048]⟩
abbrev S1x512x2048 : Shape := ⟨3, ![1, 512, 2048]⟩
abbrev S512x2048 : Shape := ⟨2, ![512, 2048]⟩
abbrev S4x256 : Shape := ⟨2, ![4, 256]⟩
abbrev S4x256x1 : Shape := ⟨3, ![4, 256, 1]⟩
abbrev S1x1x1x2048 : Shape := ⟨4, ![1, 1, 1, 2048]⟩
abbrev S4x258x512 : Shape := ⟨3, ![4, 258, 512]⟩

abbrev nBuf : Space → Nat
  | .hbm => 336
  | .vmem => 0
  | .smem => 0
  | _ => 0

abbrev hbmTy0_0 (i : Nat) : BufTy := match i % 128 with
  | 0 => ⟨S17408x2048, .f32⟩
  | 1 => ⟨S4x8x9x1x2048, .f32⟩
  | 2 => ⟨S2048, .f32⟩
  | 3 => ⟨S17408x512, .bf16⟩
  | 4 => ⟨S17408x512, .bf16⟩
  | 5 => ⟨S17408x512, .f32⟩
  | 6 => ⟨S17408x512, .f32⟩
  | 7 => ⟨S17408x512, .bf16⟩
  | 8 => ⟨S3x512, .f32⟩
  | 9 => ⟨S512, .f32⟩
  | 10 => ⟨S4x512x2048, .f32⟩
  | 11 => ⟨S4x2048x2048, .f32⟩
  | 12 => ⟨S4x2048, .f32⟩
  | 13 => ⟨S2048x2048, .f32⟩
  | 14 => ⟨S1x4x9x1x2048, .f32⟩
  | 15 => ⟨S4x9x1x2048, .f32⟩
  | 16 => ⟨S4x1x9x2048, .f32⟩
  | 17 => ⟨S1x1x9x1x2048, .f32⟩
  | 18 => ⟨S1x9x1x2048, .f32⟩
  | 19 => ⟨S1x1x9x2048, .f32⟩
  | 20 => ⟨S16384x2048, .f32⟩
  | 21 => ⟨S4x4096x2048, .f32⟩
  | 22 => ⟨S1024x2048, .f32⟩
  | 23 => ⟨S4x256x2048, .f32⟩
  | 24 => ⟨S17408x512, .f32⟩
  | 25 => ⟨S16384x512, .f32⟩
  | 26 => ⟨S4x4096x512, .f32⟩
  | 27 => ⟨S1024x512, .f32⟩
  | 28 => ⟨S4x256x512, .f32⟩
  | 29 => ⟨S17408x512, .f32⟩
  | 30 => ⟨S16384x512, .f32⟩
  | 31 => ⟨S4x4096x512, .f32⟩
  | 32 => ⟨S1024x512, .f32⟩
  | 33 => ⟨S4x256x512, .f32⟩
  | 34 => ⟨S16384x512, .f32⟩
  | 35 => ⟨S4x4096x512, .f32⟩
  | 36 => ⟨S1024x512, .f32⟩
  | 37 => ⟨S4x256x512, .f32⟩
  | 38 => ⟨S16384x512, .f32⟩
  | 39 => ⟨S4x4096x512, .f32⟩
  | 40 => ⟨S1024x512, .f32⟩
  | 41 => ⟨S4x256x512, .f32⟩
  | 42 => ⟨S17408x512, .f32⟩
  | 43 => ⟨S16384x512, .f32⟩
  | 44 => ⟨S4x4096x512, .f32⟩
  | 45 => ⟨S1024x512, .f32⟩
  | 46 => ⟨S4x256x512, .f32⟩
  | 47 => ⟨S4x4096x2048, .f32⟩
  | 48 => ⟨S_, .f32⟩
  | 49 => ⟨S4x4096, .f32⟩
  | 50 => ⟨S4x4096x1, .f32⟩
  | 51 => ⟨S_, .f32⟩
  | 52 => ⟨S4x4096x1, .f32⟩
  | 53 => ⟨S4x4096x1, .f32⟩
  | 54 => ⟨S_, .f32⟩
  | 55 => ⟨S4x4096x1, .f32⟩
  | 56 => ⟨S4x4096x1, .f32⟩
  | 57 => ⟨S4x4096x1, .f32⟩
  | 58 => ⟨S4x4096x2048, .f32⟩
  | 59 => ⟨S4x4096x2048, .f32⟩
  | 60 => ⟨S1x1x2048, .f32⟩
  | 61 => ⟨S4x4096x2048, .f32⟩
  | 62 => ⟨S4x4096x2048, .f32⟩
  | 63 => ⟨S4x1x1x2048, .f32⟩
  | 64 => ⟨S4x1x2048, .f32⟩
  | 65 => ⟨S4x1x1x2048, .f32⟩
  | 66 => ⟨S4x1x2048, .f32⟩
  | 67 => ⟨S_, .f32⟩
  | 68 => ⟨S4x1x2048, .f32⟩
  | 69 => ⟨S4x1x2048, .f32⟩
  | 70 => ⟨S4x4096x2048, .f32⟩
  | 71 => ⟨S4x4096x2048, .f32⟩
  | 72 => ⟨S4x4096x2048, .f32⟩
  | 73 => ⟨S4x4096x2048, .f32⟩
  | 74 => ⟨S_, .i32⟩
  | 75 => ⟨S_, .f32⟩
  | 76 => ⟨S4x4098x512, .f32⟩
  | 77 => ⟨S4x4096x512, .f32⟩
  | 78 => ⟨S1x512, .f32⟩
  | 79 => ⟨S512, .f32⟩
  | 80 => ⟨S1x1x512, .f32⟩
  | 81 => ⟨S4x4096x512, .f32⟩
  | 82 => ⟨S4x4096x512, .f32⟩
  | 83 => ⟨S4x4096x512, .f32⟩
  | 84 => ⟨S1x512, .f32⟩
  | 85 => ⟨S512, .f32⟩
  | 86 => ⟨S1x1x512, .f32⟩
  | 87 => ⟨S4x4096x512, .f32⟩
  | 88 => ⟨S4x4096x512, .f32⟩
  | 89 => ⟨S4x4096x512, .f32⟩
  | 90 => ⟨S4x4096x512, .f32⟩
  | 91 => ⟨S1x512, .f32⟩
  | 92 => ⟨S512, .f32⟩
  | 93 => ⟨S1x1x512, .f32⟩
  | 94 => ⟨S4x4096x512, .f32⟩
  | 95 => ⟨S4x4096x512, .f32⟩
  | 96 => ⟨S4x4096x512, .f32⟩
  | 97 => ⟨S1x1x512, .f32⟩
  | 98 => ⟨S4x4096x512, .f32⟩
  | 99 => ⟨S4x4096x512, .f32⟩
  | 100 => ⟨S4x4096x512, .f32⟩
  | 101 => ⟨S4x1x1x2048, .f32⟩
  | 102 => ⟨S4x1x2048, .f32⟩
  | 103 => ⟨S1x2048x2048, .f32⟩
  | 104 => ⟨S2048x2048, .f32⟩
  | 105 => ⟨S4x4096x2048, .f32⟩
  | 106 => ⟨S1x2048, .f32⟩
  | 107 => ⟨S2048, .f32⟩
  | 108 => ⟨S1x1x2048, .f32⟩
  | 109 => ⟨S4x4096x2048, .f32⟩
  | 110 => ⟨S4x4096x2048, .f32⟩
  | 111 => ⟨S4x4096x2048, .f32⟩
  | 112 => ⟨S4x4096x2048, .f32⟩
  | 113 => ⟨S_, .f32⟩
  | 114 => ⟨S4x4096x2048, .f32⟩
  | 115 => ⟨S4x4096x2048, .f32⟩
  | 116 => ⟨S_, .f32⟩
  | 117 => ⟨S4x4096x2048, .f32⟩
  | 118 => ⟨S4x4096x2048, .f32⟩
  | 119 => ⟨S1x512x2048, .f32⟩
  | 120 => ⟨S512x2048, .f32⟩
  | 121 => ⟨S4x4096x2048, .f32⟩
  | 122 => ⟨S4x4096x2048, .f32⟩
  | 123 => ⟨S1x2048x2048, .f32⟩
  | 124 => ⟨S2048x2048, .f32⟩
  | 125 => ⟨S4x4096x2048, .f32⟩
  | 126 => ⟨S1x2048, .f32⟩
  | 127 => ⟨S2048, .f32⟩
  | _ => ⟨S17408x2048, .f32⟩

abbrev hbmTy0_1 (i : Nat) : BufTy := match i % 128 with
  | 0 => ⟨S1x1x2048, .f32⟩
  | 1 => ⟨S4x4096x2048, .f32⟩
  | 2 => ⟨S4x4096x2048, .f32⟩
  | 3 => ⟨S4x4096x2048, .f32⟩
  | 4 => ⟨S4x4096x2048, .f32⟩
  | 5 => ⟨S_, .f32⟩
  | 6 => ⟨S4x4096x2048, .f32⟩
  | 7 => ⟨S4x4096x2048, .f32⟩
  | 8 => ⟨S_, .f32⟩
  | 9 => ⟨S4x4096x2048, .f32⟩
  | 10 => ⟨S4x4096x2048, .f32⟩
  | 11 => ⟨S1x512x2048, .f32⟩
  | 12 => ⟨S512x2048, .f32⟩
  | 13 => ⟨S4x4096x2048, .f32⟩
  | 14 => ⟨S4x4096x2048, .f32⟩
  | 15 => ⟨S4x4096x2048, .f32⟩
  | 16 => ⟨S1x2048x2048, .f32⟩
  | 17 => ⟨S2048x2048, .f32⟩
  | 18 => ⟨S4x4096x2048, .f32⟩
  | 19 => ⟨S1x2048, .f32⟩
  | 20 => ⟨S2048, .f32⟩
  | 21 => ⟨S1x1x2048, .f32⟩
  | 22 => ⟨S4x4096x2048, .f32⟩
  | 23 => ⟨S4x4096x2048, .f32⟩
  | 24 => ⟨S4x4096x2048, .f32⟩
  | 25 => ⟨S4x4096x2048, .f32⟩
  | 26 => ⟨S_, .f32⟩
  | 27 => ⟨S4x4096x2048, .f32⟩
  | 28 => ⟨S4x4096x2048, .f32⟩
  | 29 => ⟨S_, .f32⟩
  | 30 => ⟨S4x4096x2048, .f32⟩
  | 31 => ⟨S4x4096x2048, .f32⟩
  | 32 => ⟨S1x512x2048, .f32⟩
  | 33 => ⟨S512x2048, .f32⟩
  | 34 => ⟨S4x4096x2048, .f32⟩
  | 35 => ⟨S4x4096x2048, .f32⟩
  | 36 => ⟨S4x4096x2048, .f32⟩
  | 37 => ⟨S1x2048x2048, .f32⟩
  | 38 => ⟨S2048x2048, .f32⟩
  | 39 => ⟨S4x4096x2048, .f32⟩
  | 40 => ⟨S1x2048, .f32⟩
  | 41 => ⟨S2048, .f32⟩
  | 42 => ⟨S1x1x2048, .f32⟩
  | 43 => ⟨S4x4096x2048, .f32⟩
  | 44 => ⟨S4x4096x2048, .f32⟩
  | 45 => ⟨S4x4096x2048, .f32⟩
  | 46 => ⟨S4x4096x2048, .f32⟩
  | 47 => ⟨S_, .f32⟩
  | 48 => ⟨S4x4096x2048, .f32⟩
  | 49 => ⟨S4x4096x2048, .f32⟩
  | 50 => ⟨S_, .f32⟩
  | 51 => ⟨S4x4096x2048, .f32⟩
  | 52 => ⟨S4x4096x2048, .f32⟩
  | 53 => ⟨S1x512x2048, .f32⟩
  | 54 => ⟨S512x2048, .f32⟩
  | 55 => ⟨S4x4096x2048, .f32⟩
  | 56 => ⟨S4x4096x2048, .f32⟩
  | 57 => ⟨S4x4096x2048, .f32⟩
  | 58 => ⟨S4x4096x2048, .f32⟩
  | 59 => ⟨S4x4096x2048, .f32⟩
  | 60 => ⟨S4x4096x2048, .f32⟩
  | 61 => ⟨S4x4096x2048, .f32⟩
  | 62 => ⟨S16384x2048, .f32⟩
  | 63 => ⟨S4x256x2048, .f32⟩
  | 64 => ⟨S_, .f32⟩
  | 65 => ⟨S4x256, .f32⟩
  | 66 => ⟨S4x256x1, .f32⟩
  | 67 => ⟨S_, .f32⟩
  | 68 => ⟨S4x256x1, .f32⟩
  | 69 => ⟨S4x256x1, .f32⟩
  | 70 => ⟨S_, .f32⟩
  | 71 => ⟨S4x256x1, .f32⟩
  | 72 => ⟨S4x256x1, .f32⟩
  | 73 => ⟨S4x256x1, .f32⟩
  | 74 => ⟨S4x256x2048, .f32⟩
  | 75 => ⟨S4x256x2048, .f32⟩
  | 76 => ⟨S1x1x2048, .f32⟩
  | 77 => ⟨S4x256x2048, .f32⟩
  | 78 => ⟨S4x256x2048, .f32⟩
  | 79 => ⟨S1x1x1x2048, .f32⟩
  | 80 => ⟨S1x1x2048, .f32⟩
  | 81 => ⟨S1x1x1x2048, .f32⟩
  | 82 => ⟨S1x1x2048, .f32⟩
  | 83 => ⟨S_, .f32⟩
  | 84 => ⟨S1x1x2048, .f32⟩
  | 85 => ⟨S1x1x2048, .f32⟩
  | 86 => ⟨S4x256x2048, .f32⟩
  | 87 => ⟨S4x256x2048, .f32⟩
  | 88 => ⟨S4x256x2048, .f32⟩
  | 89 => ⟨S4x256x2048, .f32⟩
  | 90 => ⟨S_, .i32⟩
  | 91 => ⟨S_, .f32⟩
  | 92 => ⟨S4x258x512, .f32⟩
  | 93 => ⟨S4x256x512, .f32⟩
  | 94 => ⟨S1x512, .f32⟩
  | 95 => ⟨S512, .f32⟩
  | 96 => ⟨S1x1x512, .f32⟩
  | 97 => ⟨S4x256x512, .f32⟩
  | 98 => ⟨S4x256x512, .f32⟩
  | 99 => ⟨S4x256x512, .f32⟩
  | 100 => ⟨S1x512, .f32⟩
  | 101 => ⟨S512, .f32⟩
  | 102 => ⟨S1x1x512, .f32⟩
  | 103 => ⟨S4x256x512, .f32⟩
  | 104 => ⟨S4x256x512, .f32⟩
  | 105 => ⟨S4x256x512, .f32⟩
  | 106 => ⟨S4x256x512, .f32⟩
  | 107 => ⟨S1x512, .f32⟩
  | 108 => ⟨S512, .f32⟩
  | 109 => ⟨S1x1x512, .f32⟩
  | 110 => ⟨S4x256x512, .f32⟩
  | 111 => ⟨S4x256x512, .f32⟩
  | 112 => ⟨S4x256x512, .f32⟩
  | 113 => ⟨S1x1x512, .f32⟩
  | 114 => ⟨S4x256x512, .f32⟩
  | 115 => ⟨S4x256x512, .f32⟩
  | 116 => ⟨S4x256x512, .f32⟩
  | 117 => ⟨S1x1x1x2048, .f32⟩
  | 118 => ⟨S1x1x2048, .f32⟩
  | 119 => ⟨S1x2048x2048, .f32⟩
  | 120 => ⟨S2048x2048, .f32⟩
  | 121 => ⟨S4x256x2048, .f32⟩
  | 122 => ⟨S1x2048, .f32⟩
  | 123 => ⟨S2048, .f32⟩
  | 124 => ⟨S1x1x2048, .f32⟩
  | 125 => ⟨S4x256x2048, .f32⟩
  | 126 => ⟨S4x256x2048, .f32⟩
  | 127 => ⟨S4x256x2048, .f32⟩
  | _ => ⟨S17408x2048, .f32⟩

abbrev hbmTy0_2 (i : Nat) : BufTy := match i % 128 with
  | 0 => ⟨S4x256x2048, .f32⟩
  | 1 => ⟨S_, .f32⟩
  | 2 => ⟨S4x256x2048, .f32⟩
  | 3 => ⟨S4x256x2048, .f32⟩
  | 4 => ⟨S_, .f32⟩
  | 5 => ⟨S4x256x2048, .f32⟩
  | 6 => ⟨S4x256x2048, .f32⟩
  | 7 => ⟨S1x512x2048, .f32⟩
  | 8 => ⟨S512x2048, .f32⟩
  | 9 => ⟨S4x256x2048, .f32⟩
  | 10 => ⟨S4x256x2048, .f32⟩
  | 11 => ⟨S1x2048x2048, .f32⟩
  | 12 => ⟨S2048x2048, .f32⟩
  | 13 => ⟨S4x256x2048, .f32⟩
  | 14 => ⟨S1x2048, .f32⟩
  | 15 => ⟨S2048, .f32⟩
  | 16 => ⟨S1x1x2048, .f32⟩
  | 17 => ⟨S4x256x2048, .f32⟩
  | 18 => ⟨S4x256x2048, .f32⟩
  | 19 => ⟨S4x256x2048, .f32⟩
  | 20 => ⟨S4x256x2048, .f32⟩
  | 21 => ⟨S_, .f32⟩
  | 22 => ⟨S4x256x2048, .f32⟩
  | 23 => ⟨S4x256x2048, .f32⟩
  | 24 => ⟨S_, .f32⟩
  | 25 => ⟨S4x256x2048, .f32⟩
  | 26 => ⟨S4x256x2048, .f32⟩
  | 27 => ⟨S1x512x2048, .f32⟩
  | 28 => ⟨S512x2048, .f32⟩
  | 29 => ⟨S4x256x2048, .f32⟩
  | 30 => ⟨S4x256x2048, .f32⟩
  | 31 => ⟨S4x256x2048, .f32⟩
  | 32 => ⟨S1x2048x2048, .f32⟩
  | 33 => ⟨S2048x2048, .f32⟩
  | 34 => ⟨S4x256x2048, .f32⟩
  | 35 => ⟨S1x2048, .f32⟩
  | 36 => ⟨S2048, .f32⟩
  | 37 => ⟨S1x1x2048, .f32⟩
  | 38 => ⟨S4x256x2048, .f32⟩
  | 39 => ⟨S4x256x2048, .f32⟩
  | 40 => ⟨S4x256x2048, .f32⟩
  | 41 => ⟨S4x256x2048, .f32⟩
  | 42 => ⟨S_, .f32⟩
  | 43 => ⟨S4x256x2048, .f32⟩
  | 44 => ⟨S4x256x2048, .f32⟩
  | 45 => ⟨S_, .f32⟩
  | 46 => ⟨S4x256x2048, .f32⟩
  | 47 => ⟨S4x256x2048, .f32⟩
  | 48 => ⟨S1x512x2048, .f32⟩
  | 49 => ⟨S512x2048, .f32⟩
  | 50 => ⟨S4x256x2048, .f32⟩
  | 51 => ⟨S4x256x2048, .f32⟩
  | 52 => ⟨S4x256x2048, .f32⟩
  | 53 => ⟨S1x2048x2048, .f32⟩
  | 54 => ⟨S2048x2048, .f32⟩
  | 55 => ⟨S4x256x2048, .f32⟩
  | 56 => ⟨S1x2048, .f32⟩
  | 57 => ⟨S2048, .f32⟩
  | 58 => ⟨S1x1x2048, .f32⟩
  | 59 => ⟨S4x256x2048, .f32⟩
  | 60 => ⟨S4x256x2048, .f32⟩
  | 61 => ⟨S4x256x2048, .f32⟩
  | 62 => ⟨S4x256x2048, .f32⟩
  | 63 => ⟨S_, .f32⟩
  | 64 => ⟨S4x256x2048, .f32⟩
  | 65 => ⟨S4x256x2048, .f32⟩
  | 66 => ⟨S_, .f32⟩
  | 67 => ⟨S4x256x2048, .f32⟩
  | 68 => ⟨S4x256x2048, .f32⟩
  | 69 => ⟨S1x512x2048, .f32⟩
  | 70 => ⟨S512x2048, .f32⟩
  | 71 => ⟨S4x256x2048, .f32⟩
  | 72 => ⟨S4x256x2048, .f32⟩
  | 73 => ⟨S4x256x2048, .f32⟩
  | 74 => ⟨S4x256x2048, .f32⟩
  | 75 => ⟨S4x256x2048, .f32⟩
  | 76 => ⟨S4x256x2048, .f32⟩
  | 77 => ⟨S4x256x2048, .f32⟩
  | 78 => ⟨S1024x2048, .f32⟩
  | 79 => ⟨S17408x2048, .f32⟩
  | _ => ⟨S17408x2048, .f32⟩

abbrev hbmTy (i : Nat) : BufTy := match i / 128 with
  | 0 => hbmTy0_0 i
  | 1 => hbmTy0_1 i
  | 2 => hbmTy0_2 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_0 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_2 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_3 : Ref sig .tc := ⟨.hbm, 113, rfl⟩
abbrev main_v93 : Ref sig .tc := ⟨.hbm, 114, rfl⟩
abbrev main_v94 : Ref sig .tc := ⟨.hbm, 115, rfl⟩
abbrev main_cst_4 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_5 : Ref sig .tc := ⟨.hbm, 133, rfl⟩
abbrev main_v111 : Ref sig .tc := ⟨.hbm, 134, rfl⟩
abbrev main_v112 : Ref sig .tc := ⟨.hbm, 135, rfl⟩
abbrev main_cst_6 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_7 : Ref sig .tc := ⟨.hbm, 154, rfl⟩
abbrev main_v130 : Ref sig .tc := ⟨.hbm, 155, rfl⟩
abbrev main_v131 : Ref sig .tc := ⟨.hbm, 156, rfl⟩
abbrev main_cst_8 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_9 : Ref sig .tc := ⟨.hbm, 175, rfl⟩
abbrev main_v149 : Ref sig .tc := ⟨.hbm, 176, rfl⟩
abbrev main_v150 : Ref sig .tc := ⟨.hbm, 177, rfl⟩
abbrev main_cst_10 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_11 : Ref sig .tc := ⟨.hbm, 192, rfl⟩
abbrev main_v164 : Ref sig .tc := ⟨.hbm, 193, rfl⟩
abbrev main_v165 : Ref sig .tc := ⟨.hbm, 194, rfl⟩
abbrev main_cst_12 : Ref sig .tc := ⟨.hbm, 195, rfl⟩
abbrev main_v166 : Ref sig .tc := ⟨.hbm, 196, rfl⟩
abbrev main_v167 : Ref sig .tc := ⟨.hbm, 197, rfl⟩
abbrev main_cst_13 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_cst_14 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_c_15 : Ref sig .tc := ⟨.hbm, 218, rfl⟩
abbrev main_call1_v0 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_cst_16 : Ref sig .tc := ⟨.hbm, 257, rfl⟩
abbrev main_v223 : Ref sig .tc := ⟨.hbm, 258, rfl⟩
abbrev main_v224 : Ref sig .tc := ⟨.hbm, 259, rfl⟩
abbrev main_cst_17 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_cst_18 : Ref sig .tc := ⟨.hbm, 277, rfl⟩
abbrev main_v241 : Ref sig .tc := ⟨.hbm, 278, rfl⟩
abbrev main_v242 : Ref sig .tc := ⟨.hbm, 279, rfl⟩
abbrev main_cst_19 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_cst_20 : Ref sig .tc := ⟨.hbm, 298, rfl⟩
abbrev main_v260 : Ref sig .tc := ⟨.hbm, 299, rfl⟩
abbrev main_v261 : Ref sig .tc := ⟨.hbm, 300, rfl⟩
abbrev main_cst_21 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_cst_22 : Ref sig .tc := ⟨.hbm, 319, rfl⟩
abbrev main_v279 : Ref sig .tc := ⟨.hbm, 320, rfl⟩
abbrev main_v280 : Ref sig .tc := ⟨.hbm, 321, rfl⟩
abbrev main_cst_23 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩

abbrev nD : Nat := 1
abbrev τ : Topo := Topo.v7x

variable {F : FTy → Type} [FloatOps F]
-- ==== Proj.lean ====
abbrev S17408x2048 : Shape := ⟨2, ![17408, 2048]⟩
abbrev S4x8x9x1x2048 : Shape := ⟨5, ![4, 8, 9, 1, 2048]⟩
abbrev S2048 : Shape := ⟨1, ![2048]⟩
abbrev S2048x3712 : Shape := ⟨2, ![2048, 3712]⟩
abbrev S448 : Shape := ⟨1, ![448]⟩
abbrev S448x768 : Shape := ⟨2, ![448, 768]⟩
abbrev S128 : Shape := ⟨1, ![128]⟩
abbrev S128x1024 : Shape := ⟨2, ![128, 1024]⟩
abbrev S192 : Shape := ⟨1, ![192]⟩
abbrev S4096x32 : Shape := ⟨2, ![4096, 32]⟩
abbrev S4096x64 : Shape := ⟨2, ![4096, 64]⟩
abbrev S128x128 : Shape := ⟨2, ![128, 128]⟩
abbrev S_ : Shape := ⟨0, ![]⟩
abbrev S512x128 : Shape := ⟨2, ![512, 128]⟩
abbrev S4096x128 : Shape := ⟨2, ![4096, 128]⟩
abbrev S4608x128 : Shape := ⟨2, ![4608, 128]⟩
abbrev S2048x448 : Shape := ⟨2, ![2048, 448]⟩
abbrev S2048x128 : Shape := ⟨2, ![2048, 128]⟩
abbrev S2048x64 : Shape := ⟨2, ![2048, 64]⟩
abbrev S2048x512 : Shape := ⟨2, ![2048, 512]⟩
abbrev S2048x256 : Shape := ⟨2, ![2048, 256]⟩
abbrev S448x4x192 : Shape := ⟨3, ![448, 4, 192]⟩
abbrev S448x4x256 : Shape := ⟨3, ![448, 4, 256]⟩
abbrev S512x4x256 : Shape := ⟨3, ![512, 4, 256]⟩
abbrev S512x1024 : Shape := ⟨2, ![512, 1024]⟩
abbrev S128x4x256 : Shape := ⟨3, ![128, 4, 256]⟩
abbrev S128x4x128 : Shape := ⟨3, ![128, 4, 128]⟩
abbrev S128x512 : Shape := ⟨2, ![128, 512]⟩
abbrev S2048x3840 : Shape := ⟨2, ![2048, 3840]⟩
abbrev S512 : Shape := ⟨1, ![512]⟩
abbrev S1x512 : Shape := ⟨2, ![1, 512]⟩
abbrev S1x128 : Shape := ⟨2, ![1, 128]⟩
abbrev S256 : Shape := ⟨1, ![256]⟩
abbrev S1x256 : Shape := ⟨2, ![1, 256]⟩
abbrev S64 : Shape := ⟨1, ![64]⟩
abbrev S128x256 : Shape := ⟨2, ![128, 256]⟩
abbrev S1x2048 : Shape := ⟨2, ![1, 2048]⟩
abbrev S17408x1024 : Shape := ⟨2, ![17408, 1024]⟩
abbrev S17408x512 : Shape := ⟨2, ![17408, 512]⟩
abbrev S17408x256 : Shape := ⟨2, ![17408, 256]⟩
abbrev S512x2048 : Shape := ⟨2, ![512, 2048]⟩
abbrev S1x1x1x1x2048 : Shape := ⟨5, ![1, 1, 1, 1, 2048]⟩
abbrev S512x512 : Shape := ⟨2, ![512, 512]⟩
abbrev S512x256 : Shape := ⟨2, ![512, 256]⟩
abbrev S512x1 : Shape := ⟨2, ![512, 1]⟩
abbrev S2048x768 : Shape := ⟨2, ![2048, 768]⟩
abbrev S512x768 : Shape := ⟨2, ![512, 768]⟩
abbrev S2048x1024 : Shape := ⟨2, ![2048, 1024]⟩
abbrev S2048x1536 : Shape := ⟨2, ![2048, 1536]⟩
abbrev S512x1536 : Shape := ⟨2, ![512, 1536]⟩

abbrev nBuf : Space → Nat
  | .hbm => 103
  | .vmem => 48
  | .smem => 0
  | _ => 0

abbrev bufTy : (tb : Table) → Fin (tcTables nBuf tb) → BufTy
  | .hbm, ⟨0, _⟩ => ⟨S17408x2048, .f32⟩
  | .hbm, ⟨1, _⟩ => ⟨S4x8x9x1x2048, .f32⟩
  | .hbm, ⟨2, _⟩ => ⟨S2048, .f32⟩
  | .hbm, ⟨3, _⟩ => ⟨S2048x3712, .f32⟩
  | .hbm, ⟨4, _⟩ => ⟨S448, .f32⟩
  | .hbm, ⟨5, _⟩ => ⟨S448x768, .f32⟩
  | .hbm, ⟨6, _⟩ => ⟨S128, .f32⟩
  | .hbm, ⟨7, _⟩ => ⟨S128x1024, .f32⟩
  | .hbm, ⟨8, _⟩ => ⟨S192, .f32⟩
  | .hbm, ⟨9, _⟩ => ⟨S192, .f32⟩
  | .hbm, ⟨10, _⟩ => ⟨S128, .f32⟩
  | .hbm, ⟨11, _⟩ => ⟨S128, .f32⟩
  | .hbm, ⟨12, _⟩ => ⟨S4096x32, .f32⟩
  | .hbm, ⟨13, _⟩ => ⟨S4096x32, .f32⟩
  | .hbm, ⟨14, _⟩ => ⟨S4096x64, .f32⟩
  | .hbm, ⟨15, _⟩ => ⟨S4096x64, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S4096x32, .f32⟩
  | .hbm, ⟨20, _⟩ => ⟨S_, .f32⟩
  | .hbm, ⟨21, _⟩ => ⟨S4096x64, .f32⟩
  | .hbm, ⟨22, _⟩ => ⟨S_, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S4096x128, .f32⟩
  | .hbm, ⟨27, _⟩ => ⟨S4096x32, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4096x64, .f32⟩
  | .hbm, ⟨32, _⟩ => ⟨S4096x128, .f32⟩
  | .hbm, ⟨33, _⟩ => ⟨S4608x128, .f32⟩
  | .hbm, ⟨34, _⟩ => ⟨S4608x128, .f32⟩
  | .hbm, ⟨35, _⟩ => ⟨S4608x128, .f32⟩
  | .hbm, ⟨36, _⟩ => ⟨S4608x128, .f32⟩
  | .hbm, ⟨37, _⟩ => ⟨S4608x128, .f32⟩
  | .hbm, ⟨38, _⟩ => ⟨S2048x448, .f32⟩
  | .hbm, ⟨39, _⟩ => ⟨S2048x128, .f32⟩
  | .hbm, ⟨40, _⟩ => ⟨S2048x64, .f32⟩
  | .hbm, ⟨41, _⟩ => ⟨S2048x512, .f32⟩
  | .hbm, ⟨42, _⟩ => ⟨S2048x256, .f32⟩
  | .hbm, ⟨43, _⟩ => ⟨S2048x256, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .i32⟩
  | .hbm, ⟨49, _⟩ => ⟨S_, .f32⟩
  | .hbm, ⟨50, _⟩ => ⟨S2048x512, .f32⟩
  | .hbm, ⟨51, _⟩ => ⟨S_, .i32⟩
  | .hbm, ⟨52, _⟩ => ⟨S_, .f32⟩
  | .hbm, ⟨53, _⟩ => ⟨S2048x128, .f32⟩
  | .hbm, ⟨54, _⟩ => ⟨S448x4x192, .f32⟩
  | .hbm, ⟨55, _⟩ => ⟨S_, .i32⟩
  | .hbm, ⟨56, _⟩ => ⟨S_, .f32⟩
  | .hbm, ⟨57, _⟩ => ⟨S448x4x256, .f32⟩
  | .hbm, ⟨58, _⟩ => ⟨S_, .i32⟩
  | .hbm, ⟨59, _⟩ => ⟨S_, .f32⟩
  | .hbm, ⟨60, _⟩ => ⟨S512x4x256, .f32⟩
  | .hbm, ⟨61, _⟩ => ⟨S512x1024, .f32⟩
  | .hbm, ⟨62, _⟩ => ⟨S128x4x256, .f32⟩
  | .hbm, ⟨63, _⟩ => ⟨S128x4x128, .f32⟩
  | .hbm, ⟨64, _⟩ => ⟨S128x512, .f32⟩
  | .hbm, ⟨65, _⟩ => ⟨S128x4x128, .f32⟩
  | .hbm, ⟨66, _⟩ => ⟨S128x512, .f32⟩
  | .hbm, ⟨67, _⟩ => ⟨S128x1024, .f32⟩
  | .hbm, ⟨68, _⟩ => ⟨S2048x3840, .f32⟩
  | .hbm, ⟨69, _⟩ => ⟨S2048x3840, .bf16⟩
  | .hbm, ⟨70, _⟩ => ⟨S_, .i32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S512x1024, .bf16⟩
  | .hbm, ⟨75, _⟩ => ⟨S1x128, .f32⟩
  | .hbm, ⟨76, _⟩ => ⟨S128x1024, .bf16⟩
  | .hbm, ⟨77, _⟩ => ⟨S_, .i32⟩
  | .hbm, ⟨78, _⟩ => ⟨S_, .f32⟩
  | .hbm, ⟨79, _⟩ => ⟨S256, .f32⟩
  | .hbm, ⟨80, _⟩ => ⟨S1x256, .f32⟩
  | .hbm, ⟨81, _⟩ => ⟨S128, .f32⟩
  | .hbm, ⟨82, _⟩ => ⟨S1x128, .f32⟩
  | .hbm, ⟨83, _⟩ => ⟨S64, .f32⟩
  | .hbm, ⟨84, _⟩ => ⟨S_, .i32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S128x256, .f32⟩
  | .hbm, ⟨91, _⟩ => ⟨S128x256, .bf16⟩
  | .hbm, ⟨92, _⟩ => ⟨S1x2048, .f32⟩
  | .hbm, ⟨93, _⟩ => ⟨S17408x1024, .bf16⟩
  | .hbm, ⟨94, _⟩ => ⟨S17408x1024, .bf16⟩
  | .hbm, ⟨95, _⟩ => ⟨S17408x512, .bf16⟩
  | .hbm, ⟨96, _⟩ => ⟨S17408x512, .bf16⟩
  | .hbm, ⟨97, _⟩ => ⟨S17408x256, .bf16⟩
  | .hbm, ⟨98, _⟩ => ⟨S17408x256, .bf16⟩
  | .hbm, ⟨99, _⟩ => ⟨S17408x512, .f32⟩
  | .hbm, ⟨100, _⟩ => ⟨S17408x512, .f32⟩
  | .hbm, ⟨101, _⟩ => ⟨S17408x512, .bf16⟩
  | .hbm, ⟨102, _⟩ => ⟨S17408x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S2048x3840, .bf16⟩
  | .local _ .vmem, ⟨8, _⟩ => ⟨S1x512, .f32⟩
  | .local _ .vmem, ⟨9, _⟩ => ⟨S512x1024, .bf16⟩
  | .local _ .vmem, ⟨10, _⟩ => ⟨S1x128, .f32⟩
  | .local _ .vmem, ⟨11, _⟩ => ⟨S128x1024, .bf16⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S128x256, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x256, .bf16⟩
  | .local _ .vmem, ⟨37, _⟩ => ⟨S512x256, .bf16⟩
  | .local _ .vmem, ⟨38, _⟩ => ⟨S512x256, .bf16⟩
  | .local _ .vmem, ⟨39, _⟩ => ⟨S512x256, .bf16⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .bf16⟩
  | .local _ .vmem, ⟨45, _⟩ => ⟨S512x512, .bf16⟩
  | .local _ .vmem, ⟨46, _⟩ => ⟨S512x512, .bf16⟩
  | .local _ .vmem, ⟨47, _⟩ => ⟨S512x512, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_cst_2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_call0_v0 : Ref sig .tc := ⟨.hbm, 49, rfl⟩
abbrev main_v26 : Ref sig .tc := ⟨.hbm, 50, rfl⟩
abbrev main_c_3 : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_call2_v0 : Ref sig .tc := ⟨.hbm, 56, rfl⟩
abbrev main_v29 : Ref sig .tc := ⟨.hbm, 57, rfl⟩
abbrev main_c_5 : Ref sig .tc := ⟨.hbm, 58, rfl⟩
abbrev main_call3_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_6 : Ref sig .tc := ⟨.hbm, 70, rfl⟩
abbrev main_call4_v0 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_7 : Ref sig .tc := ⟨.hbm, 77, rfl⟩
abbrev main_call5_v0 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_8 : Ref sig .tc := ⟨.hbm, 84, rfl⟩
abbrev main_call6_v0 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57_0 : Ref sig .tc := ⟨.hbm, 93, rfl⟩
abbrev main_v57_1 : Ref sig .tc := ⟨.hbm, 94, rfl⟩
abbrev main_v57_2 : Ref sig .tc := ⟨.hbm, 95, rfl⟩
abbrev main_v57_3 : Ref sig .tc := ⟨.hbm, 96, rfl⟩
abbrev main_v57_4 : Ref sig .tc := ⟨.hbm, 97, rfl⟩
abbrev main_v57_5 : Ref sig .tc := ⟨.hbm, 98, rfl⟩
abbrev main_v57_6 : Ref sig .tc := ⟨.hbm, 99, rfl⟩
abbrev main_v57_7 : Ref sig .tc := ⟨.hbm, 100, rfl⟩
abbrev main_v57_8 : Ref sig .tc := ⟨.hbm, 101, rfl⟩
abbrev main_v57_9 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg27_1 : Ref sig .tc := ⟨.vmem, 43, rfl⟩
abbrev cc0_stg28_0 : Ref sig .tc := ⟨.vmem, 44, rfl⟩
abbrev cc0_stg28_1 : Ref sig .tc := ⟨.vmem, 45, rfl⟩
abbrev cc0_stg29_0 : Ref sig .tc := ⟨.vmem, 46, rfl⟩
abbrev cc0_stg29_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem27_1 : DmaSem sig := 43
abbrev cc0_sem28_0 : DmaSem sig := 44
abbrev cc0_sem28_1 : DmaSem sig := 45
abbrev cc0_sem29_0 : DmaSem sig := 46
abbrev cc0_sem29_1 : DmaSem sig := 47

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v17.toNat, c3_i32.toNat, c0_i32_5.toNat, c0_i32_6.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c0_i32_4 : BitVec 32 := 0#32
  let c4_i32_5 : BitVec 32 := 4#32
  let c0_i32_6 : BitVec 32 := 0#32
  let c0_i32_7 : BitVec 32 := 0#32
  let c0_i32_8 : BitVec 32 := 0#32
  ![c0_i32_4.toNat, v17.toNat, c4_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_15 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_16 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_17 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_18 (i : grid0.Coords) : Fin 2 → Nat :=
  let arg0 : BitVec 32 := BitVec.ofNat 32 (i 0).val
  let c32_i32 : BitVec 32 := 32#32
  let v0 : BitVec 1 := Scalar.cmpi .slt arg0 c32_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S128x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x512 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x512 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== RefProjIdeal.lean ====
abbrev S17408x2048 : Shape := ⟨2, ![17408, 2048]⟩
abbrev S4x8x9x1x2048 : Shape := ⟨5, ![4, 8, 9, 1, 2048]⟩
abbrev S2048 : Shape := ⟨1, ![2048]⟩
abbrev S2048x3712 : Shape := ⟨2, ![2048, 3712]⟩
abbrev S448 : Shape := ⟨1, ![448]⟩
abbrev S448x768 : Shape := ⟨2, ![448, 768]⟩
abbrev S128 : Shape := ⟨1, ![128]⟩
abbrev S128x1024 : Shape := ⟨2, ![128, 1024]⟩
abbrev S192 : Shape := ⟨1, ![192]⟩
abbrev S4096x32 : Shape := ⟨2, ![4096, 32]⟩
abbrev S4096x64 : Shape := ⟨2, ![4096, 64]⟩
abbrev S128x128 : Shape := ⟨2, ![128, 128]⟩
abbrev S1x4x9x1x2048 : Shape := ⟨5, ![1, 4, 9, 1, 2048]⟩
abbrev S4x9x1x2048 : Shape := ⟨4, ![4, 9, 1, 2048]⟩
abbrev S4x1x9x2048 : Shape := ⟨4, ![4, 1, 9, 2048]⟩
abbrev S1x1x9x1x2048 : Shape := ⟨5, ![1, 1, 9, 1, 2048]⟩
abbrev S1x9x1x2048 : Shape := ⟨4, ![1, 9, 1, 2048]⟩
abbrev S1x1x9x2048 : Shape := ⟨4, ![1, 1, 9, 2048]⟩
abbrev S16384x2048 : Shape := ⟨2, ![16384, 2048]⟩
abbrev S4x4096x2048 : Shape := ⟨3, ![4, 4096, 2048]⟩
abbrev S1024x2048 : Shape := ⟨2, ![1024, 2048]⟩
abbrev S4x256x2048 : Shape := ⟨3, ![4, 256, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x1x2048 : Shape := ⟨4, ![4, 1, 1, 2048]⟩
abbrev S4x1x2048 : Shape := ⟨3, ![4, 1, 2048]⟩
abbrev S4x4096x3712 : Shape := ⟨3, ![4, 4096, 3712]⟩
abbrev S4x4096x640 : Shape := ⟨3, ![4, 4096, 640]⟩
abbrev S4x4096x512 : Shape := ⟨3, ![4, 4096, 512]⟩
abbrev S4x4096x256 : Shape := ⟨3, ![4, 4096, 256]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x4x64 : Shape := ⟨4, ![4, 4096, 4, 64]⟩
abbrev S4096x1x64 : Shape := ⟨3, ![4096, 1, 64]⟩
abbrev S1x4096x1x64 : Shape := ⟨4, ![1, 4096, 1, 64]⟩
abbrev S4x4096x2x64 : Shape := ⟨4, ![4, 4096, 2, 64]⟩
abbrev S16384x512 : Shape := ⟨2, ![16384, 512]⟩
abbrev S16384x256 : Shape := ⟨2, ![16384, 256]⟩
abbrev S4x256 : Shape := ⟨2, ![4, 256]⟩
abbrev S4x256x1 : Shape := ⟨3, ![4, 256, 1]⟩
abbrev S1x1x1x2048 : Shape := ⟨4, ![1, 1, 1, 2048]⟩
abbrev S4x256x3712 : Shape := ⟨3, ![4, 256, 3712]⟩
abbrev S4x256x640 : Shape := ⟨3, ![4, 256, 640]⟩
abbrev S4x256x512 : Shape := ⟨3, ![4, 256, 512]⟩
abbrev S4x256x256 : Shape := ⟨3, ![4, 256, 256]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S1024x512 : Shape := ⟨2, ![1024, 512]⟩
abbrev S1024x256 : Shape := ⟨2, ![1024, 256]⟩
abbrev S17408x512 : Shape := ⟨2, ![17408, 512]⟩
abbrev S17408x256 : Shape := ⟨2, ![17408, 256]⟩

abbrev nBuf : Space → Nat
  | .hbm => 246
  | .vmem => 0
  | .smem => 0
  | _ => 0

abbrev hbmTy0_0 (i : Nat) : BufTy := match i % 128 with
  | 0 => ⟨S17408x2048, .f32⟩
  | 1 => ⟨S4x8x9x1x2048, .f32⟩
  | 2 => ⟨S2048, .f32⟩
  | 3 => ⟨S2048x3712, .f32⟩
  | 4 => ⟨S448, .f32⟩
  | 5 => ⟨S448x768, .f32⟩
  | 6 => ⟨S128, .f32⟩
  | 7 => ⟨S128x1024, .f32⟩
  | 8 => ⟨S192, .f32⟩
  | 9 => ⟨S192, .f32⟩
  | 10 => ⟨S128, .f32⟩
  | 11 => ⟨S128, .f32⟩
  | 12 => ⟨S4096x32, .f32⟩
  | 13 => ⟨S4096x32, .f32⟩
  | 14 => ⟨S4096x64, .f32⟩
  | 15 => ⟨S4096x64, .f32⟩
  | 16 => ⟨S128x128, .f32⟩
  | 17 => ⟨S128x128, .f32⟩
  | 18 => ⟨S1x4x9x1x2048, .f32⟩
  | 19 => ⟨S4x9x1x2048, .f32⟩
  | 20 => ⟨S4x1x9x2048, .f32⟩
  | 21 => ⟨S1x1x9x1x2048, .f32⟩
  | 22 => ⟨S1x9x1x2048, .f32⟩
  | 23 => ⟨S1x1x9x2048, .f32⟩
  | 24 => ⟨S16384x2048, .f32⟩
  | 25 => ⟨S4x4096x2048, .f32⟩
  | 26 => ⟨S1024x2048, .f32⟩
  | 27 => ⟨S4x256x2048, .f32⟩
  | 28 => ⟨S4x4096x2048, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x2048, .f32⟩
  | 40 => ⟨S4x4096x2048, .f32⟩
  | 41 => ⟨S1x1x2048, .f32⟩
  | 42 => ⟨S4x4096x2048, .f32⟩
  | 43 => ⟨S4x4096x2048, .f32⟩
  | 44 => ⟨S4x1x1x2048, .f32⟩
  | 45 => ⟨S4x1x2048, .f32⟩
  | 46 => ⟨S4x1x1x2048, .f32⟩
  | 47 => ⟨S4x1x2048, .f32⟩
  | 48 => ⟨S_, .f32⟩
  | 49 => ⟨S4x1x2048, .f32⟩
  | 50 => ⟨S4x1x2048, .f32⟩
  | 51 => ⟨S4x4096x2048, .f32⟩
  | 52 => ⟨S4x4096x2048, .f32⟩
  | 53 => ⟨S4x4096x2048, .f32⟩
  | 54 => ⟨S4x4096x2048, .f32⟩
  | 55 => ⟨S4x4096x3712, .f32⟩
  | 56 => ⟨S4x4096x640, .f32⟩
  | 57 => ⟨S4x4096x512, .f32⟩
  | 58 => ⟨S4x4096x256, .f32⟩
  | 59 => ⟨S4x4096x256, .f32⟩
  | 60 => ⟨S4x4096x512, .f32⟩
  | 61 => ⟨S4x4096x512, .f32⟩
  | 62 => ⟨S4x4096x512, .f32⟩
  | 63 => ⟨S4x4096x512, .f32⟩
  | 64 => ⟨S4x4096x4x128, .f32⟩
  | 65 => ⟨S4x4096x4x128, .f32⟩
  | 66 => ⟨S_, .f32⟩
  | 67 => ⟨S4x4096x4, .f32⟩
  | 68 => ⟨S4x4096x4x1, .f32⟩
  | 69 => ⟨S_, .f32⟩
  | 70 => ⟨S4x4096x4x1, .f32⟩
  | 71 => ⟨S4x4096x4x1, .f32⟩
  | 72 => ⟨S_, .f32⟩
  | 73 => ⟨S4x4096x4x1, .f32⟩
  | 74 => ⟨S4x4096x4x1, .f32⟩
  | 75 => ⟨S4x4096x4x1, .f32⟩
  | 76 => ⟨S4x4096x4x128, .f32⟩
  | 77 => ⟨S4x4096x4x128, .f32⟩
  | 78 => ⟨S1x1x1x128, .f32⟩
  | 79 => ⟨S4x4096x4x128, .f32⟩
  | 80 => ⟨S4x4096x4x128, .f32⟩
  | 81 => ⟨S4x4096x2x128, .f32⟩
  | 82 => ⟨S4x4096x2x128, .f32⟩
  | 83 => ⟨S_, .f32⟩
  | 84 => ⟨S4x4096x2, .f32⟩
  | 85 => ⟨S4x4096x2x1, .f32⟩
  | 86 => ⟨S_, .f32⟩
  | 87 => ⟨S4x4096x2x1, .f32⟩
  | 88 => ⟨S4x4096x2x1, .f32⟩
  | 89 => ⟨S_, .f32⟩
  | 90 => ⟨S4x4096x2x1, .f32⟩
  | 91 => ⟨S4x4096x2x1, .f32⟩
  | 92 => ⟨S4x4096x2x1, .f32⟩
  | 93 => ⟨S4x4096x2x128, .f32⟩
  | 94 => ⟨S4x4096x2x128, .f32⟩
  | 95 => ⟨S1x1x1x128, .f32⟩
  | 96 => ⟨S4x4096x2x128, .f32⟩
  | 97 => ⟨S4x4096x2x128, .f32⟩
  | 98 => ⟨S4x4096x4x64, .f32⟩
  | 99 => ⟨S4x4096x4x64, .f32⟩
  | 100 => ⟨S4096x1x64, .f32⟩
  | 101 => ⟨S4096x1x64, .f32⟩
  | 102 => ⟨S1x4096x1x64, .f32⟩
  | 103 => ⟨S4x4096x4x64, .f32⟩
  | 104 => ⟨S4x4096x4x64, .f32⟩
  | 105 => ⟨S1x4096x1x64, .f32⟩
  | 106 => ⟨S4x4096x4x64, .f32⟩
  | 107 => ⟨S4x4096x4x64, .f32⟩
  | 108 => ⟨S4x4096x4x64, .f32⟩
  | 109 => ⟨S1x4096x1x64, .f32⟩
  | 110 => ⟨S4x4096x4x64, .f32⟩
  | 111 => ⟨S4x4096x4x64, .f32⟩
  | 112 => ⟨S1x4096x1x64, .f32⟩
  | 113 => ⟨S4x4096x4x64, .f32⟩
  | 114 => ⟨S4x4096x4x64, .f32⟩
  | 115 => ⟨S4x4096x4x64, .f32⟩
  | 116 => ⟨S4x4096x4x128, .f32⟩
  | 117 => ⟨S4x4096x2x64, .f32⟩
  | 118 => ⟨S4x4096x2x64, .f32⟩
  | 119 => ⟨S4096x1x64, .f32⟩
  | 120 => ⟨S4096x1x64, .f32⟩
  | 121 => ⟨S1x4096x1x64, .f32⟩
  | 122 => ⟨S4x4096x2x64, .f32⟩
  | 123 => ⟨S4x4096x2x64, .f32⟩
  | 124 => ⟨S1x4096x1x64, .f32⟩
  | 125 => ⟨S4x4096x2x64, .f32⟩
  | 126 => ⟨S4x4096x2x64, .f32⟩
  | 127 => ⟨S4x4096x2x64, .f32⟩
  | _ => ⟨S17408x2048, .f32⟩

abbrev hbmTy0_1 (i : Nat) : BufTy := match i % 128 with
  | 0 => ⟨S1x4096x1x64, .f32⟩
  | 1 => ⟨S4x4096x2x64, .f32⟩
  | 2 => ⟨S4x4096x2x64, .f32⟩
  | 3 => ⟨S1x4096x1x64, .f32⟩
  | 4 => ⟨S4x4096x2x64, .f32⟩
  | 5 => ⟨S4x4096x2x64, .f32⟩
  | 6 => ⟨S4x4096x2x64, .f32⟩
  | 7 => ⟨S4x4096x2x128, .f32⟩
  | 8 => ⟨S4x4096x4x128, .f32⟩
  | 9 => ⟨S_, .f32⟩
  | 10 => ⟨S4x4096x4x128, .f32⟩
  | 11 => ⟨S4x4096x4x128, .f32⟩
  | 12 => ⟨S4x4096x512, .f32⟩
  | 13 => ⟨S4x4096x4x128, .f32⟩
  | 14 => ⟨S4x4096x4x128, .f32⟩
  | 15 => ⟨S16384x512, .f32⟩
  | 16 => ⟨S16384x256, .f32⟩
  | 17 => ⟨S16384x256, .f32⟩
  | 18 => ⟨S16384x512, .f32⟩
  | 19 => ⟨S16384x512, .f32⟩
  | 20 => ⟨S16384x512, .f32⟩
  | 21 => ⟨S16384x512, .f32⟩
  | 22 => ⟨S4x256x2048, .f32⟩
  | 23 => ⟨S_, .f32⟩
  | 24 => ⟨S4x256, .f32⟩
  | 25 => ⟨S4x256x1, .f32⟩
  | 26 => ⟨S_, .f32⟩
  | 27 => ⟨S4x256x1, .f32⟩
  | 28 => ⟨S4x256x1, .f32⟩
  | 29 => ⟨S_, .f32⟩
  | 30 => ⟨S4x256x1, .f32⟩
  | 31 => ⟨S4x256x1, .f32⟩
  | 32 => ⟨S4x256x1, .f32⟩
  | 33 => ⟨S4x256x2048, .f32⟩
  | 34 => ⟨S4x256x2048, .f32⟩
  | 35 => ⟨S1x1x2048, .f32⟩
  | 36 => ⟨S4x256x2048, .f32⟩
  | 37 => ⟨S4x256x2048, .f32⟩
  | 38 => ⟨S1x1x1x2048, .f32⟩
  | 39 => ⟨S1x1x2048, .f32⟩
  | 40 => ⟨S1x1x1x2048, .f32⟩
  | 41 => ⟨S1x1x2048, .f32⟩
  | 42 => ⟨S_, .f32⟩
  | 43 => ⟨S1x1x2048, .f32⟩
  | 44 => ⟨S1x1x2048, .f32⟩
  | 45 => ⟨S4x256x2048, .f32⟩
  | 46 => ⟨S4x256x2048, .f32⟩
  | 47 => ⟨S4x256x2048, .f32⟩
  | 48 => ⟨S4x256x2048, .f32⟩
  | 49 => ⟨S4x256x3712, .f32⟩
  | 50 => ⟨S4x256x640, .f32⟩
  | 51 => ⟨S4x256x512, .f32⟩
  | 52 => ⟨S4x256x256, .f32⟩
  | 53 => ⟨S4x256x256, .f32⟩
  | 54 => ⟨S4x256x512, .f32⟩
  | 55 => ⟨S4x256x512, .f32⟩
  | 56 => ⟨S4x256x512, .f32⟩
  | 57 => ⟨S4x256x512, .f32⟩
  | 58 => ⟨S4x256x4x128, .f32⟩
  | 59 => ⟨S4x256x4x128, .f32⟩
  | 60 => ⟨S_, .f32⟩
  | 61 => ⟨S4x256x4, .f32⟩
  | 62 => ⟨S4x256x4x1, .f32⟩
  | 63 => ⟨S_, .f32⟩
  | 64 => ⟨S4x256x4x1, .f32⟩
  | 65 => ⟨S4x256x4x1, .f32⟩
  | 66 => ⟨S_, .f32⟩
  | 67 => ⟨S4x256x4x1, .f32⟩
  | 68 => ⟨S4x256x4x1, .f32⟩
  | 69 => ⟨S4x256x4x1, .f32⟩
  | 70 => ⟨S4x256x4x128, .f32⟩
  | 71 => ⟨S4x256x4x128, .f32⟩
  | 72 => ⟨S1x1x1x128, .f32⟩
  | 73 => ⟨S4x256x4x128, .f32⟩
  | 74 => ⟨S4x256x4x128, .f32⟩
  | 75 => ⟨S4x256x2x128, .f32⟩
  | 76 => ⟨S4x256x2x128, .f32⟩
  | 77 => ⟨S_, .f32⟩
  | 78 => ⟨S4x256x2, .f32⟩
  | 79 => ⟨S4x256x2x1, .f32⟩
  | 80 => ⟨S_, .f32⟩
  | 81 => ⟨S4x256x2x1, .f32⟩
  | 82 => ⟨S4x256x2x1, .f32⟩
  | 83 => ⟨S_, .f32⟩
  | 84 => ⟨S4x256x2x1, .f32⟩
  | 85 => ⟨S4x256x2x1, .f32⟩
  | 86 => ⟨S4x256x2x1, .f32⟩
  | 87 => ⟨S4x256x2x128, .f32⟩
  | 88 => ⟨S4x256x2x128, .f32⟩
  | 89 => ⟨S1x1x1x128, .f32⟩
  | 90 => ⟨S4x256x2x128, .f32⟩
  | 91 => ⟨S4x256x2x128, .f32⟩
  | 92 => ⟨S4x256x4x128, .f32⟩
  | 93 => ⟨S_, .f32⟩
  | 94 => ⟨S4x256x4x128, .f32⟩
  | 95 => ⟨S4x256x4x128, .f32⟩
  | 96 => ⟨S4x256x512, .f32⟩
  | 97 => ⟨S4x256x4x128, .f32⟩
  | 98 => ⟨S4x256x4x128, .f32⟩
  | 99 => ⟨S1024x512, .f32⟩
  | 100 => ⟨S1024x256, .f32⟩
  | 101 => ⟨S1024x256, .f32⟩
  | 102 => ⟨S1024x512, .f32⟩
  | 103 => ⟨S1024x512, .f32⟩
  | 104 => ⟨S1024x512, .f32⟩
  | 105 => ⟨S1024x512, .f32⟩
  | 106 => ⟨S17408x512, .f32⟩
  | 107 => ⟨S17408x512, .bf16⟩
  | 108 => ⟨S17408x256, .f32⟩
  | 109 => ⟨S17408x256, .bf16⟩
  | 110 => ⟨S17408x256, .f32⟩
  | 111 => ⟨S17408x256, .bf16⟩
  | 112 => ⟨S17408x512, .f32⟩
  | 113 => ⟨S17408x512, .f32⟩
  | 114 => ⟨S17408x512, .f32⟩
  | 115 => ⟨S17408x512, .bf16⟩
  | 116 => ⟨S17408x512, .f32⟩
  | 117 => ⟨S17408x512, .bf16⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_9 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_10 : Ref sig .tc := ⟨.hbm, 151, rfl⟩
abbrev main_v122 : Ref sig .tc := ⟨.hbm, 152, rfl⟩
abbrev main_v123 : Ref sig .tc := ⟨.hbm, 153, rfl⟩
abbrev main_cst_11 : Ref sig .tc := ⟨.hbm, 154, rfl⟩
abbrev main_v124 : Ref sig .tc := ⟨.hbm, 155, rfl⟩
abbrev main_v125 : Ref sig .tc := ⟨.hbm, 156, rfl⟩
abbrev main_cst_12 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_13 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_14 : Ref sig .tc := ⟨.hbm, 188, rfl⟩
abbrev main_v155 : Ref sig .tc := ⟨.hbm, 189, rfl⟩
abbrev main_v156 : Ref sig .tc := ⟨.hbm, 190, rfl⟩
abbrev main_cst_15 : Ref sig .tc := ⟨.hbm, 191, rfl⟩
abbrev main_v157 : Ref sig .tc := ⟨.hbm, 192, rfl⟩
abbrev main_v158 : Ref sig .tc := ⟨.hbm, 193, rfl⟩
abbrev main_cst_16 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_cst_17 : Ref sig .tc := ⟨.hbm, 205, rfl⟩
abbrev main_v169 : Ref sig .tc := ⟨.hbm, 206, rfl⟩
abbrev main_v170 : Ref sig .tc := ⟨.hbm, 207, rfl⟩
abbrev main_cst_18 : Ref sig .tc := ⟨.hbm, 208, rfl⟩
abbrev main_v171 : Ref sig .tc := ⟨.hbm, 209, rfl⟩
abbrev main_v172 : Ref sig .tc := ⟨.hbm, 210, rfl⟩
abbrev main_cst_19 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_cst_20 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩

abbrev nD : Nat := 1
abbrev τ : Topo := Topo.v7x

variable {F : FTy → Type} [FloatOps F]
-- ==== Proof.Arrays.lean ====
/- Arrays of extended reals read at natural-number coordinates.

   A block of an array starts at a multiple of the block's size; a reshape divides one coordinate and takes remainders.
   Reading an array at natural numbers — zero outside it — keeps such arithmetic free of bound proofs, so that the
   kernel's blocks and the reference's reshapes are compared by plain number arithmetic. -/
module

public import Idealize.ShloMosaic.Lib.Pointwise

@[expose] public section

noncomputable section

namespace Cert.Layer

open Idealize.ShloMosaic

/-- A matrix at row `r` and column `c`; zero outside it. -/
def at2 {R C : Nat} (a : (⟨2, ![R, C]⟩ : Shape).Idx → EReal) (r c : Nat) : EReal :=
  if h : r < R ∧ c < C then a (ix2 ⟨r, h.1⟩ ⟨c, h.2⟩) else 0

/-- A vector at position `c`; zero outside it. -/
def at1 {C : Nat} (a : (⟨1, ![C]⟩ : Shape).Idx → EReal) (c : Nat) : EReal :=
  if h : c < C then a (ix1 ⟨c, h⟩) else 0

/-- A stack of matrices at matrix `s`, row `r` and column `c`; zero outside it. -/
def at3 {S R C : Nat} (a : (⟨3, ![S, R, C]⟩ : Shape).Idx → EReal) (s r c : Nat) : EReal :=
  if h : s < S ∧ r < R ∧ c < C then a (ix3 ⟨s, h.1⟩ ⟨r, h.2.1⟩ ⟨c, h.2.2⟩) else 0

/-- Inside the matrix the reading is the matrix's element. -/
theorem at2_ix2 {R C : Nat} (a : (⟨2, ![R, C]⟩ : Shape).Idx → EReal) (r : Fin R) (c : Fin C) :
    a (ix2 r c) = at2 a r c := by
  unfold at2
  rw [dif_pos ⟨r.isLt, c.isLt⟩]

theorem at1_ix1 {C : Nat} (a : (⟨1, ![C]⟩ : Shape).Idx → EReal) (c : Fin C) : a (ix1 c) = at1 a c := by
  unfold at1
  rw [dif_pos c.isLt]

theorem at3_ix3 {S R C : Nat} (a : (⟨3, ![S, R, C]⟩ : Shape).Idx → EReal) (s : Fin S) (r : Fin R) (c : Fin C) :
    a (ix3 s r c) = at3 a s r c := by
  unfold at3
  rw [dif_pos ⟨s.isLt, r.isLt, c.isLt⟩]

/-- The element at any index, by the index's coordinates. -/
theorem at2_idx {R C : Nat} (a : (⟨2, ![R, C]⟩ : Shape).Idx → EReal) (j : (⟨2, ![R, C]⟩ : Shape).Idx) (r c : Nat)
    (hr : (j 0).val = r) (hc : (j 1).val = c) : a j = at2 a r c := by
  subst hr hc
  exact (congrArg a (eq_ix2 j)).trans (at2_ix2 a (j 0) (j 1))

theorem at1_idx {C : Nat} (a : (⟨1, ![C]⟩ : Shape).Idx → EReal) (j : (⟨1, ![C]⟩ : Shape).Idx) (c : Nat)
    (hc : (j 0).val = c) : a j = at1 a c := by
  subst hc
  exact (congrArg a (eq_ix1 j)).trans (at1_ix1 a (j 0))

theorem at3_idx {S R C : Nat} (a : (⟨3, ![S, R, C]⟩ : Shape).Idx → EReal) (j : (⟨3, ![S, R, C]⟩ : Shape).Idx)
    (s r c : Nat) (hs : (j 0).val = s) (hr : (j 1).val = r) (hc : (j 2).val = c) : a j = at3 a s r c := by
  subst hs hr hc
  exact (congrArg a (eq_ix3 j)).trans (at3_ix3 a (j 0) (j 1) (j 2))

end Cert.Layer

end
-- ==== Proof.Softmax.lean ====
/- Softmax attention over two sets of keys, in extended reals.

   The kernel takes the exponentials of both score rows under their common maximum, multiplies each with its values,
   adds the two products and divides the sum once. The reference joins the two score rows, takes the softmax of the
   joined row — it divides every exponential — and multiplies the two parts with their values. Where the scores are real
   numbers the divisor is a positive real, and multiplying by a positive real distributes over every sum of extended
   reals, so that the two agree whatever the values are. -/
module

public import Idealize.ShloMosaic.Lib.Pointwise

@[expose] public section

noncomputable section

namespace Cert.Layer

open Idealize.ShloMosaic

/-- The bit pattern that maxima start from is minus infinity. -/
theorem negInf : Ideal.ofBits .f32 4286578688#32 = ⊥ := by
  simp [Ideal.ofBits, Ideal.ieee]

/-- A score row's maximum, from minus infinity. -/
def rowMax {n : Nat} (s : Fin n → EReal) : EReal := Finset.univ.fold max ⊥ s

/-- Attention as the kernel computes it: one division of the two weighted sums' total. -/
def attend {n k : Nat} (s v : Fin n → EReal) (c w : Fin k → EReal) : EReal :=
  Ideal.div
    ((∑ i, Ideal.exp (s i - max (rowMax s) (rowMax c)) * v i) + ∑ j, Ideal.exp (c j - max (rowMax s) (rowMax c)) * w j)
    ((∑ i, Ideal.exp (s i - max (rowMax s) (rowMax c))) + ∑ j, Ideal.exp (c j - max (rowMax s) (rowMax c)))

/-- The softmax of a row, as the reference computes it. -/
def softmax {n : Nat} (f : Fin n → EReal) (i : Fin n) : EReal :=
  Ideal.div (Ideal.exp (f i - rowMax f)) (∑ j, Ideal.exp (f j - rowMax f))

theorem rowMax_lt {n : Nat} {s : Fin n → EReal} {u : EReal} : rowMax s < u ↔ ⊥ < u ∧ ∀ i, s i < u := by
  unfold rowMax
  rw [Finset.fold_max_lt]
  simp

theorem lt_rowMax {n : Nat} {s : Fin n → EReal} {u : EReal} : u < rowMax s ↔ ∃ i, u < s i := by
  unfold rowMax
  rw [Finset.lt_fold_max]
  simp

/-- The maximum of a joined row is the larger of the two maxima. -/
theorem rowMax_append {n k : Nat} (f : Fin (n + k) → EReal) :
    rowMax f = max (rowMax fun i => f (Fin.castAdd k i)) (rowMax fun j => f (Fin.natAdd n j)) := by
  refine eq_of_forall_lt_iff fun u => ?_
  rw [lt_max_iff, lt_rowMax, lt_rowMax, lt_rowMax]
  constructor
  · rintro ⟨i, hi⟩
    refine Fin.addCases (motive := fun i => u < f i → _) (fun i h => Or.inl ⟨i, h⟩) (fun j h => Or.inr ⟨j, h⟩) i hi
  · rintro (⟨i, hi⟩ | ⟨j, hj⟩)
    exacts [⟨_, hi⟩, ⟨_, hj⟩]

/-- Multiplying by a nonnegative real distributes over a finite sum of extended reals. -/
theorem sum_mul_real {ι : Type} (t : Finset ι) (f : ι → EReal) {x : ℝ} (hx : 0 ≤ x) :
    (∑ i ∈ t, f i) * (x : EReal) = ∑ i ∈ t, f i * (x : EReal) := by
  classical
  induction t using Finset.induction_on with
  | empty => simp
  | insert a t ha ih =>
    rw [Finset.sum_insert ha, Finset.sum_insert ha, ← ih]
    exact EReal.right_distrib_of_nonneg_of_ne_top (by exact_mod_cast hx) (EReal.coe_ne_top x) _ _

/-- The coercion of the reals into the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, ← ih, EReal.coe_add]

/-- A sum of products of reals is a real. -/
theorem real_dot {ι : Type} (t : Finset ι) (f g : ι → EReal) (hf : ∀ i, ∃ x : ℝ, f i = x) (hg : ∀ i, ∃ x : ℝ, g i = x) :
    ∃ x : ℝ, ∑ i ∈ t, f i * g i = x := by
  choose a ha using hf
  choose b hb using hg
  refine ⟨∑ i ∈ t, a i * b i, ?_⟩
  rw [coe_sum]
  exact Finset.sum_congr rfl fun i _ => by rw [ha, hb, EReal.coe_mul]

/-- The maximum of a nonempty row of reals is a real. -/
theorem real_rowMax {n : Nat} (hn : 0 < n) (s : Fin n → EReal) (hs : ∀ i, ∃ x : ℝ, s i = x) : ∃ x : ℝ, rowMax s = x := by
  have htop : rowMax s ≠ ⊤ := (rowMax_lt.2 ⟨bot_lt_top, fun i => by
    obtain ⟨x, hx⟩ := hs i
    exact hx ▸ EReal.coe_lt_top x⟩).ne
  have hbot : rowMax s ≠ ⊥ := (lt_rowMax.2 ⟨⟨0, hn⟩, by
    obtain ⟨x, hx⟩ := hs ⟨0, hn⟩
    exact hx ▸ EReal.bot_lt_coe x⟩).ne'
  exact ⟨(rowMax s).toReal, (EReal.coe_toReal htop hbot).symm⟩

/-- The two forms of attention agree on real scores: `f` is the joined score row, `v` and `w` the values of its two parts. -/
theorem attend_eq_softmax {n k : Nat} (hn : 0 < n) (f : Fin (n + k) → EReal) (hf : ∀ i, ∃ x : ℝ, f i = x)
    (v : Fin n → EReal) (w : Fin k → EReal) :
    attend (fun i => f (Fin.castAdd k i)) v (fun j => f (Fin.natAdd n j)) w
      = (∑ i, v i * softmax f (Fin.castAdd k i)) + ∑ j, w j * softmax f (Fin.natAdd n j) := by
  unfold attend softmax
  rw [← rowMax_append, ← Fin.sum_univ_add fun i => Ideal.exp (f i - rowMax f)]
  obtain ⟨μ, hμ⟩ := real_rowMax (by omega) f hf
  choose a ha using hf
  have he : ∀ i, Ideal.exp (f i - rowMax f) = ((Real.exp (a i - μ) : ℝ) : EReal) := fun i => by
    rw [hμ, ha, ← EReal.coe_sub, Ideal.exp_coe]
  simp only [he]
  rw [← coe_sum]
  have hl : 0 < ∑ i, Real.exp (a i - μ) :=
    Finset.sum_pos (fun i _ => Real.exp_pos _) ⟨⟨0, by omega⟩, Finset.mem_univ _⟩
  have hc : (0 : ℝ) ≤ 1 / ∑ i, Real.exp (a i - μ) := (one_div_pos.2 hl).le
  simp only [Ideal.div_coe hl.ne']
  rw [EReal.right_distrib_of_nonneg_of_ne_top (by exact_mod_cast hc) (EReal.coe_ne_top _), sum_mul_real _ _ hc,
    sum_mul_real _ _ hc]
  refine congrArg₂ (· + ·) (Finset.sum_congr rfl fun i _ => ?_) (Finset.sum_congr rfl fun i _ => ?_)
  · rw [mul_comm (v i), mul_assoc, mul_assoc, mul_comm (v i)]
  · rw [mul_comm (w i), mul_assoc, mul_assoc, mul_comm (w i)]

end Cert.Layer

end
-- ==== Proof.AttAPay.lean ====
/- The latent attention kernel (multi-head latent attention, 4 heads of width 256): one block's payload at a row and a column. -/
module

public import proofs.«01_k».proof.Proof.Gen.AttAIdeal.Skeleton
public import proofs.«01_k».proof.Proof.Softmax

@[expose] public section

set_option maxRecDepth 16384

noncomputable section

namespace Cert.AttAIdeal.Latent

open Cert.AttAIdeal Cert.AttAIdeal.Gen Cert.Layer Idealize.ShloMosaic Idealize.ShloMosaic.TcCoe

/-- One block's payload at a row and a column: attention of the row's query over the block's two key sets. -/
theorem pay_apply (q : Vec Ideal S512x256 .bf16) (k : Vec Ideal S4096x256 .bf16) (kc : Vec Ideal S256x256 .bf16)
    (v : Vec Ideal S4096x128 .bf16) (vc : Vec Ideal S256x128 .bf16) (r : Fin 512) (d : Fin 128) :
    k0_pay1 (F := Ideal) q k kc v vc (ix2 r d)
      = attend (fun i => ∑ x : Fin 256, q (ix2 r x) * k (ix2 i x)) (fun i => v (ix2 i d))
          (fun j => ∑ x : Fin 256, q (ix2 r x) * kc (ix2 j x)) (fun j => vc (ix2 j d)) := by
  pointwise [k0_pay1, attend, rowMax]
  rw [negInf]

end Cert.AttAIdeal.Latent

end
-- ==== Proof.AttAKernel.lean ====
/- The latent attention kernel (multi-head latent attention, 4 heads of width 256): what its result array holds. -/
module

public import proofs.«01_k».proof.Proof.Gen.AttAIdeal.Value
public import proofs.«01_k».proof.Proof.Arrays
public import proofs.«01_k».proof.Proof.AttAPay
public import Idealize.ShloMosaic.Lib.Pipeline.ValueKit

@[expose] public section

set_option maxRecDepth 16384

noncomputable section

namespace Cert.AttAIdeal.Latent

open Cert.AttAIdeal Cert.AttAIdeal.Gen Cert.Layer Idealize.ShloMosaic Idealize.ShloMosaic.TcCoe

/-- Attention of latent row `R` (batch `R / 4096`) at result column `D` (head `D / 128`): the keys and values of the
    batch's 4096 latent rows and of its 256 context rows, which follow the 16384 latent rows of all batches. -/
def ATT (q k : S17408x1024.Idx → EReal) (v : S17408x512.Idx → EReal) (R D : Nat) : EReal :=
  attend
    (fun i : Fin 4096 => ∑ x : Fin 256, at2 q R (256 * (D / 128) + x) * at2 k (4096 * (R / 4096) + i) (256 * (D / 128) + x))
    (fun i : Fin 4096 => at2 v (4096 * (R / 4096) + i) D)
    (fun j : Fin 256 => ∑ x : Fin 256, at2 q R (256 * (D / 128) + x) * at2 k (16384 + 256 * (R / 4096) + j) (256 * (D / 128) + x))
    (fun j : Fin 256 => at2 v (16384 + 256 * (R / 4096) + j) D)

variable (m : (ℓ : Loc nD τ sig) → Buf (Elt Ideal) ℓ) (c : Dev nD)

/-- The block indices at a grid point: batch `t / 32`, head `t / 8 % 4`, query block `t % 8`. -/
theorem idx : ∀ t : Fin cfg0.N,
    win0_0.index t = ![8 * (t.val / 32) + t.val % 8, t.val / 8 % 4] ∧ win0_1.index t = ![t.val / 32, t.val / 8 % 4]
    ∧ win0_2.index t = ![64 + t.val / 32, t.val / 8 % 4] ∧ win0_3.index t = ![t.val / 32, t.val / 8 % 4]
    ∧ win0_4.index t = ![64 + t.val / 32, t.val / 8 % 4]
    ∧ win0_5.index t = ![8 * (t.val / 32) + t.val % 8, t.val / 8 % 4] :=
  (by decide +kernel : ∀ t : Fin grid0.N, _)

/-- The grid has 128 points. -/
theorem lt128 (t : Fin cfg0.N) : t.val < 128 := lt_of_lt_of_eq t.isLt (by decide)

theorem iblk0 (t : Fin cfg0.N) (i : Fin 512) (x : Fin 256) :
    iblk m c 0 t (ix2 i x) = at2 (m ((c : Thread nD τ).loc main_arg0)) (512 * (8 * (t.val / 32) + t.val % 8) + i) (256 * (t.val / 8 % 4) + x) := by
  have := lt128 t
  refine Eq.trans ?_ (at2_ix2 (m ((c : Thread nD τ).loc main_arg0)) ⟨512 * (8 * (t.val / 32) + t.val % 8) + i, by omega⟩ ⟨256 * (t.val / 8 % 4) + x, by omega⟩)
  blk_ext [iblk, V, idx t]

theorem X1 (t : Fin cfg0.N) (i : Fin 4096) (x : Fin 256) :
    X0_1 m c t (ix2 i x) = at2 (m ((c : Thread nD τ).loc main_arg1)) (4096 * (t.val / 32) + i) (256 * (t.val / 8 % 4) + x) := by
  have := lt128 t
  refine Eq.trans ?_ (at2_ix2 (m ((c : Thread nD τ).loc main_arg1)) ⟨4096 * (t.val / 32) + i, by omega⟩ ⟨256 * (t.val / 8 % 4) + x, by omega⟩)
  unfold X0_1 Pipeline.Window.fill
  rw [dif_pos (moved0_1 t _)]
  blk_ext [iblk, V, idx t]

theorem iblk2 (t : Fin cfg0.N) (i : Fin 256) (x : Fin 256) :
    iblk m c 2 t (ix2 i x) = at2 (m ((c : Thread nD τ).loc main_arg1)) (16384 + 256 * (t.val / 32) + i) (256 * (t.val / 8 % 4) + x) := by
  have := lt128 t
  refine Eq.trans ?_ (at2_ix2 (m ((c : Thread nD τ).loc main_arg1)) ⟨16384 + 256 * (t.val / 32) + i, by omega⟩ ⟨256 * (t.val / 8 % 4) + x, by omega⟩)
  blk_ext [iblk, V, idx t]

theorem X3 (t : Fin cfg0.N) (i : Fin 4096) (x : Fin 128) :
    X0_3 m c t (ix2 i x) = at2 (m ((c : Thread nD τ).loc main_arg2)) (4096 * (t.val / 32) + i) (128 * (t.val / 8 % 4) + x) := by
  have := lt128 t
  refine Eq.trans ?_ (at2_ix2 (m ((c : Thread nD τ).loc main_arg2)) ⟨4096 * (t.val / 32) + i, by omega⟩ ⟨128 * (t.val / 8 % 4) + x, by omega⟩)
  unfold X0_3 Pipeline.Window.fill
  rw [dif_pos (moved0_3 t _)]
  blk_ext [iblk, V, idx t]

theorem iblk4 (t : Fin cfg0.N) (i : Fin 256) (x : Fin 128) :
    iblk m c 4 t (ix2 i x) = at2 (m ((c : Thread nD τ).loc main_arg2)) (16384 + 256 * (t.val / 32) + i) (128 * (t.val / 8 % 4) + x) := by
  have := lt128 t
  refine Eq.trans ?_ (at2_ix2 (m ((c : Thread nD τ).loc main_arg2)) ⟨16384 + 256 * (t.val / 32) + i, by omega⟩ ⟨128 * (t.val / 8 % 4) + x, by omega⟩)
  blk_ext [iblk, V, idx t]

/-- What a grid point writes back, at a row and a column of its block. -/
theorem out_apply (t : Fin cfg0.N) (r : Fin 512) (d : Fin 128) :
    outsAt0 m c t (ix2 r d)
      = ATT (m ((c : Thread nD τ).loc main_arg0)) (m ((c : Thread nD τ).loc main_arg1))
          (m ((c : Thread nD τ).loc main_arg2)) (512 * (8 * (t.val / 32) + t.val % 8) + r) (128 * (t.val / 8 % 4) + d) := by
  have ht := lt128 t
  unfold outsAt0
  frame_out
  rw [pay_apply]
  simp only [iblk0, X1, iblk2, X3, iblk4]
  unfold ATT
  have hb : (512 * (8 * (t.val / 32) + t.val % 8) + r.val) / 4096 = t.val / 32 := by omega
  have hh : (128 * (t.val / 8 % 4) + d.val) / 128 = t.val / 8 % 4 := by omega
  rw [hb, hh]

/-- The result array after the run: the attention on the latent rows, the entry contents on the others. -/
theorem final : (dats m 0 c).arrAt 5 cfg0.N
    = fun i => if (i 0).val / 512 < 32 then
        ATT (m ((c : Thread nD τ).loc main_arg0)) (m ((c : Thread nD τ).loc main_arg1))
          (m ((c : Thread nD τ).loc main_arg2)) (i 0).val (i 1).val
      else V m c main_v0 i := by
  refine (dats m 0 c).arrAt_eq_of_coversWhere 5 (fun i => ATT (m ((c : Thread nD τ).loc main_arg0))
    (m ((c : Thread nD τ).loc main_arg1)) (m ((c : Thread nD τ).loc main_arg2)) (i 0).val (i 1).val)
    (fun β => β (0 : Fin _) < 32) (by decide +kernel) (fun t hf y => ?_) (fun j => Iff.rfl)
  blk_simp [idx t]
  rw [after0_5]
  refine (congrArg _ (eq_ix2 y)).trans ((out_apply m c t (y 0) (y 1)).trans ?_)
  congr 1 <;> simp <;> omega

end Cert.AttAIdeal.Latent

end
-- ==== Proof.AttARef.lean ====
/- Multi-head latent attention of the latent rows: the reference, read at a result element. -/
module

public import proofs.«01_k».proof.Proof.Gen.RefAIdeal.Read
public import Idealize.ShloMosaic.Lib.Pointwise
public import Idealize.ShloMosaic.Lib.Pipeline.ValueKit
public import proofs.«01_k».proof.Proof.Arrays
public import proofs.«01_k».proof.Proof.Softmax

@[expose] public section

set_option maxRecDepth 16384

noncomputable section

namespace Cert.RefAIdeal.Latent

open Cert.RefAIdeal Cert.RefAIdeal.Gen Cert.RefAIdeal.Read Cert.Layer Idealize.ShloMosaic

variable (q : (⟨S17408x1024, .bf16⟩ : BufTy).Contents (Elt Ideal)) (k : (⟨S17408x1024, .bf16⟩ : BufTy).Contents (Elt Ideal))
  (v : (⟨S17408x512, .bf16⟩ : BufTy).Contents (Elt Ideal))

/-- The scores of the queries over the batch's latent rows. -/
theorem scores_latent (b : Fin 4) (h : Fin 4) (g : Fin 1) (r : Fin 4096) (i : Fin 4096) :
    val_main_v31 (F := Ideal) q k (ix5 b h g r i)
      = ∑ x : Fin 256, at2 q (4096 * b + r) (256 * h + x) * at2 k (4096 * b + i) (256 * h + x) := by
  simp only [val_main_v31_apply, val_main_v30_apply, val_main_v26_apply, val_main_v25_apply, val_main_v2_apply,
    val_main_v7_apply, val_main_v1_apply, val_main_v6_apply, val_main_v0_apply, val_main_v5_apply, Ideal.extf_def]
  refine Finset.sum_congr rfl fun x _ => ?_
  rw [mul_comm]
  refine congrArg₂ (· * ·) (at2_idx q _ _ _ ?_ ?_) (at2_idx k _ _ _ ?_ ?_)
  all_goals simp; omega

/-- The scores over the batch's context rows, which follow the latent rows of all batches. -/
theorem scores_context (b : Fin 4) (h : Fin 4) (g : Fin 1) (r : Fin 4096) (i : Fin 256) :
    val_main_v33 (F := Ideal) q k (ix5 b h g r i)
      = ∑ x : Fin 256, at2 q (4096 * b + r) (256 * h + x) * at2 k (16384 + 256 * b + i) (256 * h + x) := by
  simp only [val_main_v33_apply, val_main_v32_apply, val_main_v28_apply, val_main_v25_apply, val_main_v2_apply,
    val_main_v19_apply, val_main_v18_apply, val_main_v1_apply, val_main_v15_apply, val_main_v0_apply, Ideal.extf_def]
  refine Finset.sum_congr rfl fun x _ => ?_
  rw [mul_comm]
  refine congrArg₂ (· * ·) (at2_idx q _ _ _ ?_ ?_) (at2_idx k _ _ _ ?_ ?_)
  all_goals simp; omega

/-- A query's scores over all its keys: the latent rows, then the context rows. -/
def joined (b h g r : Nat) (i : Fin 4352) : EReal :=
  if i.val < 4096 then ∑ x : Fin 256, at2 q (4096 * b + r) (256 * h + x) * at2 k (4096 * b + i) (256 * h + x)
  else ∑ x : Fin 256, at2 q (4096 * b + r) (256 * h + x) * at2 k (16384 + 256 * b + (i - 4096)) (256 * h + x)

theorem scores_joined (b : Fin 4) (h : Fin 4) (g : Fin 1) (r : Fin 4096) (i : Fin 4352) :
    val_main_v34 (F := Ideal) q k (ix5 b h g r i) = joined q k b h g r i := by
  have hl := scores_latent q k b h g r
  have hc := scores_context q k b h g r
  generalize hx : val_main_v31 (F := Ideal) q k = x at hl
  generalize hy : val_main_v33 (F := Ideal) q k = y at hc
  unfold val_main_v34
  rw [hx, hy]
  clear hx hy
  pointwise
  unfold joined
  split
  · next hi => exact (congrArg (fun e => x (ix5 b h e r ⟨i, hi⟩)) (by omega)).trans (hl ⟨i, hi⟩)
  · next hi => exact (congrArg (fun e => y (ix5 b h e r ⟨i - 4096, by omega⟩)) (by omega)).trans (hc ⟨i - 4096, by omega⟩)

/-- The maximum the reference subtracts. -/
theorem max_joined (b : Fin 4) (h : Fin 4) (g : Fin 1) (r : Fin 4096) :
    val_main_v37 (F := Ideal) q k (ix4 b h g r) = rowMax (joined q k b h g r) := by
  have hr : ∀ x : S4x4x1x4096x4352.Idx → EReal, Host.reduce (FloatOps.maximumf (F := Ideal) (φ := .f32)) x
      (val_main_cst (F := Ideal)) reducesTo_S4x4x1x4096x4352_S4x4x1x4096_d4 h_S_ (ix4 b h g r)
        = rowMax fun i => x (ix5 b h 0 r i) := by
    intro x
    unfold val_main_cst
    pointwise
    rw [negInf]
    rfl
  have hj := scores_joined q k b h g r
  have h35 : val_main_v35 (F := Ideal) q k (ix4 b h g r) = rowMax (joined q k b h g r) := by
    unfold val_main_v35
    generalize val_main_v34 (F := Ideal) q k = x at hj
    refine (hr x).trans (congrArg rowMax (funext fun i => ?_))
    exact (congrArg (fun e => x (ix5 b h e r i)) (by omega)).trans (hj i)
  refine (val_main_v37_apply q k _).trans ?_
  generalize val_main_v35 (F := Ideal) q k = x at h35
  rw [val_main_v36_apply, val_main_cst_0_apply]
  exact (congrArg₂ max negInf h35).trans (max_eq_right bot_le)

/-- The exponentials. -/
theorem exp_joined (b : Fin 4) (h : Fin 4) (g : Fin 1) (r : Fin 4096) (i : Fin 4352) :
    val_main_v41 (F := Ideal) q k (ix5 b h g r i) = Ideal.exp (joined q k b h g r i - rowMax (joined q k b h g r)) := by
  rw [val_main_v41_apply, val_main_v40_apply, scores_joined, val_main_v39_apply, val_main_v38_apply]
  refine congrArg (fun e => Ideal.exp (joined q k b h g r i - e)) (Eq.trans (congrArg _ ?_) (max_joined q k b h g r))
  blk_ext []

/-- The softmax weights. -/
theorem weight_joined (b : Fin 4) (h : Fin 4) (g : Fin 1) (r : Fin 4096) (i : Fin 4352) :
    val_main_v45 (F := Ideal) q k (ix5 b h g r i) = softmax (joined q k b h g r) i := by
  rw [val_main_v45_apply, exp_joined, val_main_v44_apply, val_main_v43_apply, val_main_v42_apply, val_main_cst_1_apply]
  unfold softmax
  refine congrArg (fun e => Ideal.div _ e) ?_
  refine (congrArg₂ (· + ·) Ideal.ofBits_zero_f32 (Finset.sum_congr rfl fun j _ => ?_)).trans (zero_add _)
  refine Eq.trans (congrArg _ ?_) (exp_joined q k b h g r j)
  blk_ext []

/-- A result element on a latent row. -/
theorem result_apply (R : Fin 17408) (D : Fin 512) (hR : R.val < 16384) :
    val_main_v56 (F := Ideal) q k v (ix2 R D)
      = (∑ i : Fin 4096, at2 v (4096 * (R / 4096) + i) D
            * softmax (joined q k (R / 4096) (D / 128) (0) (R % 4096)) ⟨i, by omega⟩)
        + ∑ i : Fin 256, at2 v (16384 + 256 * (R / 4096) + i) D
            * softmax (joined q k (R / 4096) (D / 128) (0) (R % 4096)) ⟨4096 + i, by omega⟩ := by
  have hw := weight_joined q k ⟨R / 4096, by omega⟩ ⟨D / 128, by omega⟩ ⟨0, by omega⟩ ⟨R % 4096, by omega⟩
  have h53 : val_main_v56 (F := Ideal) q k v (ix2 R D) = val_main_v53 (F := Ideal) q k v (ix2 ⟨R, hR⟩ D) := by
    rw [val_main_v56_apply]
    unfold val_main_v55
    generalize val_main_v53 (F := Ideal) q k v = x
    generalize val_main_v54 (F := Ideal) = y
    pointwise
    rw [dif_pos hR]
  rw [h53]
  simp only [val_main_v53_apply, val_main_v52_apply, val_main_v48_apply, val_main_v51_apply, val_main_v47_apply,
    val_main_v50_apply, val_main_v46_apply, val_main_v49_apply, val_main_v27_apply, val_main_v29_apply,
    val_main_v12_apply, val_main_v11_apply, val_main_v10_apply, val_main_v24_apply, val_main_v23_apply,
    val_main_v20_apply, Ideal.extf_def, Ideal.addf_def]
  refine congrArg₂ (· + ·) (Finset.sum_congr rfl fun i _ => ?_) (Finset.sum_congr rfl fun i _ => ?_)
  · refine congrArg₂ (· * ·) (at2_idx v _ _ _ ?_ ?_) (Eq.trans (congrArg _ ?_) (hw ⟨i, by omega⟩))
    · simp; omega
    · simp; omega
    · blk_ext []
  · refine congrArg₂ (· * ·) (at2_idx v _ _ _ ?_ ?_) (Eq.trans (congrArg _ ?_) (hw ⟨4096 + i, by omega⟩))
    · simp; omega
    · simp; omega
    · blk_ext []

end Cert.RefAIdeal.Latent

end
-- ==== Proof.Joined.lean ====
/- The softmax over two runs of keys laid out one after the other. -/
module

public import proofs.«01_k».proof.Proof.Softmax

@[expose] public section

noncomputable section

namespace Cert.Layer

open Idealize.ShloMosaic

/-- Attention over two runs of keys is the weighted sum by the softmax of the joined scores, the joined row given at its
    own length. -/
theorem attend_eq_softmax_of_eq {n k N : Nat} (hN : n + k = N) (hn : 0 < n) (f : Fin N → EReal)
    (hf : ∀ i, ∃ x : ℝ, f i = x) (v : Fin n → EReal) (w : Fin k → EReal) :
    attend (fun i : Fin n => f ⟨i, by omega⟩) v (fun j : Fin k => f ⟨n + j, by omega⟩) w
      = (∑ i : Fin n, v i * softmax f ⟨i, by omega⟩) + ∑ j : Fin k, w j * softmax f ⟨n + j, by omega⟩ := by
  subst hN
  exact attend_eq_softmax hn f hf v w

end Cert.Layer

end
-- ==== Proof.Mask.lean ====
/- What the claims' conditions on the arguments say of one element. -/
module

public import proofs.«01_k».proof.Proof.Arrays
public import Idealize.ShloMosaic.Lib.Pointwise

@[expose] public section

noncomputable section

namespace Cert.Layer

open Idealize.ShloMosaic

/-- The bits of the comparison's bound denote plus infinity. -/
theorem posInf : Ideal.ofBits .f32 0x7F800000#32 = ⊤ := by simp [Ideal.ofBits, Ideal.ieee]

/-- An element whose absolute value is below infinity is a real number. -/
theorem real_of_abs_lt {x : EReal}
    (h : Ideal.cmp .olt (max x (-x)) (Ideal.ofBits .f32 0x7F800000#32) = 1#1) : ∃ a : ℝ, x = a := by
  rw [posInf] at h
  induction x with
  | bot => simp [Ideal.cmp] at h
  | coe a => exact ⟨a, rfl⟩
  | top => simp [Ideal.cmp] at h

/-- A row number compared, as a 32-bit integer, with the number of latent rows. -/
theorem latent_iff (r : Fin 17408) : IntOp.cmpi .slt (BitVec.ofNat 32 r.val) 16384#32 = 1#1 ↔ r.val < 16384 := by
  have hr := r.isLt
  have e : (BitVec.ofNat 32 r.val).toInt = r.val := by
    rw [BitVec.toInt_ofNat', Int.bmod_eq_of_le] <;> omega
  have e2 : (16384#32 : BitVec 32).toInt = 16384 := by decide
  unfold IntOp.cmpi
  by_cases h : r.val < 16384 <;> simp [BitVec.slt, e, e2, h]

/-- An array of reals reads real everywhere (zero outside). -/
theorem real_at2 {n w : Nat} {a : (⟨2, ![n, w]⟩ : Shape).Idx → EReal} (h : ∀ i, ∃ x : ℝ, a i = x) (r c : Nat) :
    ∃ x : ℝ, at2 a r c = x := by
  unfold at2
  split
  · exact h _
  · exact ⟨0, rfl⟩

end Cert.Layer

end
-- ==== Proof.AttA.lean ====
/- Multi-head latent attention: the kernel computes the reference's attention on the latent rows. -/
module

public import proofs.«01_k».proof.Proof.AttAKernel
public import proofs.«01_k».proof.Proof.AttARef
public import proofs.«01_k».proof.Proof.Joined
public import proofs.«01_k».proof.Proof.Mask
public import proofs.«01_k».proof.Proof.Gen.RefAIdeal.Run
public import proofs.«01_k».proof.Proof.Gen.Pre_finite_a
public import proofs.«01_k».proof.Proof.Gen.On_latent_rows_AttAIdeal
public import proofs.«01_k».proof.Defs

@[expose] public section

set_option maxRecDepth 16384

noncomputable section

namespace Cert.AttAClaim

open Cert.Layer Idealize.ShloMosaic Idealize.ShloMosaic.TcCoe Idealize.SL.Sem
open Cert.AttAIdeal.Latent (ATT)

variable (q : Cert.Pre_finite_a.S17408x1024.Idx → EReal) (k : Cert.Pre_finite_a.S17408x1024.Idx → EReal)
  (v : Cert.Pre_finite_a.S17408x512.Idx → EReal)

/-- The precondition makes every query and key element a real number. -/
theorem real_of_pre [Cert.Pre_finite_a.Facts]
    (h : ∀ i, Cert.Pre_finite_a.fn (F := Ideal) q k v i = 1#1) :
    (∀ i, ∃ a : ℝ, q i = a) ∧ ∀ i, ∃ a : ℝ, k i = a := by
  have hx : ∀ j, ∃ a : ℝ, concatenate Cert.Pre_finite_a.S17408x2048 1 [⟨Cert.Pre_finite_a.S17408x1024, q⟩,
      ⟨Cert.Pre_finite_a.S17408x1024, k⟩] Cert.Pre_finite_a.Facts.concatenates_S17408x1024_S17408x1024_S17408x2048_d1 j = a :=
    fun j => real_of_abs_lt (h j)
  refine ⟨fun i => ?_, fun i => ?_⟩
  · let j : Cert.Pre_finite_a.S17408x2048.Idx := ix2 (i 0) ⟨(i 1).val, lt_of_lt_of_le (i 1).isLt (by decide)⟩
    obtain ⟨a, ha⟩ := hx j
    exact ⟨a, (concatenate_pair_apply_left (t := Cert.Pre_finite_a.S17408x2048) 1 q k _ j rfl i
      (fun e => match e with | 0 => rfl | 1 => rfl)).symm.trans ha⟩
  · let j : Cert.Pre_finite_a.S17408x2048.Idx := ix2 (i 0) ⟨(i 1).val + 1024, Nat.add_lt_add_right (i 1).isLt 1024⟩
    obtain ⟨a, ha⟩ := hx j
    exact ⟨a, (concatenate_pair_apply_right (t := Cert.Pre_finite_a.S17408x2048) 1 q k _ j rfl rfl i
      (fun e he => match e, he with | 0, _ => rfl | 1, he => absurd rfl he) rfl).symm.trans ha⟩

/-- The scores of a row are real. -/
theorem real_joined (hq : ∀ i, ∃ a : ℝ, q i = a) (hk : ∀ i, ∃ a : ℝ, k i = a) (b h g r : Nat) (i : Fin 4352) :
    ∃ a : ℝ, Cert.RefAIdeal.Latent.joined q k b h g r i = a := by
  unfold Cert.RefAIdeal.Latent.joined
  split
  · exact real_dot _ _ _ (fun x => real_at2 hq _ _) fun x => real_at2 hk _ _
  · exact real_dot _ _ _ (fun x => real_at2 hq _ _) fun x => real_at2 hk _ _

/-- On a latent row the kernel's element is the reference's. -/
theorem element (hq : ∀ i, ∃ a : ℝ, q i = a) (hk : ∀ i, ∃ a : ℝ, k i = a) (R : Fin 17408) (D : Fin 512) (hR : R.val < 16384) :
    ATT q k v R D = Cert.RefAIdeal.Read.val_main_v56 (F := Ideal) q k v (ix2 R D) := by
  have hr := real_joined q k hq hk (R / 4096) (D / 128) (0) (R % 4096)
  refine Eq.trans ?_ (Cert.RefAIdeal.Latent.result_apply q k v R D hR).symm
  refine Eq.trans ?_ (attend_eq_softmax_of_eq (n := 4096) (k := 256) rfl (by decide) _ hr _ _)
  unfold ATT Cert.RefAIdeal.Latent.joined
  have h1 : ∀ i : Fin 4096, (i : Nat) < 4096 := fun i => i.isLt
  have h2 : ∀ j : Fin 256, ¬ (4096 + (j : Nat)) < 4096 := fun j => by omega
  have h3 : ∀ j : Fin 256, 4096 + (j : Nat) - 4096 = j := fun j => by omega
  have h4 : 4096 * (R.val / 4096) + R.val % 4096 = R.val := by omega
  simp only [h1, h2, h3, h4, if_true, if_false]

/-- The mask holds exactly on the latent rows. -/
theorem mask_iff [Cert.On_latent_rows_AttAIdeal.Facts] (i : Cert.On_latent_rows_AttAIdeal.S17408x512.Idx) :
    Cert.On_latent_rows_AttAIdeal.fn (F := Ideal) q k v i = 1#1 ↔ (i 0 : Nat) < 16384 :=
  latent_iff (i 0)

theorem algebraic : Cert.algebraic_AttAIdeal_RefAIdeal_on_latent_rows_AttAIdeal := by
  intro m g m' g' hpre hagree
  have hker := Cert.AttAIdeal.Value.run_blocks (F := Ideal) m g
  have href := Cert.RefAIdeal.Value.run (F := Ideal) m' g'
  refine ⟨fun c => (Cert.AttAIdeal.Gen.dats m 0 c).arrAt 5 Cert.AttAIdeal.cfg0.N, ?_, ?_⟩
  · exact (θ_run Cert.AttAIdeal.defs _ _).mono (fun _ h c => ⟨fun i _ => congrFun (h c).1 i, (h c).2⟩) hker
  · refine (θ_run Cert.RefAIdeal.defs _ _).mono (fun _ h c => ⟨fun i hi => ?_, (h c).2⟩) href
    have hi' := (mask_iff _ _ _ i).mp hi
    obtain ⟨hq, hk⟩ := real_of_pre _ _ _ (congrFun (hpre c))
    refine (congrFun (h c).1 i).trans ?_
    rw [Cert.RefAIdeal.Read.val_main_v56_eq, (hagree c).1, (hagree c).2.1, (hagree c).2.2]
    refine Eq.trans ?_ (congrFun (Cert.AttAIdeal.Latent.final m c) i).symm
    have hd : (i 0).val / 512 < 32 := by omega
    refine Eq.trans ?_ (if_pos hd).symm
    refine Eq.trans ?_ (element _ _ _ hq hk (i 0) (i 1) hi').symm
    exact congrArg _ (eq_ix2 i)

end Cert.AttAClaim

end
-- ==== Proof.AttBPay.lean ====
/- The grouped-query attention kernel (4 query heads on 2 key heads, of width 128): one block's payload at a row and a column. -/
module

public import proofs.«01_k».proof.Proof.Gen.AttBIdeal.Skeleton
public import proofs.«01_k».proof.Proof.Softmax

@[expose] public section

set_option maxRecDepth 16384

noncomputable section

namespace Cert.AttBIdeal.Latent

open Cert.AttBIdeal Cert.AttBIdeal.Gen Cert.Layer Idealize.ShloMosaic Idealize.ShloMosaic.TcCoe

/-- One block's payload at a row and a column: attention of the row's query over the block's two key sets. -/
theorem pay_apply (q : Vec Ideal S512x128 .bf16) (k : Vec Ideal S4096x128 .bf16) (kc : Vec Ideal S256x128 .bf16)
    (v : Vec Ideal S4096x128 .bf16) (vc : Vec Ideal S256x128 .bf16) (r : Fin 512) (d : Fin 128) :
    k0_pay1 (F := Ideal) q k kc v vc (ix2 r d)
      = attend (fun i => ∑ x : Fin 128, q (ix2 r x) * k (ix2 i x)) (fun i => v (ix2 i d))
          (fun j => ∑ x : Fin 128, q (ix2 r x) * kc (ix2 j x)) (fun j => vc (ix2 j d)) := by
  pointwise [k0_pay1, attend, rowMax]
  rw [negInf]

end Cert.AttBIdeal.Latent

end
-- ==== Proof.AttBKernel.lean ====
/- The grouped-query attention kernel (4 query heads on 2 key heads, of width 128): what its result array holds. -/
module

public import proofs.«01_k».proof.Proof.Gen.AttBIdeal.Value
public import proofs.«01_k».proof.Proof.Arrays
public import proofs.«01_k».proof.Proof.AttBPay
public import Idealize.ShloMosaic.Lib.Pipeline.ValueKit

@[expose] public section

set_option maxRecDepth 16384

noncomputable section

namespace Cert.AttBIdeal.Latent

open Cert.AttBIdeal Cert.AttBIdeal.Gen Cert.Layer Idealize.ShloMosaic Idealize.ShloMosaic.TcCoe

/-- Attention of latent row `R` (batch `R / 4096`) at result column `D` (query head `D / 128`, key head `D / 256`): the keys and values of the
    batch's 4096 latent rows and of its 256 context rows, which follow the 16384 latent rows of all batches. -/
def ATT (q : S17408x512.Idx → EReal) (k v : S17408x256.Idx → EReal) (R D : Nat) : EReal :=
  attend
    (fun i : Fin 4096 => ∑ x : Fin 128, at2 q R (128 * (D / 128) + x) * at2 k (4096 * (R / 4096) + i) (128 * (D / 256) + x))
    (fun i : Fin 4096 => at2 v (4096 * (R / 4096) + i) (128 * (D / 256) + D % 128))
    (fun j : Fin 256 => ∑ x : Fin 128, at2 q R (128 * (D / 128) + x) * at2 k (16384 + 256 * (R / 4096) + j) (128 * (D / 256) + x))
    (fun j : Fin 256 => at2 v (16384 + 256 * (R / 4096) + j) (128 * (D / 256) + D % 128))

variable (m : (ℓ : Loc nD τ sig) → Buf (Elt Ideal) ℓ) (c : Dev nD)

/-- The block indices at a grid point: batch `t / 32`, query head `t / 8 % 4`, key head `t / 16 % 2`, query block `t % 8`. -/
theorem idx : ∀ t : Fin cfg0.N,
    win0_0.index t = ![8 * (t.val / 32) + t.val % 8, t.val / 8 % 4] ∧ win0_1.index t = ![t.val / 32, t.val / 16 % 2]
    ∧ win0_2.index t = ![64 + t.val / 32, t.val / 16 % 2] ∧ win0_3.index t = ![t.val / 32, t.val / 16 % 2]
    ∧ win0_4.index t = ![64 + t.val / 32, t.val / 16 % 2]
    ∧ win0_5.index t = ![8 * (t.val / 32) + t.val % 8, t.val / 8 % 4] :=
  (by decide +kernel : ∀ t : Fin grid0.N, _)

/-- The grid has 128 points. -/
theorem lt128 (t : Fin cfg0.N) : t.val < 128 := lt_of_lt_of_eq t.isLt (by decide)

theorem iblk0 (t : Fin cfg0.N) (i : Fin 512) (x : Fin 128) :
    iblk m c 0 t (ix2 i x) = at2 (m ((c : Thread nD τ).loc main_arg0)) (512 * (8 * (t.val / 32) + t.val % 8) + i) (128 * (t.val / 8 % 4) + x) := by
  have := lt128 t
  refine Eq.trans ?_ (at2_ix2 (m ((c : Thread nD τ).loc main_arg0)) ⟨512 * (8 * (t.val / 32) + t.val % 8) + i, by omega⟩ ⟨128 * (t.val / 8 % 4) + x, by omega⟩)
  blk_ext [iblk, V, idx t]

theorem X1 (t : Fin cfg0.N) (i : Fin 4096) (x : Fin 128) :
    X0_1 m c t (ix2 i x) = at2 (m ((c : Thread nD τ).loc main_arg1)) (4096 * (t.val / 32) + i) (128 * (t.val / 16 % 2) + x) := by
  have := lt128 t
  refine Eq.trans ?_ (at2_ix2 (m ((c : Thread nD τ).loc main_arg1)) ⟨4096 * (t.val / 32) + i, by omega⟩ ⟨128 * (t.val / 16 % 2) + x, by omega⟩)
  unfold X0_1 Pipeline.Window.fill
  rw [dif_pos (moved0_1 t _)]
  blk_ext [iblk, V, idx t]

theorem iblk2 (t : Fin cfg0.N) (i : Fin 256) (x : Fin 128) :
    iblk m c 2 t (ix2 i x) = at2 (m ((c : Thread nD τ).loc main_arg1)) (16384 + 256 * (t.val / 32) + i) (128 * (t.val / 16 % 2) + x) := by
  have := lt128 t
  refine Eq.trans ?_ (at2_ix2 (m ((c : Thread nD τ).loc main_arg1)) ⟨16384 + 256 * (t.val / 32) + i, by omega⟩ ⟨128 * (t.val / 16 % 2) + x, by omega⟩)
  blk_ext [iblk, V, idx t]

theorem X3 (t : Fin cfg0.N) (i : Fin 4096) (x : Fin 128) :
    X0_3 m c t (ix2 i x) = at2 (m ((c : Thread nD τ).loc main_arg2)) (4096 * (t.val / 32) + i) (128 * (t.val / 16 % 2) + x) := by
  have := lt128 t
  refine Eq.trans ?_ (at2_ix2 (m ((c : Thread nD τ).loc main_arg2)) ⟨4096 * (t.val / 32) + i, by omega⟩ ⟨128 * (t.val / 16 % 2) + x, by omega⟩)
  unfold X0_3 Pipeline.Window.fill
  rw [dif_pos (moved0_3 t _)]
  blk_ext [iblk, V, idx t]

theorem iblk4 (t : Fin cfg0.N) (i : Fin 256) (x : Fin 128) :
    iblk m c 4 t (ix2 i x) = at2 (m ((c : Thread nD τ).loc main_arg2)) (16384 + 256 * (t.val / 32) + i) (128 * (t.val / 16 % 2) + x) := by
  have := lt128 t
  refine Eq.trans ?_ (at2_ix2 (m ((c : Thread nD τ).loc main_arg2)) ⟨16384 + 256 * (t.val / 32) + i, by omega⟩ ⟨128 * (t.val / 16 % 2) + x, by omega⟩)
  blk_ext [iblk, V, idx t]

/-- What a grid point writes back, at a row and a column of its block. -/
theorem out_apply (t : Fin cfg0.N) (r : Fin 512) (d : Fin 128) :
    outsAt0 m c t (ix2 r d)
      = ATT (m ((c : Thread nD τ).loc main_arg0)) (m ((c : Thread nD τ).loc main_arg1))
          (m ((c : Thread nD τ).loc main_arg2)) (512 * (8 * (t.val / 32) + t.val % 8) + r) (128 * (t.val / 8 % 4) + d) := by
  have ht := lt128 t
  unfold outsAt0
  frame_out
  rw [pay_apply]
  simp only [iblk0, X1, iblk2, X3, iblk4]
  unfold ATT
  have hb : (512 * (8 * (t.val / 32) + t.val % 8) + r.val) / 4096 = t.val / 32 := by omega
  have hh : (128 * (t.val / 8 % 4) + d.val) / 128 = t.val / 8 % 4 := by omega
  have hk : (128 * (t.val / 8 % 4) + d.val) / 256 = t.val / 16 % 2 := by omega
  have hd : (128 * (t.val / 8 % 4) + d.val) % 128 = d.val := by omega
  rw [hb, hh, hk, hd]

/-- The result array after the run: the attention on the latent rows, the entry contents on the others. -/
theorem final : (dats m 0 c).arrAt 5 cfg0.N
    = fun i => if (i 0).val / 512 < 32 then
        ATT (m ((c : Thread nD τ).loc main_arg0)) (m ((c : Thread nD τ).loc main_arg1))
          (m ((c : Thread nD τ).loc main_arg2)) (i 0).val (i 1).val
      else V m c main_v0 i := by
  refine (dats m 0 c).arrAt_eq_of_coversWhere 5 (fun i => ATT (m ((c : Thread nD τ).loc main_arg0))
    (m ((c : Thread nD τ).loc main_arg1)) (m ((c : Thread nD τ).loc main_arg2)) (i 0).val (i 1).val)
    (fun β => β (0 : Fin _) < 32) (by decide +kernel) (fun t hf y => ?_) (fun j => Iff.rfl)
  blk_simp [idx t]
  rw [after0_5]
  refine (congrArg _ (eq_ix2 y)).trans ((out_apply m c t (y 0) (y 1)).trans ?_)
  congr 1 <;> simp <;> omega

end Cert.AttBIdeal.Latent

end
-- ==== Proof.AttBRef.lean ====
/- Grouped-query attention of the latent rows: the reference, read at a result element. -/
module

public import proofs.«01_k».proof.Proof.Gen.RefBIdeal.Read
public import Idealize.ShloMosaic.Lib.Pointwise
public import Idealize.ShloMosaic.Lib.Pipeline.ValueKit
public import proofs.«01_k».proof.Proof.Arrays
public import proofs.«01_k».proof.Proof.Softmax

@[expose] public section

set_option maxRecDepth 16384

noncomputable section

namespace Cert.RefBIdeal.Latent

open Cert.RefBIdeal Cert.RefBIdeal.Gen Cert.RefBIdeal.Read Cert.Layer Idealize.ShloMosaic

variable (q : (⟨S17408x512, .bf16⟩ : BufTy).Contents (Elt Ideal)) (k : (⟨S17408x256, .bf16⟩ : BufTy).Contents (Elt Ideal))
  (v : (⟨S17408x256, .bf16⟩ : BufTy).Contents (Elt Ideal))

/-- The scores of the queries over the batch's latent rows. -/
theorem scores_latent (b : Fin 4) (h : Fin 2) (g : Fin 2) (r : Fin 4096) (i : Fin 4096) :
    val_main_v31 (F := Ideal) q k (ix5 b h g r i)
      = ∑ x : Fin 128, at2 q (4096 * b + r) (256 * h + 128 * g + x) * at2 k (4096 * b + i) (128 * h + x) := by
  simp only [val_main_v31_apply, val_main_v30_apply, val_main_v26_apply, val_main_v25_apply, val_main_v2_apply,
    val_main_v7_apply, val_main_v1_apply, val_main_v6_apply, val_main_v0_apply, val_main_v5_apply, Ideal.extf_def]
  refine Finset.sum_congr rfl fun x _ => ?_
  rw [mul_comm]
  refine congrArg₂ (· * ·) (at2_idx q _ _ _ ?_ ?_) (at2_idx k _ _ _ ?_ ?_)
  all_goals simp; omega

/-- The scores over the batch's context rows, which follow the latent rows of all batches. -/
theorem scores_context (b : Fin 4) (h : Fin 2) (g : Fin 2) (r : Fin 4096) (i : Fin 256) :
    val_main_v33 (F := Ideal) q k (ix5 b h g r i)
      = ∑ x : Fin 128, at2 q (4096 * b + r) (256 * h + 128 * g + x) * at2 k (16384 + 256 * b + i) (128 * h + x) := by
  simp only [val_main_v33_apply, val_main_v32_apply, val_main_v28_apply, val_main_v25_apply, val_main_v2_apply,
    val_main_v19_apply, val_main_v18_apply, val_main_v1_apply, val_main_v15_apply, val_main_v0_apply, Ideal.extf_def]
  refine Finset.sum_congr rfl fun x _ => ?_
  rw [mul_comm]
  refine congrArg₂ (· * ·) (at2_idx q _ _ _ ?_ ?_) (at2_idx k _ _ _ ?_ ?_)
  all_goals simp; omega

/-- A query's scores over all its keys: the latent rows, then the context rows. -/
def joined (b h g r : Nat) (i : Fin 4352) : EReal :=
  if i.val < 4096 then ∑ x : Fin 128, at2 q (4096 * b + r) (256 * h + 128 * g + x) * at2 k (4096 * b + i) (128 * h + x)
  else ∑ x : Fin 128, at2 q (4096 * b + r) (256 * h + 128 * g + x) * at2 k (16384 + 256 * b + (i - 4096)) (128 * h + x)

theorem scores_joined (b : Fin 4) (h : Fin 2) (g : Fin 2) (r : Fin 4096) (i : Fin 4352) :
    val_main_v34 (F := Ideal) q k (ix5 b h g r i) = joined q k b h g r i := by
  have hl := scores_latent q k b h g r
  have hc := scores_context q k b h g r
  generalize hx : val_main_v31 (F := Ideal) q k = x at hl
  generalize hy : val_main_v33 (F := Ideal) q k = y at hc
  unfold val_main_v34
  rw [hx, hy]
  clear hx hy
  pointwise
  unfold joined
  split
  · next hi => exact (congrArg (fun e => x (ix5 b h e r ⟨i, hi⟩)) (by omega)).trans (hl ⟨i, hi⟩)
  · next hi => exact (congrArg (fun e => y (ix5 b h e r ⟨i - 4096, by omega⟩)) (by omega)).trans (hc ⟨i - 4096, by omega⟩)

/-- The maximum the reference subtracts. -/
theorem max_joined (b : Fin 4) (h : Fin 2) (g : Fin 2) (r : Fin 4096) :
    val_main_v37 (F := Ideal) q k (ix4 b h g r) = rowMax (joined q k b h g r) := by
  have hr : ∀ x : S4x2x2x4096x4352.Idx → EReal, Host.reduce (FloatOps.maximumf (F := Ideal) (φ := .f32)) x
      (val_main_cst (F := Ideal)) reducesTo_S4x2x2x4096x4352_S4x2x2x4096_d4 h_S_ (ix4 b h g r)
        = rowMax fun i => x (ix5 b h g r i) := by
    intro x
    unfold val_main_cst
    pointwise
    rw [negInf]
    rfl
  have hj := scores_joined q k b h g r
  have h35 : val_main_v35 (F := Ideal) q k (ix4 b h g r) = rowMax (joined q k b h g r) := by
    unfold val_main_v35
    generalize val_main_v34 (F := Ideal) q k = x at hj
    refine (hr x).trans (congrArg rowMax (funext fun i => ?_))
    exact (congrArg (fun e => x (ix5 b h e r i)) (by omega)).trans (hj i)
  refine (val_main_v37_apply q k _).trans ?_
  generalize val_main_v35 (F := Ideal) q k = x at h35
  rw [val_main_v36_apply, val_main_cst_0_apply]
  exact (congrArg₂ max negInf h35).trans (max_eq_right bot_le)

/-- The exponentials. -/
theorem exp_joined (b : Fin 4) (h : Fin 2) (g : Fin 2) (r : Fin 4096) (i : Fin 4352) :
    val_main_v41 (F := Ideal) q k (ix5 b h g r i) = Ideal.exp (joined q k b h g r i - rowMax (joined q k b h g r)) := by
  rw [val_main_v41_apply, val_main_v40_apply, scores_joined, val_main_v39_apply, val_main_v38_apply]
  refine congrArg (fun e => Ideal.exp (joined q k b h g r i - e)) (Eq.trans (congrArg _ ?_) (max_joined q k b h g r))
  blk_ext []

/-- The softmax weights. -/
theorem weight_joined (b : Fin 4) (h : Fin 2) (g : Fin 2) (r : Fin 4096) (i : Fin 4352) :
    val_main_v45 (F := Ideal) q k (ix5 b h g r i) = softmax (joined q k b h g r) i := by
  rw [val_main_v45_apply, exp_joined, val_main_v44_apply, val_main_v43_apply, val_main_v42_apply, val_main_cst_1_apply]
  unfold softmax
  refine congrArg (fun e => Ideal.div _ e) ?_
  refine (congrArg₂ (· + ·) Ideal.ofBits_zero_f32 (Finset.sum_congr rfl fun j _ => ?_)).trans (zero_add _)
  refine Eq.trans (congrArg _ ?_) (exp_joined q k b h g r j)
  blk_ext []

/-- A result element on a latent row. -/
theorem result_apply (R : Fin 17408) (D : Fin 512) (hR : R.val < 16384) :
    val_main_v56 (F := Ideal) q k v (ix2 R D)
      = (∑ i : Fin 4096, at2 v (4096 * (R / 4096) + i) (128 * (D / 256) + D % 128)
            * softmax (joined q k (R / 4096) (D / 256) (D / 128 % 2) (R % 4096)) ⟨i, by omega⟩)
        + ∑ i : Fin 256, at2 v (16384 + 256 * (R / 4096) + i) (128 * (D / 256) + D % 128)
            * softmax (joined q k (R / 4096) (D / 256) (D / 128 % 2) (R % 4096)) ⟨4096 + i, by omega⟩ := by
  have hw := weight_joined q k ⟨R / 4096, by omega⟩ ⟨D / 256, by omega⟩ ⟨D / 128 % 2, by omega⟩ ⟨R % 4096, by omega⟩
  have h53 : val_main_v56 (F := Ideal) q k v (ix2 R D) = val_main_v53 (F := Ideal) q k v (ix2 ⟨R, hR⟩ D) := by
    rw [val_main_v56_apply]
    unfold val_main_v55
    generalize val_main_v53 (F := Ideal) q k v = x
    generalize val_main_v54 (F := Ideal) = y
    pointwise
    rw [dif_pos hR]
  have e1 : (R.val * 512 + D.val) / 2097152 = R.val / 4096 := by omega
  have e2 : (R.val * 512 + D.val) / 256 % 2 = D.val / 256 := by omega
  have e3 : (R.val * 512 + D.val) % 128 = D.val % 128 := by omega
  have e4 : ∀ p : Nat, (p / 1048576 * 4096 + p / 256 % 4096) * 256 + p % 256 = p := fun p => by omega
  have e5 : ∀ p : Nat, (p / 65536 * 256 + p / 256 % 256) * 256 + p % 256 = p := fun p => by omega
  rw [h53]
  simp only [val_main_v53_apply, val_main_v52_apply, val_main_v48_apply, val_main_v51_apply, val_main_v47_apply,
    val_main_v50_apply, val_main_v46_apply, val_main_v49_apply, val_main_v27_apply, val_main_v29_apply,
    val_main_v12_apply, val_main_v11_apply, val_main_v10_apply, val_main_v24_apply, val_main_v23_apply,
    val_main_v20_apply, Ideal.extf_def, Ideal.addf_def]
  refine congrArg₂ (· + ·) (Finset.sum_congr rfl fun i _ => ?_) (Finset.sum_congr rfl fun i _ => ?_)
  · refine congrArg₂ (· * ·) (at2_idx v _ _ _ ?_ ?_) (Eq.trans (congrArg _ ?_) (hw ⟨i, by omega⟩))
    · simp; simp only [e1, e2, e3, e4, e5]; omega
    · simp; simp only [e1, e2, e3, e4, e5]; omega
    · blk_ext []
  · refine congrArg₂ (· * ·) (at2_idx v _ _ _ ?_ ?_) (Eq.trans (congrArg _ ?_) (hw ⟨4096 + i, by omega⟩))
    · simp; simp only [e1, e2, e3, e4, e5]; omega
    · simp; simp only [e1, e2, e3, e4, e5]; omega
    · blk_ext []

end Cert.RefBIdeal.Latent

end
-- ==== Proof.AttB.lean ====
/- Grouped-query attention: the kernel computes the reference's attention on the latent rows. -/
module

public import proofs.«01_k».proof.Proof.AttBKernel
public import proofs.«01_k».proof.Proof.AttBRef
public import proofs.«01_k».proof.Proof.Joined
public import proofs.«01_k».proof.Proof.Mask
public import proofs.«01_k».proof.Proof.Gen.RefBIdeal.Run
public import proofs.«01_k».proof.Proof.Gen.Pre_finite_b
public import proofs.«01_k».proof.Proof.Gen.On_latent_rows_AttBIdeal
public import proofs.«01_k».proof.Defs

@[expose] public section

set_option maxRecDepth 16384

noncomputable section

namespace Cert.AttBClaim

open Cert.Layer Idealize.ShloMosaic Idealize.ShloMosaic.TcCoe Idealize.SL.Sem
open Cert.AttBIdeal.Latent (ATT)

variable (q : Cert.Pre_finite_b.S17408x512.Idx → EReal) (k : Cert.Pre_finite_b.S17408x256.Idx → EReal)
  (v : Cert.Pre_finite_b.S17408x256.Idx → EReal)

/-- The precondition makes every query and key element a real number. -/
theorem real_of_pre [Cert.Pre_finite_b.Facts]
    (h : ∀ i, Cert.Pre_finite_b.fn (F := Ideal) q k v i = 1#1) :
    (∀ i, ∃ a : ℝ, q i = a) ∧ ∀ i, ∃ a : ℝ, k i = a := by
  have hx : ∀ j, ∃ a : ℝ, concatenate Cert.Pre_finite_b.S17408x768 1 [⟨Cert.Pre_finite_b.S17408x512, q⟩,
      ⟨Cert.Pre_finite_b.S17408x256, k⟩] Cert.Pre_finite_b.Facts.concatenates_S17408x512_S17408x256_S17408x768_d1 j = a :=
    fun j => real_of_abs_lt (h j)
  refine ⟨fun i => ?_, fun i => ?_⟩
  · let j : Cert.Pre_finite_b.S17408x768.Idx := ix2 (i 0) ⟨(i 1).val, lt_of_lt_of_le (i 1).isLt (by decide)⟩
    obtain ⟨a, ha⟩ := hx j
    exact ⟨a, (concatenate_pair_apply_left (t := Cert.Pre_finite_b.S17408x768) 1 q k _ j rfl i
      (fun e => match e with | 0 => rfl | 1 => rfl)).symm.trans ha⟩
  · let j : Cert.Pre_finite_b.S17408x768.Idx := ix2 (i 0) ⟨(i 1).val + 512, Nat.add_lt_add_right (i 1).isLt 512⟩
    obtain ⟨a, ha⟩ := hx j
    exact ⟨a, (concatenate_pair_apply_right (t := Cert.Pre_finite_b.S17408x768) 1 q k _ j rfl rfl i
      (fun e he => match e, he with | 0, _ => rfl | 1, he => absurd rfl he) rfl).symm.trans ha⟩

/-- The scores of a row are real. -/
theorem real_joined (hq : ∀ i, ∃ a : ℝ, q i = a) (hk : ∀ i, ∃ a : ℝ, k i = a) (b h g r : Nat) (i : Fin 4352) :
    ∃ a : ℝ, Cert.RefBIdeal.Latent.joined q k b h g r i = a := by
  unfold Cert.RefBIdeal.Latent.joined
  split
  · exact real_dot _ _ _ (fun x => real_at2 hq _ _) fun x => real_at2 hk _ _
  · exact real_dot _ _ _ (fun x => real_at2 hq _ _) fun x => real_at2 hk _ _

/-- On a latent row the kernel's element is the reference's. -/
theorem element (hq : ∀ i, ∃ a : ℝ, q i = a) (hk : ∀ i, ∃ a : ℝ, k i = a) (R : Fin 17408) (D : Fin 512) (hR : R.val < 16384) :
    ATT q k v R D = Cert.RefBIdeal.Read.val_main_v56 (F := Ideal) q k v (ix2 R D) := by
  have hr := real_joined q k hq hk (R / 4096) (D / 256) (D / 128 % 2) (R % 4096)
  refine Eq.trans ?_ (Cert.RefBIdeal.Latent.result_apply q k v R D hR).symm
  refine Eq.trans ?_ (attend_eq_softmax_of_eq (n := 4096) (k := 256) rfl (by decide) _ hr _ _)
  unfold ATT Cert.RefBIdeal.Latent.joined
  have h1 : ∀ i : Fin 4096, (i : Nat) < 4096 := fun i => i.isLt
  have h2 : ∀ j : Fin 256, ¬ (4096 + (j : Nat)) < 4096 := fun j => by omega
  have h3 : ∀ j : Fin 256, 4096 + (j : Nat) - 4096 = j := fun j => by omega
  have h4 : 4096 * (R.val / 4096) + R.val % 4096 = R.val := by omega
  have h5 : ∀ x : Nat, 256 * (D.val / 256) + 128 * (D.val / 128 % 2) + x = 128 * (D.val / 128) + x := fun x => by omega
  simp only [h1, h2, h3, h4, h5, if_true, if_false]

/-- The mask holds exactly on the latent rows. -/
theorem mask_iff [Cert.On_latent_rows_AttBIdeal.Facts] (i : Cert.On_latent_rows_AttBIdeal.S17408x512.Idx) :
    Cert.On_latent_rows_AttBIdeal.fn (F := Ideal) q k v i = 1#1 ↔ (i 0 : Nat) < 16384 :=
  latent_iff (i 0)

theorem algebraic : Cert.algebraic_AttBIdeal_RefBIdeal_on_latent_rows_AttBIdeal := by
  intro m g m' g' hpre hagree
  have hker := Cert.AttBIdeal.Value.run_blocks (F := Ideal) m g
  have href := Cert.RefBIdeal.Value.run (F := Ideal) m' g'
  refine ⟨fun c => (Cert.AttBIdeal.Gen.dats m 0 c).arrAt 5 Cert.AttBIdeal.cfg0.N, ?_, ?_⟩
  · exact (θ_run Cert.AttBIdeal.defs _ _).mono (fun _ h c => ⟨fun i _ => congrFun (h c).1 i, (h c).2⟩) hker
  · refine (θ_run Cert.RefBIdeal.defs _ _).mono (fun _ h c => ⟨fun i hi => ?_, (h c).2⟩) href
    have hi' := (mask_iff _ _ _ i).mp hi
    obtain ⟨hq, hk⟩ := real_of_pre _ _ _ (congrFun (hpre c))
    refine (congrFun (h c).1 i).trans ?_
    rw [Cert.RefBIdeal.Read.val_main_v56_eq, (hagree c).1, (hagree c).2.1, (hagree c).2.2]
    refine Eq.trans ?_ (congrFun (Cert.AttBIdeal.Latent.final m c) i).symm
    have hd : (i 0).val / 512 < 32 := by omega
    refine Eq.trans ?_ (if_pos hd).symm
    refine Eq.trans ?_ (element _ _ _ hq hk (i 0) (i 1) hi').symm
    exact congrArg _ (eq_ix2 i)

end Cert.AttBClaim

end
-- ==== Proof.Norm.lean ====
/- The layer's pointwise pieces: a modulated root-mean-square norm of one row, and the SiLU. -/
module

public import proofs.«01_k».proof.Proof.Arrays

@[expose] public section

noncomputable section

namespace Cert.Layer

open Idealize.ShloMosaic

/-- One element of a row normalised by its root mean square (2048 columns), times the gain, modulated by a scale and a
    shift. -/
def normed (x g sh sc : Fin 2048 → EReal) (c : Fin 2048) : EReal :=
  x c * Ideal.rsqrt (Ideal.div (∑ d, x d * x d) (Ideal.ofBits .f32 0x45000000#32) + Ideal.ofBits .f32 0x358637BD#32)
    * g c * (Ideal.ofBits .f32 0x3F800000#32 + sc c) + sh c

/-- The modulation table (batch row, kind, column) of its first layer, zero outside it. -/
def atm (a : (⟨5, ![4, 8, 9, 1, 2048]⟩ : Shape).Idx → EReal) (b j c : Nat) : EReal :=
  if h : b < 8 ∧ j < 9 ∧ c < 2048 then a (ix5 0 ⟨b, h.1⟩ ⟨j, h.2.1⟩ 0 ⟨c, h.2.2⟩) else 0

/-- The table's element at any index of the first layer, by the index's coordinates. -/
theorem atm_idx (a : (⟨5, ![4, 8, 9, 1, 2048]⟩ : Shape).Idx → EReal) (i : (⟨5, ![4, 8, 9, 1, 2048]⟩ : Shape).Idx)
    (b j c : Nat) (h0 : (i 0).val = 0) (h1 : (i 1).val = b) (h2 : (i 2).val = j) (h3 : (i 3).val = 0) (h4 : (i 4).val = c) :
    a i = atm a b j c := by
  subst h1 h2 h4
  unfold atm
  rw [dif_pos ⟨(i 1).isLt, (i 2).isLt, (i 4).isLt⟩]
  refine congrArg a (funext fun k => Fin.ext ?_)
  match k with
  | ⟨0, _⟩ => exact h0
  | ⟨1, _⟩ => rfl
  | ⟨2, _⟩ => rfl
  | ⟨3, _⟩ => exact h3
  | ⟨4, _⟩ => rfl

/-- The table's row for row `R` of the joined arrays: the batch of a latent row, the fifth row for a context row. -/
def modRow (R : Nat) : Nat := if R < 16384 then R / 4096 else 4

/-- The SiLU. -/
def silu (z : EReal) : EReal := z * Ideal.logistic z

/-- The SiLU of zero is zero. -/
theorem silu_zero : silu 0 = 0 := zero_mul _

end Cert.Layer

end
-- ==== Proof.Sums.lean ====
/- Sums over a padded and blocked axis. -/
module

public import Mathlib.Algebra.BigOperators.Fin

@[expose] public section

namespace Cert.Layer

/-- Blocks of `B` terms, one after the other, are the terms in order. -/
theorem sum_blocks {M : Type*} [AddCommMonoid M] (B : Nat) (f : Nat → M) (n : Nat) :
    ∑ k ∈ Finset.range n, ∑ y : Fin B, f (B * k + y) = ∑ e ∈ Finset.range (B * n), f e := by
  induction n with
  | zero => simp
  | succ n ih =>
    rw [Finset.sum_range_succ, ih, Nat.mul_succ, Finset.sum_range_add, Fin.sum_univ_eq_sum_range (fun y => f (B * n + y))]

/-- Terms that are zero from position `n` on do not count. -/
theorem sum_padded {M : Type*} [AddCommMonoid M] (f : Nat → M) (n p : Nat) (h : ∀ e, n ≤ e → f e = 0) :
    ∑ e ∈ Finset.range (n + p), f e = ∑ e : Fin n, f e := by
  rw [Finset.sum_range_add, Finset.sum_eq_zero (s := Finset.range p) (fun e _ => h _ (Nat.le_add_right _ _)), add_zero,
    Fin.sum_univ_eq_sum_range]

end Cert.Layer
-- ==== Proof.FfnSpec.lean ====
/- The feed-forward layer, one row at a time. -/
module

public import proofs.«01_k».proof.Proof.Norm
public import proofs.«01_k».proof.Proof.Sums

@[expose] public section

noncomputable section

namespace Cert.Layer

open Idealize.ShloMosaic

section
variable (x0 : (⟨2, ![17408, 2048]⟩ : Shape).Idx → EReal) (x1 : (⟨5, ![4, 8, 9, 1, 2048]⟩ : Shape).Idx → EReal)
  (x2 : (⟨1, ![2048]⟩ : Shape).Idx → EReal) (x3 : (⟨2, ![2048, 11008]⟩ : Shape).Idx → EReal)
  (x4 : (⟨2, ![5504, 2048]⟩ : Shape).Idx → EReal)

/-- The normalised row `R`. -/
def ffnNorm (R : Nat) (d : Fin 2048) : EReal :=
  normed (fun d => at2 x0 R d) (fun d => at1 x2 d) (fun d => atm x1 (modRow R) 0 d) (fun d => atm x1 (modRow R) 1 d) d

/-- Hidden unit `e`'s contribution to row `R` and column `C`: the SiLU of its gate times its value times its row of the
    down projection. Beyond the 5504 hidden units it is zero. -/
def ffnUnit (R e C : Nat) : EReal :=
  silu (∑ d : Fin 2048, ffnNorm x0 x1 x2 R d * at2 x3 d e) * (∑ d : Fin 2048, ffnNorm x0 x1 x2 R d * at2 x3 d (5504 + e))
    * at2 x4 e C

/-- The layer's result: the row plus half the gate times the sum of the hidden units' contributions. -/
def ffnOut (R C : Nat) : EReal :=
  at2 x0 R C + Ideal.ofBits .f32 0x3F000000#32 * atm x1 (modRow R) 2 C * ∑ e : Fin 5504, ffnUnit x0 x1 x2 x3 x4 R e C

/-- There is no hidden unit from 5504 on. -/
theorem ffnUnit_pad (R C e : Nat) (h : 5504 ≤ e) : ffnUnit x0 x1 x2 x3 x4 R e C = 0 := by
  unfold ffnUnit
  rw [show at2 x4 e C = 0 from dif_neg (fun k => absurd k.1 (Nat.not_lt.mpr h)), mul_zero]

/-- Eleven blocks of 512 hidden columns, the last of them padded, sum to the 5504 hidden units. -/
theorem ffn_blocks (R C : Nat) :
    ∑ k ∈ Finset.range 11, ∑ y : Fin 512, ffnUnit x0 x1 x2 x3 x4 R (512 * k + y) C
      = ∑ e : Fin 5504, ffnUnit x0 x1 x2 x3 x4 R e C :=
  (sum_blocks 512 (fun e => ffnUnit x0 x1 x2 x3 x4 R e C) 11).trans
    (sum_padded (fun e => ffnUnit x0 x1 x2 x3 x4 R e C) 5504 128 (ffnUnit_pad x0 x1 x2 x3 x4 R C))

end

end Cert.Layer

end
-- ==== Proof.Padded.lean ====
/- Matrices padded with zeros, read at natural-number coordinates. -/
module

public import proofs.«01_k».proof.Proof.Arrays
public import Idealize.ShloMosaic.Lib.KernelVsHost

@[expose] public section

noncomputable section

namespace Cert.Layer

open Idealize.ShloMosaic

/-- A matrix padded below and on the right with zeros reads as the matrix itself, which is zero outside its size. -/
theorem pad_at2 {R C R' C' p q : Nat} (x : (⟨2, ![R, C]⟩ : Shape).Idx → EReal) {u : Shape} (v : u.Idx → EReal)
    (h : (⟨2, ![R, C]⟩ : Shape).Pads ![0, 0] ![p, q] ![0, 0] ⟨2, ![R', C']⟩) (hu : 0 < u.numel) (hv : ∀ i, v i = 0)
    (r : Fin R') (c : Fin C') :
    pad ⟨2, ![R', C']⟩ ![0, 0] ![p, q] ![0, 0] x v h hu (ix2 r c) = at2 x r c := by
  unfold at2
  split
  · rename_i k
    refine pad_apply_of_inside _ _ _ x v h hu (ix2 r c) (ix2 ⟨r, k.1⟩ ⟨c, k.2⟩) fun a => ?_
    match a with
    | ⟨0, _⟩ => show r.val = 0 + r.val * (0 + 1); omega
    | ⟨1, _⟩ => show c.val = 0 + c.val * (0 + 1); omega
  · rename_i k
    rw [← hv (Shape.Idx.first hu)]
    by_cases hr : r.val < R
    · refine pad_apply_of_not_inside _ _ _ x v h hu (ix2 r c) 1 fun e => k ⟨hr, ?_⟩
      have : (c.val - 0) / (0 + 1) < C := e.2.2
      omega
    · refine pad_apply_of_not_inside _ _ _ x v h hu (ix2 r c) 0 fun e => hr ?_
      have : (r.val - 0) / (0 + 1) < R := e.2.2
      omega

/-- Columns cut out of a matrix, read at natural numbers. -/
theorem slice_at2 {R C C' o : Nat} (x : (⟨2, ![R, C]⟩ : Shape).Idx → EReal)
    (h : (⟨2, ![R, C]⟩ : Shape).Slices ![0, o] ⟨2, ![R, C']⟩) (ho : o + C' ≤ C) (r c : Nat) :
    at2 (extractStridedSlice ⟨2, ![R, C']⟩ ![0, o] x h) r c = if c < C' then at2 x r (o + c) else 0 := by
  unfold at2
  by_cases hr : r < R
  · by_cases hc : c < C'
    · rw [dif_pos ⟨hr, hc⟩, if_pos hc, dif_pos ⟨hr, by omega⟩]
      refine extractStridedSlice_apply ![0, o] x h _ (ix2 ⟨r, hr⟩ ⟨o + c, by omega⟩) fun a => ?_
      match a with
      | ⟨0, _⟩ => show r = 0 + r; omega
      | ⟨1, _⟩ => rfl
    · rw [dif_neg (fun k => hc k.2), if_neg hc]
  · rw [dif_neg (fun k => hr k.1), dif_neg (fun k => hr k.1), ite_self]

end Cert.Layer

end
-- ==== Proof.FfnBlocks.lean ====
/- The feed-forward kernel: its blocks, read off the launched arguments. -/
module

public import proofs.«01_k».proof.Proof.FfnSpec
public import proofs.«01_k».proof.Proof.Padded
public import proofs.«01_k».proof.Proof.Gen.FfnIdeal.Frame
public import Idealize.ShloMosaic.Lib.Pipeline.ValueKit

@[expose] public section

set_option maxRecDepth 16384

noncomputable section

namespace Cert.FfnIdeal.Half

open Cert.FfnIdeal Cert.FfnIdeal.Gen Cert.Layer Idealize.ShloMosaic Idealize.ShloMosaic.TcCoe

variable (m : (ℓ : Loc nD τ sig) → Buf (Elt Ideal) ℓ) (c : Dev nD)

/-- The grid has 374 points. -/
theorem lt374 (t : Fin cfg0.N) : t.val < 374 := lt_of_lt_of_eq t.isLt (by decide)

/-- The block indices at a grid point: row block `t / 11`, hidden block `t % 11`. -/
theorem idx : ∀ t : Fin cfg0.N,
    win0_0.index t = ![t.val / 11, 0] ∧ win0_1.index t = ![0, 0]
    ∧ win0_2.index t = ![0, modRow (512 * (t.val / 11)), 0, 0, 0] ∧ win0_3.index t = ![0, modRow (512 * (t.val / 11)), 1, 0, 0]
    ∧ win0_4.index t = ![0, modRow (512 * (t.val / 11)), 2, 0, 0]
    ∧ win0_5.index t = ![0, 0, t.val % 11] ∧ win0_6.index t = ![1, 0, t.val % 11] ∧ win0_7.index t = ![t.val % 11, 0]
    ∧ win0_8.index t = ![t.val / 11, 0] :=
  (by decide +kernel : ∀ t : Fin grid0.N, _)

/-- A row block lies in one batch. -/
theorem modRow_block (b : Nat) (r : Fin 512) : modRow (512 * b + r) = modRow (512 * b) := by
  unfold modRow
  have h := r.isLt
  split <;> split <;> omega

theorem modRow_lt (R : Nat) (h : R < 17408) : modRow R < 8 := by
  unfold modRow
  split <;> omega

/-- The value that the weights are padded with is zero. -/
theorem zero_pad (i : S_.Idx) : (sitofp (F := Ideal) .f32 (constantI S_ 32 0#32)) i = 0 := by
  show ((((0#32 : BitVec 32).toInt : ℝ)) : EReal) = 0
  norm_num

/-- Two matrices stacked. -/
theorem stacked (a b : S1x2048x5632.Idx → EReal)
    (h : Shape.Concatenates [S1x2048x5632, S1x2048x5632] S2x2048x5632 0) (s : Fin 2) (d : Fin 2048) (e : Fin 5632) :
    concatenate S2x2048x5632 0 [⟨S1x2048x5632, a⟩, ⟨S1x2048x5632, b⟩] h (ix3 s d e)
      = if s = 0 then a (ix3 0 d e) else b (ix3 0 d e) := by
  match s with
  | ⟨0, _⟩ =>
    exact concatenate_pair_apply_left (t := S2x2048x5632) (0 : Fin 3) a b h _ rfl (ix3 0 d e) fun k => match k with
      | ⟨0, _⟩ => rfl
      | ⟨1, _⟩ => rfl
      | ⟨2, _⟩ => rfl
  | ⟨1, _⟩ =>
    exact concatenate_pair_apply_right (t := S2x2048x5632) (0 : Fin 3) a b h _ rfl rfl (ix3 0 d e) (fun k hk => match k with
      | ⟨0, _⟩ => absurd rfl hk
      | ⟨1, _⟩ => rfl
      | ⟨2, _⟩ => rfl) rfl

/-- The gate and value matrices as the kernel's call finds them: stacked, and padded to 5632 columns with zeros. -/
theorem entry_wi (s : Fin 2) (d : Fin 2048) (e : Fin 5632) :
    V m c main_v7 (ix3 s d e)
      = if e.val < 5504 then at2 (m ((c : Thread nD τ).loc main_arg3)) d (5504 * s + e) else 0 := by
  unfold V
  simp only [hostOps0, hostOps0_1, hostOps0_2, hostOps0_3, hostOps0_4, hostOps0_5, hostOps0_6, List.flatten_cons,
    List.flatten_nil, List.append_nil, List.cons_append, List.nil_append]
  entry_read
  refine (stacked _ _ concatenates_S1x2048x5632_S1x2048x5632_S2x2048x5632_d0 s d e).trans ?_
  have half : ∀ (o : Nat) (h : S2048x11008.Slices ![0, o] S2048x5504) (k : o + 5504 ≤ 11008) (h1 h2 h3),
      broadcastInDim S1x2048x5632 ![1, 2] h1 (pad S2048x5632 ![0, 0] ![0, 128] ![0, 0]
        (extractStridedSlice S2048x5504 ![0, o] (m ((c : Thread nD τ).loc main_arg3)) h)
        (sitofp (F := Ideal) .f32 (constantI S_ 32 0#32)) h2 h3) (ix3 0 d e)
        = if e.val < 5504 then at2 (m ((c : Thread nD τ).loc main_arg3)) d (o + e) else 0 := fun o h k h1 h2 h3 =>
    (broadcastInDim_apply _ h1 _ (ix3 0 d e) (ix2 d e) (fun a => match a with
      | ⟨0, _⟩ => by rfl
      | ⟨1, _⟩ => by rfl)).trans ((pad_at2 _ _ h2 h3 zero_pad d e).trans (slice_at2 _ h k _ _))
  rcases (by omega : s = 0 ∨ s = 1) with rfl | rfl
  · exact (if_pos rfl).trans (half 0 slices_S2048x11008_S2048x5504_0_0 (by omega) bcast_S2048x5632_S1x2048x5632_1_2
      pads_S2048x5504_S2048x5632_000_01280 h_S_)
  · exact (if_neg (by decide)).trans (half 5504 slices_S2048x11008_S2048x5504_0_5504 (by omega)
      bcast_S2048x5632_S1x2048x5632_1_2 pads_S2048x5504_S2048x5632_000_01280 h_S_)

/-- The down projection as the kernel's call finds it: padded to 5632 rows with zeros. -/
theorem entry_wo (e : Fin 5632) (d : Fin 2048) :
    V m c main_v10 (ix2 e d) = at2 (m ((c : Thread nD τ).loc main_arg4)) e d := by
  unfold V
  simp only [hostOps0, hostOps0_1, hostOps0_2, hostOps0_3, hostOps0_4, hostOps0_5, hostOps0_6, List.flatten_cons,
    List.flatten_nil, List.append_nil, List.cons_append, List.nil_append]
  entry_read
  exact pad_at2 (m ((c : Thread nD τ).loc main_arg4)) (sitofp (F := Ideal) .f32 (constantI S_ 32 0#32))
    pads_S5504x2048_S5632x2048_01280_000 h_S_ zero_pad e d

/-- The gain as the kernel's call finds it: a row. -/
theorem entry_gain (d : Fin 2048) : V m c main_v8 (ix2 0 d) = at1 (m ((c : Thread nD τ).loc main_arg2)) d := by
  unfold V
  simp only [hostOps0, hostOps0_1, hostOps0_2, hostOps0_3, hostOps0_4, hostOps0_5, hostOps0_6, List.flatten_cons,
    List.flatten_nil, List.append_nil, List.cons_append, List.nil_append]
  entry_read
  refine Eq.trans ?_ (at1_ix1 (m ((c : Thread nD τ).loc main_arg2)) d)
  pointwise

theorem blk0 (t : Fin cfg0.N) (r : Fin 512) (d : Fin 2048) :
    iblk m c 0 t (ix2 r d) = at2 (m ((c : Thread nD τ).loc main_arg0)) (512 * (t.val / 11) + r) d := by
  have := lt374 t
  refine Eq.trans ?_ (at2_ix2 (m ((c : Thread nD τ).loc main_arg0)) ⟨512 * (t.val / 11) + r, by omega⟩ d)
  blk_ext [iblk, V, idx t]

theorem blk1 (t : Fin cfg0.N) (d : Fin 2048) :
    iblk m c 1 t (ix2 0 d) = at1 (m ((c : Thread nD τ).loc main_arg2)) d := by
  have h : ∀ X : Buf (Elt Ideal) ((c : Thread nD τ).loc main_v8),
      (win0_1.blk t).view.read (Elt Ideal) X (ix2 0 d) = X (ix2 0 d) := fun X => by blk_ext [idx t]
  exact (h (V m c main_v8)).trans (entry_gain m c d)

theorem blk2 (t : Fin cfg0.N) (d : Fin 2048) :
    iblk m c 2 t (ix5 0 0 0 0 d) = atm (m ((c : Thread nD τ).loc main_arg1)) (modRow (512 * (t.val / 11))) 0 d := by
  have := lt374 t
  refine Eq.trans ?_ (atm_idx (m ((c : Thread nD τ).loc main_arg1))
    (ix5 0 ⟨modRow (512 * (t.val / 11)), modRow_lt _ (by omega)⟩ 0 0 d) _ _ _ rfl rfl rfl rfl rfl)
  blk_ext [iblk, V, idx t]

theorem blk3 (t : Fin cfg0.N) (d : Fin 2048) :
    iblk m c 3 t (ix5 0 0 0 0 d) = atm (m ((c : Thread nD τ).loc main_arg1)) (modRow (512 * (t.val / 11))) 1 d := by
  have := lt374 t
  refine Eq.trans ?_ (atm_idx (m ((c : Thread nD τ).loc main_arg1))
    (ix5 0 ⟨modRow (512 * (t.val / 11)), modRow_lt _ (by omega)⟩ 1 0 d) _ _ _ rfl rfl rfl rfl rfl)
  blk_ext [iblk, V, idx t]

theorem blk4 (t : Fin cfg0.N) (d : Fin 2048) :
    iblk m c 4 t (ix5 0 0 0 0 d) = atm (m ((c : Thread nD τ).loc main_arg1)) (modRow (512 * (t.val / 11))) 2 d := by
  have := lt374 t
  refine Eq.trans ?_ (atm_idx (m ((c : Thread nD τ).loc main_arg1))
    (ix5 0 ⟨modRow (512 * (t.val / 11)), modRow_lt _ (by omega)⟩ 2 0 d) _ _ _ rfl rfl rfl rfl rfl)
  blk_ext [iblk, V, idx t]

theorem blk5 (t : Fin cfg0.N) (d : Fin 2048) (y : Fin 512) :
    iblk m c 5 t (ix3 0 d y) = V m c main_v7 (ix3 0 d ⟨512 * (t.val % 11) + y, by omega⟩) := by
  have h : ∀ X : Buf (Elt Ideal) ((c : Thread nD τ).loc main_v7),
      (win0_5.blk t).view.read (Elt Ideal) X (ix3 0 d y) = X (ix3 0 d ⟨512 * (t.val % 11) + y, by omega⟩) :=
    fun X => by blk_ext [idx t]
  exact h (V m c main_v7)

theorem blk6 (t : Fin cfg0.N) (d : Fin 2048) (y : Fin 512) :
    iblk m c 6 t (ix3 0 d y) = V m c main_v7 (ix3 1 d ⟨512 * (t.val % 11) + y, by omega⟩) := by
  have h : ∀ X : Buf (Elt Ideal) ((c : Thread nD τ).loc main_v7),
      (win0_6.blk t).view.read (Elt Ideal) X (ix3 0 d y) = X (ix3 1 d ⟨512 * (t.val % 11) + y, by omega⟩) :=
    fun X => by blk_ext [idx t]
  exact h (V m c main_v7)

theorem blk7 (t : Fin cfg0.N) (y : Fin 512) (d : Fin 2048) :
    iblk m c 7 t (ix2 y d) = at2 (m ((c : Thread nD τ).loc main_arg4)) (512 * (t.val % 11) + y) d := by
  have h : ∀ X : Buf (Elt Ideal) ((c : Thread nD τ).loc main_v10),
      (win0_7.blk t).view.read (Elt Ideal) X (ix2 y d) = X (ix2 ⟨512 * (t.val % 11) + y, by omega⟩ d) :=
    fun X => by blk_ext [idx t]
  exact (h (V m c main_v10)).trans (entry_wo m c _ _)

end Cert.FfnIdeal.Half

end
-- ==== Proof.FfnPay.lean ====
/- The feed-forward kernel: its payloads at a row and a column of a block. -/
module

public import proofs.«01_k».proof.Proof.Gen.FfnIdeal.Skeleton
public import proofs.«01_k».proof.Proof.Norm

@[expose] public section

set_option maxRecDepth 16384

noncomputable section

namespace Cert.FfnIdeal.Half

open Cert.FfnIdeal Cert.FfnIdeal.Gen Cert.Layer Idealize.ShloMosaic Idealize.ShloMosaic.TcCoe

/-- What the first hidden block puts into the scratch: the normalised rows. -/
theorem pay1_apply (x : Vec Ideal S512x2048 .f32) (g : Vec Ideal S1x2048 .f32) (sh sc : Vec Ideal S1x1x1x1x2048 .f32)
    (r : Fin 512) (c : Fin 2048) :
    k0_pay1 (F := Ideal) x g sh sc (ix2 r c)
      = normed (fun d => x (ix2 r d)) (fun d => g (ix2 0 d)) (fun d => sh (ix5 0 0 0 0 d)) (fun d => sc (ix5 0 0 0 0 d)) c := by
  pointwise [k0_pay1, normed]

/-- The accumulator starts at zero. -/
theorem pay2_apply (r : Fin 512) (c : Fin 2048) : k0_pay2 (F := Ideal) (ix2 r c) = 0 := by
  pointwise [k0_pay2]

/-- One hidden block's step: the gated hidden columns times the block's rows of the down projection, added. -/
theorem pay3_apply (xn : Vec Ideal S512x2048 .bf16) (wg wu : Vec Ideal S1x2048x512 .bf16) (acc : Vec Ideal S512x2048 .f32)
    (wo : Vec Ideal S512x2048 .bf16) (r : Fin 512) (c : Fin 2048) :
    k0_pay3 (F := Ideal) xn wg wu acc wo (ix2 r c)
      = acc (ix2 r c) + ∑ y : Fin 512, silu (∑ d : Fin 2048, xn (ix2 r d) * wg (ix3 0 d y))
          * (∑ d : Fin 2048, xn (ix2 r d) * wu (ix3 0 d y)) * wo (ix2 y c) := by
  pointwise [k0_pay3, silu]

/-- The last hidden block's write: the row plus half the gate times the accumulated product. -/
theorem pay4_apply (x : Vec Ideal S512x2048 .f32) (gt : Vec Ideal S1x1x1x1x2048 .f32) (acc : Vec Ideal S512x2048 .f32)
    (r : Fin 512) (c : Fin 2048) :
    k0_pay4 (F := Ideal) x gt acc (ix2 r c)
      = x (ix2 r c) + Ideal.ofBits .f32 0x3F000000#32 * gt (ix5 0 0 0 0 c) * acc (ix2 r c) := by
  pointwise [k0_pay4]

end Cert.FfnIdeal.Half

end
-- ==== Proof.FfnCases.lean ====
/- The feed-forward kernel: what one grid point leaves in the output block and in the scratch, from what the point before
   left there. -/
module

public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

namespace Cert.FfnIdeal.Half

open Cert.FfnIdeal Cert.FfnIdeal.Gen Idealize.ShloMosaic Idealize.ShloMosaic.TcCoe

variable (m : (ℓ : Loc nD τ sig) → Buf (Elt Ideal) ℓ) (c : Dev nD)

/-- The first hidden block of a row block: the scratch takes the normalised rows, the output the first product. -/
theorem first (t : Fin cfg0.N) (h0 : t.val % 11 = 0) :
    outsAt0 m c t.val t.isLt
      = (k0_pay3 (k0_pay1 (iblk m c 0 t) (iblk m c 1 t) (iblk m c 2 t) (iblk m c 3 t)) (iblk m c 5 t) (iblk m c 6 t)
          (k0_pay2 (F := Ideal)) (iblk m c 7 t),
        k0_pay1 (iblk m c 0 t) (iblk m c 1 t) (iblk m c 2 t) (iblk m c 3 t)) := by
  rw [outsAt0_A m c t h0 (by omega)]
  refine Prod.ext ?_ ?_
  · frame_out
  · frame_out

/-- A hidden block between the first and the last adds its product; the scratch stays. -/
theorem next (t : Fin cfg0.N) (h0 : ¬t.val % 11 = 0) (h1 : ¬t.val % 11 = 10) :
    outsAt0 m c t.val t.isLt
      = (k0_pay3 (outsAt0 m c (t.val - 1) (Nat.lt_of_le_of_lt (Nat.sub_le _ _) t.isLt)).2 (iblk m c 5 t) (iblk m c 6 t)
          (outsAt0 m c (t.val - 1) (Nat.lt_of_le_of_lt (Nat.sub_le _ _) t.isLt)).1 (iblk m c 7 t),
        (outsAt0 m c (t.val - 1) (Nat.lt_of_le_of_lt (Nat.sub_le _ _) t.isLt)).2) := by
  rw [outsAt0_B m c t h0 h1]
  generalize outsAt0 m c (t.val - 1) (Nat.lt_of_le_of_lt (Nat.sub_le _ _) t.isLt) = p
  refine Prod.ext ?_ rfl
  frame_out
  exact congrArg (fun z => k0_pay3 z _ _ _ _) (read_unread_whole _ _ _)

/-- The last hidden block adds its product and then the row and the gate. -/
theorem last (t : Fin cfg0.N) (h0 : ¬t.val % 11 = 0) (h1 : t.val % 11 = 10) :
    (outsAt0 m c t.val t.isLt).1
      = k0_pay4 (iblk m c 0 t) (iblk m c 4 t)
          (k0_pay3 (outsAt0 m c (t.val - 1) (Nat.lt_of_le_of_lt (Nat.sub_le _ _) t.isLt)).2 (iblk m c 5 t) (iblk m c 6 t)
            (outsAt0 m c (t.val - 1) (Nat.lt_of_le_of_lt (Nat.sub_le _ _) t.isLt)).1 (iblk m c 7 t)) := by
  rw [outsAt0_C m c t h0 h1]
  generalize outsAt0 m c (t.val - 1) (Nat.lt_of_le_of_lt (Nat.sub_le _ _) t.isLt) = p
  frame_out
  exact congrArg (fun z => k0_pay4 _ _ (k0_pay3 z _ _ _ _)) (read_unread_whole _ _ _)

end Cert.FfnIdeal.Half

end
-- ==== Proof.FfnKernel.lean ====
/- The feed-forward kernel: what its result array holds. -/
module

public import proofs.«01_k».proof.Proof.FfnBlocks
public import proofs.«01_k».proof.Proof.FfnPay
public import proofs.«01_k».proof.Proof.FfnCases

@[expose] public section

set_option maxRecDepth 16384

noncomputable section

namespace Cert.FfnIdeal.Half

open Cert.FfnIdeal Cert.FfnIdeal.Gen Cert.Layer Idealize.ShloMosaic Idealize.ShloMosaic.TcCoe

variable (m : (ℓ : Loc nD τ sig) → Buf (Elt Ideal) ℓ) (c : Dev nD)

/-- The normalised row `R` of the launched arguments. -/
abbrev NORM (R : Nat) (d : Fin 2048) : EReal :=
  ffnNorm (m ((c : Thread nD τ).loc main_arg0)) (m ((c : Thread nD τ).loc main_arg1)) (m ((c : Thread nD τ).loc main_arg2)) R d

/-- Hidden unit `e`'s contribution to row `R` and column `C`. -/
abbrev UNIT (R e C : Nat) : EReal :=
  ffnUnit (m ((c : Thread nD τ).loc main_arg0)) (m ((c : Thread nD τ).loc main_arg1)) (m ((c : Thread nD τ).loc main_arg2))
    (m ((c : Thread nD τ).loc main_arg3)) (m ((c : Thread nD τ).loc main_arg4)) R e C

/-- The normalised rows of a row block. -/
theorem norm_block (t : Fin cfg0.N) (r : Fin 512) (d : Fin 2048) :
    k0_pay1 (F := Ideal) (iblk m c 0 t) (iblk m c 1 t) (iblk m c 2 t) (iblk m c 3 t) (ix2 r d)
      = NORM m c (512 * (t.val / 11) + r) d := by
  rw [pay1_apply]
  unfold NORM ffnNorm
  rw [modRow_block]
  simp only [blk0, blk1, blk2, blk3]

/-- One hidden block's step, over a scratch that holds the normalised rows. -/
theorem step (t : Fin cfg0.N) (xn : Vec Ideal S512x2048 .bf16) (acc : Vec Ideal S512x2048 .f32) (r : Fin 512) (C : Fin 2048)
    (hxn : ∀ d, xn (ix2 r d) = NORM m c (512 * (t.val / 11) + r) d) :
    k0_pay3 (F := Ideal) xn (iblk m c 5 t) (iblk m c 6 t) acc (iblk m c 7 t) (ix2 r C)
      = acc (ix2 r C) + ∑ y : Fin 512, UNIT m c (512 * (t.val / 11) + r) (512 * (t.val % 11) + y) C := by
  rw [pay3_apply]
  refine congrArg (acc (ix2 r C) + ·) (Finset.sum_congr rfl fun y _ => ?_)
  unfold UNIT
  by_cases hy : 512 * (t.val % 11) + y.val < 5504
  · unfold ffnUnit
    simp only [hxn, blk5, blk6, blk7]
    refine congrArg (· * _) (congrArg₂ (· * ·) (congrArg silu (Finset.sum_congr rfl fun d _ => congrArg₂ (· * ·) rfl ?_))
      (Finset.sum_congr rfl fun d _ => congrArg₂ (· * ·) rfl ?_))
    · exact (entry_wi m c 0 d ⟨512 * (t.val % 11) + y, by omega⟩).trans ((if_pos hy).trans (congrArg (at2 _ _) (by simp)))
    · exact (entry_wi m c 1 d ⟨512 * (t.val % 11) + y, by omega⟩).trans ((if_pos hy).trans (congrArg (at2 _ _) (by simp)))
  · rw [ffnUnit_pad _ _ _ _ _ _ _ _ (Nat.not_lt.mp hy), blk7,
      show at2 (m ((c : Thread nD τ).loc main_arg4)) (512 * (t.val % 11) + y) C = 0 from dif_neg fun k => hy k.1, mul_zero]

/-- Before the last hidden block the scratch holds the normalised rows and the output the hidden blocks summed so far. -/
theorem carried (b : Nat) : ∀ (j : Nat) (h : 11 * b + j < cfg0.N), j < 10 →
    (∀ (r : Fin 512) (d : Fin 2048), (outsAt0 m c (11 * b + j) h).2 (ix2 r d) = NORM m c (512 * b + r) d)
    ∧ ∀ (r : Fin 512) (C : Fin 2048), (outsAt0 m c (11 * b + j) h).1 (ix2 r C)
        = ∑ k ∈ Finset.range (j + 1), ∑ y : Fin 512, UNIT m c (512 * b + r) (512 * k + y) C
  | 0, h, _ => by
    have e := first m c ⟨11 * b + 0, h⟩ (by show (11 * b + 0) % 11 = 0; omega)
    have hd : (11 * b + 0) / 11 = b := by omega
    have hm : (11 * b + 0) % 11 = 0 := by omega
    have hn := fun r d => (norm_block m c ⟨11 * b + 0, h⟩ r d).trans (by rw [hd])
    refine ⟨fun r d => (congrFun (congrArg Prod.snd e) (ix2 r d)).trans (hn r d), fun r C => ?_⟩
    refine (congrFun (congrArg Prod.fst e) (ix2 r C)).trans ?_
    refine (step m c ⟨11 * b + 0, h⟩ _ _ r C (norm_block m c _ r)).trans ?_
    rw [pay2_apply, zero_add, Finset.sum_range_one]
    simp only [hd, hm]
  | j + 1, h, hj => by
    have ih := carried b j (by omega) (by omega)
    have e := next m c ⟨11 * b + (j + 1), h⟩ (by show ¬(11 * b + (j + 1)) % 11 = 0; omega)
      (by show ¬(11 * b + (j + 1)) % 11 = 10; omega)
    have hd : (11 * b + (j + 1)) / 11 = b := by omega
    have hm : (11 * b + (j + 1)) % 11 = j + 1 := by omega
    refine ⟨fun r d => (congrFun (congrArg Prod.snd e) (ix2 r d)).trans (ih.1 r d), fun r C => ?_⟩
    refine (congrFun (congrArg Prod.fst e) (ix2 r C)).trans ?_
    refine (step m c ⟨11 * b + (j + 1), h⟩ _ _ r C fun d => (ih.1 r d).trans (by simp only [hd])).trans ?_
    rw [Finset.sum_range_succ]
    simp only [hd, hm]
    exact congrArg (· + _) (ih.2 r C)

/-- After the last hidden block the output block is the layer's result. -/
theorem written (t : Fin cfg0.N) (ht : t.val % 11 = 10) (r : Fin 512) (C : Fin 2048) :
    (outsAt0 m c t.val t.isLt).1 (ix2 r C)
      = ffnOut (m ((c : Thread nD τ).loc main_arg0)) (m ((c : Thread nD τ).loc main_arg1)) (m ((c : Thread nD τ).loc main_arg2))
          (m ((c : Thread nD τ).loc main_arg3)) (m ((c : Thread nD τ).loc main_arg4)) (512 * (t.val / 11) + r) C := by
  have hN := lt374 t
  have hprev : ∀ n (hn : n < cfg0.N), n = 11 * (t.val / 11) + 9 →
      (∀ (r : Fin 512) (d : Fin 2048), (outsAt0 m c n hn).2 (ix2 r d) = NORM m c (512 * (t.val / 11) + r) d)
      ∧ ∀ (r : Fin 512) (C : Fin 2048), (outsAt0 m c n hn).1 (ix2 r C)
          = ∑ k ∈ Finset.range 10, ∑ y : Fin 512, UNIT m c (512 * (t.val / 11) + r) (512 * k + y) C := by
    rintro n hn rfl
    exact carried m c (t.val / 11) 9 hn (by omega)
  have ih := hprev (t.val - 1) (Nat.lt_of_le_of_lt (Nat.sub_le _ _) t.isLt) (by omega)
  rw [last m c t (by omega) ht, pay4_apply, step m c t _ _ r C (ih.1 r), ih.2 r C, blk0, blk4, ht]
  unfold ffnOut
  rw [modRow_block, ← ffn_blocks, Finset.sum_range_succ (n := 10)]

/-- The result array. -/
def RESULT : Buf (Elt Ideal) ((c : Thread nD τ).loc main_v11) := fun i =>
  ffnOut (m ((c : Thread nD τ).loc main_arg0)) (m ((c : Thread nD τ).loc main_arg1)) (m ((c : Thread nD τ).loc main_arg2))
    (m ((c : Thread nD τ).loc main_arg3)) (m ((c : Thread nD τ).loc main_arg4)) (i 0).val (i 1).val

/-- The kernel's result array ends as the layer's result. -/
theorem final : (dats m 0 c).arrAt 8 cfg0.N = RESULT m c := by
  refine (dats m 0 c).arrAt_eq_of_covers 8 _ (by decide +kernel) fun t hf y => ?_
  blk_simp [idx t]
  rw [after0_8]
  have ht : t.val % 11 = 10 := by
    revert hf
    exact (by decide +kernel : ∀ t : Fin grid0.N, (win0_8.flush t = true) → t.val % 11 = 10) t
  refine (congrArg _ (eq_ix2 y)).trans ((written m c t ht (y 0) (y 1)).trans ?_)
  unfold RESULT
  congr 1 <;> simp [idx t] <;> omega

/-- The run's result array, and its arguments as they were launched. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v11) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Gen.run_main (F := Ideal) m g)
  refine ⟨((h c).1 8).trans (final m c), ?_, ?_, ?_, ?_, ?_⟩
  · exact ((h c).1 0).trans (((dats m 0 c).arrAt_in 0 rfl _).trans ((A_eq m c 0).trans (V_main_arg0 m c)))
  · exact ((h c).1 4).trans (((dats m 0 c).arrAt_in 4 rfl _).trans ((A_eq m c 4).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

end Cert.FfnIdeal.Half

end
-- ==== Proof.FfnRefLatent.lean ====
/- The feed-forward layer's reference: the latent rows at an element. -/
module

public import proofs.«01_k».proof.Proof.Gen.RefFfnIdeal.Read
public import proofs.«01_k».proof.Proof.FfnSpec
public import Idealize.ShloMosaic.Lib.Pointwise
public import Idealize.ShloMosaic.Lib.Pipeline.ValueKit

@[expose] public section

set_option maxRecDepth 16384

noncomputable section

namespace Cert.RefFfnIdeal.Half

open Cert.RefFfnIdeal Cert.RefFfnIdeal.Gen Cert.RefFfnIdeal.Read Cert.Layer Idealize.ShloMosaic

variable (x0 : (⟨S17408x2048, .f32⟩ : BufTy).Contents (Elt Ideal)) (x1 : (⟨S4x8x9x1x2048, .f32⟩ : BufTy).Contents (Elt Ideal))
  (x2 : (⟨S2048, .f32⟩ : BufTy).Contents (Elt Ideal)) (x3 : (⟨S2048x11008, .f32⟩ : BufTy).Contents (Elt Ideal))
  (x4 : (⟨S5504x2048, .f32⟩ : BufTy).Contents (Elt Ideal))

/-- The latent row of index (b, r). -/
def latRow (b r : Nat) : Nat := 4096 * b + r

theorem lat_x (i : S4x4096x2048.Idx) : val_main_v1 (F := Ideal) x0 i = at2 x0 (latRow (i 0) (i 1)) (i 2) := by
  have h0 : (i 0).val < 4 := (i 0).isLt
  have h1 : (i 1).val < 4096 := (i 1).isLt
  have h2 : (i 2).val < 2048 := (i 2).isLt
  rw [val_main_v1_apply, val_main_v0_apply]
  refine at2_idx x0 _ _ _ ?_ ?_
  · unfold latRow; simp; omega
  · simp; omega

/-- The modulation row of kind `j`. -/
theorem lat_mod (i : S4x1x9x2048.Idx) (b j c : Nat) (h0 : (i 0).val = b) (h2 : (i 2).val = j) (h3 : (i 3).val = c) : val_main_v6 (F := Ideal) x1 i = atm x1 b j c := by
  have k0 : (i 0).val < 4 := (i 0).isLt
  have k1 : (i 1).val < 1 := (i 1).isLt
  have k2 : (i 2).val < 9 := (i 2).isLt
  have k3 : (i 3).val < 2048 := (i 3).isLt
  subst h0 h2 h3
  rw [val_main_v6_apply, val_main_v5_apply, val_main_v4_apply]
  refine atm_idx x1 _ _ _ _ ?_ ?_ ?_ ?_ ?_
  all_goals simp
  all_goals omega

theorem lat_gate (i : S4x1x2048.Idx) : val_main_v13 (F := Ideal) x1 i = Ideal.ofBits .f32 0x3F000000#32 * atm x1 (i 0) 2 (i 2) := by
  have h0 : (i 0).val < 4 := (i 0).isLt
  have h1 : (i 1).val < 1 := (i 1).isLt
  have h2 : (i 2).val < 2048 := (i 2).isLt
  rw [val_main_v13_apply, val_main_v12_apply, val_main_cst_apply, val_main_v11_apply, val_main_v10_apply]
  refine congrArg (Ideal.ofBits .f32 0x3F000000#32 * ·) (lat_mod x1 _ _ _ _ ?_ ?_ ?_)
  all_goals simp
  all_goals omega

theorem lat_shift (i : S4x1x2048.Idx) : val_main_v28 (F := Ideal) x1 i = atm x1 (i 0) 0 (i 2) := by
  have h0 : (i 0).val < 4 := (i 0).isLt
  have h1 : (i 1).val < 1 := (i 1).isLt
  have h2 : (i 2).val < 2048 := (i 2).isLt
  rw [val_main_v28_apply, val_main_v27_apply]
  refine lat_mod x1 _ _ _ _ ?_ ?_ ?_
  all_goals simp
  all_goals omega

theorem lat_scale (i : S4x1x2048.Idx) : val_main_v30 (F := Ideal) x1 i = atm x1 (i 0) 1 (i 2) := by
  have h0 : (i 0).val < 4 := (i 0).isLt
  have h1 : (i 1).val < 1 := (i 1).isLt
  have h2 : (i 2).val < 2048 := (i 2).isLt
  rw [val_main_v30_apply, val_main_v29_apply]
  refine lat_mod x1 _ _ _ _ ?_ ?_ ?_
  all_goals simp
  all_goals omega

/-- The root of the mean square. -/
theorem lat_root (i : S4x4096x1.Idx) : val_main_v21 (F := Ideal) x0 i = Ideal.rsqrt (Ideal.div
    (∑ d : Fin 2048, at2 x0 (latRow (i 0) (i 1)) d * at2 x0 (latRow (i 0) (i 1)) d) (Ideal.ofBits .f32 0x45000000#32)
      + Ideal.ofBits .f32 0x358637BD#32) := by
  rw [val_main_v21_apply, val_main_v20_apply, val_main_v18_apply]
  refine congrArg Ideal.rsqrt (congrArg₂ (· + ·) (congrArg₂ Ideal.div ?_ ?_) ?_)
  · refine ((val_main_v16_apply x0 i).trans (val_main_v15_apply x0 _)).trans ?_
    refine (congrArg₂ (· + ·) Ideal.ofBits_zero_f32 (Finset.sum_congr rfl fun d _ => ?_)).trans (zero_add _)
    exact congrArg₂ (· * ·) (lat_x x0 _) (lat_x x0 _)
  · rw [val_main_v17_apply]; rfl
  · rw [val_main_v19_apply]; rfl

/-- The normalised row. -/
theorem lat_normed (i : S4x4096x2048.Idx) : val_main_v36 (F := Ideal) x0 x1 x2 i = ffnNorm x0 x1 x2 (latRow (i 0) (i 1)) (i 2) := by
  have hm : modRow (latRow (i 0) (i 1)) = (i 0) := by
    have h0 : (i 0).val < 4 := (i 0).isLt
    have h1 : (i 1).val < 4096 := (i 1).isLt
    unfold modRow latRow
    split <;> omega
  unfold ffnNorm normed
  rw [hm, val_main_v36_apply, val_main_v34_apply, val_main_v26_apply, val_main_v23_apply]
  refine congrArg₂ (· + ·) (congrArg₂ (· * ·) (congrArg₂ (· * ·) (congrArg₂ (· * ·) (lat_x x0 i) ?_) ?_) ?_) ?_
  · rw [val_main_v22_apply]; exact lat_root x0 _
  · rw [val_main_v25_apply, val_main_v24_apply]; exact at1_idx x2 _ _ rfl
  · rw [val_main_v33_apply, val_main_v32_apply]; exact congrArg₂ (· + ·) (val_main_v31_apply _) (lat_scale x1 _)
  · rw [val_main_v35_apply]; exact lat_shift x1 _

/-- The hidden layer before the activation. -/
theorem lat_hidden (i : S4x4096x11008.Idx) : val_main_v37 (F := Ideal) x0 x1 x2 x3 i
    = ∑ d : Fin 2048, ffnNorm x0 x1 x2 (latRow (i 0) (i 1)) d * at2 x3 d (i 2) := by
  rw [val_main_v37_apply]
  refine Finset.sum_congr rfl fun d _ => congrArg₂ (· * ·) (lat_normed x0 x1 x2 _) (at2_idx x3 _ _ _ rfl rfl)

/-- A hidden unit. -/
theorem lat_unit (i : S4x4096x5504.Idx) : val_main_v41 (F := Ideal) x0 x1 x2 x3 i
    = silu (∑ d : Fin 2048, ffnNorm x0 x1 x2 (latRow (i 0) (i 1)) d * at2 x3 d (i 2))
      * ∑ d : Fin 2048, ffnNorm x0 x1 x2 (latRow (i 0) (i 1)) d * at2 x3 d (5504 + i 2) := by
  have hg : val_main_v38 (F := Ideal) x0 x1 x2 x3 i = ∑ d : Fin 2048, ffnNorm x0 x1 x2 (latRow (i 0) (i 1)) d * at2 x3 d (i 2) := by
    rw [val_main_v38_apply]; exact lat_hidden x0 x1 x2 x3 _
  have hu : val_main_v39 (F := Ideal) x0 x1 x2 x3 i = ∑ d : Fin 2048, ffnNorm x0 x1 x2 (latRow (i 0) (i 1)) d * at2 x3 d (5504 + i 2) := by
    rw [val_main_v39_apply]; exact lat_hidden x0 x1 x2 x3 _
  rw [val_main_v41_apply, val_main_v40_apply]
  unfold silu Ideal.logistic
  refine congrArg₂ (· * ·) (congrArg₂ (· * ·) hg ?_) hu
  rw [val_main_call0_v5_apply]
  refine congrArg₂ Ideal.div ?_ (congrArg₂ (· + ·) ?_ (congrArg (fun z => Ideal.exp (-z)) hg))
  · rw [val_main_call0_v4_apply]; exact Ideal.ofBits_one_f32
  · rw [val_main_call0_v2_apply]; exact Ideal.ofBits_one_f32

/-- The layer's result on a latent row. -/
theorem lat_result (i : S4x4096x2048.Idx) : val_main_v45 (F := Ideal) x0 x1 x2 x3 x4 i = ffnOut x0 x1 x2 x3 x4 (latRow (i 0) (i 1)) (i 2) := by
  have hm : modRow (latRow (i 0) (i 1)) = (i 0) := by
    have h0 : (i 0).val < 4 := (i 0).isLt
    have h1 : (i 1).val < 4096 := (i 1).isLt
    unfold modRow latRow
    split <;> omega
  unfold ffnOut
  rw [hm, val_main_v45_apply, val_main_v44_apply]
  refine congrArg₂ (· + ·) (lat_x x0 i) (congrArg₂ (· * ·) ?_ ?_)
  · rw [val_main_v43_apply]; exact lat_gate x1 _
  · rw [val_main_v42_apply]
    refine Finset.sum_congr rfl fun e _ => ?_
    unfold ffnUnit
    exact congrArg₂ (· * ·) (lat_unit x0 x1 x2 x3 _) (at2_idx x4 _ _ _ rfl rfl)

end Cert.RefFfnIdeal.Half

end
-- ==== Proof.FfnRefContext.lean ====
/- The feed-forward layer's reference: the context rows at an element. -/
module

public import proofs.«01_k».proof.Proof.Gen.RefFfnIdeal.Read
public import proofs.«01_k».proof.Proof.FfnSpec
public import Idealize.ShloMosaic.Lib.Pointwise
public import Idealize.ShloMosaic.Lib.Pipeline.ValueKit

@[expose] public section

set_option maxRecDepth 16384

noncomputable section

namespace Cert.RefFfnIdeal.Half

open Cert.RefFfnIdeal Cert.RefFfnIdeal.Gen Cert.RefFfnIdeal.Read Cert.Layer Idealize.ShloMosaic

variable (x0 : (⟨S17408x2048, .f32⟩ : BufTy).Contents (Elt Ideal)) (x1 : (⟨S4x8x9x1x2048, .f32⟩ : BufTy).Contents (Elt Ideal))
  (x2 : (⟨S2048, .f32⟩ : BufTy).Contents (Elt Ideal)) (x3 : (⟨S2048x11008, .f32⟩ : BufTy).Contents (Elt Ideal))
  (x4 : (⟨S5504x2048, .f32⟩ : BufTy).Contents (Elt Ideal))

/-- The context row of index (b, r). -/
def ctxRow (b r : Nat) : Nat := 16384 + 256 * b + r

theorem ctx_x (i : S4x256x2048.Idx) : val_main_v3 (F := Ideal) x0 i = at2 x0 (ctxRow (i 0) (i 1)) (i 2) := by
  have h0 : (i 0).val < 4 := (i 0).isLt
  have h1 : (i 1).val < 256 := (i 1).isLt
  have h2 : (i 2).val < 2048 := (i 2).isLt
  rw [val_main_v3_apply, val_main_v2_apply]
  refine at2_idx x0 _ _ _ ?_ ?_
  · unfold ctxRow; simp; omega
  · simp; omega

/-- The modulation row of kind `j`. -/
theorem ctx_mod (i : S1x1x9x2048.Idx) (b j c : Nat) (h0 : 4 = b) (h2 : (i 2).val = j) (h3 : (i 3).val = c) : val_main_v9 (F := Ideal) x1 i = atm x1 b j c := by
  have k0 : (i 0).val < 1 := (i 0).isLt
  have k1 : (i 1).val < 1 := (i 1).isLt
  have k2 : (i 2).val < 9 := (i 2).isLt
  have k3 : (i 3).val < 2048 := (i 3).isLt
  subst h0 h2 h3
  rw [val_main_v9_apply, val_main_v8_apply, val_main_v7_apply]
  refine atm_idx x1 _ _ _ _ ?_ ?_ ?_ ?_ ?_
  all_goals simp
  all_goals omega

theorem ctx_gate (i : S1x1x2048.Idx) : val_main_v49 (F := Ideal) x1 i = Ideal.ofBits .f32 0x3F000000#32 * atm x1 4 2 (i 2) := by
  have h0 : (i 0).val < 1 := (i 0).isLt
  have h1 : (i 1).val < 1 := (i 1).isLt
  have h2 : (i 2).val < 2048 := (i 2).isLt
  rw [val_main_v49_apply, val_main_v48_apply, val_main_cst_4_apply, val_main_v47_apply, val_main_v46_apply]
  refine congrArg (Ideal.ofBits .f32 0x3F000000#32 * ·) (ctx_mod x1 _ _ _ _ ?_ ?_ ?_)
  all_goals simp
  all_goals omega

theorem ctx_shift (i : S1x1x2048.Idx) : val_main_v64 (F := Ideal) x1 i = atm x1 4 0 (i 2) := by
  have h0 : (i 0).val < 1 := (i 0).isLt
  have h1 : (i 1).val < 1 := (i 1).isLt
  have h2 : (i 2).val < 2048 := (i 2).isLt
  rw [val_main_v64_apply, val_main_v63_apply]
  refine ctx_mod x1 _ _ _ _ ?_ ?_ ?_
  all_goals simp
  all_goals omega

theorem ctx_scale (i : S1x1x2048.Idx) : val_main_v66 (F := Ideal) x1 i = atm x1 4 1 (i 2) := by
  have h0 : (i 0).val < 1 := (i 0).isLt
  have h1 : (i 1).val < 1 := (i 1).isLt
  have h2 : (i 2).val < 2048 := (i 2).isLt
  rw [val_main_v66_apply, val_main_v65_apply]
  refine ctx_mod x1 _ _ _ _ ?_ ?_ ?_
  all_goals simp
  all_goals omega

/-- The root of the mean square. -/
theorem ctx_root (i : S4x256x1.Idx) : val_main_v57 (F := Ideal) x0 i = Ideal.rsqrt (Ideal.div
    (∑ d : Fin 2048, at2 x0 (ctxRow (i 0) (i 1)) d * at2 x0 (ctxRow (i 0) (i 1)) d) (Ideal.ofBits .f32 0x45000000#32)
      + Ideal.ofBits .f32 0x358637BD#32) := by
  rw [val_main_v57_apply, val_main_v56_apply, val_main_v54_apply]
  refine congrArg Ideal.rsqrt (congrArg₂ (· + ·) (congrArg₂ Ideal.div ?_ ?_) ?_)
  · refine ((val_main_v52_apply x0 i).trans (val_main_v51_apply x0 _)).trans ?_
    refine (congrArg₂ (· + ·) Ideal.ofBits_zero_f32 (Finset.sum_congr rfl fun d _ => ?_)).trans (zero_add _)
    exact congrArg₂ (· * ·) (ctx_x x0 _) (ctx_x x0 _)
  · rw [val_main_v53_apply]; rfl
  · rw [val_main_v55_apply]; rfl

/-- The normalised row. -/
theorem ctx_normed (i : S4x256x2048.Idx) : val_main_v72 (F := Ideal) x0 x1 x2 i = ffnNorm x0 x1 x2 (ctxRow (i 0) (i 1)) (i 2) := by
  have hm : modRow (ctxRow (i 0) (i 1)) = 4 := by
    have h0 : (i 0).val < 4 := (i 0).isLt
    have h1 : (i 1).val < 256 := (i 1).isLt
    unfold modRow ctxRow
    split <;> omega
  unfold ffnNorm normed
  rw [hm, val_main_v72_apply, val_main_v70_apply, val_main_v62_apply, val_main_v59_apply]
  refine congrArg₂ (· + ·) (congrArg₂ (· * ·) (congrArg₂ (· * ·) (congrArg₂ (· * ·) (ctx_x x0 i) ?_) ?_) ?_) ?_
  · rw [val_main_v58_apply]; exact ctx_root x0 _
  · rw [val_main_v61_apply, val_main_v60_apply]; exact at1_idx x2 _ _ rfl
  · rw [val_main_v69_apply, val_main_v68_apply]; exact congrArg₂ (· + ·) (val_main_v67_apply _) (ctx_scale x1 _)
  · rw [val_main_v71_apply]; exact ctx_shift x1 _

/-- The hidden layer before the activation. -/
theorem ctx_hidden (i : S4x256x11008.Idx) : val_main_v73 (F := Ideal) x0 x1 x2 x3 i
    = ∑ d : Fin 2048, ffnNorm x0 x1 x2 (ctxRow (i 0) (i 1)) d * at2 x3 d (i 2) := by
  rw [val_main_v73_apply]
  refine Finset.sum_congr rfl fun d _ => congrArg₂ (· * ·) (ctx_normed x0 x1 x2 _) (at2_idx x3 _ _ _ rfl rfl)

/-- A hidden unit. -/
theorem ctx_unit (i : S4x256x5504.Idx) : val_main_v77 (F := Ideal) x0 x1 x2 x3 i
    = silu (∑ d : Fin 2048, ffnNorm x0 x1 x2 (ctxRow (i 0) (i 1)) d * at2 x3 d (i 2))
      * ∑ d : Fin 2048, ffnNorm x0 x1 x2 (ctxRow (i 0) (i 1)) d * at2 x3 d (5504 + i 2) := by
  have hg : val_main_v74 (F := Ideal) x0 x1 x2 x3 i = ∑ d : Fin 2048, ffnNorm x0 x1 x2 (ctxRow (i 0) (i 1)) d * at2 x3 d (i 2) := by
    rw [val_main_v74_apply]; exact ctx_hidden x0 x1 x2 x3 _
  have hu : val_main_v75 (F := Ideal) x0 x1 x2 x3 i = ∑ d : Fin 2048, ffnNorm x0 x1 x2 (ctxRow (i 0) (i 1)) d * at2 x3 d (5504 + i 2) := by
    rw [val_main_v75_apply]; exact ctx_hidden x0 x1 x2 x3 _
  rw [val_main_v77_apply, val_main_v76_apply]
  unfold silu Ideal.logistic
  refine congrArg₂ (· * ·) (congrArg₂ (· * ·) hg ?_) hu
  rw [val_main_call1_v5_apply]
  refine congrArg₂ Ideal.div ?_ (congrArg₂ (· + ·) ?_ (congrArg (fun z => Ideal.exp (-z)) hg))
  · rw [val_main_call1_v4_apply]; exact Ideal.ofBits_one_f32
  · rw [val_main_call1_v2_apply]; exact Ideal.ofBits_one_f32

/-- The layer's result on a context row. -/
theorem ctx_result (i : S4x256x2048.Idx) : val_main_v81 (F := Ideal) x0 x1 x2 x3 x4 i = ffnOut x0 x1 x2 x3 x4 (ctxRow (i 0) (i 1)) (i 2) := by
  have hm : modRow (ctxRow (i 0) (i 1)) = 4 := by
    have h0 : (i 0).val < 4 := (i 0).isLt
    have h1 : (i 1).val < 256 := (i 1).isLt
    unfold modRow ctxRow
    split <;> omega
  unfold ffnOut
  rw [hm, val_main_v81_apply, val_main_v80_apply]
  refine congrArg₂ (· + ·) (ctx_x x0 i) (congrArg₂ (· * ·) ?_ ?_)
  · rw [val_main_v79_apply]; exact ctx_gate x1 _
  · rw [val_main_v78_apply]
    refine Finset.sum_congr rfl fun e _ => ?_
    unfold ffnUnit
    exact congrArg₂ (· * ·) (ctx_unit x0 x1 x2 x3 _) (at2_idx x4 _ _ _ rfl rfl)

end Cert.RefFfnIdeal.Half

end
-- ==== Proof.FfnRef.lean ====
/- The feed-forward layer's reference: its result. -/
module

public import proofs.«01_k».proof.Proof.FfnRefLatent
public import proofs.«01_k».proof.Proof.FfnRefContext

@[expose] public section

set_option maxRecDepth 16384

noncomputable section

namespace Cert.RefFfnIdeal.Half

open Cert.RefFfnIdeal Cert.RefFfnIdeal.Gen Cert.RefFfnIdeal.Read Cert.Layer Idealize.ShloMosaic

variable (x0 : (⟨S17408x2048, .f32⟩ : BufTy).Contents (Elt Ideal)) (x1 : (⟨S4x8x9x1x2048, .f32⟩ : BufTy).Contents (Elt Ideal))
  (x2 : (⟨S2048, .f32⟩ : BufTy).Contents (Elt Ideal)) (x3 : (⟨S2048x11008, .f32⟩ : BufTy).Contents (Elt Ideal))
  (x4 : (⟨S5504x2048, .f32⟩ : BufTy).Contents (Elt Ideal))

/-- Two matrices one above the other. -/
theorem above (a : S16384x2048.Idx → EReal) (b : S1024x2048.Idx → EReal)
    (h : Shape.Concatenates [S16384x2048, S1024x2048] S17408x2048 0) (R : Fin 17408) (C : Fin 2048) :
    concatenate S17408x2048 0 [⟨S16384x2048, a⟩, ⟨S1024x2048, b⟩] h (ix2 R C)
      = if k : R.val < 16384 then a (ix2 ⟨R, k⟩ C) else b (ix2 ⟨R - 16384, by omega⟩ C) := by
  pointwise

theorem result (i : S17408x2048.Idx) : val_main_v84 (F := Ideal) x0 x1 x2 x3 x4 i = ffnOut x0 x1 x2 x3 x4 (i 0) (i 1) := by
  have hl := fun j => lat_result x0 x1 x2 x3 x4 j
  have hc := fun j => ctx_result x0 x1 x2 x3 x4 j
  refine (congrArg _ (eq_ix2 i)).trans ?_
  unfold val_main_v84
  refine (above _ _ _ (i 0) (i 1)).trans ?_
  have h1 : (i 1).val < 2048 := (i 1).isLt
  have h0 : (i 0).val < 17408 := (i 0).isLt
  split
  · next hR =>
    rw [val_main_v82_apply, hl]
    unfold latRow
    congr 1 <;> simp <;> omega
  · next hR =>
    rw [val_main_v83_apply, hc]
    unfold ctxRow
    congr 1 <;> simp <;> omega

end Cert.RefFfnIdeal.Half

end
-- ==== Proof.Ffn.lean ====
/- The feed-forward layer: the kernel computes the reference. -/
module

public import proofs.«01_k».proof.Proof.FfnKernel
public import proofs.«01_k».proof.Proof.FfnRef
public import proofs.«01_k».proof.Proof.Gen.RefFfnIdeal.Run
public import proofs.«01_k».proof.Defs

@[expose] public section

set_option maxRecDepth 16384

noncomputable section

namespace Cert.FfnClaim

open Cert.Layer Idealize.ShloMosaic Idealize.ShloMosaic.TcCoe Idealize.SL.Sem

theorem algebraic : Cert.algebraic_FfnIdeal_RefFfnIdeal := by
  intro m g m' g' hpre hagree
  have hker := Cert.FfnIdeal.Half.run m g
  have href := Cert.RefFfnIdeal.Value.run (F := Ideal) m' g'
  refine ⟨fun c => Cert.FfnIdeal.Half.RESULT m c, hker, ?_⟩
  refine (θ_run Cert.RefFfnIdeal.defs _ _).mono (fun _ h c => ⟨(h c).1.trans ?_, (h c).2⟩) href
  rw [Cert.RefFfnIdeal.Read.val_main_v84_eq, (hagree c).1, (hagree c).2.1, (hagree c).2.2.1, (hagree c).2.2.2.1,
    (hagree c).2.2.2.2]
  exact funext fun i => Cert.RefFfnIdeal.Half.result _ _ _ _ _ i

end Cert.FfnClaim

end
-- ==== Proof.MergeSpec.lean ====
/- The gated merge of the branches, one row at a time. -/
module

public import proofs.«01_k».proof.Proof.Norm
public import proofs.«01_k».proof.Proof.Sums

@[expose] public section

noncomputable section

namespace Cert.Layer

open Idealize.ShloMosaic

/-- A row's position in its sequence: 4096 latent rows, or 256 context rows, of a batch. -/
def seqPos (R : Nat) : Nat := if R < 16384 then R % 4096 else R % 256

/-- The length of a row's sequence. -/
def seqLen (R : Nat) : Nat := if R < 16384 then 4096 else 256

section
variable (x0 : (⟨2, ![17408, 2048]⟩ : Shape).Idx → EReal) (x1 : (⟨5, ![4, 8, 9, 1, 2048]⟩ : Shape).Idx → EReal)
  (x2 : (⟨1, ![2048]⟩ : Shape).Idx → EReal) (x3 x4 x5 x6 x7 : (⟨2, ![17408, 512]⟩ : Shape).Idx → EReal)
  (x8 : (⟨2, ![3, 512]⟩ : Shape).Idx → EReal) (x9 : (⟨1, ![512]⟩ : Shape).Idx → EReal)
  (x10 : (⟨3, ![4, 512, 2048]⟩ : Shape).Idx → EReal) (x11 : (⟨3, ![4, 2048, 2048]⟩ : Shape).Idx → EReal)
  (x12 : (⟨2, ![4, 2048]⟩ : Shape).Idx → EReal) (x13 : (⟨2, ![2048, 2048]⟩ : Shape).Idx → EReal)

/-- The normalised row `R`. -/
def mixNorm (R : Nat) (d : Fin 2048) : EReal :=
  normed (fun d => at2 x0 R d) (fun d => at1 x2 d) (fun d => atm x1 (modRow R) 3 d) (fun d => atm x1 (modRow R) 4 d) d

/-- The short convolution: the row before, the row and the row after in the same sequence, zero beyond its ends. -/
def conv (R C : Nat) : EReal :=
  at2 x5 R C * ((if seqPos R = 0 then 0 else at2 x6 (R - 1) C) * at2 x8 0 C + at2 x6 R C * at2 x8 1 C
    + (if seqPos R = seqLen R - 1 then 0 else at2 x6 (R + 1) C) * at2 x8 2 C + at1 x9 C)

/-- The gate of branch `k`. -/
def gate (k R e : Nat) : EReal :=
  Ideal.logistic ((∑ d : Fin 2048, mixNorm x0 x1 x2 R d * at3 x11 k d e) + at2 x12 k e)

/-- The gated sum of the four branches. -/
def merged (R e : Nat) : EReal :=
  gate x0 x1 x2 x11 x12 0 R e * (∑ y : Fin 512, at2 x3 R y * at3 x10 0 y e)
    + gate x0 x1 x2 x11 x12 1 R e * (∑ y : Fin 512, at2 x4 R y * at3 x10 1 y e)
    + gate x0 x1 x2 x11 x12 2 R e * (∑ y : Fin 512, conv x5 x6 x8 x9 R y * at3 x10 2 y e)
    + gate x0 x1 x2 x11 x12 3 R e * (∑ y : Fin 512, at2 x7 R y * at3 x10 3 y e)

/-- The layer's result: the row plus the gate times the projected merge. -/
def mergeOut (R C : Nat) : EReal :=
  at2 x0 R C + atm x1 (modRow R) 5 C
    * ∑ e : Fin 2048, merged x0 x1 x2 x3 x4 x5 x6 x7 x8 x9 x10 x11 x12 R e * at2 x13 e C

end

end Cert.Layer

end
-- ==== Proof.MergeBlocks.lean ====
/- The merge kernel: its blocks, read off the launched arguments. -/
module

public import proofs.«01_k».proof.Proof.MergeSpec
public import proofs.«01_k».proof.Proof.Gen.MergeIdeal.Frame
public import Idealize.ShloMosaic.Lib.Pipeline.ValueKit

@[expose] public section

set_option maxRecDepth 16384

noncomputable section

namespace Cert.MergeIdeal.Mix

open Cert.MergeIdeal Cert.MergeIdeal.Gen Cert.Layer Idealize.ShloMosaic Idealize.ShloMosaic.TcCoe

/-- One row of a matrix, read through a rectangle. -/
theorem ld_row {R C : Nat} (X : (⟨2, ![R, C]⟩ : Shape).Idx → EReal) (k : Nat) (hk : k < R)
    (inb : ∀ a, (![k, 0] : Fin 2 → Nat) a + (![1, C] : Fin 2 → Nat) a ≤ (⟨2, ![R, C]⟩ : Shape).size a) (y : Fin C) :
    View.ld (Val := Elt Ideal) (S := ⟨2, ![R, C]⟩) (e' := .f32) X (Rect.unit ![k, 0] ![1, C] inb) (ix2 0 y) = X (ix2 ⟨k, hk⟩ y) := by
  refine congrArg X (funext fun a => Fin.ext ?_)
  match a with
  | ⟨0, _⟩ => show k + 1 * 0 = k; omega
  | ⟨1, _⟩ => show 0 + 1 * y.val = y.val; omega

/-- One matrix of a stack, read through a rectangle. -/
theorem ld_mat {e : EltTy} {S R C : Nat} (X : (⟨3, ![S, R, C]⟩ : Shape).Idx → Elt Ideal e) (k : Nat) (hk : k < S)
    (inb : ∀ a, (![k, 0, 0] : Fin 3 → Nat) a + (![1, R, C] : Fin 3 → Nat) a ≤ (⟨3, ![S, R, C]⟩ : Shape).size a)
    (x : Fin R) (y : Fin C) :
    View.ld (Val := Elt Ideal) (S := ⟨3, ![S, R, C]⟩) (e' := e) X (Rect.unit ![k, 0, 0] ![1, R, C] inb) (ix3 0 x y)
      = X (ix3 ⟨k, hk⟩ x y) := by
  refine congrArg X (funext fun a => Fin.ext ?_)
  match a with
  | ⟨0, _⟩ => show k + 1 * 0 = k; omega
  | ⟨1, _⟩ => show 0 + 1 * x.val = x.val; omega
  | ⟨2, _⟩ => show 0 + 1 * y.val = y.val; omega

variable (m : (ℓ : Loc nD τ sig) → Buf (Elt Ideal) ℓ) (c : Dev nD)

/-- The grid has 136 points. -/
theorem lt136 (t : Fin cfg0.N) : t.val < 136 := lt_of_lt_of_eq t.isLt (by decide)

/-- The block indices at a grid point: row block `t / 4`, column block `t % 4`. -/
theorem idx : ∀ t : Fin cfg0.N,
    win0_0.index t = ![t.val / 4, 0] ∧ win0_1.index t = ![0, 0]
    ∧ win0_2.index t = ![0, modRow (512 * (t.val / 4)), 3, 0, 0] ∧ win0_3.index t = ![0, modRow (512 * (t.val / 4)), 4, 0, 0]
    ∧ win0_4.index t = ![0, modRow (512 * (t.val / 4)), 5, 0, 0]
    ∧ win0_5.index t = ![t.val / 4, 0] ∧ win0_6.index t = ![t.val / 4, 0] ∧ win0_7.index t = ![t.val / 4, 0]
    ∧ win0_8.index t = ![t.val / 4, 0] ∧ win0_9.index t = ![64 * (t.val / 4) - 1, 0]
    ∧ win0_10.index t = ![min (64 * (t.val / 4 + 1)) 2175, 0] ∧ win0_11.index t = ![t.val / 4, 0]
    ∧ win0_12.index t = ![0, 0] ∧ win0_13.index t = ![0, 0] ∧ win0_14.index t = ![0, 0, t.val % 4]
    ∧ win0_15.index t = ![0, 0, t.val % 4] ∧ win0_16.index t = ![0, 0, t.val % 4] ∧ win0_17.index t = ![t.val % 4, 0]
    ∧ win0_18.index t = ![t.val / 4, 0] :=
  (by decide +kernel : ∀ t : Fin grid0.N, _)

/-- The first grid coordinate is the row block. -/
theorem coord : ∀ t : Fin cfg0.N, (grid0.coords t 0).val = t.val / 4 :=
  (by decide +kernel : ∀ t : Fin grid0.N, (grid0.coords t 0).val = t.val / 4)

/-- A row block lies in one batch. -/
theorem modRow_block (b : Nat) (r : Fin 512) : modRow (512 * b + r) = modRow (512 * b) := by
  unfold modRow
  have h := r.isLt
  split <;> split <;> omega

theorem modRow_lt (R : Nat) (h : R < 17408) : modRow R < 8 := by
  unfold modRow
  split <;> omega

/-- The gain as the kernel's call finds it: a row. -/
theorem entry_gain (d : Fin 2048) : V m c main_v5 (ix2 0 d) = at1 (m ((c : Thread nD τ).loc main_arg2)) d := by
  unfold V
  simp only [hostOps0]
  entry_read
  refine Eq.trans ?_ (at1_ix1 (m ((c : Thread nD τ).loc main_arg2)) d)
  pointwise

/-- The filter's bias as the kernel's call finds it: a row. -/
theorem entry_bias (d : Fin 512) : V m c main_v0 (ix2 0 d) = at1 (m ((c : Thread nD τ).loc main_arg9)) d := by
  unfold V
  simp only [hostOps0]
  entry_read
  refine Eq.trans ?_ (at1_ix1 (m ((c : Thread nD τ).loc main_arg9)) d)
  pointwise

/-- The gates' biases as the kernel's call finds them. -/
theorem entry_gate (k : Fin 4) (d : Fin 2048) :
    V m c main_v2 (ix3 k 0 d) = at2 (m ((c : Thread nD τ).loc main_arg12)) k d := by
  unfold V
  simp only [hostOps0]
  entry_read
  refine Eq.trans ?_ (at2_ix2 (m ((c : Thread nD τ).loc main_arg12)) k d)
  pointwise

theorem entry_wg (k : Fin 4) (d : Fin 2048) (e : Fin 2048) :
    V m c main_v1 (ix3 k d e) = at3 (m ((c : Thread nD τ).loc main_arg11)) k d e := by
  unfold V
  simp only [hostOps0]
  entry_read
  exact at3_ix3 (m ((c : Thread nD τ).loc main_arg11)) k d e

theorem entry_wb (k : Fin 4) (d : Fin 512) (e : Fin 2048) :
    V m c main_v3 (ix3 k d e) = at3 (m ((c : Thread nD τ).loc main_arg10)) k d e := by
  unfold V
  simp only [hostOps0]
  entry_read
  exact at3_ix3 (m ((c : Thread nD τ).loc main_arg10)) k d e

theorem entry_wo (e : Fin 2048) (d : Fin 2048) :
    V m c main_v4 (ix2 e d) = at2 (m ((c : Thread nD τ).loc main_arg13)) e d := by
  unfold V
  simp only [hostOps0]
  entry_read
  exact at2_ix2 (m ((c : Thread nD τ).loc main_arg13)) e d

theorem blk0 (t : Fin cfg0.N) (r : Fin 512) (d : Fin 2048) :
    iblk m c 0 t (ix2 r d) = at2 (m ((c : Thread nD τ).loc main_arg0)) (512 * (t.val / 4) + r) d := by
  have := lt136 t
  refine Eq.trans ?_ (at2_ix2 (m ((c : Thread nD τ).loc main_arg0)) ⟨512 * (t.val / 4) + r, by omega⟩ d)
  blk_ext [iblk, V, idx t]

theorem blk5 (t : Fin cfg0.N) (r : Fin 512) (d : Fin 512) :
    iblk m c 5 t (ix2 r d) = at2 (m ((c : Thread nD τ).loc main_arg3)) (512 * (t.val / 4) + r) d := by
  have := lt136 t
  refine Eq.trans ?_ (at2_ix2 (m ((c : Thread nD τ).loc main_arg3)) ⟨512 * (t.val / 4) + r, by omega⟩ d)
  blk_ext [iblk, V, idx t]

theorem blk6 (t : Fin cfg0.N) (r : Fin 512) (d : Fin 512) :
    iblk m c 6 t (ix2 r d) = at2 (m ((c : Thread nD τ).loc main_arg4)) (512 * (t.val / 4) + r) d := by
  have := lt136 t
  refine Eq.trans ?_ (at2_ix2 (m ((c : Thread nD τ).loc main_arg4)) ⟨512 * (t.val / 4) + r, by omega⟩ d)
  blk_ext [iblk, V, idx t]

theorem blk7 (t : Fin cfg0.N) (r : Fin 512) (d : Fin 512) :
    iblk m c 7 t (ix2 r d) = at2 (m ((c : Thread nD τ).loc main_arg5)) (512 * (t.val / 4) + r) d := by
  have := lt136 t
  refine Eq.trans ?_ (at2_ix2 (m ((c : Thread nD τ).loc main_arg5)) ⟨512 * (t.val / 4) + r, by omega⟩ d)
  blk_ext [iblk, V, idx t]

theorem blk8 (t : Fin cfg0.N) (r : Fin 512) (d : Fin 512) :
    iblk m c 8 t (ix2 r d) = at2 (m ((c : Thread nD τ).loc main_arg6)) (512 * (t.val / 4) + r) d := by
  have := lt136 t
  refine Eq.trans ?_ (at2_ix2 (m ((c : Thread nD τ).loc main_arg6)) ⟨512 * (t.val / 4) + r, by omega⟩ d)
  blk_ext [iblk, V, idx t]

theorem blk11 (t : Fin cfg0.N) (r : Fin 512) (d : Fin 512) :
    iblk m c 11 t (ix2 r d) = at2 (m ((c : Thread nD τ).loc main_arg7)) (512 * (t.val / 4) + r) d := by
  have := lt136 t
  refine Eq.trans ?_ (at2_ix2 (m ((c : Thread nD τ).loc main_arg7)) ⟨512 * (t.val / 4) + r, by omega⟩ d)
  blk_ext [iblk, V, idx t]

theorem blk1 (t : Fin cfg0.N) (d : Fin 2048) :
    iblk m c 1 t (ix2 0 d) = at1 (m ((c : Thread nD τ).loc main_arg2)) d := by
  have h : ∀ X : Buf (Elt Ideal) ((c : Thread nD τ).loc main_v5),
      (win0_1.blk t).view.read (Elt Ideal) X (ix2 0 d) = X (ix2 0 d) := fun X => by blk_ext [idx t]
  exact (h (V m c main_v5)).trans (entry_gain m c d)

theorem blk13 (t : Fin cfg0.N) (d : Fin 512) :
    iblk m c 13 t (ix2 0 d) = at1 (m ((c : Thread nD τ).loc main_arg9)) d := by
  have h : ∀ X : Buf (Elt Ideal) ((c : Thread nD τ).loc main_v0),
      (win0_13.blk t).view.read (Elt Ideal) X (ix2 0 d) = X (ix2 0 d) := fun X => by blk_ext [idx t]
  exact (h (V m c main_v0)).trans (entry_bias m c d)

theorem blk2 (t : Fin cfg0.N) (d : Fin 2048) :
    iblk m c 2 t (ix5 0 0 0 0 d) = atm (m ((c : Thread nD τ).loc main_arg1)) (modRow (512 * (t.val / 4))) 3 d := by
  have := lt136 t
  refine Eq.trans ?_ (atm_idx (m ((c : Thread nD τ).loc main_arg1))
    (ix5 0 ⟨modRow (512 * (t.val / 4)), modRow_lt _ (by omega)⟩ 3 0 d) _ _ _ rfl rfl rfl rfl rfl)
  blk_ext [iblk, V, idx t]

theorem blk3 (t : Fin cfg0.N) (d : Fin 2048) :
    iblk m c 3 t (ix5 0 0 0 0 d) = atm (m ((c : Thread nD τ).loc main_arg1)) (modRow (512 * (t.val / 4))) 4 d := by
  have := lt136 t
  refine Eq.trans ?_ (atm_idx (m ((c : Thread nD τ).loc main_arg1))
    (ix5 0 ⟨modRow (512 * (t.val / 4)), modRow_lt _ (by omega)⟩ 4 0 d) _ _ _ rfl rfl rfl rfl rfl)
  blk_ext [iblk, V, idx t]

theorem blk4 (t : Fin cfg0.N) (d : Fin 2048) :
    iblk m c 4 t (ix5 0 0 0 0 d) = atm (m ((c : Thread nD τ).loc main_arg1)) (modRow (512 * (t.val / 4))) 5 d := by
  have := lt136 t
  refine Eq.trans ?_ (atm_idx (m ((c : Thread nD τ).loc main_arg1))
    (ix5 0 ⟨modRow (512 * (t.val / 4)), modRow_lt _ (by omega)⟩ 5 0 d) _ _ _ rfl rfl rfl rfl rfl)
  blk_ext [iblk, V, idx t]

/-- The last row of the eight rows before a row block. -/
theorem blk9 (t : Fin cfg0.N) (h : 0 < t.val / 4) (y : Fin 512) :
    iblk m c 9 t (ix2 7 y) = at2 (m ((c : Thread nD τ).loc main_arg6)) (512 * (t.val / 4) - 1) y := by
  have := lt136 t
  refine Eq.trans ?_ (at2_ix2 (m ((c : Thread nD τ).loc main_arg6)) ⟨512 * (t.val / 4) - 1, by omega⟩ y)
  blk_ext [iblk, V, idx t]

/-- The first row of the eight rows after a row block. -/
theorem blk10 (t : Fin cfg0.N) (h : t.val / 4 < 33) (y : Fin 512) :
    iblk m c 10 t (ix2 0 y) = at2 (m ((c : Thread nD τ).loc main_arg6)) (512 * (t.val / 4) + 512) y := by
  have := lt136 t
  refine Eq.trans ?_ (at2_ix2 (m ((c : Thread nD τ).loc main_arg6)) ⟨512 * (t.val / 4) + 512, by omega⟩ y)
  blk_ext [iblk, V, idx t]

theorem blk12 (t : Fin cfg0.N) (k : Fin 3) (y : Fin 512) :
    iblk m c 12 t (ix2 k y) = at2 (m ((c : Thread nD τ).loc main_arg8)) k y := by
  refine Eq.trans ?_ (at2_ix2 (m ((c : Thread nD τ).loc main_arg8)) k y)
  blk_ext [iblk, V, idx t]

theorem blk14 (t : Fin cfg0.N) (k : Fin 4) (d : Fin 2048) (y : Fin 512) :
    iblk m c 14 t (ix3 k d y) = at3 (m ((c : Thread nD τ).loc main_arg11)) k d (512 * (t.val % 4) + y) := by
  have h : ∀ X : Buf (Elt Ideal) ((c : Thread nD τ).loc main_v1),
      (win0_14.blk t).view.read (Elt Ideal) X (ix3 k d y) = X (ix3 k d ⟨512 * (t.val % 4) + y, by omega⟩) :=
    fun X => by blk_ext [idx t]
  exact (h (V m c main_v1)).trans (entry_wg m c _ _ _)

theorem blk16 (t : Fin cfg0.N) (k : Fin 4) (d : Fin 512) (y : Fin 512) :
    iblk m c 16 t (ix3 k d y) = at3 (m ((c : Thread nD τ).loc main_arg10)) k d (512 * (t.val % 4) + y) := by
  have h : ∀ X : Buf (Elt Ideal) ((c : Thread nD τ).loc main_v3),
      (win0_16.blk t).view.read (Elt Ideal) X (ix3 k d y) = X (ix3 k d ⟨512 * (t.val % 4) + y, by omega⟩) :=
    fun X => by blk_ext [idx t]
  exact (h (V m c main_v3)).trans (entry_wb m c _ _ _)

theorem blk15 (t : Fin cfg0.N) (k : Fin 4) (y : Fin 512) :
    iblk m c 15 t (ix3 k 0 y) = at2 (m ((c : Thread nD τ).loc main_arg12)) k (512 * (t.val % 4) + y) := by
  have h : ∀ X : Buf (Elt Ideal) ((c : Thread nD τ).loc main_v2),
      (win0_15.blk t).view.read (Elt Ideal) X (ix3 k 0 y) = X (ix3 k 0 ⟨512 * (t.val % 4) + y, by omega⟩) :=
    fun X => by blk_ext [idx t]
  exact (h (V m c main_v2)).trans (entry_gate m c _ _)

theorem blk17 (t : Fin cfg0.N) (y : Fin 512) (d : Fin 2048) :
    iblk m c 17 t (ix2 y d) = at2 (m ((c : Thread nD τ).loc main_arg13)) (512 * (t.val % 4) + y) d := by
  have h : ∀ X : Buf (Elt Ideal) ((c : Thread nD τ).loc main_v4),
      (win0_17.blk t).view.read (Elt Ideal) X (ix2 y d) = X (ix2 ⟨512 * (t.val % 4) + y, by omega⟩ d) :=
    fun X => by blk_ext [idx t]
  exact (h (V m c main_v4)).trans (entry_wo m c _ _)

end Cert.MergeIdeal.Mix

end
-- ==== Proof.MergePay.lean ====
/- The merge kernel: its payloads at a row and a column of a block. -/
module

public import proofs.«01_k».proof.Proof.Gen.MergeIdeal.Skeleton
public import proofs.«01_k».proof.Proof.MergeSpec

@[expose] public section

set_option maxRecDepth 16384

noncomputable section

namespace Cert.MergeIdeal.Mix

open Cert.MergeIdeal Cert.MergeIdeal.Gen Cert.Layer Idealize.ShloMosaic Idealize.ShloMosaic.TcCoe

/-- One column block's step: the merged columns times the block's rows of the output projection, added. -/
theorem pay1_apply (z : Vec Ideal S512x512 .f32) (acc : Vec Ideal S512x2048 .f32) (wo : Vec Ideal S512x2048 .bf16)
    (r : Fin 512) (c : Fin 2048) :
    k0_pay1 (F := Ideal) z acc wo (ix2 r c) = acc (ix2 r c) + ∑ y : Fin 512, z (ix2 r y) * wo (ix2 y c) := by
  pointwise [k0_pay1]

/-- The last column block's write: the row plus the gate times the accumulated product. -/
theorem pay2_apply (x : Vec Ideal S512x2048 .f32) (g : Vec Ideal S1x1x1x1x2048 .f32) (acc : Vec Ideal S512x2048 .f32)
    (r : Fin 512) (c : Fin 2048) :
    k0_pay2 (F := Ideal) x g acc (ix2 r c) = x (ix2 r c) + g (ix5 0 0 0 0 c) * acc (ix2 r c) := by
  pointwise [k0_pay2]

/-- What the first column block puts into the scratch: the normalised rows. -/
theorem pay3_apply (x : Vec Ideal S512x2048 .f32) (g : Vec Ideal S1x2048 .f32) (sh sc : Vec Ideal S1x1x1x1x2048 .f32)
    (r : Fin 512) (c : Fin 2048) :
    k0_pay3 (F := Ideal) x g sh sc (ix2 r c)
      = normed (fun d => x (ix2 r d)) (fun d => g (ix2 0 d)) (fun d => sh (ix5 0 0 0 0 d)) (fun d => sc (ix5 0 0 0 0 d)) c := by
  pointwise [k0_pay3, normed]

/-- The accumulator starts at zero. -/
theorem pay4_apply (r : Fin 512) (c : Fin 2048) : k0_pay4 (F := Ideal) (ix2 r c) = 0 := by
  pointwise [k0_pay4]

/-- The first filter row, in every row. -/
theorem pay8_apply (w : Vec Ideal S1x512 .f32) (r : Fin 512) (c : Fin 512) : k0_pay8 (F := Ideal) w (ix2 r c) = w (ix2 0 c) := by
  pointwise [k0_pay8]

/-- What the first column block puts into the other scratch: the convolution. -/
theorem pay9_apply (u p n w0 : Vec Ideal S512x512 .f32) (w1 w2 b : Vec Ideal S1x512 .f32) (z : Vec Ideal S512x512 .f32)
    (r : Fin 512) (c : Fin 512) :
    k0_pay9 (F := Ideal) u p n w0 w1 w2 b z (ix2 r c)
      = z (ix2 r c) * (p (ix2 r c) * w0 (ix2 r c) + u (ix2 r c) * w1 (ix2 0 c) + n (ix2 r c) * w2 (ix2 0 c) + b (ix2 0 c)) := by
  pointwise [k0_pay9]

/-- The first branch under its gate. -/
theorem pay10_apply (xn : Vec Ideal S512x2048 .bf16) (wg : Vec Ideal S1x2048x512 .bf16) (bg : Vec Ideal S1x1x512 .f32)
    (br : Vec Ideal S512x512 .bf16) (wb : Vec Ideal S1x512x512 .bf16) (r : Fin 512) (c : Fin 512) :
    k0_pay10 (F := Ideal) xn wg bg br wb (ix2 r c)
      = Ideal.logistic ((∑ d : Fin 2048, xn (ix2 r d) * wg (ix3 0 d c)) + bg (ix3 0 0 c))
        * ∑ y : Fin 512, br (ix2 r y) * wb (ix3 0 y c) := by
  pointwise [k0_pay10]

/-- The second branch's gate. -/
theorem pay11_apply (xn : Vec Ideal S512x2048 .bf16) (wg : Vec Ideal S1x2048x512 .bf16) (bg : Vec Ideal S1x1x512 .f32)
    (r : Fin 512) (c : Fin 512) :
    k0_pay11 (F := Ideal) xn wg bg (ix2 r c)
      = Ideal.logistic ((∑ d : Fin 2048, xn (ix2 r d) * wg (ix3 0 d c)) + bg (ix3 0 0 c)) := by
  pointwise [k0_pay11]

theorem pay12_apply (wb : Vec Ideal S1x512x512 .bf16) (y : Fin 512) (c : Fin 512) :
    k0_pay12 (F := Ideal) wb (ix2 y c) = wb (ix3 0 y c) := by
  pointwise [k0_pay12]

/-- The four branches, from the first one and the second one's gate. -/
theorem pay13_apply (xn : Vec Ideal S512x2048 .bf16) (a g : Vec Ideal S512x512 .f32) (br : Vec Ideal S512x512 .bf16)
    (wb : Vec Ideal S512x512 .bf16) (wg2 : Vec Ideal S1x2048x512 .bf16) (bg2 : Vec Ideal S1x1x512 .f32)
    (br2 : Vec Ideal S512x512 .bf16) (wb2 : Vec Ideal S1x512x512 .bf16) (wg3 : Vec Ideal S1x2048x512 .bf16)
    (bg3 : Vec Ideal S1x1x512 .f32) (br3 : Vec Ideal S512x512 .bf16) (wb3 : Vec Ideal S1x512x512 .bf16) (r : Fin 512) (c : Fin 512) :
    k0_pay13 (F := Ideal) xn a g br wb wg2 bg2 br2 wb2 wg3 bg3 br3 wb3 (ix2 r c)
      = a (ix2 r c) + g (ix2 r c) * (∑ y : Fin 512, br (ix2 r y) * wb (ix2 y c))
        + Ideal.logistic ((∑ d : Fin 2048, xn (ix2 r d) * wg2 (ix3 0 d c)) + bg2 (ix3 0 0 c))
          * (∑ y : Fin 512, br2 (ix2 r y) * wb2 (ix3 0 y c))
        + Ideal.logistic ((∑ d : Fin 2048, xn (ix2 r d) * wg3 (ix3 0 d c)) + bg3 (ix3 0 0 c))
          * (∑ y : Fin 512, br3 (ix2 r y) * wb3 (ix3 0 y c)) := by
  pointwise [k0_pay13]

end Cert.MergeIdeal.Mix

end
-- ==== Proof.MergePos.lean ====
/- The merge kernel: a row's position in its sequence. -/
module

public import proofs.«01_k».proof.Proof.Gen.MergeIdeal.Skeleton
public import proofs.«01_k».proof.Proof.MergeSpec

@[expose] public section

set_option maxRecDepth 16384

noncomputable section

namespace Cert.MergeIdeal.Mix

open Cert.MergeIdeal Cert.MergeIdeal.Gen Cert.Layer Idealize.ShloMosaic Idealize.ShloMosaic.TcCoe

/-- The position, block by block and row by row. -/
theorem position : ∀ (i : Fin 34) (r : Fin 512),
    IntOp.andi (IntOp.addi (Scalar.muli (BitVec.ofNat 32 i) 512#32) (BitVec.ofNat 32 r))
      (Scalar.subi (Scalar.select (Scalar.cmpi CmpIPredicate.slt (BitVec.ofNat 32 i) 32#32) 4096#32 256#32) 1#32)
      = BitVec.ofNat 32 (seqPos (512 * i + r)) := by
  decide +kernel

/-- A row's position in its sequence, as the kernel computes it. -/
theorem pay5_apply (i : Nat) (hi : i < 34) (r : Fin 512) :
    k0_pay5 (BitVec.ofNat 32 i) 32#32 (ix2 r 0) = BitVec.ofNat 32 (seqPos (512 * i + r)) := by
  refine Eq.trans ?_ (position ⟨i, hi⟩ r)
  pointwise [k0_pay5]

end Cert.MergeIdeal.Mix

end
-- ==== Proof.MergeShift.lean ====
/- The merge kernel: the rows before and after. -/
module

public import proofs.«01_k».proof.Proof.Gen.MergeIdeal.Skeleton
public import proofs.«01_k».proof.Proof.MergePos

@[expose] public section

set_option maxRecDepth 16384

noncomputable section

namespace Cert.MergeIdeal.Mix

open Cert.MergeIdeal Cert.MergeIdeal.Gen Cert.Layer Idealize.ShloMosaic Idealize.ShloMosaic.TcCoe

/-- A choice by comparing two numbers as 32-bit integers. -/
theorem select_eq (a b : Nat) (ha : a < 2 ^ 32) (hb : b < 2 ^ 32) (p q : EReal) :
    Scalar.select (IntOp.cmpi .eq (BitVec.ofNat 32 a) (BitVec.ofNat 32 b)) p q = if a = b then p else q := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  unfold Scalar.select IntOp.cmpi
  by_cases h : a = b
  · subst h; simp
  · have k : (BitVec.ofNat 32 a == BitVec.ofNat 32 b) = false := beq_eq_false_iff_ne.2 fun z => h (e.1 z)
    simp [h, k]

theorem seqPos_lt (R : Nat) : seqPos R < 2 ^ 32 := by
  unfold seqPos
  split <;> omega

theorem seqLen_lt (R : Nat) : seqLen R - 1 < 2 ^ 32 := by
  unfold seqLen
  split <;> omega

/-- The last position, as the kernel computes it. -/
theorem limit (i : Nat) (hi : i < 34) (r : Fin 512) :
    Scalar.subi (Scalar.select (Scalar.cmpi CmpIPredicate.slt (BitVec.ofNat 32 i) 32#32) 4096#32 256#32) 1#32
      = BitVec.ofNat 32 (seqLen (512 * i + r) - 1) := by
  have e : seqLen (512 * i + r) = seqLen (512 * i) := by
    have := r.isLt
    unfold seqLen
    split <;> split <;> omega
  rw [e]
  exact (by decide +kernel : ∀ i : Fin 34,
    Scalar.subi (Scalar.select (Scalar.cmpi CmpIPredicate.slt (BitVec.ofNat 32 i) 32#32) 4096#32 256#32) 1#32
      = BitVec.ofNat 32 (seqLen (512 * i) - 1)) ⟨i, hi⟩

/-- The row before, zero at the start of the sequence. -/
theorem pay6_apply (i : Nat) (hi : i < 34) (u : Vec Ideal S512x512 .f32) (up : Vec Ideal S1x512 .f32) (r : Fin 512) (c : Fin 512) :
    k0_pay6 (F := Ideal) (BitVec.ofNat 32 i) u 32#32 up (ix2 r c)
      = if seqPos (512 * i + r) = 0 then 0 else if r.val = 0 then up (ix2 0 c) else u (ix2 ⟨r - 1, by omega⟩ c) := by
  have h5 := pay5_apply i hi r
  generalize hx : k0_pay5 (BitVec.ofNat 32 i) 32#32 = x at h5
  pointwise [k0_pay6, hx]
  rw [h5]
  have hr := r.isLt
  refine (select_eq _ 0 (seqPos_lt _) (by norm_num) _ _).trans (if_congr Iff.rfl rfl ?_)
  refine (select_eq _ 0 (by omega) (by norm_num) _ _).trans ?_
  by_cases h : r.val = 0
  · rw [if_pos h, if_pos h]
  · rw [if_neg h, if_neg h]
    exact congrArg u (congrArg (fun z => ix2 z c) (Fin.ext (by show (r.val + 512 - 1) % 512 = r.val - 1; omega)))

/-- The row after, zero at the end of the sequence. -/
theorem pay7_apply (i : Nat) (hi : i < 34) (u : Vec Ideal S512x512 .f32) (un : Vec Ideal S1x512 .f32) (r : Fin 512) (c : Fin 512) :
    k0_pay7 (F := Ideal) (BitVec.ofNat 32 i) u 32#32 un (ix2 r c)
      = if seqPos (512 * i + r) = seqLen (512 * i + r) - 1 then 0 else if h : r.val = 511 then un (ix2 0 c)
        else u (ix2 ⟨r + 1, by omega⟩ c) := by
  have h5 := pay5_apply i hi r
  generalize hx : k0_pay5 (BitVec.ofNat 32 i) 32#32 = x at h5
  pointwise [k0_pay7, hx]
  rw [h5, limit i hi r]
  have hr := r.isLt
  refine (select_eq _ _ (seqPos_lt _) (seqLen_lt _) _ _).trans (if_congr Iff.rfl rfl ?_)
  refine (select_eq _ 511 (by omega) (by norm_num) _ _).trans ?_
  by_cases h : r.val = 511
  · rw [if_pos h, dif_pos h]
  · rw [if_neg h, dif_neg h]
    exact congrArg u (congrArg (fun z => ix2 z c) (Fin.ext (by show (r.val + 512 - 511) % 512 = r.val + 1; omega)))

end Cert.MergeIdeal.Mix

end
-- ==== Proof.MergeCases.lean ====
/- The merge kernel: what one grid point leaves in the output block and in the two scratches, from what the point before
   left there. -/
module

public import proofs.«01_k».proof.Proof.Gen.MergeIdeal.Frame
public import Idealize.ShloMosaic.Lib.Pipeline.ValueKit
public import Idealize.ShloMosaic.Lib.Pipeline.ReadBack

@[expose] public section

set_option maxRecDepth 16384

noncomputable section

namespace Cert.MergeIdeal.Mix

open Cert.MergeIdeal Cert.MergeIdeal.Gen Idealize.ShloMosaic Idealize.ShloMosaic.TcCoe

variable (m : (ℓ : Loc nD τ sig) → Buf (Elt Ideal) ℓ) (c : Dev nD)

/-- The normalised rows a row block's first point computes. -/
def NORMED (t : Fin cfg0.N) : Vec Ideal S512x2048 .bf16 := k0_pay3 (iblk m c 0 t) (iblk m c 1 t) (iblk m c 2 t) (iblk m c 3 t)

/-- The convolution a row block's first point computes. -/
def FILTERED (t : Fin cfg0.N) : Vec Ideal S512x512 .bf16 :=
  k0_pay9 (iblk m c 8 t)
    (k0_pay6 (BitVec.ofNat 32 ↑(grid0.coords t 0)) (iblk m c 8 t) 32#32
      (View.ld (iblk m c 9 t) (Rect.unit ![7, 0] ![1, 512] inb_S8x512_S1x512_7_0)))
    (k0_pay7 (BitVec.ofNat 32 ↑(grid0.coords t 0)) (iblk m c 8 t) 32#32
      (View.ld (iblk m c 10 t) (Rect.unit ![0, 0] ![1, 512] inb_S8x512_S1x512_0_0)))
    (k0_pay8 (View.ld (iblk m c 12 t) (Rect.unit ![0, 0] ![1, 512] inb_S3x512_S1x512_0_0)))
    (View.ld (iblk m c 12 t) (Rect.unit ![1, 0] ![1, 512] inb_S3x512_S1x512_1_0))
    (View.ld (iblk m c 12 t) (Rect.unit ![2, 0] ![1, 512] inb_S3x512_S1x512_2_0)) (iblk m c 13 t) (iblk m c 7 t)

/-- The gated columns of a point, from the normalised rows and the convolution. -/
def MIXED (t : Fin cfg0.N) (xn : Vec Ideal S512x2048 .bf16) (cv : Vec Ideal S512x512 .bf16) : Vec Ideal S512x512 .f32 :=
  k0_pay13 xn
    (k0_pay10 xn (View.ld (iblk m c 14 t) (Rect.unit ![0, 0, 0] ![1, 2048, 512] inb_S4x2048x512_S1x2048x512_0_0_0))
      (View.ld (iblk m c 15 t) (Rect.unit ![0, 0, 0] ![1, 1, 512] inb_S4x1x512_S1x1x512_0_0_0)) (iblk m c 5 t)
      (View.ld (iblk m c 16 t) (Rect.unit ![0, 0, 0] ![1, 512, 512] inb_S4x512x512_S1x512x512_0_0_0)))
    (k0_pay11 xn (View.ld (iblk m c 14 t) (Rect.unit ![1, 0, 0] ![1, 2048, 512] inb_S4x2048x512_S1x2048x512_1_0_0))
      (View.ld (iblk m c 15 t) (Rect.unit ![1, 0, 0] ![1, 1, 512] inb_S4x1x512_S1x1x512_1_0_0)))
    (iblk m c 6 t)
    (k0_pay12 (View.ld (iblk m c 16 t) (Rect.unit ![1, 0, 0] ![1, 512, 512] inb_S4x512x512_S1x512x512_1_0_0)))
    (View.ld (iblk m c 14 t) (Rect.unit ![2, 0, 0] ![1, 2048, 512] inb_S4x2048x512_S1x2048x512_2_0_0))
    (View.ld (iblk m c 15 t) (Rect.unit ![2, 0, 0] ![1, 1, 512] inb_S4x1x512_S1x1x512_2_0_0)) cv
    (View.ld (iblk m c 16 t) (Rect.unit ![2, 0, 0] ![1, 512, 512] inb_S4x512x512_S1x512x512_2_0_0))
    (View.ld (iblk m c 14 t) (Rect.unit ![3, 0, 0] ![1, 2048, 512] inb_S4x2048x512_S1x2048x512_3_0_0))
    (View.ld (iblk m c 15 t) (Rect.unit ![3, 0, 0] ![1, 1, 512] inb_S4x1x512_S1x1x512_3_0_0)) (iblk m c 11 t)
    (View.ld (iblk m c 16 t) (Rect.unit ![3, 0, 0] ![1, 512, 512] inb_S4x512x512_S1x512x512_3_0_0))

/-- The first column block of a row block: the scratches take the normalised rows and the convolution, the output the first
    product. -/
theorem first (t : Fin cfg0.N) (h0 : t.val % 4 = 0) :
    outsAt0 m c t.val t.isLt
      = (k0_pay1 (MIXED m c t (NORMED m c t) (FILTERED m c t)) (k0_pay4 (F := Ideal)) (iblk m c 17 t),
        NORMED m c t, FILTERED m c t) := by
  rw [outsAt0_A m c t h0 (by omega)]
  unfold MIXED NORMED FILTERED
  refine Prod.ext ?_ (Prod.ext ?_ ?_)
  · frame_out
    rfl
  · frame_out
  · frame_out
    rfl

/-- A column block between the first and the last adds its product; the scratches stay. -/
theorem next (t : Fin cfg0.N) (h0 : ¬t.val % 4 = 0) (h1 : ¬t.val % 4 = 3) :
    outsAt0 m c t.val t.isLt
      = (k0_pay1 (MIXED m c t (outsAt0 m c (t.val - 1) (Nat.lt_of_le_of_lt (Nat.sub_le _ _) t.isLt)).2.1
            (outsAt0 m c (t.val - 1) (Nat.lt_of_le_of_lt (Nat.sub_le _ _) t.isLt)).2.2)
          (outsAt0 m c (t.val - 1) (Nat.lt_of_le_of_lt (Nat.sub_le _ _) t.isLt)).1 (iblk m c 17 t),
        (outsAt0 m c (t.val - 1) (Nat.lt_of_le_of_lt (Nat.sub_le _ _) t.isLt)).2) := by
  rw [outsAt0_B m c t h0 h1]
  generalize outsAt0 m c (t.val - 1) (Nat.lt_of_le_of_lt (Nat.sub_le _ _) t.isLt) = p
  refine Prod.ext ?_ rfl
  frame_out
  rw [read_unread_whole, read_unread_whole]
  rfl

/-- The last column block adds its product and then the row and the gate. -/
theorem last (t : Fin cfg0.N) (h0 : ¬t.val % 4 = 0) (h1 : t.val % 4 = 3) :
    (outsAt0 m c t.val t.isLt).1
      = k0_pay2 (iblk m c 0 t) (iblk m c 4 t)
          (k0_pay1 (MIXED m c t (outsAt0 m c (t.val - 1) (Nat.lt_of_le_of_lt (Nat.sub_le _ _) t.isLt)).2.1
            (outsAt0 m c (t.val - 1) (Nat.lt_of_le_of_lt (Nat.sub_le _ _) t.isLt)).2.2)
            (outsAt0 m c (t.val - 1) (Nat.lt_of_le_of_lt (Nat.sub_le _ _) t.isLt)).1 (iblk m c 17 t)) := by
  rw [outsAt0_C m c t h0 h1]
  generalize outsAt0 m c (t.val - 1) (Nat.lt_of_le_of_lt (Nat.sub_le _ _) t.isLt) = p
  frame_out
  rw [read_unread_whole, read_unread_whole]
  rfl

end Cert.MergeIdeal.Mix

end
-- ==== Proof.MergePoint.lean ====
/- The merge kernel: the pieces of a grid point, over the launched arguments. -/
module

public import proofs.«01_k».proof.Proof.MergeBlocks
public import proofs.«01_k».proof.Proof.MergePay
public import proofs.«01_k».proof.Proof.MergeShift
public import proofs.«01_k».proof.Proof.MergeCases

@[expose] public section

set_option maxRecDepth 16384

noncomputable section

namespace Cert.MergeIdeal.Mix

open Cert.MergeIdeal Cert.MergeIdeal.Gen Cert.Layer Idealize.ShloMosaic Idealize.ShloMosaic.TcCoe

variable (m : (ℓ : Loc nD τ sig) → Buf (Elt Ideal) ℓ) (c : Dev nD)

/-- The normalised row `R` of the launched arguments. -/
abbrev NORM (R : Nat) (d : Fin 2048) : EReal :=
  mixNorm
    (m ((c : Thread nD τ).loc main_arg0)) (m ((c : Thread nD τ).loc main_arg1))
    (m ((c : Thread nD τ).loc main_arg2)) R d

/-- The convolution at row `R` and column `C`. -/
abbrev CONV (R C : Nat) : EReal :=
  conv
    (m ((c : Thread nD τ).loc main_arg5)) (m ((c : Thread nD τ).loc main_arg6)) (m ((c : Thread nD τ).loc main_arg8))
    (m ((c : Thread nD τ).loc main_arg9)) R C

/-- The merged row `R` at column `e`. -/
abbrev MERGED (R e : Nat) : EReal :=
  merged
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12)) R e

theorem part14_0 (t : Fin cfg0.N) (d : Fin 2048) (y : Fin 512) :
    View.ld (iblk m c 14 t) (Rect.unit ![0, 0, 0] ![1, 2048, 512] inb_S4x2048x512_S1x2048x512_0_0_0) (ix3 0 d y)
      = at3 (m ((c : Thread nD τ).loc main_arg11)) 0 d (512 * (t.val % 4) + y) :=
  (ld_mat (iblk m c 14 t) 0 (by omega) inb_S4x2048x512_S1x2048x512_0_0_0 d y).trans (blk14 m c t 0 d y)

theorem part14_1 (t : Fin cfg0.N) (d : Fin 2048) (y : Fin 512) :
    View.ld (iblk m c 14 t) (Rect.unit ![1, 0, 0] ![1, 2048, 512] inb_S4x2048x512_S1x2048x512_1_0_0) (ix3 0 d y)
      = at3 (m ((c : Thread nD τ).loc main_arg11)) 1 d (512 * (t.val % 4) + y) :=
  (ld_mat (iblk m c 14 t) 1 (by omega) inb_S4x2048x512_S1x2048x512_1_0_0 d y).trans (blk14 m c t 1 d y)

theorem part14_2 (t : Fin cfg0.N) (d : Fin 2048) (y : Fin 512) :
    View.ld (iblk m c 14 t) (Rect.unit ![2, 0, 0] ![1, 2048, 512] inb_S4x2048x512_S1x2048x512_2_0_0) (ix3 0 d y)
      = at3 (m ((c : Thread nD τ).loc main_arg11)) 2 d (512 * (t.val % 4) + y) :=
  (ld_mat (iblk m c 14 t) 2 (by omega) inb_S4x2048x512_S1x2048x512_2_0_0 d y).trans (blk14 m c t 2 d y)

theorem part14_3 (t : Fin cfg0.N) (d : Fin 2048) (y : Fin 512) :
    View.ld (iblk m c 14 t) (Rect.unit ![3, 0, 0] ![1, 2048, 512] inb_S4x2048x512_S1x2048x512_3_0_0) (ix3 0 d y)
      = at3 (m ((c : Thread nD τ).loc main_arg11)) 3 d (512 * (t.val % 4) + y) :=
  (ld_mat (iblk m c 14 t) 3 (by omega) inb_S4x2048x512_S1x2048x512_3_0_0 d y).trans (blk14 m c t 3 d y)

theorem part16_0 (t : Fin cfg0.N) (d : Fin 512) (y : Fin 512) :
    View.ld (iblk m c 16 t) (Rect.unit ![0, 0, 0] ![1, 512, 512] inb_S4x512x512_S1x512x512_0_0_0) (ix3 0 d y)
      = at3 (m ((c : Thread nD τ).loc main_arg10)) 0 d (512 * (t.val % 4) + y) :=
  (ld_mat (iblk m c 16 t) 0 (by omega) inb_S4x512x512_S1x512x512_0_0_0 d y).trans (blk16 m c t 0 d y)

theorem part16_1 (t : Fin cfg0.N) (d : Fin 512) (y : Fin 512) :
    View.ld (iblk m c 16 t) (Rect.unit ![1, 0, 0] ![1, 512, 512] inb_S4x512x512_S1x512x512_1_0_0) (ix3 0 d y)
      = at3 (m ((c : Thread nD τ).loc main_arg10)) 1 d (512 * (t.val % 4) + y) :=
  (ld_mat (iblk m c 16 t) 1 (by omega) inb_S4x512x512_S1x512x512_1_0_0 d y).trans (blk16 m c t 1 d y)

theorem part16_2 (t : Fin cfg0.N) (d : Fin 512) (y : Fin 512) :
    View.ld (iblk m c 16 t) (Rect.unit ![2, 0, 0] ![1, 512, 512] inb_S4x512x512_S1x512x512_2_0_0) (ix3 0 d y)
      = at3 (m ((c : Thread nD τ).loc main_arg10)) 2 d (512 * (t.val % 4) + y) :=
  (ld_mat (iblk m c 16 t) 2 (by omega) inb_S4x512x512_S1x512x512_2_0_0 d y).trans (blk16 m c t 2 d y)

theorem part16_3 (t : Fin cfg0.N) (d : Fin 512) (y : Fin 512) :
    View.ld (iblk m c 16 t) (Rect.unit ![3, 0, 0] ![1, 512, 512] inb_S4x512x512_S1x512x512_3_0_0) (ix3 0 d y)
      = at3 (m ((c : Thread nD τ).loc main_arg10)) 3 d (512 * (t.val % 4) + y) :=
  (ld_mat (iblk m c 16 t) 3 (by omega) inb_S4x512x512_S1x512x512_3_0_0 d y).trans (blk16 m c t 3 d y)

theorem part15_0 (t : Fin cfg0.N) (y : Fin 512) :
    View.ld (iblk m c 15 t) (Rect.unit ![0, 0, 0] ![1, 1, 512] inb_S4x1x512_S1x1x512_0_0_0) (ix3 0 0 y)
      = at2 (m ((c : Thread nD τ).loc main_arg12)) 0 (512 * (t.val % 4) + y) :=
  (ld_mat (iblk m c 15 t) 0 (by omega) inb_S4x1x512_S1x1x512_0_0_0 0 y).trans (blk15 m c t 0 y)

theorem part15_1 (t : Fin cfg0.N) (y : Fin 512) :
    View.ld (iblk m c 15 t) (Rect.unit ![1, 0, 0] ![1, 1, 512] inb_S4x1x512_S1x1x512_1_0_0) (ix3 0 0 y)
      = at2 (m ((c : Thread nD τ).loc main_arg12)) 1 (512 * (t.val % 4) + y) :=
  (ld_mat (iblk m c 15 t) 1 (by omega) inb_S4x1x512_S1x1x512_1_0_0 0 y).trans (blk15 m c t 1 y)

theorem part15_2 (t : Fin cfg0.N) (y : Fin 512) :
    View.ld (iblk m c 15 t) (Rect.unit ![2, 0, 0] ![1, 1, 512] inb_S4x1x512_S1x1x512_2_0_0) (ix3 0 0 y)
      = at2 (m ((c : Thread nD τ).loc main_arg12)) 2 (512 * (t.val % 4) + y) :=
  (ld_mat (iblk m c 15 t) 2 (by omega) inb_S4x1x512_S1x1x512_2_0_0 0 y).trans (blk15 m c t 2 y)

theorem part15_3 (t : Fin cfg0.N) (y : Fin 512) :
    View.ld (iblk m c 15 t) (Rect.unit ![3, 0, 0] ![1, 1, 512] inb_S4x1x512_S1x1x512_3_0_0) (ix3 0 0 y)
      = at2 (m ((c : Thread nD τ).loc main_arg12)) 3 (512 * (t.val % 4) + y) :=
  (ld_mat (iblk m c 15 t) 3 (by omega) inb_S4x1x512_S1x1x512_3_0_0 0 y).trans (blk15 m c t 3 y)

theorem part12_0 (t : Fin cfg0.N) (y : Fin 512) :
    View.ld (iblk m c 12 t) (Rect.unit ![0, 0] ![1, 512] inb_S3x512_S1x512_0_0) (ix2 0 y) = at2 (m ((c : Thread nD τ).loc main_arg8)) 0 y :=
  (ld_row (iblk m c 12 t) 0 (by omega) inb_S3x512_S1x512_0_0 y).trans (blk12 m c t 0 y)

theorem part12_1 (t : Fin cfg0.N) (y : Fin 512) :
    View.ld (iblk m c 12 t) (Rect.unit ![1, 0] ![1, 512] inb_S3x512_S1x512_1_0) (ix2 0 y) = at2 (m ((c : Thread nD τ).loc main_arg8)) 1 y :=
  (ld_row (iblk m c 12 t) 1 (by omega) inb_S3x512_S1x512_1_0 y).trans (blk12 m c t 1 y)

theorem part12_2 (t : Fin cfg0.N) (y : Fin 512) :
    View.ld (iblk m c 12 t) (Rect.unit ![2, 0] ![1, 512] inb_S3x512_S1x512_2_0) (ix2 0 y) = at2 (m ((c : Thread nD τ).loc main_arg8)) 2 y :=
  (ld_row (iblk m c 12 t) 2 (by omega) inb_S3x512_S1x512_2_0 y).trans (blk12 m c t 2 y)

/-- The normalised rows of a row block. -/
theorem norm_block (t : Fin cfg0.N) (r : Fin 512) (d : Fin 2048) :
    NORMED m c t (ix2 r d) = NORM m c (512 * (t.val / 4) + r) d := by
  unfold NORMED
  rw [pay3_apply]
  unfold NORM mixNorm
  rw [modRow_block]
  simp only [blk0, blk1, blk2, blk3]

/-- The convolution of a row block. -/
theorem conv_block (t : Fin cfg0.N) (r : Fin 512) (y : Fin 512) :
    FILTERED m c t (ix2 r y) = CONV m c (512 * (t.val / 4) + r) y := by
  have hN := lt136 t
  have hr := r.isLt
  unfold FILTERED
  rw [pay9_apply, pay8_apply, coord t, pay6_apply _ (by omega), pay7_apply _ (by omega)]
  unfold CONV conv
  refine congrArg₂ (· * ·) (blk7 m c t r y) (congrArg₂ (· + ·) (congrArg₂ (· + ·) (congrArg₂ (· + ·)
    (congrArg₂ (· * ·) ?_ (part12_0 m c t y)) (congrArg₂ (· * ·) (blk8 m c t r y) (part12_1 m c t y)))
    (congrArg₂ (· * ·) ?_ (part12_2 m c t y))) (blk13 m c t y))
  · by_cases h : seqPos (512 * (t.val / 4) + r) = 0
    · rw [if_pos h, if_pos h]
    · rw [if_neg h, if_neg h]
      by_cases k : r.val = 0
      · rw [if_pos k]
        have hb : 0 < t.val / 4 := by
          refine Nat.pos_of_ne_zero fun z => h ?_
          rw [z, k]
          rfl
        refine (ld_row (iblk m c 9 t) 7 (by omega) inb_S8x512_S1x512_7_0 y).trans ((blk9 m c t hb y).trans ?_)
        congr 1
        omega
      · rw [if_neg k]
        refine (blk8 m c t _ y).trans ?_
        congr 1
        show 512 * (t.val / 4) + (r.val - 1) = 512 * (t.val / 4) + r.val - 1
        omega
  · by_cases h : seqPos (512 * (t.val / 4) + r) = seqLen (512 * (t.val / 4) + r) - 1
    · rw [if_pos h, if_pos h]
    · rw [if_neg h, if_neg h]
      by_cases k : r.val = 511
      · rw [dif_pos k]
        have hb : t.val / 4 < 33 := by
          refine Nat.lt_of_le_of_ne (by omega) fun z => h ?_
          rw [z, k]
          rfl
        refine (ld_row (iblk m c 10 t) 0 (by omega) inb_S8x512_S1x512_0_0 y).trans ((blk10 m c t hb y).trans ?_)
        congr 1
        omega
      · rw [dif_neg k]
        refine (blk8 m c t _ y).trans ?_
        congr 1

/-- A point's gated columns, over scratches that hold the normalised rows and the convolution. -/
theorem mixed_block (t : Fin cfg0.N) (xn : Vec Ideal S512x2048 .bf16) (cv : Vec Ideal S512x512 .bf16) (r : Fin 512)
    (y : Fin 512) (hxn : ∀ d, xn (ix2 r d) = NORM m c (512 * (t.val / 4) + r) d)
    (hcv : ∀ d : Fin 512, cv (ix2 r d) = CONV m c (512 * (t.val / 4) + r) d) :
    MIXED m c t xn cv (ix2 r y) = MERGED m c (512 * (t.val / 4) + r) (512 * (t.val % 4) + y) := by
  unfold MIXED
  rw [pay13_apply, pay10_apply, pay11_apply]
  unfold MERGED merged gate
  have e0 := fun d => part14_0 m c t d y
  have e1 := fun d => part14_1 m c t d y
  have e2 := fun d => part14_2 m c t d y
  have e3 := fun d => part14_3 m c t d y
  have f0 := fun d => part16_0 m c t d y
  have f1 := fun d => (pay12_apply _ d y).trans (part16_1 m c t d y)
  have f2 := fun d => part16_2 m c t d y
  have f3 := fun d => part16_3 m c t d y
  have gated : ∀ (w b : EReal) (u : Fin 2048 → EReal) (v : Fin 2048 → EReal), (∀ d, u d = v d) → w = b →
      Ideal.logistic ((∑ d : Fin 2048, xn (ix2 r d) * u d) + w)
        = Ideal.logistic ((∑ d : Fin 2048, NORM m c (512 * (t.val / 4) + r) d * v d) + b) := fun w b u v hu hw =>
    congrArg Ideal.logistic (congrArg₂ (· + ·) (Finset.sum_congr rfl fun d _ => congrArg₂ (· * ·) (hxn d) (hu d)) hw)
  refine congrArg₂ (· + ·) (congrArg₂ (· + ·) (congrArg₂ (· + ·) ?_ ?_) ?_) ?_
  · exact congrArg₂ (· * ·) (gated _ _ _ _ e0 (part15_0 m c t y))
      (Finset.sum_congr rfl fun d _ => congrArg₂ (· * ·) (blk5 m c t r d) (f0 d))
  · exact congrArg₂ (· * ·) (gated _ _ _ _ e1 (part15_1 m c t y))
      (Finset.sum_congr rfl fun d _ => congrArg₂ (· * ·) (blk6 m c t r d) (f1 d))
  · exact congrArg₂ (· * ·) (gated _ _ _ _ e2 (part15_2 m c t y))
      (Finset.sum_congr rfl fun d _ => congrArg₂ (· * ·) (hcv d) (f2 d))
  · exact congrArg₂ (· * ·) (gated _ _ _ _ e3 (part15_3 m c t y))
      (Finset.sum_congr rfl fun d _ => congrArg₂ (· * ·) (blk11 m c t r d) (f3 d))

/-- One column block's step. -/
theorem step (t : Fin cfg0.N) (xn : Vec Ideal S512x2048 .bf16) (cv : Vec Ideal S512x512 .bf16)
    (acc : Vec Ideal S512x2048 .f32) (r : Fin 512) (C : Fin 2048)
    (hxn : ∀ d, xn (ix2 r d) = NORM m c (512 * (t.val / 4) + r) d)
    (hcv : ∀ d : Fin 512, cv (ix2 r d) = CONV m c (512 * (t.val / 4) + r) d) :
    k0_pay1 (F := Ideal) (MIXED m c t xn cv) acc (iblk m c 17 t) (ix2 r C)
      = acc (ix2 r C) + ∑ y : Fin 512, MERGED m c (512 * (t.val / 4) + r) (512 * (t.val % 4) + y)
          * at2 (m ((c : Thread nD τ).loc main_arg13)) (512 * (t.val % 4) + y) C := by
  rw [pay1_apply]
  exact congrArg₂ (· + ·) rfl (Finset.sum_congr rfl fun y _ =>
    congrArg₂ (· * ·) (mixed_block m c t xn cv r y hxn hcv) (blk17 m c t y C))

end Cert.MergeIdeal.Mix

end
-- ==== Proof.MergeKernel.lean ====
/- The merge kernel: what its result array holds. -/
module

public import proofs.«01_k».proof.Proof.MergePoint

@[expose] public section

set_option maxRecDepth 16384

noncomputable section

namespace Cert.MergeIdeal.Mix

open Cert.MergeIdeal Cert.MergeIdeal.Gen Cert.Layer Idealize.ShloMosaic Idealize.ShloMosaic.TcCoe

variable (m : (ℓ : Loc nD τ sig) → Buf (Elt Ideal) ℓ) (c : Dev nD)

/-- A merged column's contribution to row `R` and column `C`. -/
abbrev TERM (R C e : Nat) : EReal := MERGED m c R e * at2 (m ((c : Thread nD τ).loc main_arg13)) e C

/-- Before the last column block the scratches hold the normalised rows and the convolution, and the output the column
    blocks summed so far. -/
theorem carried (b : Nat) : ∀ (j : Nat) (h : 4 * b + j < cfg0.N), j < 3 →
    (∀ (r : Fin 512) (d : Fin 2048), (outsAt0 m c (4 * b + j) h).2.1 (ix2 r d) = NORM m c (512 * b + r) d)
    ∧ (∀ (r : Fin 512) (d : Fin 512), (outsAt0 m c (4 * b + j) h).2.2 (ix2 r d) = CONV m c (512 * b + r) d)
    ∧ ∀ (r : Fin 512) (C : Fin 2048), (outsAt0 m c (4 * b + j) h).1 (ix2 r C)
        = ∑ k ∈ Finset.range (j + 1), ∑ y : Fin 512, TERM m c (512 * b + r) C (512 * k + y)
  | 0, h, _ => by
    have e := first m c ⟨4 * b + 0, h⟩ (by show (4 * b + 0) % 4 = 0; omega)
    have hd : (4 * b + 0) / 4 = b := by omega
    have hm : (4 * b + 0) % 4 = 0 := by omega
    have hn := fun r d => (norm_block m c ⟨4 * b + 0, h⟩ r d).trans (by rw [hd])
    have hc := fun r d => (conv_block m c ⟨4 * b + 0, h⟩ r d).trans (by rw [hd])
    refine ⟨fun r d => (congrFun (congrArg (fun p => p.2.1) e) (ix2 r d)).trans (hn r d),
      fun r d => (congrFun (congrArg (fun p => p.2.2) e) (ix2 r d)).trans (hc r d), fun r C => ?_⟩
    refine (congrFun (congrArg Prod.fst e) (ix2 r C)).trans ?_
    refine (step m c ⟨4 * b + 0, h⟩ _ _ _ r C (norm_block m c _ r) (conv_block m c _ r)).trans ?_
    rw [pay4_apply, zero_add, Finset.sum_range_one]
    simp only [hd, hm]
  | j + 1, h, hj => by
    have ih := carried b j (by omega) (by omega)
    have e := next m c ⟨4 * b + (j + 1), h⟩ (by show ¬(4 * b + (j + 1)) % 4 = 0; omega)
      (by show ¬(4 * b + (j + 1)) % 4 = 3; omega)
    have hd : (4 * b + (j + 1)) / 4 = b := by omega
    have hm : (4 * b + (j + 1)) % 4 = j + 1 := by omega
    refine ⟨fun r d => (congrFun (congrArg (fun p => p.2.1) e) (ix2 r d)).trans (ih.1 r d),
      fun r d => (congrFun (congrArg (fun p => p.2.2) e) (ix2 r d)).trans (ih.2.1 r d), fun r C => ?_⟩
    refine (congrFun (congrArg Prod.fst e) (ix2 r C)).trans ?_
    refine (step m c ⟨4 * b + (j + 1), h⟩ _ _ _ r C (fun d => (ih.1 r d).trans (by simp only [hd]))
      (fun d => (ih.2.1 r d).trans (by simp only [hd]))).trans ?_
    rw [Finset.sum_range_succ]
    simp only [hd, hm]
    exact congrArg (· + _) (ih.2.2 r C)

/-- The four column blocks are all columns. -/
theorem blocks (R C : Nat) :
    ∑ k ∈ Finset.range 4, ∑ y : Fin 512, TERM m c R C (512 * k + y) = ∑ e : Fin 2048, TERM m c R C e :=
  (sum_blocks 512 (TERM m c R C) 4).trans (Fin.sum_univ_eq_sum_range (TERM m c R C) 2048).symm

/-- After the last column block the output block is the layer's result. -/
theorem written (t : Fin cfg0.N) (ht : t.val % 4 = 3) (r : Fin 512) (C : Fin 2048) :
    (outsAt0 m c t.val t.isLt).1 (ix2 r C)
      = mergeOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13)) (512 * (t.val / 4) + r) C := by
  have hN := lt136 t
  have hprev : ∀ n (hn : n < cfg0.N), n = 4 * (t.val / 4) + 2 →
      (∀ (r : Fin 512) (d : Fin 2048), (outsAt0 m c n hn).2.1 (ix2 r d) = NORM m c (512 * (t.val / 4) + r) d)
      ∧ (∀ (r : Fin 512) (d : Fin 512), (outsAt0 m c n hn).2.2 (ix2 r d) = CONV m c (512 * (t.val / 4) + r) d)
      ∧ ∀ (r : Fin 512) (C : Fin 2048), (outsAt0 m c n hn).1 (ix2 r C)
          = ∑ k ∈ Finset.range 3, ∑ y : Fin 512, TERM m c (512 * (t.val / 4) + r) C (512 * k + y) := by
    rintro n hn rfl
    exact carried m c (t.val / 4) 2 hn (by omega)
  have ih := hprev (t.val - 1) (Nat.lt_of_le_of_lt (Nat.sub_le _ _) t.isLt) (by omega)
  rw [last m c t (by omega) ht, pay2_apply, step m c t _ _ _ r C (ih.1 r) (ih.2.1 r), ih.2.2 r C, blk0, blk4, ht]
  unfold mergeOut
  rw [modRow_block]
  refine congrArg₂ (· + ·) rfl (congrArg₂ (· * ·) rfl ?_)
  refine Eq.trans ?_ (blocks m c (512 * (t.val / 4) + r) C)
  exact (Finset.sum_range_succ _ 3).symm

/-- The result array. -/
def RESULT : Buf (Elt Ideal) ((c : Thread nD τ).loc main_v6) := fun i =>
  mergeOut (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))
    (m ((c : Thread nD τ).loc main_arg13))
    (i 0).val (i 1).val

/-- The kernel's result array ends as the layer's result. -/
theorem final : (dats m 0 c).arrAt 18 cfg0.N = RESULT m c := by
  refine (dats m 0 c).arrAt_eq_of_covers 18 _ (by decide +kernel) fun t hf y => ?_
  blk_simp [idx t]
  rw [after0_18]
  have ht : t.val % 4 = 3 := by
    revert hf
    exact (by decide +kernel : ∀ t : Fin grid0.N, (win0_18.flush t = true) → t.val % 4 = 3) t
  refine (congrArg _ (eq_ix2 y)).trans ((written m c t ht (y 0) (y 1)).trans ?_)
  unfold RESULT
  congr 1 <;> simp [idx t] <;> omega

/-- The run's result array, and its arguments as they were launched. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v6) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (Gen.run_main (F := Ideal) m g)
  refine ⟨((h c).1 18).trans (final m c), ?_, ?_, ?_, ?_, ?_, ?_, ?_, ?_, ?_, ?_, ?_, ?_, ?_, ?_⟩
  · exact ((h c).1 0).trans (((dats m 0 c).arrAt_in 0 rfl _).trans ((A_eq m c 0).trans (V_main_arg0 m c)))
  · exact ((h c).1 2).trans (((dats m 0 c).arrAt_in 2 rfl _).trans ((A_eq m c 2).trans (V_main_arg1 m c)))
  · exact ((h c).2 main_arg2 (Pipeline.mem_restRefs_of main_arg2 (by decide) (by decide))).trans (V_main_arg2 m c)
  · exact ((h c).1 5).trans (((dats m 0 c).arrAt_in 5 rfl _).trans ((A_eq m c 5).trans (V_main_arg3 m c)))
  · exact ((h c).1 6).trans (((dats m 0 c).arrAt_in 6 rfl _).trans ((A_eq m c 6).trans (V_main_arg4 m c)))
  · exact ((h c).1 7).trans (((dats m 0 c).arrAt_in 7 rfl _).trans ((A_eq m c 7).trans (V_main_arg5 m c)))
  · exact ((h c).1 8).trans (((dats m 0 c).arrAt_in 8 rfl _).trans ((A_eq m c 8).trans (V_main_arg6 m c)))
  · exact ((h c).1 11).trans (((dats m 0 c).arrAt_in 11 rfl _).trans ((A_eq m c 11).trans (V_main_arg7 m c)))
  · exact ((h c).1 12).trans (((dats m 0 c).arrAt_in 12 rfl _).trans ((A_eq m c 12).trans (V_main_arg8 m c)))
  · exact ((h c).2 main_arg9 (Pipeline.mem_restRefs_of main_arg9 (by decide) (by decide))).trans (V_main_arg9 m c)
  · exact ((h c).2 main_arg10 (Pipeline.mem_restRefs_of main_arg10 (by decide) (by decide))).trans (V_main_arg10 m c)
  · exact ((h c).2 main_arg11 (Pipeline.mem_restRefs_of main_arg11 (by decide) (by decide))).trans (V_main_arg11 m c)
  · exact ((h c).2 main_arg12 (Pipeline.mem_restRefs_of main_arg12 (by decide) (by decide))).trans (V_main_arg12 m c)
  · exact ((h c).2 main_arg13 (Pipeline.mem_restRefs_of main_arg13 (by decide) (by decide))).trans (V_main_arg13 m c)

end Cert.MergeIdeal.Mix

end
-- ==== Proof.MergeRefLatentNorm.lean ====
/- The merge's reference: the latent rows, normalised, at an element. -/
module

public import proofs.«01_k».proof.Proof.Gen.RefMergeIdeal.Read
public import proofs.«01_k».proof.Proof.MergeSpec
public import Idealize.ShloMosaic.Lib.Pointwise
public import Idealize.ShloMosaic.Lib.Pipeline.ValueKit

@[expose] public section

set_option maxRecDepth 16384

noncomputable section

namespace Cert.RefMergeIdeal.Mix

open Cert.RefMergeIdeal Cert.RefMergeIdeal.Gen Cert.RefMergeIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S17408x512, .bf16⟩ : BufTy).Contents (Elt Ideal))
  (x4 : (⟨S17408x512, .bf16⟩ : BufTy).Contents (Elt Ideal))
  (x5 : (⟨S17408x512, .f32⟩ : BufTy).Contents (Elt Ideal))
  (x6 : (⟨S17408x512, .f32⟩ : BufTy).Contents (Elt Ideal))
  (x7 : (⟨S17408x512, .bf16⟩ : BufTy).Contents (Elt Ideal))
  (x8 : (⟨S3x512, .f32⟩ : BufTy).Contents (Elt Ideal))
  (x9 : (⟨S512, .f32⟩ : BufTy).Contents (Elt Ideal))
  (x10 : (⟨S4x512x2048, .f32⟩ : BufTy).Contents (Elt Ideal))
  (x11 : (⟨S4x2048x2048, .f32⟩ : BufTy).Contents (Elt Ideal))
  (x12 : (⟨S4x2048, .f32⟩ : BufTy).Contents (Elt Ideal))
  (x13 : (⟨S2048x2048, .f32⟩ : BufTy).Contents (Elt Ideal))

/-- The latent row of index (b, r). -/
def latRow (b r : Nat) : Nat := 4096 * b + r

theorem lat_pos (b r : Nat) (hb : b < 4) (hr : r < 4096) : seqPos (latRow b r) = r := by
  unfold seqPos latRow
  split <;> omega

theorem lat_len (b r : Nat) (hb : b < 4) (hr : r < 4096) : seqLen (latRow b r) = 4096 := by
  unfold seqLen latRow
  split <;> omega

theorem lat_batch (b r : Nat) (hb : b < 4) (hr : r < 4096) : modRow (latRow b r) = b := by
  unfold modRow latRow
  split <;> omega

theorem lat_x (i : S4x4096x2048.Idx) : val_main_v7 (F := Ideal) x0 i = at2 x0 (latRow (i 0) (i 1)) (i 2) := by
  have h0 : (i 0).val < 4 := (i 0).isLt
  have h1 : (i 1).val < 4096 := (i 1).isLt
  have h2 : (i 2).val < 2048 := (i 2).isLt
  rw [val_main_v7_apply, val_main_v6_apply]
  refine at2_idx x0 _ _ _ ?_ ?_
  · unfold latRow; simp; omega
  · simp; omega

theorem lat_in3 (i : S4x4096x512.Idx) : val_main_v12 (F := Ideal) x3 i = at2 x3 (latRow (i 0) (i 1)) (i 2) := by
  have h0 : (i 0).val < 4 := (i 0).isLt
  have h1 : (i 1).val < 4096 := (i 1).isLt
  have h2 : (i 2).val < 512 := (i 2).isLt
  rw [val_main_v12_apply, val_main_v11_apply, val_main_v10_apply]
  refine at2_idx x3 _ _ _ ?_ ?_
  · unfold latRow; simp; omega
  · simp; omega

theorem lat_in4 (i : S4x4096x512.Idx) : val_main_v17 (F := Ideal) x4 i = at2 x4 (latRow (i 0) (i 1)) (i 2) := by
  have h0 : (i 0).val < 4 := (i 0).isLt
  have h1 : (i 1).val < 4096 := (i 1).isLt
  have h2 : (i 2).val < 512 := (i 2).isLt
  rw [val_main_v17_apply, val_main_v16_apply, val_main_v15_apply]
  refine at2_idx x4 _ _ _ ?_ ?_
  · unfold latRow; simp; omega
  · simp; omega

theorem lat_in5 (i : S4x4096x512.Idx) : val_main_v21 (F := Ideal) x5 i = at2 x5 (latRow (i 0) (i 1)) (i 2) := by
  have h0 : (i 0).val < 4 := (i 0).isLt
  have h1 : (i 1).val < 4096 := (i 1).isLt
  have h2 : (i 2).val < 512 := (i 2).isLt
  rw [val_main_v21_apply, val_main_v20_apply]
  refine at2_idx x5 _ _ _ ?_ ?_
  · unfold latRow; simp; omega
  · simp; omega

theorem lat_in6 (i : S4x4096x512.Idx) : val_main_v25 (F := Ideal) x6 i = at2 x6 (latRow (i 0) (i 1)) (i 2) := by
  have h0 : (i 0).val < 4 := (i 0).isLt
  have h1 : (i 1).val < 4096 := (i 1).isLt
  have h2 : (i 2).val < 512 := (i 2).isLt
  rw [val_main_v25_apply, val_main_v24_apply]
  refine at2_idx x6 _ _ _ ?_ ?_
  · unfold latRow; simp; omega
  · simp; omega

theorem lat_in7 (i : S4x4096x512.Idx) : val_main_v30 (F := Ideal) x7 i = at2 x7 (latRow (i 0) (i 1)) (i 2) := by
  have h0 : (i 0).val < 4 := (i 0).isLt
  have h1 : (i 1).val < 4096 := (i 1).isLt
  have h2 : (i 2).val < 512 := (i 2).isLt
  rw [val_main_v30_apply, val_main_v29_apply, val_main_v28_apply]
  refine at2_idx x7 _ _ _ ?_ ?_
  · unfold latRow; simp; omega
  · simp; omega

/-- The modulation row of kind `j`. -/
theorem lat_mod (i : S4x1x9x2048.Idx) (b j c : Nat) (h0 : (i 0).val = b) (h2 : (i 2).val = j) (h3 : (i 3).val = c) :
    val_main_v2 (F := Ideal) x1 i = atm x1 b j c := by
  have k0 : (i 0).val < 4 := (i 0).isLt
  have k1 : (i 1).val < 1 := (i 1).isLt
  have k2 : (i 2).val < 9 := (i 2).isLt
  have k3 : (i 3).val < 2048 := (i 3).isLt
  subst h0 h2 h3
  rw [val_main_v2_apply, val_main_v1_apply, val_main_v0_apply]
  refine atm_idx x1 _ _ _ _ ?_ ?_ ?_ ?_ ?_
  all_goals simp
  all_goals omega

theorem lat_shift (i : S4x1x2048.Idx) : val_main_v47 (F := Ideal) x1 i = atm x1 (i 0) 3 (i 2) := by
  have h0 : (i 0).val < 4 := (i 0).isLt
  have h1 : (i 1).val < 1 := (i 1).isLt
  have h2 : (i 2).val < 2048 := (i 2).isLt
  rw [val_main_v47_apply, val_main_v46_apply]
  refine lat_mod x1 _ _ _ _ ?_ ?_ ?_
  all_goals simp
  all_goals omega

theorem lat_scale (i : S4x1x2048.Idx) : val_main_v49 (F := Ideal) x1 i = atm x1 (i 0) 4 (i 2) := by
  have h0 : (i 0).val < 4 := (i 0).isLt
  have h1 : (i 1).val < 1 := (i 1).isLt
  have h2 : (i 2).val < 2048 := (i 2).isLt
  rw [val_main_v49_apply, val_main_v48_apply]
  refine lat_mod x1 _ _ _ _ ?_ ?_ ?_
  all_goals simp
  all_goals omega

theorem lat_gateRow (i : S4x1x2048.Idx) : val_main_v82 (F := Ideal) x1 i = atm x1 (i 0) 5 (i 2) := by
  have h0 : (i 0).val < 4 := (i 0).isLt
  have h1 : (i 1).val < 1 := (i 1).isLt
  have h2 : (i 2).val < 2048 := (i 2).isLt
  rw [val_main_v82_apply, val_main_v81_apply]
  refine lat_mod x1 _ _ _ _ ?_ ?_ ?_
  all_goals simp
  all_goals omega

/-- The root of the mean square. -/
theorem lat_root (i : S4x4096x1.Idx) : val_main_v40 (F := Ideal) x0 i = Ideal.rsqrt (Ideal.div
    (∑ d : Fin 2048, at2 x0 (latRow (i 0) (i 1)) d * at2 x0 (latRow (i 0) (i 1)) d) (Ideal.ofBits .f32 0x45000000#32)
      + Ideal.ofBits .f32 0x358637BD#32) := by
  rw [val_main_v40_apply, val_main_v39_apply, val_main_v37_apply]
  refine congrArg Ideal.rsqrt (congrArg₂ (· + ·) (congrArg₂ Ideal.div ?_ ?_) ?_)
  · refine ((val_main_v35_apply x0 i).trans (val_main_v34_apply x0 _)).trans ?_
    refine (congrArg₂ (· + ·) Ideal.ofBits_zero_f32 (Finset.sum_congr rfl fun d _ => ?_)).trans (zero_add _)
    exact congrArg₂ (· * ·) (lat_x x0 _) (lat_x x0 _)
  · rw [val_main_v36_apply]; rfl
  · rw [val_main_v38_apply]; rfl

/-- The normalised row. -/
theorem lat_normed (i : S4x4096x2048.Idx) : val_main_v55 (F := Ideal) x0 x1 x2 i = mixNorm x0 x1 x2 (latRow (i 0) (i 1)) (i 2) := by
  have hm := lat_batch (i 0) (i 1) (i 0).isLt (i 1).isLt
  unfold mixNorm normed
  rw [hm, val_main_v55_apply, val_main_v53_apply, val_main_v45_apply, val_main_v42_apply]
  refine congrArg₂ (· + ·) (congrArg₂ (· * ·) (congrArg₂ (· * ·) (congrArg₂ (· * ·) (lat_x x0 i) ?_) ?_) ?_) ?_
  · rw [val_main_v41_apply]; exact lat_root x0 _
  · rw [val_main_v44_apply, val_main_v43_apply]; exact at1_idx x2 _ _ rfl
  · rw [val_main_v52_apply, val_main_v51_apply]; exact congrArg₂ (· + ·) (val_main_v50_apply _) (lat_scale x1 _)
  · rw [val_main_v54_apply]; exact lat_shift x1 _

end Cert.RefMergeIdeal.Mix

end
-- ==== Proof.MergeRefRows.lean ====
/- Rows padded at both ends. -/
module

public import proofs.«01_k».proof.Proof.Arrays
public import Idealize.ShloMosaic.Lib.KernelVsHost

@[expose] public section

noncomputable section

namespace Cert.Layer

open Idealize.ShloMosaic

/-- A stack of rows padded with one zero row at each end, at an index. -/
theorem pad_rows {n N : Nat} (hN : N = n + 2) (x : (⟨3, ![4, n, 512]⟩ : Shape).Idx → EReal) {u : Shape} (v : u.Idx → EReal)
    (h : (⟨3, ![4, n, 512]⟩ : Shape).Pads ![0, 1, 0] ![0, 1, 0] ![0, 0, 0] ⟨3, ![4, N, 512]⟩) (hu : 0 < u.numel)
    (hv : ∀ i, v i = 0) (i : (⟨3, ![4, N, 512]⟩ : Shape).Idx) :
    pad ⟨3, ![4, N, 512]⟩ ![0, 1, 0] ![0, 1, 0] ![0, 0, 0] x v h hu i
      = if k : 1 ≤ (i 1).val ∧ (i 1).val ≤ n then x (ix3 (i 0) ⟨(i 1).val - 1, by omega⟩ (i 2)) else 0 := by
  split
  · rename_i k
    refine pad_apply_of_inside _ _ _ x v h hu i _ fun a => ?_
    match a with
    | ⟨0, _⟩ => show (i 0).val = 0 + (i 0).val * (0 + 1); omega
    | ⟨1, _⟩ => show (i 1).val = 1 + ((i 1).val - 1) * (0 + 1); omega
    | ⟨2, _⟩ => show (i 2).val = 0 + (i 2).val * (0 + 1); omega
  · rename_i k
    rw [← hv (Shape.Idx.first hu)]
    refine pad_apply_of_not_inside _ _ _ x v h hu i 1 fun e => k ⟨e.1, ?_⟩
    have q : ((i 1).val - 1) / (0 + 1) < n := e.2.2
    omega

end Cert.Layer

end
-- ==== Proof.MergeRefLatent.lean ====
/- The merge's reference: the latent rows at an element. -/
module

public import proofs.«01_k».proof.Proof.MergeRefLatentNorm
public import proofs.«01_k».proof.Proof.MergeRefRows
public import Idealize.ShloMosaic.Lib.Pointwise
public import Idealize.ShloMosaic.Lib.Pipeline.ValueKit

@[expose] public section

set_option maxRecDepth 16384

noncomputable section

namespace Cert.RefMergeIdeal.Mix

open Cert.RefMergeIdeal Cert.RefMergeIdeal.Gen Cert.RefMergeIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S17408x512, .bf16⟩ : BufTy).Contents (Elt Ideal))
  (x4 : (⟨S17408x512, .bf16⟩ : BufTy).Contents (Elt Ideal))
  (x5 : (⟨S17408x512, .f32⟩ : BufTy).Contents (Elt Ideal))
  (x6 : (⟨S17408x512, .f32⟩ : BufTy).Contents (Elt Ideal))
  (x7 : (⟨S17408x512, .bf16⟩ : BufTy).Contents (Elt Ideal))
  (x8 : (⟨S3x512, .f32⟩ : BufTy).Contents (Elt Ideal))
  (x9 : (⟨S512, .f32⟩ : BufTy).Contents (Elt Ideal))
  (x10 : (⟨S4x512x2048, .f32⟩ : BufTy).Contents (Elt Ideal))
  (x11 : (⟨S4x2048x2048, .f32⟩ : BufTy).Contents (Elt Ideal))
  (x12 : (⟨S4x2048, .f32⟩ : BufTy).Contents (Elt Ideal))
  (x13 : (⟨S2048x2048, .f32⟩ : BufTy).Contents (Elt Ideal))

theorem lat_tap0 (i : S4x4096x512.Idx) : val_main_v61 (F := Ideal) x8 i = at2 x8 0 (i 2) := by
  have h2 : (i 2).val < 512 := (i 2).isLt
  rw [val_main_v61_apply, val_main_v60_apply, val_main_v59_apply, val_main_v58_apply]
  refine at2_idx x8 _ _ _ ?_ ?_
  all_goals simp
  all_goals omega

theorem lat_tap1 (i : S4x4096x512.Idx) : val_main_v67 (F := Ideal) x8 i = at2 x8 1 (i 2) := by
  have h2 : (i 2).val < 512 := (i 2).isLt
  rw [val_main_v67_apply, val_main_v66_apply, val_main_v65_apply, val_main_v64_apply]
  refine at2_idx x8 _ _ _ ?_ ?_
  all_goals simp
  all_goals omega

theorem lat_tap2 (i : S4x4096x512.Idx) : val_main_v74 (F := Ideal) x8 i = at2 x8 2 (i 2) := by
  have h2 : (i 2).val < 512 := (i 2).isLt
  rw [val_main_v74_apply, val_main_v73_apply, val_main_v72_apply, val_main_v71_apply]
  refine at2_idx x8 _ _ _ ?_ ?_
  all_goals simp
  all_goals omega

theorem lat_bias (i : S4x4096x512.Idx) : val_main_v78 (F := Ideal) x9 i = at1 x9 (i 2) := by
  rw [val_main_v78_apply, val_main_v77_apply]
  exact at1_idx x9 _ _ rfl

/-- The value the rows are padded with is zero. -/
theorem lat_zero (i : S_.Idx) : val_main_call0_v0 (F := Ideal) i = 0 := by
  show ((((0#32 : BitVec 32).toInt : ℝ)) : EReal) = 0
  norm_num

/-- The row before, zero at the start of the sequence. -/
theorem lat_before (i : S4x4096x512.Idx) :
    val_main_v57 (F := Ideal) x6 i = if seqPos (latRow (i 0) (i 1)) = 0 then 0 else at2 x6 (latRow (i 0) (i 1) - 1) (i 2) := by
  have h0 : (i 0).val < 4 := (i 0).isLt
  have h1 : (i 1).val < 4096 := (i 1).isLt
  rw [val_main_v57_apply, lat_pos _ _ h0 h1]
  unfold val_main_v56
  refine (pad_rows rfl _ _ _ _ lat_zero (idx_main_v57 i)).trans ?_
  by_cases h : (i 1).val = 0
  · rw [if_pos h, dif_neg (by show ¬(1 ≤ (i 1).val ∧ _); omega)]
  · rw [if_neg h, dif_pos (by show 1 ≤ (i 1).val ∧ (i 1).val ≤ 4096; omega)]
    refine (lat_in6 x6 _).trans (congrArg (fun z => at2 x6 z (i 2)) ?_)
    unfold latRow
    show 4096 * (i 0).val + ((i 1).val - 1) = 4096 * (i 0).val + (i 1).val - 1
    omega

/-- The row itself. -/
theorem lat_here (i : S4x4096x512.Idx) : val_main_v63 (F := Ideal) x6 i = at2 x6 (latRow (i 0) (i 1)) (i 2) := by
  have h0 : (i 0).val < 4 := (i 0).isLt
  have h1 : (i 1).val < 4096 := (i 1).isLt
  rw [val_main_v63_apply]
  unfold val_main_v56
  refine (pad_rows rfl _ _ _ _ lat_zero (idx_main_v63 i)).trans ?_
  have e : (idx_main_v63 i 1).val = (i 1).val + 1 := by simp; omega
  rw [dif_pos (by rw [e]; omega)]
  refine (lat_in6 x6 _).trans (congrArg (fun z => at2 x6 z (i 2)) ?_)
  exact congrArg (latRow (i 0).val) (by show (idx_main_v63 i 1).val - 1 = _; rw [e]; omega)

/-- The row after, zero at the end of the sequence. -/
theorem lat_after (i : S4x4096x512.Idx) :
    val_main_v70 (F := Ideal) x6 i = if seqPos (latRow (i 0) (i 1)) = seqLen (latRow (i 0) (i 1)) - 1 then 0 else at2 x6 (latRow (i 0) (i 1) + 1) (i 2) := by
  have h0 : (i 0).val < 4 := (i 0).isLt
  have h1 : (i 1).val < 4096 := (i 1).isLt
  rw [val_main_v70_apply, lat_pos _ _ h0 h1, lat_len _ _ h0 h1]
  unfold val_main_v56
  refine (pad_rows rfl _ _ _ _ lat_zero (idx_main_v70 i)).trans ?_
  have e : (idx_main_v70 i 1).val = (i 1).val + 2 := by simp; omega
  by_cases h : (i 1).val = 4096 - 1
  · rw [if_pos h, dif_neg (by rw [e]; omega)]
  · rw [if_neg h, dif_pos (by rw [e]; omega)]
    refine (lat_in6 x6 _).trans (congrArg (fun z => at2 x6 z (i 2)) ?_)
    refine (congrArg (latRow (i 0).val) (by show (idx_main_v70 i 1).val - 1 = (i 1).val + 1; rw [e]; omega)).trans ?_
    unfold latRow
    omega

/-- The convolution. -/
theorem lat_conv (i : S4x4096x512.Idx) : val_main_v80 (F := Ideal) x5 x6 x8 x9 i = conv x5 x6 x8 x9 (latRow (i 0) (i 1)) (i 2) := by
  rw [val_main_v80_apply, val_main_v79_apply, val_main_v76_apply, val_main_v69_apply, val_main_v62_apply, val_main_v68_apply, val_main_v75_apply]
  unfold conv
  exact congrArg₂ (· * ·) (lat_in5 x5 i) (congrArg₂ (· + ·) (congrArg₂ (· + ·) (congrArg₂ (· + ·)
    (congrArg₂ (· * ·) (lat_before x6 i) (lat_tap0 x8 i)) (congrArg₂ (· * ·) (lat_here x6 i) (lat_tap1 x8 i)))
    (congrArg₂ (· * ·) (lat_after x6 i) (lat_tap2 x8 i))) (lat_bias x9 i))

/-- The gate of branch 0. -/
theorem lat_gate0 (i : S4x4096x2048.Idx) : val_main_v96 (F := Ideal) x0 x1 x2 x11 x12 i = gate x0 x1 x2 x11 x12 0 (latRow (i 0) (i 1)) (i 2) := by
  have h2 : (i 2).val < 2048 := (i 2).isLt
  have hg : val_main_v90 (F := Ideal) x0 x1 x2 x11 x12 i
      = (∑ d : Fin 2048, mixNorm x0 x1 x2 (latRow (i 0) (i 1)) d * at3 x11 0 d (i 2)) + at2 x12 0 (i 2) := by
    rw [val_main_v90_apply, val_main_v85_apply]
    refine congrArg₂ (· + ·) (Finset.sum_congr rfl fun d _ => congrArg₂ (· * ·) (lat_normed x0 x1 x2 _) ?_) ?_
    · have hd := d.isLt
      rw [val_main_v84_apply, val_main_v83_apply]
      refine at3_idx x11 _ _ _ _ ?_ ?_ ?_
      all_goals simp
      all_goals omega
    · rw [val_main_v89_apply, val_main_v88_apply, val_main_v87_apply, val_main_v86_apply]
      refine at2_idx x12 _ _ _ ?_ ?_
      all_goals simp
      all_goals omega
  unfold gate Ideal.logistic
  rw [val_main_v96_apply]
  refine congrArg₂ Ideal.div ?_ (congrArg₂ (· + ·) ?_ (congrArg (fun z => Ideal.exp (-z)) hg))
  · rw [val_main_v95_apply]; exact Ideal.ofBits_one_f32
  · rw [val_main_v93_apply]; exact Ideal.ofBits_one_f32

/-- Branch 0, projected. -/
theorem lat_branch0 (i : S4x4096x2048.Idx) :
    val_main_v99 (F := Ideal) x3 x10 i = ∑ y : Fin 512, at2 x3 (latRow (i 0) (i 1)) y * at3 x10 0 y (i 2) := by
  have h2 : (i 2).val < 2048 := (i 2).isLt
  rw [val_main_v99_apply]
  refine Finset.sum_congr rfl fun d _ => congrArg₂ (· * ·) (lat_in3 x3 _) ?_
  have hd := d.isLt
  rw [val_main_v98_apply, val_main_v97_apply]
  refine at3_idx x10 _ _ _ _ ?_ ?_ ?_
  all_goals simp
  all_goals omega

/-- The gate of branch 1. -/
theorem lat_gate1 (i : S4x4096x2048.Idx) : val_main_v114 (F := Ideal) x0 x1 x2 x11 x12 i = gate x0 x1 x2 x11 x12 1 (latRow (i 0) (i 1)) (i 2) := by
  have h2 : (i 2).val < 2048 := (i 2).isLt
  have hg : val_main_v108 (F := Ideal) x0 x1 x2 x11 x12 i
      = (∑ d : Fin 2048, mixNorm x0 x1 x2 (latRow (i 0) (i 1)) d * at3 x11 1 d (i 2)) + at2 x12 1 (i 2) := by
    rw [val_main_v108_apply, val_main_v103_apply]
    refine congrArg₂ (· + ·) (Finset.sum_congr rfl fun d _ => congrArg₂ (· * ·) (lat_normed x0 x1 x2 _) ?_) ?_
    · have hd := d.isLt
      rw [val_main_v102_apply, val_main_v101_apply]
      refine at3_idx x11 _ _ _ _ ?_ ?_ ?_
      all_goals simp
      all_goals omega
    · rw [val_main_v107_apply, val_main_v106_apply, val_main_v105_apply, val_main_v104_apply]
      refine at2_idx x12 _ _ _ ?_ ?_
      all_goals simp
      all_goals omega
  unfold gate Ideal.logistic
  rw [val_main_v114_apply]
  refine congrArg₂ Ideal.div ?_ (congrArg₂ (· + ·) ?_ (congrArg (fun z => Ideal.exp (-z)) hg))
  · rw [val_main_v113_apply]; exact Ideal.ofBits_one_f32
  · rw [val_main_v111_apply]; exact Ideal.ofBits_one_f32

/-- Branch 1, projected. -/
theorem lat_branch1 (i : S4x4096x2048.Idx) :
    val_main_v117 (F := Ideal) x4 x10 i = ∑ y : Fin 512, at2 x4 (latRow (i 0) (i 1)) y * at3 x10 1 y (i 2) := by
  have h2 : (i 2).val < 2048 := (i 2).isLt
  rw [val_main_v117_apply]
  refine Finset.sum_congr rfl fun d _ => congrArg₂ (· * ·) (lat_in4 x4 _) ?_
  have hd := d.isLt
  rw [val_main_v116_apply, val_main_v115_apply]
  refine at3_idx x10 _ _ _ _ ?_ ?_ ?_
  all_goals simp
  all_goals omega

/-- The gate of branch 2. -/
theorem lat_gate2 (i : S4x4096x2048.Idx) : val_main_v133 (F := Ideal) x0 x1 x2 x11 x12 i = gate x0 x1 x2 x11 x12 2 (latRow (i 0) (i 1)) (i 2) := by
  have h2 : (i 2).val < 2048 := (i 2).isLt
  have hg : val_main_v127 (F := Ideal) x0 x1 x2 x11 x12 i
      = (∑ d : Fin 2048, mixNorm x0 x1 x2 (latRow (i 0) (i 1)) d * at3 x11 2 d (i 2)) + at2 x12 2 (i 2) := by
    rw [val_main_v127_apply, val_main_v122_apply]
    refine congrArg₂ (· + ·) (Finset.sum_congr rfl fun d _ => congrArg₂ (· * ·) (lat_normed x0 x1 x2 _) ?_) ?_
    · have hd := d.isLt
      rw [val_main_v121_apply, val_main_v120_apply]
      refine at3_idx x11 _ _ _ _ ?_ ?_ ?_
      all_goals simp
      all_goals omega
    · rw [val_main_v126_apply, val_main_v125_apply, val_main_v124_apply, val_main_v123_apply]
      refine at2_idx x12 _ _ _ ?_ ?_
      all_goals simp
      all_goals omega
  unfold gate Ideal.logistic
  rw [val_main_v133_apply]
  refine congrArg₂ Ideal.div ?_ (congrArg₂ (· + ·) ?_ (congrArg (fun z => Ideal.exp (-z)) hg))
  · rw [val_main_v132_apply]; exact Ideal.ofBits_one_f32
  · rw [val_main_v130_apply]; exact Ideal.ofBits_one_f32

/-- Branch 2, projected. -/
theorem lat_branch2 (i : S4x4096x2048.Idx) :
    val_main_v136 (F := Ideal) x5 x6 x8 x9 x10 i = ∑ y : Fin 512, conv x5 x6 x8 x9 (latRow (i 0) (i 1)) y * at3 x10 2 y (i 2) := by
  have h2 : (i 2).val < 2048 := (i 2).isLt
  rw [val_main_v136_apply]
  refine Finset.sum_congr rfl fun d _ => congrArg₂ (· * ·) (lat_conv x5 x6 x8 x9 _) ?_
  have hd := d.isLt
  rw [val_main_v135_apply, val_main_v134_apply]
  refine at3_idx x10 _ _ _ _ ?_ ?_ ?_
  all_goals simp
  all_goals omega

/-- The gate of branch 3. -/
theorem lat_gate3 (i : S4x4096x2048.Idx) : val_main_v152 (F := Ideal) x0 x1 x2 x11 x12 i = gate x0 x1 x2 x11 x12 3 (latRow (i 0) (i 1)) (i 2) := by
  have h2 : (i 2).val < 2048 := (i 2).isLt
  have hg : val_main_v146 (F := Ideal) x0 x1 x2 x11 x12 i
      = (∑ d : Fin 2048, mixNorm x0 x1 x2 (latRow (i 0) (i 1)) d * at3 x11 3 d (i 2)) + at2 x12 3 (i 2) := by
    rw [val_main_v146_apply, val_main_v141_apply]
    refine congrArg₂ (· + ·) (Finset.sum_congr rfl fun d _ => congrArg₂ (· * ·) (lat_normed x0 x1 x2 _) ?_) ?_
    · have hd := d.isLt
      rw [val_main_v140_apply, val_main_v139_apply]
      refine at3_idx x11 _ _ _ _ ?_ ?_ ?_
      all_goals simp
      all_goals omega
    · rw [val_main_v145_apply, val_main_v144_apply, val_main_v143_apply, val_main_v142_apply]
      refine at2_idx x12 _ _ _ ?_ ?_
      all_goals simp
      all_goals omega
  unfold gate Ideal.logistic
  rw [val_main_v152_apply]
  refine congrArg₂ Ideal.div ?_ (congrArg₂ (· + ·) ?_ (congrArg (fun z => Ideal.exp (-z)) hg))
  · rw [val_main_v151_apply]; exact Ideal.ofBits_one_f32
  · rw [val_main_v149_apply]; exact Ideal.ofBits_one_f32

/-- Branch 3, projected. -/
theorem lat_branch3 (i : S4x4096x2048.Idx) :
    val_main_v155 (F := Ideal) x7 x10 i = ∑ y : Fin 512, at2 x7 (latRow (i 0) (i 1)) y * at3 x10 3 y (i 2) := by
  have h2 : (i 2).val < 2048 := (i 2).isLt
  rw [val_main_v155_apply]
  refine Finset.sum_congr rfl fun d _ => congrArg₂ (· * ·) (lat_in7 x7 _) ?_
  have hd := d.isLt
  rw [val_main_v154_apply, val_main_v153_apply]
  refine at3_idx x10 _ _ _ _ ?_ ?_ ?_
  all_goals simp
  all_goals omega

/-- The gated sum of the branches. -/
theorem lat_merged (i : S4x4096x2048.Idx) :
    val_main_v157 (F := Ideal) x0 x1 x2 x3 x4 x5 x6 x7 x8 x9 x10 x11 x12 i
      = merged x0 x1 x2 x3 x4 x5 x6 x7 x8 x9 x10 x11 x12 (latRow (i 0) (i 1)) (i 2) := by
  rw [val_main_v157_apply, val_main_v138_apply, val_main_v119_apply, val_main_v100_apply, val_main_v118_apply, val_main_v137_apply, val_main_v156_apply]
  unfold merged
  exact congrArg₂ (· + ·) (congrArg₂ (· + ·) (congrArg₂ (· + ·)
    (congrArg₂ (· * ·) (lat_gate0 x0 x1 x2 x11 x12 i) (lat_branch0 x3 x10 i))
    (congrArg₂ (· * ·) (lat_gate1 x0 x1 x2 x11 x12 i) (lat_branch1 x4 x10 i)))
    (congrArg₂ (· * ·) (lat_gate2 x0 x1 x2 x11 x12 i) (lat_branch2 x5 x6 x8 x9 x10 i)))
    (congrArg₂ (· * ·) (lat_gate3 x0 x1 x2 x11 x12 i) (lat_branch3 x7 x10 i))

/-- The layer's result on a latent row. -/
theorem lat_result (i : S4x4096x2048.Idx) :
    val_main_v161 (F := Ideal) x0 x1 x2 x3 x4 x5 x6 x7 x8 x9 x10 x11 x12 x13 i
      = mergeOut x0 x1 x2 x3 x4 x5 x6 x7 x8 x9 x10 x11 x12 x13 (latRow (i 0) (i 1)) (i 2) := by
  have hm := lat_batch (i 0) (i 1) (i 0).isLt (i 1).isLt
  unfold mergeOut
  rw [hm, val_main_v161_apply, val_main_v160_apply]
  refine congrArg₂ (· + ·) (lat_x x0 i) (congrArg₂ (· * ·) ?_ ?_)
  · rw [val_main_v159_apply]; exact lat_gateRow x1 _
  · rw [val_main_v158_apply]
    exact Finset.sum_congr rfl fun e _ => congrArg₂ (· * ·)
      (lat_merged x0 x1 x2 x3 x4 x5 x6 x7 x8 x9 x10 x11 x12 _) (at2_idx x13 _ _ _ rfl rfl)

end Cert.RefMergeIdeal.Mix

end
-- ==== Proof.MergeRefContextNorm.lean ====
/- The merge's reference: the context rows, normalised, at an element. -/
module

public import proofs.«01_k».proof.Proof.Gen.RefMergeIdeal.Read
public import proofs.«01_k».proof.Proof.MergeSpec
public import Idealize.ShloMosaic.Lib.Pointwise
public import Idealize.ShloMosaic.Lib.Pipeline.ValueKit

@[expose] public section

set_option maxRecDepth 16384

noncomputable section

namespace Cert.RefMergeIdeal.Mix

open Cert.RefMergeIdeal Cert.RefMergeIdeal.Gen Cert.RefMergeIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S17408x512, .bf16⟩ : BufTy).Contents (Elt Ideal))
  (x4 : (⟨S17408x512, .bf16⟩ : BufTy).Contents (Elt Ideal))
  (x5 : (⟨S17408x512, .f32⟩ : BufTy).Contents (Elt Ideal))
  (x6 : (⟨S17408x512, .f32⟩ : BufTy).Contents (Elt Ideal))
  (x7 : (⟨S17408x512, .bf16⟩ : BufTy).Contents (Elt Ideal))
  (x8 : (⟨S3x512, .f32⟩ : BufTy).Contents (Elt Ideal))
  (x9 : (⟨S512, .f32⟩ : BufTy).Contents (Elt Ideal))
  (x10 : (⟨S4x512x2048, .f32⟩ : BufTy).Contents (Elt Ideal))
  (x11 : (⟨S4x2048x2048, .f32⟩ : BufTy).Contents (Elt Ideal))
  (x12 : (⟨S4x2048, .f32⟩ : BufTy).Contents (Elt Ideal))
  (x13 : (⟨S2048x2048, .f32⟩ : BufTy).Contents (Elt Ideal))

/-- The context row of index (b, r). -/
def ctxRow (b r : Nat) : Nat := 16384 + 256 * b + r

theorem ctx_pos (b r : Nat) (hb : b < 4) (hr : r < 256) : seqPos (ctxRow b r) = r := by
  unfold seqPos ctxRow
  split <;> omega

theorem ctx_len (b r : Nat) (hb : b < 4) (hr : r < 256) : seqLen (ctxRow b r) = 256 := by
  unfold seqLen ctxRow
  split <;> omega

theorem ctx_batch (b r : Nat) (hb : b < 4) (hr : r < 256) : modRow (ctxRow b r) = 4 := by
  unfold modRow ctxRow
  split <;> omega

theorem ctx_x (i : S4x256x2048.Idx) : val_main_v9 (F := Ideal) x0 i = at2 x0 (ctxRow (i 0) (i 1)) (i 2) := by
  have h0 : (i 0).val < 4 := (i 0).isLt
  have h1 : (i 1).val < 256 := (i 1).isLt
  have h2 : (i 2).val < 2048 := (i 2).isLt
  rw [val_main_v9_apply, val_main_v8_apply]
  refine at2_idx x0 _ _ _ ?_ ?_
  · unfold ctxRow; simp; omega
  · simp; omega

theorem ctx_in3 (i : S4x256x512.Idx) : val_main_v14 (F := Ideal) x3 i = at2 x3 (ctxRow (i 0) (i 1)) (i 2) := by
  have h0 : (i 0).val < 4 := (i 0).isLt
  have h1 : (i 1).val < 256 := (i 1).isLt
  have h2 : (i 2).val < 512 := (i 2).isLt
  rw [val_main_v14_apply, val_main_v13_apply, val_main_v10_apply]
  refine at2_idx x3 _ _ _ ?_ ?_
  · unfold ctxRow; simp; omega
  · simp; omega

theorem ctx_in4 (i : S4x256x512.Idx) : val_main_v19 (F := Ideal) x4 i = at2 x4 (ctxRow (i 0) (i 1)) (i 2) := by
  have h0 : (i 0).val < 4 := (i 0).isLt
  have h1 : (i 1).val < 256 := (i 1).isLt
  have h2 : (i 2).val < 512 := (i 2).isLt
  rw [val_main_v19_apply, val_main_v18_apply, val_main_v15_apply]
  refine at2_idx x4 _ _ _ ?_ ?_
  · unfold ctxRow; simp; omega
  · simp; omega

theorem ctx_in5 (i : S4x256x512.Idx) : val_main_v23 (F := Ideal) x5 i = at2 x5 (ctxRow (i 0) (i 1)) (i 2) := by
  have h0 : (i 0).val < 4 := (i 0).isLt
  have h1 : (i 1).val < 256 := (i 1).isLt
  have h2 : (i 2).val < 512 := (i 2).isLt
  rw [val_main_v23_apply, val_main_v22_apply]
  refine at2_idx x5 _ _ _ ?_ ?_
  · unfold ctxRow; simp; omega
  · simp; omega

theorem ctx_in6 (i : S4x256x512.Idx) : val_main_v27 (F := Ideal) x6 i = at2 x6 (ctxRow (i 0) (i 1)) (i 2) := by
  have h0 : (i 0).val < 4 := (i 0).isLt
  have h1 : (i 1).val < 256 := (i 1).isLt
  have h2 : (i 2).val < 512 := (i 2).isLt
  rw [val_main_v27_apply, val_main_v26_apply]
  refine at2_idx x6 _ _ _ ?_ ?_
  · unfold ctxRow; simp; omega
  · simp; omega

theorem ctx_in7 (i : S4x256x512.Idx) : val_main_v32 (F := Ideal) x7 i = at2 x7 (ctxRow (i 0) (i 1)) (i 2) := by
  have h0 : (i 0).val < 4 := (i 0).isLt
  have h1 : (i 1).val < 256 := (i 1).isLt
  have h2 : (i 2).val < 512 := (i 2).isLt
  rw [val_main_v32_apply, val_main_v31_apply, val_main_v28_apply]
  refine at2_idx x7 _ _ _ ?_ ?_
  · unfold ctxRow; simp; omega
  · simp; omega

/-- The modulation row of kind `j`. -/
theorem ctx_mod (i : S1x1x9x2048.Idx) (b j c : Nat) (h0 : 4 = b) (h2 : (i 2).val = j) (h3 : (i 3).val = c) :
    val_main_v5 (F := Ideal) x1 i = atm x1 b j c := by
  have k0 : (i 0).val < 1 := (i 0).isLt
  have k1 : (i 1).val < 1 := (i 1).isLt
  have k2 : (i 2).val < 9 := (i 2).isLt
  have k3 : (i 3).val < 2048 := (i 3).isLt
  subst h0 h2 h3
  rw [val_main_v5_apply, val_main_v4_apply, val_main_v3_apply]
  refine atm_idx x1 _ _ _ _ ?_ ?_ ?_ ?_ ?_
  all_goals simp
  all_goals omega

theorem ctx_shift (i : S1x1x2048.Idx) : val_main_v177 (F := Ideal) x1 i = atm x1 4 3 (i 2) := by
  have h0 : (i 0).val < 1 := (i 0).isLt
  have h1 : (i 1).val < 1 := (i 1).isLt
  have h2 : (i 2).val < 2048 := (i 2).isLt
  rw [val_main_v177_apply, val_main_v176_apply]
  refine ctx_mod x1 _ _ _ _ ?_ ?_ ?_
  all_goals simp
  all_goals omega

theorem ctx_scale (i : S1x1x2048.Idx) : val_main_v179 (F := Ideal) x1 i = atm x1 4 4 (i 2) := by
  have h0 : (i 0).val < 1 := (i 0).isLt
  have h1 : (i 1).val < 1 := (i 1).isLt
  have h2 : (i 2).val < 2048 := (i 2).isLt
  rw [val_main_v179_apply, val_main_v178_apply]
  refine ctx_mod x1 _ _ _ _ ?_ ?_ ?_
  all_goals simp
  all_goals omega

theorem ctx_gateRow (i : S1x1x2048.Idx) : val_main_v212 (F := Ideal) x1 i = atm x1 4 5 (i 2) := by
  have h0 : (i 0).val < 1 := (i 0).isLt
  have h1 : (i 1).val < 1 := (i 1).isLt
  have h2 : (i 2).val < 2048 := (i 2).isLt
  rw [val_main_v212_apply, val_main_v211_apply]
  refine ctx_mod x1 _ _ _ _ ?_ ?_ ?_
  all_goals simp
  all_goals omega

/-- The root of the mean square. -/
theorem ctx_root (i : S4x256x1.Idx) : val_main_v170 (F := Ideal) x0 i = Ideal.rsqrt (Ideal.div
    (∑ d : Fin 2048, at2 x0 (ctxRow (i 0) (i 1)) d * at2 x0 (ctxRow (i 0) (i 1)) d) (Ideal.ofBits .f32 0x45000000#32)
      + Ideal.ofBits .f32 0x358637BD#32) := by
  rw [val_main_v170_apply, val_main_v169_apply, val_main_v167_apply]
  refine congrArg Ideal.rsqrt (congrArg₂ (· + ·) (congrArg₂ Ideal.div ?_ ?_) ?_)
  · refine ((val_main_v165_apply x0 i).trans (val_main_v164_apply x0 _)).trans ?_
    refine (congrArg₂ (· + ·) Ideal.ofBits_zero_f32 (Finset.sum_congr rfl fun d _ => ?_)).trans (zero_add _)
    exact congrArg₂ (· * ·) (ctx_x x0 _) (ctx_x x0 _)
  · rw [val_main_v166_apply]; rfl
  · rw [val_main_v168_apply]; rfl

/-- The normalised row. -/
theorem ctx_normed (i : S4x256x2048.Idx) : val_main_v185 (F := Ideal) x0 x1 x2 i = mixNorm x0 x1 x2 (ctxRow (i 0) (i 1)) (i 2) := by
  have hm := ctx_batch (i 0) (i 1) (i 0).isLt (i 1).isLt
  unfold mixNorm normed
  rw [hm, val_main_v185_apply, val_main_v183_apply, val_main_v175_apply, val_main_v172_apply]
  refine congrArg₂ (· + ·) (congrArg₂ (· * ·) (congrArg₂ (· * ·) (congrArg₂ (· * ·) (ctx_x x0 i) ?_) ?_) ?_) ?_
  · rw [val_main_v171_apply]; exact ctx_root x0 _
  · rw [val_main_v174_apply, val_main_v173_apply]; exact at1_idx x2 _ _ rfl
  · rw [val_main_v182_apply, val_main_v181_apply]; exact congrArg₂ (· + ·) (val_main_v180_apply _) (ctx_scale x1 _)
  · rw [val_main_v184_apply]; exact ctx_shift x1 _

end Cert.RefMergeIdeal.Mix

end
-- ==== Proof.MergeRefContext.lean ====
/- The merge's reference: the context rows at an element. -/
module

public import proofs.«01_k».proof.Proof.MergeRefContextNorm
public import proofs.«01_k».proof.Proof.MergeRefRows
public import Idealize.ShloMosaic.Lib.Pointwise
public import Idealize.ShloMosaic.Lib.Pipeline.ValueKit

@[expose] public section

set_option maxRecDepth 16384

noncomputable section

namespace Cert.RefMergeIdeal.Mix

open Cert.RefMergeIdeal Cert.RefMergeIdeal.Gen Cert.RefMergeIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S17408x512, .bf16⟩ : BufTy).Contents (Elt Ideal))
  (x4 : (⟨S17408x512, .bf16⟩ : BufTy).Contents (Elt Ideal))
  (x5 : (⟨S17408x512, .f32⟩ : BufTy).Contents (Elt Ideal))
  (x6 : (⟨S17408x512, .f32⟩ : BufTy).Contents (Elt Ideal))
  (x7 : (⟨S17408x512, .bf16⟩ : BufTy).Contents (Elt Ideal))
  (x8 : (⟨S3x512, .f32⟩ : BufTy).Contents (Elt Ideal))
  (x9 : (⟨S512, .f32⟩ : BufTy).Contents (Elt Ideal))
  (x10 : (⟨S4x512x2048, .f32⟩ : BufTy).Contents (Elt Ideal))
  (x11 : (⟨S4x2048x2048, .f32⟩ : BufTy).Contents (Elt Ideal))
  (x12 : (⟨S4x2048, .f32⟩ : BufTy).Contents (Elt Ideal))
  (x13 : (⟨S2048x2048, .f32⟩ : BufTy).Contents (Elt Ideal))

theorem ctx_tap0 (i : S4x256x512.Idx) : val_main_v191 (F := Ideal) x8 i = at2 x8 0 (i 2) := by
  have h2 : (i 2).val < 512 := (i 2).isLt
  rw [val_main_v191_apply, val_main_v190_apply, val_main_v189_apply, val_main_v188_apply]
  refine at2_idx x8 _ _ _ ?_ ?_
  all_goals simp
  all_goals omega

theorem ctx_tap1 (i : S4x256x512.Idx) : val_main_v197 (F := Ideal) x8 i = at2 x8 1 (i 2) := by
  have h2 : (i 2).val < 512 := (i 2).isLt
  rw [val_main_v197_apply, val_main_v196_apply, val_main_v195_apply, val_main_v194_apply]
  refine at2_idx x8 _ _ _ ?_ ?_
  all_goals simp
  all_goals omega

theorem ctx_tap2 (i : S4x256x512.Idx) : val_main_v204 (F := Ideal) x8 i = at2 x8 2 (i 2) := by
  have h2 : (i 2).val < 512 := (i 2).isLt
  rw [val_main_v204_apply, val_main_v203_apply, val_main_v202_apply, val_main_v201_apply]
  refine at2_idx x8 _ _ _ ?_ ?_
  all_goals simp
  all_goals omega

theorem ctx_bias (i : S4x256x512.Idx) : val_main_v208 (F := Ideal) x9 i = at1 x9 (i 2) := by
  rw [val_main_v208_apply, val_main_v207_apply]
  exact at1_idx x9 _ _ rfl

/-- The value the rows are padded with is zero. -/
theorem ctx_zero (i : S_.Idx) : val_main_call1_v0 (F := Ideal) i = 0 := by
  show ((((0#32 : BitVec 32).toInt : ℝ)) : EReal) = 0
  norm_num

/-- The row before, zero at the start of the sequence. -/
theorem ctx_before (i : S4x256x512.Idx) :
    val_main_v187 (F := Ideal) x6 i = if seqPos (ctxRow (i 0) (i 1)) = 0 then 0 else at2 x6 (ctxRow (i 0) (i 1) - 1) (i 2) := by
  have h0 : (i 0).val < 4 := (i 0).isLt
  have h1 : (i 1).val < 256 := (i 1).isLt
  rw [val_main_v187_apply, ctx_pos _ _ h0 h1]
  unfold val_main_v186
  refine (pad_rows rfl _ _ _ _ ctx_zero (idx_main_v187 i)).trans ?_
  by_cases h : (i 1).val = 0
  · rw [if_pos h, dif_neg (by show ¬(1 ≤ (i 1).val ∧ _); omega)]
  · rw [if_neg h, dif_pos (by show 1 ≤ (i 1).val ∧ (i 1).val ≤ 256; omega)]
    refine (ctx_in6 x6 _).trans (congrArg (fun z => at2 x6 z (i 2)) ?_)
    unfold ctxRow
    show 16384 + 256 * (i 0).val + ((i 1).val - 1) = 16384 + 256 * (i 0).val + (i 1).val - 1
    omega

/-- The row itself. -/
theorem ctx_here (i : S4x256x512.Idx) : val_main_v193 (F := Ideal) x6 i = at2 x6 (ctxRow (i 0) (i 1)) (i 2) := by
  have h0 : (i 0).val < 4 := (i 0).isLt
  have h1 : (i 1).val < 256 := (i 1).isLt
  rw [val_main_v193_apply]
  unfold val_main_v186
  refine (pad_rows rfl _ _ _ _ ctx_zero (idx_main_v193 i)).trans ?_
  have e : (idx_main_v193 i 1).val = (i 1).val + 1 := by simp; omega
  rw [dif_pos (by rw [e]; omega)]
  refine (ctx_in6 x6 _).trans (congrArg (fun z => at2 x6 z (i 2)) ?_)
  exact congrArg (ctxRow (i 0).val) (by show (idx_main_v193 i 1).val - 1 = _; rw [e]; omega)

/-- The row after, zero at the end of the sequence. -/
theorem ctx_after (i : S4x256x512.Idx) :
    val_main_v200 (F := Ideal) x6 i = if seqPos (ctxRow (i 0) (i 1)) = seqLen (ctxRow (i 0) (i 1)) - 1 then 0 else at2 x6 (ctxRow (i 0) (i 1) + 1) (i 2) := by
  have h0 : (i 0).val < 4 := (i 0).isLt
  have h1 : (i 1).val < 256 := (i 1).isLt
  rw [val_main_v200_apply, ctx_pos _ _ h0 h1, ctx_len _ _ h0 h1]
  unfold val_main_v186
  refine (pad_rows rfl _ _ _ _ ctx_zero (idx_main_v200 i)).trans ?_
  have e : (idx_main_v200 i 1).val = (i 1).val + 2 := by simp; omega
  by_cases h : (i 1).val = 256 - 1
  · rw [if_pos h, dif_neg (by rw [e]; omega)]
  · rw [if_neg h, dif_pos (by rw [e]; omega)]
    refine (ctx_in6 x6 _).trans (congrArg (fun z => at2 x6 z (i 2)) ?_)
    refine (congrArg (ctxRow (i 0).val) (by show (idx_main_v200 i 1).val - 1 = (i 1).val + 1; rw [e]; omega)).trans ?_
    unfold ctxRow
    omega

/-- The convolution. -/
theorem ctx_conv (i : S4x256x512.Idx) : val_main_v210 (F := Ideal) x5 x6 x8 x9 i = conv x5 x6 x8 x9 (ctxRow (i 0) (i 1)) (i 2) := by
  rw [val_main_v210_apply, val_main_v209_apply, val_main_v206_apply, val_main_v199_apply, val_main_v192_apply, val_main_v198_apply, val_main_v205_apply]
  unfold conv
  exact congrArg₂ (· * ·) (ctx_in5 x5 i) (congrArg₂ (· + ·) (congrArg₂ (· + ·) (congrArg₂ (· + ·)
    (congrArg₂ (· * ·) (ctx_before x6 i) (ctx_tap0 x8 i)) (congrArg₂ (· * ·) (ctx_here x6 i) (ctx_tap1 x8 i)))
    (congrArg₂ (· * ·) (ctx_after x6 i) (ctx_tap2 x8 i))) (ctx_bias x9 i))

/-- The gate of branch 0. -/
theorem ctx_gate0 (i : S4x256x2048.Idx) : val_main_v226 (F := Ideal) x0 x1 x2 x11 x12 i = gate x0 x1 x2 x11 x12 0 (ctxRow (i 0) (i 1)) (i 2) := by
  have h2 : (i 2).val < 2048 := (i 2).isLt
  have hg : val_main_v220 (F := Ideal) x0 x1 x2 x11 x12 i
      = (∑ d : Fin 2048, mixNorm x0 x1 x2 (ctxRow (i 0) (i 1)) d * at3 x11 0 d (i 2)) + at2 x12 0 (i 2) := by
    rw [val_main_v220_apply, val_main_v215_apply]
    refine congrArg₂ (· + ·) (Finset.sum_congr rfl fun d _ => congrArg₂ (· * ·) (ctx_normed x0 x1 x2 _) ?_) ?_
    · have hd := d.isLt
      rw [val_main_v214_apply, val_main_v213_apply]
      refine at3_idx x11 _ _ _ _ ?_ ?_ ?_
      all_goals simp
      all_goals omega
    · rw [val_main_v219_apply, val_main_v218_apply, val_main_v217_apply, val_main_v216_apply]
      refine at2_idx x12 _ _ _ ?_ ?_
      all_goals simp
      all_goals omega
  unfold gate Ideal.logistic
  rw [val_main_v226_apply]
  refine congrArg₂ Ideal.div ?_ (congrArg₂ (· + ·) ?_ (congrArg (fun z => Ideal.exp (-z)) hg))
  · rw [val_main_v225_apply]; exact Ideal.ofBits_one_f32
  · rw [val_main_v223_apply]; exact Ideal.ofBits_one_f32

/-- Branch 0, projected. -/
theorem ctx_branch0 (i : S4x256x2048.Idx) :
    val_main_v229 (F := Ideal) x3 x10 i = ∑ y : Fin 512, at2 x3 (ctxRow (i 0) (i 1)) y * at3 x10 0 y (i 2) := by
  have h2 : (i 2).val < 2048 := (i 2).isLt
  rw [val_main_v229_apply]
  refine Finset.sum_congr rfl fun d _ => congrArg₂ (· * ·) (ctx_in3 x3 _) ?_
  have hd := d.isLt
  rw [val_main_v228_apply, val_main_v227_apply]
  refine at3_idx x10 _ _ _ _ ?_ ?_ ?_
  all_goals simp
  all_goals omega

/-- The gate of branch 1. -/
theorem ctx_gate1 (i : S4x256x2048.Idx) : val_main_v244 (F := Ideal) x0 x1 x2 x11 x12 i = gate x0 x1 x2 x11 x12 1 (ctxRow (i 0) (i 1)) (i 2) := by
  have h2 : (i 2).val < 2048 := (i 2).isLt
  have hg : val_main_v238 (F := Ideal) x0 x1 x2 x11 x12 i
      = (∑ d : Fin 2048, mixNorm x0 x1 x2 (ctxRow (i 0) (i 1)) d * at3 x11 1 d (i 2)) + at2 x12 1 (i 2) := by
    rw [val_main_v238_apply, val_main_v233_apply]
    refine congrArg₂ (· + ·) (Finset.sum_congr rfl fun d _ => congrArg₂ (· * ·) (ctx_normed x0 x1 x2 _) ?_) ?_
    · have hd := d.isLt
      rw [val_main_v232_apply, val_main_v231_apply]
      refine at3_idx x11 _ _ _ _ ?_ ?_ ?_
      all_goals simp
      all_goals omega
    · rw [val_main_v237_apply, val_main_v236_apply, val_main_v235_apply, val_main_v234_apply]
      refine at2_idx x12 _ _ _ ?_ ?_
      all_goals simp
      all_goals omega
  unfold gate Ideal.logistic
  rw [val_main_v244_apply]
  refine congrArg₂ Ideal.div ?_ (congrArg₂ (· + ·) ?_ (congrArg (fun z => Ideal.exp (-z)) hg))
  · rw [val_main_v243_apply]; exact Ideal.ofBits_one_f32
  · rw [val_main_v241_apply]; exact Ideal.ofBits_one_f32

/-- Branch 1, projected. -/
theorem ctx_branch1 (i : S4x256x2048.Idx) :
    val_main_v247 (F := Ideal) x4 x10 i = ∑ y : Fin 512, at2 x4 (ctxRow (i 0) (i 1)) y * at3 x10 1 y (i 2) := by
  have h2 : (i 2).val < 2048 := (i 2).isLt
  rw [val_main_v247_apply]
  refine Finset.sum_congr rfl fun d _ => congrArg₂ (· * ·) (ctx_in4 x4 _) ?_
  have hd := d.isLt
  rw [val_main_v246_apply, val_main_v245_apply]
  refine at3_idx x10 _ _ _ _ ?_ ?_ ?_
  all_goals simp
  all_goals omega

/-- The gate of branch 2. -/
theorem ctx_gate2 (i : S4x256x2048.Idx) : val_main_v263 (F := Ideal) x0 x1 x2 x11 x12 i = gate x0 x1 x2 x11 x12 2 (ctxRow (i 0) (i 1)) (i 2) := by
  have h2 : (i 2).val < 2048 := (i 2).isLt
  have hg : val_main_v257 (F := Ideal) x0 x1 x2 x11 x12 i
      = (∑ d : Fin 2048, mixNorm x0 x1 x2 (ctxRow (i 0) (i 1)) d * at3 x11 2 d (i 2)) + at2 x12 2 (i 2) := by
    rw [val_main_v257_apply, val_main_v252_apply]
    refine congrArg₂ (· + ·) (Finset.sum_congr rfl fun d _ => congrArg₂ (· * ·) (ctx_normed x0 x1 x2 _) ?_) ?_
    · have hd := d.isLt
      rw [val_main_v251_apply, val_main_v250_apply]
      refine at3_idx x11 _ _ _ _ ?_ ?_ ?_
      all_goals simp
      all_goals omega
    · rw [val_main_v256_apply, val_main_v255_apply, val_main_v254_apply, val_main_v253_apply]
      refine at2_idx x12 _ _ _ ?_ ?_
      all_goals simp
      all_goals omega
  unfold gate Ideal.logistic
  rw [val_main_v263_apply]
  refine congrArg₂ Ideal.div ?_ (congrArg₂ (· + ·) ?_ (congrArg (fun z => Ideal.exp (-z)) hg))
  · rw [val_main_v262_apply]; exact Ideal.ofBits_one_f32
  · rw [val_main_v260_apply]; exact Ideal.ofBits_one_f32

/-- Branch 2, projected. -/
theorem ctx_branch2 (i : S4x256x2048.Idx) :
    val_main_v266 (F := Ideal) x5 x6 x8 x9 x10 i = ∑ y : Fin 512, conv x5 x6 x8 x9 (ctxRow (i 0) (i 1)) y * at3 x10 2 y (i 2) := by
  have h2 : (i 2).val < 2048 := (i 2).isLt
  rw [val_main_v266_apply]
  refine Finset.sum_congr rfl fun d _ => congrArg₂ (· * ·) (ctx_conv x5 x6 x8 x9 _) ?_
  have hd := d.isLt
  rw [val_main_v265_apply, val_main_v264_apply]
  refine at3_idx x10 _ _ _ _ ?_ ?_ ?_
  all_goals simp
  all_goals omega

/-- The gate of branch 3. -/
theorem ctx_gate3 (i : S4x256x2048.Idx) : val_main_v282 (F := Ideal) x0 x1 x2 x11 x12 i = gate x0 x1 x2 x11 x12 3 (ctxRow (i 0) (i 1)) (i 2) := by
  have h2 : (i 2).val < 2048 := (i 2).isLt
  have hg : val_main_v276 (F := Ideal) x0 x1 x2 x11 x12 i
      = (∑ d : Fin 2048, mixNorm x0 x1 x2 (ctxRow (i 0) (i 1)) d * at3 x11 3 d (i 2)) + at2 x12 3 (i 2) := by
    rw [val_main_v276_apply, val_main_v271_apply]
    refine congrArg₂ (· + ·) (Finset.sum_congr rfl fun d _ => congrArg₂ (· * ·) (ctx_normed x0 x1 x2 _) ?_) ?_
    · have hd := d.isLt
      rw [val_main_v270_apply, val_main_v269_apply]
      refine at3_idx x11 _ _ _ _ ?_ ?_ ?_
      all_goals simp
      all_goals omega
    · rw [val_main_v275_apply, val_main_v274_apply, val_main_v273_apply, val_main_v272_apply]
      refine at2_idx x12 _ _ _ ?_ ?_
      all_goals simp
      all_goals omega
  unfold gate Ideal.logistic
  rw [val_main_v282_apply]
  refine congrArg₂ Ideal.div ?_ (congrArg₂ (· + ·) ?_ (congrArg (fun z => Ideal.exp (-z)) hg))
  · rw [val_main_v281_apply]; exact Ideal.ofBits_one_f32
  · rw [val_main_v279_apply]; exact Ideal.ofBits_one_f32

/-- Branch 3, projected. -/
theorem ctx_branch3 (i : S4x256x2048.Idx) :
    val_main_v285 (F := Ideal) x7 x10 i = ∑ y : Fin 512, at2 x7 (ctxRow (i 0) (i 1)) y * at3 x10 3 y (i 2) := by
  have h2 : (i 2).val < 2048 := (i 2).isLt
  rw [val_main_v285_apply]
  refine Finset.sum_congr rfl fun d _ => congrArg₂ (· * ·) (ctx_in7 x7 _) ?_
  have hd := d.isLt
  rw [val_main_v284_apply, val_main_v283_apply]
  refine at3_idx x10 _ _ _ _ ?_ ?_ ?_
  all_goals simp
  all_goals omega

/-- The gated sum of the branches. -/
theorem ctx_merged (i : S4x256x2048.Idx) :
    val_main_v287 (F := Ideal) x0 x1 x2 x3 x4 x5 x6 x7 x8 x9 x10 x11 x12 i
      = merged x0 x1 x2 x3 x4 x5 x6 x7 x8 x9 x10 x11 x12 (ctxRow (i 0) (i 1)) (i 2) := by
  rw [val_main_v287_apply, val_main_v268_apply, val_main_v249_apply, val_main_v230_apply, val_main_v248_apply, val_main_v267_apply, val_main_v286_apply]
  unfold merged
  exact congrArg₂ (· + ·) (congrArg₂ (· + ·) (congrArg₂ (· + ·)
    (congrArg₂ (· * ·) (ctx_gate0 x0 x1 x2 x11 x12 i) (ctx_branch0 x3 x10 i))
    (congrArg₂ (· * ·) (ctx_gate1 x0 x1 x2 x11 x12 i) (ctx_branch1 x4 x10 i)))
    (congrArg₂ (· * ·) (ctx_gate2 x0 x1 x2 x11 x12 i) (ctx_branch2 x5 x6 x8 x9 x10 i)))
    (congrArg₂ (· * ·) (ctx_gate3 x0 x1 x2 x11 x12 i) (ctx_branch3 x7 x10 i))

/-- The layer's result on a context row. -/
theorem ctx_result (i : S4x256x2048.Idx) :
    val_main_v291 (F := Ideal) x0 x1 x2 x3 x4 x5 x6 x7 x8 x9 x10 x11 x12 x13 i
      = mergeOut x0 x1 x2 x3 x4 x5 x6 x7 x8 x9 x10 x11 x12 x13 (ctxRow (i 0) (i 1)) (i 2) := by
  have hm := ctx_batch (i 0) (i 1) (i 0).isLt (i 1).isLt
  unfold mergeOut
  rw [hm, val_main_v291_apply, val_main_v290_apply]
  refine congrArg₂ (· + ·) (ctx_x x0 i) (congrArg₂ (· * ·) ?_ ?_)
  · rw [val_main_v289_apply]; exact ctx_gateRow x1 _
  · rw [val_main_v288_apply]
    exact Finset.sum_congr rfl fun e _ => congrArg₂ (· * ·)
      (ctx_merged x0 x1 x2 x3 x4 x5 x6 x7 x8 x9 x10 x11 x12 _) (at2_idx x13 _ _ _ rfl rfl)

end Cert.RefMergeIdeal.Mix

end
-- ==== Proof.MergeRef.lean ====
/- The merge's reference: its result. -/
module

public import proofs.«01_k».proof.Proof.MergeRefLatent
public import proofs.«01_k».proof.Proof.MergeRefContext

@[expose] public section

set_option maxRecDepth 16384

noncomputable section

namespace Cert.RefMergeIdeal.Mix

open Cert.RefMergeIdeal Cert.RefMergeIdeal.Gen Cert.RefMergeIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S17408x512, .bf16⟩ : BufTy).Contents (Elt Ideal))
  (x4 : (⟨S17408x512, .bf16⟩ : BufTy).Contents (Elt Ideal))
  (x5 : (⟨S17408x512, .f32⟩ : BufTy).Contents (Elt Ideal))
  (x6 : (⟨S17408x512, .f32⟩ : BufTy).Contents (Elt Ideal))
  (x7 : (⟨S17408x512, .bf16⟩ : BufTy).Contents (Elt Ideal))
  (x8 : (⟨S3x512, .f32⟩ : BufTy).Contents (Elt Ideal))
  (x9 : (⟨S512, .f32⟩ : BufTy).Contents (Elt Ideal))
  (x10 : (⟨S4x512x2048, .f32⟩ : BufTy).Contents (Elt Ideal))
  (x11 : (⟨S4x2048x2048, .f32⟩ : BufTy).Contents (Elt Ideal))
  (x12 : (⟨S4x2048, .f32⟩ : BufTy).Contents (Elt Ideal))
  (x13 : (⟨S2048x2048, .f32⟩ : BufTy).Contents (Elt Ideal))

/-- Two matrices one above the other. -/
theorem above (a : S16384x2048.Idx → EReal) (b : S1024x2048.Idx → EReal)
    (h : Shape.Concatenates [S16384x2048, S1024x2048] S17408x2048 0) (R : Fin 17408) (C : Fin 2048) :
    concatenate S17408x2048 0 [⟨S16384x2048, a⟩, ⟨S1024x2048, b⟩] h (ix2 R C)
      = if k : R.val < 16384 then a (ix2 ⟨R, k⟩ C) else b (ix2 ⟨R - 16384, by omega⟩ C) := by
  pointwise

theorem result (i : S17408x2048.Idx) :
    val_main_v293 (F := Ideal) x0 x1 x2 x3 x4 x5 x6 x7 x8 x9 x10 x11 x12 x13 i
      = mergeOut x0 x1 x2 x3 x4 x5 x6 x7 x8 x9 x10 x11 x12 x13 (i 0) (i 1) := by
  have hl := fun j => lat_result x0 x1 x2 x3 x4 x5 x6 x7 x8 x9 x10 x11 x12 x13 j
  have hc := fun j => ctx_result x0 x1 x2 x3 x4 x5 x6 x7 x8 x9 x10 x11 x12 x13 j
  refine (congrArg _ (eq_ix2 i)).trans ?_
  unfold val_main_v293
  refine (above _ _ _ (i 0) (i 1)).trans ?_
  have h1 : (i 1).val < 2048 := (i 1).isLt
  have h0 : (i 0).val < 17408 := (i 0).isLt
  split
  · next hR =>
    rw [val_main_v162_apply, hl]
    unfold latRow
    congr 1 <;> simp <;> omega
  · next hR =>
    rw [val_main_v292_apply, hc]
    unfold ctxRow
    congr 1 <;> simp <;> omega

end Cert.RefMergeIdeal.Mix

end
-- ==== Proof.Merge.lean ====
/- The merge: the kernel computes the reference. -/
module

public import proofs.«01_k».proof.Proof.MergeKernel
public import proofs.«01_k».proof.Proof.MergeRef
public import proofs.«01_k».proof.Proof.Gen.RefMergeIdeal.Run
public import proofs.«01_k».proof.Defs

@[expose] public section

set_option maxRecDepth 16384

noncomputable section

namespace Cert.MergeClaim

open Cert.Layer Idealize.ShloMosaic Idealize.ShloMosaic.TcCoe Idealize.SL.Sem

theorem algebraic : Cert.algebraic_MergeIdeal_RefMergeIdeal := by
  intro m g m' g' hpre hagree
  have hker := Cert.MergeIdeal.Mix.run m g
  have href := Cert.RefMergeIdeal.Value.run (F := Ideal) m' g'
  refine ⟨fun c => Cert.MergeIdeal.Mix.RESULT m c, hker, ?_⟩
  refine (θ_run Cert.RefMergeIdeal.defs _ _).mono (fun _ h c => ⟨(h c).1.trans ?_, (h c).2⟩) href
  obtain ⟨a0, a1, a2, a3, a4, a5, a6, a7, a8, a9, a10, a11, a12, a13⟩ := hagree c
  refine (Cert.RefMergeIdeal.Read.val_main_v293_eq _).trans ?_
  refine (funext fun i => Cert.RefMergeIdeal.Mix.result _ _ _ _ _ _ _ _ _ _ _ _ _ _ i).trans ?_
  show (fun i : Cert.RefMergeIdeal.S17408x2048.Idx => mergeOut
      (m' ((c.tc : Thread _ _).loc Cert.RefMergeIdeal.main_arg0)) (m' ((c.tc : Thread _ _).loc Cert.RefMergeIdeal.main_arg1))
      (m' ((c.tc : Thread _ _).loc Cert.RefMergeIdeal.main_arg2)) (m' ((c.tc : Thread _ _).loc Cert.RefMergeIdeal.main_arg3))
      (m' ((c.tc : Thread _ _).loc Cert.RefMergeIdeal.main_arg4)) (m' ((c.tc : Thread _ _).loc Cert.RefMergeIdeal.main_arg5))
      (m' ((c.tc : Thread _ _).loc Cert.RefMergeIdeal.main_arg6)) (m' ((c.tc : Thread _ _).loc Cert.RefMergeIdeal.main_arg7))
      (m' ((c.tc : Thread _ _).loc Cert.RefMergeIdeal.main_arg8)) (m' ((c.tc : Thread _ _).loc Cert.RefMergeIdeal.main_arg9))
      (m' ((c.tc : Thread _ _).loc Cert.RefMergeIdeal.main_arg10)) (m' ((c.tc : Thread _ _).loc Cert.RefMergeIdeal.main_arg11))
      (m' ((c.tc : Thread _ _).loc Cert.RefMergeIdeal.main_arg12)) (m' ((c.tc : Thread _ _).loc Cert.RefMergeIdeal.main_arg13))
      (i 0) (i 1)) = Cert.MergeIdeal.Mix.RESULT m c
  rw [a0, a1, a2, a3, a4, a5, a6, a7, a8, a9, a10, a11, a12, a13]
  rfl

end Cert.MergeClaim

end
-- ==== Proof.ProjSpec.lean ====
/- The projections' results that do not come from the latent attention, one row at a time. -/
module

public import proofs.«01_k».proof.Proof.MergeSpec

@[expose] public section

noncomputable section

namespace Cert.Layer

open Idealize.ShloMosaic

/-- One column of a head of 128 columns normalised by its root mean square, times the gain. -/
def headNormed (z : Fin 128 → EReal) (g : Fin 128 → EReal) (j : Fin 128) : EReal :=
  z j * Ideal.rsqrt (Ideal.div (∑ y, z y * z y) (Ideal.ofBits .f32 0x43000000#32) + Ideal.ofBits .f32 0x358637BD#32) * g j

/-- The column half a head away. -/
def opposite (j : Fin 128) : Fin 128 := ⟨(j.val + 128 - 64) % 128, Nat.mod_lt _ (by decide)⟩

/-- A head's column under the rotary embedding of its row, with the row's cosines and sines; a context row has none. -/
def rotated (x14 x15 : (⟨2, ![4096, 64]⟩ : Shape).Idx → EReal) (R : Nat) (v : Fin 128 → EReal) (j : Fin 128) : EReal :=
  if R < 16384 then
    (if j.val < 64 then v j * at2 x14 (R % 4096) j - v (opposite j) * at2 x15 (R % 4096) j
      else v j * at2 x14 (R % 4096) (j.val - 64) + v (opposite j) * at2 x15 (R % 4096) (j.val - 64))
  else v j

section
variable (x0 : (⟨2, ![17408, 2048]⟩ : Shape).Idx → EReal) (x1 : (⟨5, ![4, 8, 9, 1, 2048]⟩ : Shape).Idx → EReal)
  (x2 : (⟨1, ![2048]⟩ : Shape).Idx → EReal) (x3 : (⟨2, ![2048, 3712]⟩ : Shape).Idx → EReal)
  (g : (⟨1, ![128]⟩ : Shape).Idx → EReal)
  (x14 x15 : (⟨2, ![4096, 64]⟩ : Shape).Idx → EReal) (w : (⟨2, ![128, 128]⟩ : Shape).Idx → EReal)

/-- Column `j` of the input projection of row `R`. -/
def inProj (R j : Nat) : EReal := ∑ d : Fin 2048, mixNorm x0 x1 x2 R d * at2 x3 d j

/-- A normalised and rotated head, whose columns start at column `o` of the input projection. -/
def headOut (o R C : Nat) : EReal :=
  rotated x14 x15 R (headNormed (fun y => inProj x0 x1 x2 x3 R (o + 128 * (C / 128) + y)) fun j => at1 g j)
    ⟨C % 128, Nat.mod_lt _ (by decide)⟩

/-- The queries, scaled. -/
def queryOut (R C : Nat) : EReal := headOut x0 x1 x2 x3 g x14 x15 640 R C * Ideal.ofBits .f32 0x3DB504F3#32

/-- The keys. -/
def keyOut (R C : Nat) : EReal := headOut x0 x1 x2 x3 g x14 x15 1152 R C

/-- The convolution's input times its gate. -/
def gatedOut (R C : Nat) : EReal := inProj x0 x1 x2 x3 R (2176 + C) * inProj x0 x1 x2 x3 R (2688 + C)

/-- A channel transform of the Fourier branch, one group of 128 channels at a time. -/
def channelOut (R C : Nat) : EReal :=
  ∑ y : Fin 128, inProj x0 x1 x2 x3 R (3200 + 128 * (C / 128) + y) * at2 w y (C % 128)

end

end Cert.Layer

end
-- ==== Proof.ProjPay.lean ====
/- The projection kernel: its payloads at a row and a column of a block. -/
module

public import proofs.«01_k».proof.Proof.Gen.ProjIdeal.Skeleton
public import proofs.«01_k».proof.Proof.ProjSpec

@[expose] public section

set_option maxRecDepth 16384

noncomputable section

namespace Cert.ProjIdeal.Rows

open Cert.ProjIdeal Cert.ProjIdeal.Gen Cert.Layer Idealize.ShloMosaic Idealize.ShloMosaic.TcCoe

/-- The normalised rows. -/
theorem pay2_apply (x : Vec Ideal S512x2048 .f32) (g : Vec Ideal S1x2048 .f32) (sh sc : Vec Ideal S1x1x1x1x2048 .f32)
    (r : Fin 512) (c : Fin 2048) :
    k0_pay2 (F := Ideal) x g sh sc (ix2 r c)
      = normed (fun d => x (ix2 r d)) (fun d => g (ix2 0 d)) (fun d => sh (ix5 0 0 0 0 d)) (fun d => sc (ix5 0 0 0 0 d)) c := by
  pointwise [k0_pay2, normed]

/-- The product with the grouped-query columns. -/
theorem pay60_apply (xn : Vec Ideal S512x2048 .bf16) (w : Vec Ideal S2048x1024 .bf16) (r : Fin 512) (j : Fin 1024) :
    k0_pay60 (F := Ideal) xn w (ix2 r j) = ∑ d : Fin 2048, xn (ix2 r d) * w (ix2 d j) := by
  pointwise [k0_pay60]

/-- A head's columns, normalised, rotated by tables. -/
def tabled (z g c s : Fin 128 → EReal) (j : Fin 128) : EReal :=
  headNormed z g j * c j + headNormed z g (opposite j) * s j

/-- The first query head. -/
theorem pay63_apply (xn : Vec Ideal S512x2048 .bf16) (c s : Vec Ideal S512x128 .f32) (w : Vec Ideal S2048x1024 .bf16) (g : Vec Ideal S1x128 .f32) (r : Fin 512) (j : Fin 128) :
    k0_pay63 (F := Ideal) xn c s w g (ix2 r j)
      = tabled (fun y => k0_pay60 (F := Ideal) xn w (ix2 r ⟨y.val, by omega⟩)) (fun y => g (ix2 0 y)) (fun y => c (ix2 r y)) (fun y => s (ix2 r y)) j * Ideal.ofBits .f32 0x3DB504F3#32 := by
  pointwise [k0_pay63, k0_pay61, tabled, headNormed, opposite]

/-- A query head. -/
theorem pay64_apply (c s : Vec Ideal S512x128 .f32) (P : Vec Ideal S512x1024 .f32) (g : Vec Ideal S1x128 .f32) (r : Fin 512) (j : Fin 128) :
    k0_pay64 (F := Ideal) c s P g (ix2 r j)
      = tabled (fun y => P (ix2 r ⟨128 + y.val, by omega⟩)) (fun y => g (ix2 0 y)) (fun y => c (ix2 r y)) (fun y => s (ix2 r y)) j * Ideal.ofBits .f32 0x3DB504F3#32 := by
  pointwise [k0_pay64, tabled, headNormed, opposite]

/-- A query head. -/
theorem pay65_apply (c s : Vec Ideal S512x128 .f32) (P : Vec Ideal S512x1024 .f32) (g : Vec Ideal S1x128 .f32) (r : Fin 512) (j : Fin 128) :
    k0_pay65 (F := Ideal) c s P g (ix2 r j)
      = tabled (fun y => P (ix2 r ⟨256 + y.val, by omega⟩)) (fun y => g (ix2 0 y)) (fun y => c (ix2 r y)) (fun y => s (ix2 r y)) j * Ideal.ofBits .f32 0x3DB504F3#32 := by
  pointwise [k0_pay65, tabled, headNormed, opposite]

/-- The last query head. -/
theorem pay67_apply (c s : Vec Ideal S512x128 .f32) (P : Vec Ideal S512x1024 .f32) (g : Vec Ideal S1x128 .f32) (r : Fin 512) (j : Fin 128) :
    k0_pay67 (F := Ideal) c s g (k0_pay66 P) (ix2 r j)
      = tabled (fun y => P (ix2 r ⟨384 + y.val, by omega⟩)) (fun y => g (ix2 0 y)) (fun y => c (ix2 r y)) (fun y => s (ix2 r y)) j * Ideal.ofBits .f32 0x3DB504F3#32 := by
  pointwise [k0_pay67, k0_pay66, tabled, headNormed, opposite]

/-- The first key head. -/
theorem pay68_apply (c s : Vec Ideal S512x128 .f32) (P : Vec Ideal S512x1024 .f32) (g : Vec Ideal S1x128 .f32) (r : Fin 512) (j : Fin 128) :
    k0_pay68 (F := Ideal) c s P g (ix2 r j)
      = tabled (fun y => P (ix2 r ⟨512 + y.val, by omega⟩)) (fun y => g (ix2 0 y)) (fun y => c (ix2 r y)) (fun y => s (ix2 r y)) j := by
  pointwise [k0_pay68, tabled, headNormed, opposite]

/-- The second key head. -/
theorem pay71_apply (c s : Vec Ideal S512x128 .f32) (P : Vec Ideal S512x1024 .f32) (g : Vec Ideal S1x128 .f32) (r : Fin 512) (j : Fin 128) :
    k0_pay71 (F := Ideal) c s g (k0_pay69 P) (k0_pay70 P) (Scalar.ofBits .f32 0x43000000#32) (ix2 r j)
      = tabled (fun y => P (ix2 r ⟨640 + y.val, by omega⟩)) (fun y => g (ix2 0 y)) (fun y => c (ix2 r y)) (fun y => s (ix2 r y)) j := by
  pointwise [k0_pay71, k0_pay69, k0_pay70, tabled, headNormed, opposite]

/-- The values. -/
theorem pay72_apply (P : Vec Ideal S512x1024 .f32) (r : Fin 512) (j : Fin 256) :
    k0_pay72 (F := Ideal) P (ix2 r j) = P (ix2 r ⟨768 + j.val, by omega⟩) := by
  pointwise [k0_pay72]

/-- The convolution's output gate. -/
theorem pay74_apply (xn : Vec Ideal S512x2048 .bf16) (w : Vec Ideal S2048x1536 .bf16) (r : Fin 512) (j : Fin 512) :
    k0_pay74 (F := Ideal) xn w (ix2 r j) = ∑ d : Fin 2048, xn (ix2 r d) * w (ix2 d ⟨j.val, by omega⟩) := by
  pointwise [k0_pay74, k0_pay73]

/-- The convolution's input times its gate. -/
theorem pay75_apply (xn : Vec Ideal S512x2048 .bf16) (w : Vec Ideal S2048x1536 .bf16) (r : Fin 512) (j : Fin 512) :
    k0_pay75 (F := Ideal) xn w (ix2 r j)
      = (∑ d : Fin 2048, xn (ix2 r d) * w (ix2 d ⟨512 + j.val, by omega⟩))
        * ∑ d : Fin 2048, xn (ix2 r d) * w (ix2 d ⟨1024 + j.val, by omega⟩) := by
  pointwise [k0_pay75, k0_pay73]

/-- The product with the Fourier columns. -/
theorem pay76_apply (xn : Vec Ideal S512x2048 .bf16) (w : Vec Ideal S2048x512 .bf16) (r : Fin 512) (j : Fin 512) :
    k0_pay76 (F := Ideal) xn w (ix2 r j) = ∑ d : Fin 2048, xn (ix2 r d) * w (ix2 d j) := by
  pointwise [k0_pay76]

/-- A group of channels times the first transform. -/
theorem pay82_apply (f : Vec Ideal S512x512 .bf16) (w : Vec Ideal S128x256 .bf16) (r : Fin 512) (j : Fin 128) :
    k0_pay82 (F := Ideal) f w (ix2 r j) = ∑ y : Fin 128, f (ix2 r ⟨128 + y.val, by omega⟩) * w (ix2 y ⟨j.val, by omega⟩) := by
  pointwise [k0_pay82, k0_pay81]

/-- A group of channels times the first transform. -/
theorem pay85_apply (f : Vec Ideal S512x512 .bf16) (w : Vec Ideal S128x256 .bf16) (r : Fin 512) (j : Fin 128) :
    k0_pay85 (F := Ideal) f w (ix2 r j) = ∑ y : Fin 128, f (ix2 r ⟨256 + y.val, by omega⟩) * w (ix2 y ⟨j.val, by omega⟩) := by
  pointwise [k0_pay85, k0_pay84]

/-- A group of channels times the first transform. -/
theorem pay88_apply (f : Vec Ideal S512x512 .bf16) (w : Vec Ideal S128x256 .bf16) (r : Fin 512) (j : Fin 128) :
    k0_pay88 (F := Ideal) f w (ix2 r j) = ∑ y : Fin 128, f (ix2 r ⟨384 + y.val, by omega⟩) * w (ix2 y ⟨j.val, by omega⟩) := by
  pointwise [k0_pay88, k0_pay87]

/-- A group of channels times the second transform. -/
theorem pay83_apply (f : Vec Ideal S512x512 .bf16) (w : Vec Ideal S128x256 .bf16) (r : Fin 512) (j : Fin 128) :
    k0_pay83 (F := Ideal) f w (ix2 r j) = ∑ y : Fin 128, f (ix2 r ⟨128 + y.val, by omega⟩) * w (ix2 y ⟨128 + j.val, by omega⟩) := by
  pointwise [k0_pay83, k0_pay81]

/-- A group of channels times the second transform. -/
theorem pay86_apply (f : Vec Ideal S512x512 .bf16) (w : Vec Ideal S128x256 .bf16) (r : Fin 512) (j : Fin 128) :
    k0_pay86 (F := Ideal) f w (ix2 r j) = ∑ y : Fin 128, f (ix2 r ⟨256 + y.val, by omega⟩) * w (ix2 y ⟨128 + j.val, by omega⟩) := by
  pointwise [k0_pay86, k0_pay84]

/-- A group of channels times the second transform. -/
theorem pay1_apply (f : Vec Ideal S512x512 .bf16) (w : Vec Ideal S128x256 .bf16) (r : Fin 512) (j : Fin 128) :
    k0_pay1 (F := Ideal) (k0_pay87 f w) (ix2 r j) = ∑ y : Fin 128, f (ix2 r ⟨384 + y.val, by omega⟩) * w (ix2 y ⟨128 + j.val, by omega⟩) := by
  pointwise [k0_pay1, k0_pay87]

/-- The first group of channels times the first transform. -/
theorem pay79_apply (xn : Vec Ideal S512x2048 .bf16) (v : Vec Ideal S2048x512 .bf16) (w : Vec Ideal S128x256 .bf16)
    (r : Fin 512) (j : Fin 128) :
    k0_pay79 (F := Ideal) xn v w (ix2 r j)
      = ∑ y : Fin 128, k0_pay76 (F := Ideal) xn v (ix2 r ⟨y.val, by omega⟩) * w (ix2 y ⟨j.val, by omega⟩) := by
  pointwise [k0_pay79, k0_pay78, k0_pay77]

/-- The first group of channels times the second transform. -/
theorem pay80_apply (xn : Vec Ideal S512x2048 .bf16) (v : Vec Ideal S2048x512 .bf16) (w : Vec Ideal S128x256 .bf16)
    (r : Fin 512) (j : Fin 128) :
    k0_pay80 (F := Ideal) (k0_pay78 xn v w) (ix2 r j)
      = ∑ y : Fin 128, k0_pay76 (F := Ideal) xn v (ix2 r ⟨y.val, by omega⟩) * w (ix2 y ⟨128 + j.val, by omega⟩) := by
  pointwise [k0_pay80, k0_pay78, k0_pay77]

end Cert.ProjIdeal.Rows

end
-- ==== Proof.ProjJoin.lean ====
/- The projection kernel: its weights and tables joined by the host, at an element. -/
module

public import proofs.«01_k».proof.Proof.Arrays
public import proofs.«01_k».proof.Proof.Gen.ProjIdeal.Skeleton

@[expose] public section

set_option maxRecDepth 16384

noncomputable section

namespace Cert.ProjIdeal.Rows

open Cert.ProjIdeal Cert.Layer Idealize.ShloMosaic

/-- The ten column groups of the input projection side by side. -/
theorem joined (a0 : S2048x512.Idx → EReal) (a1 a2 : S2048x128.Idx → EReal) (a3 : S2048x512.Idx → EReal)
    (a4 a5 : S2048x256.Idx → EReal) (a6 a7 a8 a9 : S2048x512.Idx → EReal)
    (h : Shape.Concatenates [S2048x512, S2048x128, S2048x128, S2048x512, S2048x256, S2048x256, S2048x512, S2048x512, S2048x512, S2048x512]
      S2048x3840 1) (d : Fin 2048) (p : Fin 3840) :
    concatenate S2048x3840 1 [⟨S2048x512, a0⟩, ⟨S2048x128, a1⟩, ⟨S2048x128, a2⟩, ⟨S2048x512, a3⟩, ⟨S2048x256, a4⟩,
        ⟨S2048x256, a5⟩, ⟨S2048x512, a6⟩, ⟨S2048x512, a7⟩, ⟨S2048x512, a8⟩, ⟨S2048x512, a9⟩] h (ix2 d p)
      = if p.val < 512 then at2 a0 d p else if p.val < 640 then at2 a1 d (p.val - 512)
        else if p.val < 768 then at2 a2 d (p.val - 640) else if p.val < 1280 then at2 a3 d (p.val - 768)
        else if p.val < 1536 then at2 a4 d (p.val - 1280) else if p.val < 1792 then at2 a5 d (p.val - 1536)
        else if p.val < 2304 then at2 a6 d (p.val - 1792) else if p.val < 2816 then at2 a7 d (p.val - 2304)
        else if p.val < 3328 then at2 a8 d (p.val - 2816) else at2 a9 d (p.val - 3328) := by
  have hp := p.isLt
  pointwise
  by_cases h0 : p.val < 512
  · rw [dif_pos (by omega), if_pos h0]
    exact at2_idx _ _ _ _ rfl rfl
  rw [dif_neg (by omega), if_neg h0]
  by_cases h1 : p.val < 640
  · rw [dif_pos (by omega), if_pos h1]
    exact at2_idx _ _ _ _ rfl (by simp <;> omega)
  rw [dif_neg (by omega), if_neg h1]
  by_cases h2 : p.val < 768
  · rw [dif_pos (by omega), if_pos h2]
    exact at2_idx _ _ _ _ rfl (by simp <;> omega)
  rw [dif_neg (by omega), if_neg h2]
  by_cases h3 : p.val < 1280
  · rw [dif_pos (by omega), if_pos h3]
    exact at2_idx _ _ _ _ rfl (by simp <;> omega)
  rw [dif_neg (by omega), if_neg h3]
  by_cases h4 : p.val < 1536
  · rw [dif_pos (by omega), if_pos h4]
    exact at2_idx _ _ _ _ rfl (by simp <;> omega)
  rw [dif_neg (by omega), if_neg h4]
  by_cases h5 : p.val < 1792
  · rw [dif_pos (by omega), if_pos h5]
    exact at2_idx _ _ _ _ rfl (by simp <;> omega)
  rw [dif_neg (by omega), if_neg h5]
  by_cases h6 : p.val < 2304
  · rw [dif_pos (by omega), if_pos h6]
    exact at2_idx _ _ _ _ rfl (by simp <;> omega)
  rw [dif_neg (by omega), if_neg h6]
  by_cases h7 : p.val < 2816
  · rw [dif_pos (by omega), if_pos h7]
    exact at2_idx _ _ _ _ rfl (by simp <;> omega)
  rw [dif_neg (by omega), if_neg h7]
  by_cases h8 : p.val < 3328
  · rw [dif_pos (by omega), if_pos h8]
    exact at2_idx _ _ _ _ rfl (by simp <;> omega)
  rw [dif_neg (by omega), if_neg h8]
  exact at2_idx _ _ _ _ rfl (by simp <;> omega)

end Cert.ProjIdeal.Rows

end
-- ==== Proof.ProjIdealFrame.lean ====
/- The frame of the projections' ideal program: what its body leaves in each of its ten results, that it runs without fault, and
   that the arguments end as they were. Thirty windows need more steps of the elaborator than a frame of a few windows does. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- The frame of a run whose end is known at every array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0
abbrev r0_2 : Rect S1x1x1x1x2048 := Rect.unit (s := S1x1x1x1x2048) ![0, 0, 0, 0, 0] S1x1x1x1x2048.size inb_S1x1x1x1x2048_S1x1x1x1x2048_0_0_0_0_0
abbrev r0_3 : Rect S512x128 := Rect.unit (s := S512x128) ![0, 0] S512x128.size inb_S512x128_S512x128_0_0
abbrev r0_4 : Rect S2048x3840 := Rect.unit (s := S2048x3840) ![0, 0] S2048x768.size inb_S2048x3840_S2048x768_0_0
abbrev r0_5 : Rect S1x512 := Rect.unit (s := S1x512) ![0, 0] S1x512.size inb_S1x512_S1x512_0_0
abbrev r0_6 : Rect S512x1024 := Rect.unit (s := S512x1024) ![0, 0] S512x1024.size inb_S512x1024_S512x1024_0_0
abbrev r0_7 : Rect S1x256 := Rect.unit (s := S1x256) ![0, 0] S1x256.size inb_S1x256_S1x256_0_0
abbrev r0_8 : Rect S512x1024 := Rect.unit (s := S512x1024) ![0, 0] S512x128.size inb_S512x1024_S512x128_0_0
abbrev r0_9 : Rect S512x1024 := Rect.unit (s := S512x1024) ![0, 128] S512x128.size inb_S512x1024_S512x128_0_128
abbrev r0_10 : Rect S512x1024 := Rect.unit (s := S512x1024) ![0, 256] S512x128.size inb_S512x1024_S512x128_0_256
abbrev r0_11 : Rect S512x1024 := Rect.unit (s := S512x1024) ![0, 384] S512x128.size inb_S512x1024_S512x128_0_384
abbrev r0_12 : Rect S512x1024 := Rect.unit (s := S512x1024) ![0, 512] S512x128.size inb_S512x1024_S512x128_0_512
abbrev r0_13 : Rect S512x1024 := Rect.unit (s := S512x1024) ![0, 640] S512x128.size inb_S512x1024_S512x128_0_640
abbrev r0_14 : Rect S512x1024 := Rect.unit (s := S512x1024) ![0, 768] S512x128.size inb_S512x1024_S512x128_0_768
abbrev r0_15 : Rect S512x1024 := Rect.unit (s := S512x1024) ![0, 896] S512x128.size inb_S512x1024_S512x128_0_896
abbrev r0_16 : Rect S1x128 := Rect.unit (s := S1x128) ![0, 0] S1x128.size inb_S1x128_S1x128_0_0
abbrev r0_17 : Rect S128x1024 := Rect.unit (s := S128x1024) ![0, 0] S128x1024.size inb_S128x1024_S128x1024_0_0
abbrev r0_18 : Rect S512x512 := Rect.unit (s := S512x512) ![0, 0] S512x128.size inb_S512x512_S512x128_0_0
abbrev r0_19 : Rect S512x512 := Rect.unit (s := S512x512) ![0, 128] S512x128.size inb_S512x512_S512x128_0_128
abbrev r0_20 : Rect S512x512 := Rect.unit (s := S512x512) ![0, 256] S512x128.size inb_S512x512_S512x128_0_256
abbrev r0_21 : Rect S512x512 := Rect.unit (s := S512x512) ![0, 384] S512x128.size inb_S512x512_S512x128_0_384
abbrev r0_22 : Rect S2048x3840 := Rect.unit (s := S2048x3840) ![0, 768] S2048x1024.size inb_S2048x3840_S2048x1024_0_768
abbrev r0_23 : Rect S512x256 := Rect.unit (s := S512x256) ![0, 0] S512x128.size inb_S512x256_S512x128_0_0
abbrev r0_24 : Rect S512x256 := Rect.unit (s := S512x256) ![0, 128] S512x128.size inb_S512x256_S512x128_0_128
abbrev r0_25 : Rect S512x256 := Rect.unit (s := S512x256) ![0, 0] S512x256.size inb_S512x256_S512x256_0_0
abbrev r0_26 : Rect S2048x3840 := Rect.unit (s := S2048x3840) ![0, 1792] S2048x1536.size inb_S2048x3840_S2048x1536_0_1792
abbrev r0_27 : Rect S512x512 := Rect.unit (s := S512x512) ![0, 0] S512x512.size inb_S512x512_S512x512_0_0
abbrev r0_28 : Rect S2048x3840 := Rect.unit (s := S2048x3840) ![0, 3328] S2048x512.size inb_S2048x3840_S2048x512_0_3328
abbrev r0_29 : Rect S128x256 := Rect.unit (s := S128x256) ![0, 0] S128x256.size inb_S128x256_S128x256_0_0

/-! ## What the body leaves in each output window's buffer -/

/-! ### Values of the body that the stores' payloads, spelt out, would write more than once

    Each is a vector the body binds (often a part call's result), stated over the input windows' blocks and
    numbered on from the skeleton's payload functions (`k0_pay89` …, after `k0_pay88`), so that
    `out0_W` and the values after it name it instead of spelling it out; the comment after each is the printed function's
    name for the value (a count appended where that name is bound again). -/

def k0_pay89 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x2048 .bf16 :=
  k0_pay2 (View.ld x0 r0_0) (View.ld x1 r0_1) (View.ld x2 r0_2) (View.ld x3 r0_2) -- `v25`
def k0_pay90 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay3 (View.ld x14 r0_3) -- `v27`
def k0_pay91 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay4 (View.ld x15 r0_3) -- `v29`
def k0_pay92 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay5 (View.ld x16 r0_3) -- `v31`
def k0_pay93 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay6 (View.ld x17 r0_3) -- `v33`
def k0_pay94 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay7 (View.ld x18 r0_3) -- `v35`
def k0_pay95 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .f32 :=
  k0_pay10 (k0_pay89 x0 x1 x2 x3 x4 x5 x6 x7 x8 x9 x10 x11 x12 x13 x14 x15 x16 x17 x18 x19) (View.ld x4 r0_4) -- `v41`
def k0_pay96 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1024 .f32 :=
  k0_pay11 (k0_pay89 x0 x1 x2 x3 x4 x5 x6 x7 x8 x9 x10 x11 x12 x13 x14 x15 x16 x17 x18 x19) (View.ld x4 r0_4) (View.ld x5 r0_5) (View.ld x6 r0_6) -- `v59`
def k0_pay97 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S1x256 .f32 :=
  k0_pay12 (View.ld x9 r0_7) -- `v61`
def k0_pay98 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x256 .f32 :=
  k0_pay13 (k0_pay89 x0 x1 x2 x3 x4 x5 x6 x7 x8 x9 x10 x11 x12 x13 x14 x15 x16 x17 x18 x19) (View.ld x4 r0_4) (View.ld x5 r0_5) (View.ld x6 r0_6) (View.ld x9 r0_7) -- `v74`
def k0_pay99 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x256 .f32 :=
  k0_pay25 (k0_pay96 x0 x1 x2 x3 x4 x5 x6 x7 x8 x9 x10 x11 x12 x13 x14 x15 x16 x17 x18 x19) -- `v152`
def k0_pay100 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1 .f32 :=
  k0_pay26 (k0_pay96 x0 x1 x2 x3 x4 x5 x6 x7 x8 x9 x10 x11 x12 x13 x14 x15 x16 x17 x18 x19) -- `v155`
def k0_pay101 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1 .f32 :=
  k0_pay27 (F := F) -- `v156`
def k0_pay102 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x128 .bf16 :=
  k0_pay31 (k0_pay9 (k0_pay89 x0 x1 x2 x3 x4 x5 x6 x7 x8 x9 x10 x11 x12 x13 x14 x15 x16 x17 x18 x19) (View.ld x4 r0_4)) (View.ld x7 r0_16) -- `v196`
def k0_pay103 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S128x1024 .bf16 :=
  k0_pay32 (View.ld x8 r0_17) -- `v198`
def k0_pay104 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1024 .f32 :=
  k0_pay33 (k0_pay102 x0 x1 x2 x3 x4 x5 x6 x7 x8 x9 x10 x11 x12 x13 x14 x15 x16 x17 x18 x19) (k0_pay103 x0 x1 x2 x3 x4 x5 x6 x7 x8 x9 x10 x11 x12 x13 x14 x15 x16 x17 x18 x19) -- `v199`
def k0_pay105 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1 .f32 :=
  k0_pay34 (k0_pay95 x0 x1 x2 x3 x4 x5 x6 x7 x8 x9 x10 x11 x12 x13 x14 x15 x16 x17 x18 x19) -- `v202`
def k0_pay106 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S1x128 .f32 :=
  k0_pay35 (View.ld x10 r0_16) -- `v204`
def k0_pay107 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S1x128 .f32 :=
  k0_pay36 (View.ld x11 r0_16) -- `v206`
def k0_pay108 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x1024 .f32 :=
  k0_pay60 (k0_pay89 x0 x1 x2 x3 x4 x5 x6 x7 x8 x9 x10 x11 x12 x13 x14 x15 x16 x17 x18 x19) (View.ld x4 r0_22) -- `v337`
def k0_pay109 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S1x128 .f32 :=
  k0_pay61 (View.ld x12 r0_16) -- `v339`
def k0_pay110 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S1x128 .f32 :=
  k0_pay62 (View.ld x13 r0_16) -- `v341`
def k0_pay111 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S512x512 .bf16 :=
  k0_pay76 (k0_pay89 x0 x1 x2 x3 x4 x5 x6 x7 x8 x9 x10 x11 x12 x13 x14 x15 x16 x17 x18 x19) (View.ld x4 r0_28) -- `v479`
def k0_pay112 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : FVec F S128x256 .bf16 :=
  k0_pay77 (View.ld x19 r0_29) -- `v481`

/-- What the body leaves in the buffer of window 20. -/
def out0_20 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x1024 .bf16 :=
  View.canon [⟨r0_15, k0_pay30 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19) (k0_pay99 x0 x1 x2 x3 x4 x5 x6 x7 x8 x9 x10 x11 x12 x13 x14 x15 x16 x17 x18 x19) (k0_pay100 x0 x1 x2 x3 x4 x5 x6 x7 x8 x9 x10 x11 x12 x13 x14 x15 x16 x17 x18 x19) (k0_pay101 x0 x1 x2 x3 x4 x5 x6 x7 x8 x9 x10 x11 x12 x13 x14 x15 x16 x17 x18 x19)⟩,
    ⟨r0_14, k0_pay29 (k0_pay97 x0 x1 x2 x3 x4 x5 x6 x7 x8 x9 x10 x11 x12 x13 x14 x15 x16 x17 x18 x19) (k0_pay99 x0 x1 x2 x3 x4 x5 x6 x7 x8 x9 x10 x11 x12 x13 x14 x15 x16 x17 x18 x19) (k0_pay100 x0 x1 x2 x3 x4 x5 x6 x7 x8 x9 x10 x11 x12 x13 x14 x15 x16 x17 x18 x19) (k0_pay101 x0 x1 x2 x3 x4 x5 x6 x7 x8 x9 x10 x11 x12 x13 x14 x15 x16 x17 x18 x19)⟩,
    ⟨r0_13, k0_pay24 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay96 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19)⟩,
    ⟨r0_12, k0_pay23 (k0_pay96 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19)⟩,
    ⟨r0_11, k0_pay21 (k0_pay92 x0 x1 x2 x3 x4 x5 x6 x7 x8 x9 x10 x11 x12 x13 x14 x15 x16 x17 x18 x19) (k0_pay19 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay96 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19)) (k0_pay20 (k0_pay96 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19))⟩,
    ⟨r0_10, k0_pay17 (k0_pay96 x0 x1 x2 x3 x4 x5 x6 x7 x8 x9 x10 x11 x12 x13 x14 x15 x16 x17 x18 x19) (k0_pay97 x0 x1 x2 x3 x4 x5 x6 x7 x8 x9 x10 x11 x12 x13 x14 x15 x16 x17 x18 x19)⟩,
    ⟨r0_9, k0_pay15 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay98 x0 x1 x2 x3 x4 x5 x6 x7 x8 x9 x10 x11 x12 x13 x14 x15 x16 x17 x18 x19)⟩,
    ⟨r0_8, k0_pay14 (k0_pay98 x0 x1 x2 x3 x4 x5 x6 x7 x8 x9 x10 x11 x12 x13 x14 x15 x16 x17 x18 x19)⟩]

/-- The stores cover it. -/
theorem cover0_20 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩] : List (View.Piece (Elt F) S512x1024 .bf16)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩] S512x128.size (by rfl) y

/-- What the body leaves in the buffer of window 21. -/
def out0_21 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x1024 .bf16 :=
  View.canon [⟨r0_15, k0_pay58 (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay56 (k0_pay95 x0 x1 x2 x3 x4 x5 x6 x7 x8 x9 x10 x11 x12 x13 x14 x15 x16 x17 x18 x19) (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19) (k0_pay107 x0 x1 x2 x3 x4 x5 x6 x7 x8 x9 x10 x11 x12 x13 x14 x15 x16 x17 x18 x19)) (k0_pay57 (k0_pay90 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19) (k0_pay107 x0 x1 x2 x3 x4 x5 x6 x7 x8 x9 x10 x11 x12 x13 x14 x15 x16 x17 x18 x19)) 96#32⟩,
    ⟨r0_14, k0_pay55 (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19) (k0_pay106 x0 x1 x2 x3 x4 x5 x6 x7 x8 x9 x10 x11 x12 x13 x14 x15 x16 x17 x18 x19)⟩,
    ⟨r0_13, k0_pay51 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (k0_pay107 x0 x1 x2 x3 x4 x5 x6 x7 x8 x9 x10 x11 x12 x13 x14 x15 x16 x17 x18 x19) (k0_pay48 (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19))⟩,
    ⟨r0_12, k0_pay50 (k0_pay106 x0 x1 x2 x3 x4 x5 x6 x7 x8 x9 x10 x11 x12 x13 x14 x15 x16 x17 x18 x19) (k0_pay47 (k0_pay104 x0 x1 x2 x3 x4 x5 x6 x7 x8 x9 x10 x11 x12 x13 x14 x15 x16 x17 x18 x19)) (k0_pay49 (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19))⟩,
    ⟨r0_11, k0_pay45 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19) (k0_pay107 x0 x1 x2 x3 x4 x5 x6 x7 x8 x9 x10 x11 x12 x13 x14 x15 x16 x17 x18 x19)⟩,
    ⟨r0_10, k0_pay44 (k0_pay104 x0 x1 x2 x3 x4 x5 x6 x7 x8 x9 x10 x11 x12 x13 x14 x15 x16 x17 x18 x19) (k0_pay105 x0 x1 x2 x3 x4 x5 x6 x7 x8 x9 x10 x11 x12 x13 x14 x15 x16 x17 x18 x19) (k0_pay106 x0 x1 x2 x3 x4 x5 x6 x7 x8 x9 x10 x11 x12 x13 x14 x15 x16 x17 x18 x19)⟩,
    ⟨r0_9, k0_pay40 (k0_pay90 x0 x1 x2 x3 x4 x5 x6 x7 x8 x9 x10 x11 x12 x13 x14 x15 x16 x17 x18 x19) (k0_pay91 x0 x1 x2 x3 x4 x5 x6 x7 x8 x9 x10 x11 x12 x13 x14 x15 x16 x17 x18 x19) (k0_pay92 x0 x1 x2 x3 x4 x5 x6 x7 x8 x9 x10 x11 x12 x13 x14 x15 x16 x17 x18 x19) (k0_pay95 x0 x1 x2 x3 x4 x5 x6 x7 x8 x9 x10 x11 x12 x13 x14 x15 x16 x17 x18 x19) (k0_pay102 x0 x1 x2 x3 x4 x5 x6 x7 x8 x9 x10 x11 x12 x13 x14 x15 x16 x17 x18 x19) (k0_pay103 x0 x1 x2 x3 x4 x5 x6 x7 x8 x9 x10 x11 x12 x13 x14 x15 x16 x17 x18 x19) (View.ld x11 r0_16)⟩,
    ⟨r0_8, k0_pay39 (k0_pay95 x0 x1 x2 x3 x4 x5 x6 x7 x8 x9 x10 x11 x12 x13 x14 x15 x16 x17 x18 x19) (k0_pay102 x0 x1 x2 x3 x4 x5 x6 x7 x8 x9 x10 x11 x12 x13 x14 x15 x16 x17 x18 x19) (k0_pay103 x0 x1 x2 x3 x4 x5 x6 x7 x8 x9 x10 x11 x12 x13 x14 x15 x16 x17 x18 x19) (View.ld x10 r0_16)⟩]

/-- The stores cover it. -/
theorem cover0_21 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩] : List (View.Piece (Elt F) S512x1024 .bf16)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩] S512x128.size (by rfl) y

/-- What the body leaves in the buffer of window 22. -/
def out0_22 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .bf16 :=
  View.canon [⟨r0_21, k0_pay59 (k0_pay104 x0 x1 x2 x3 x4 x5 x6 x7 x8 x9 x10 x11 x12 x13 x14 x15 x16 x17 x18 x19)⟩,
    ⟨r0_20, k0_pay52 (k0_pay104 x0 x1 x2 x3 x4 x5 x6 x7 x8 x9 x10 x11 x12 x13 x14 x15 x16 x17 x18 x19)⟩,
    ⟨r0_19, k0_pay46 (k0_pay104 x0 x1 x2 x3 x4 x5 x6 x7 x8 x9 x10 x11 x12 x13 x14 x15 x16 x17 x18 x19)⟩,
    ⟨r0_18, k0_pay41 (k0_pay102 x0 x1 x2 x3 x4 x5 x6 x7 x8 x9 x10 x11 x12 x13 x14 x15 x16 x17 x18 x19) (k0_pay103 x0 x1 x2 x3 x4 x5 x6 x7 x8 x9 x10 x11 x12 x13 x14 x15 x16 x17 x18 x19)⟩]

/-- The stores cover it. -/
theorem cover0_22 (p0 : Vec F S512x128 .bf16) (p1 : Vec F S512x128 .bf16) (p2 : Vec F S512x128 .bf16) (p3 : Vec F S512x128 .bf16) (y : S512x512.Idx) :
    ∃ pc ∈ ([⟨r0_21, p0⟩, ⟨r0_20, p1⟩, ⟨r0_19, p2⟩, ⟨r0_18, p3⟩] : List (View.Piece (Elt F) S512x512 .bf16)), y ∈ pc.1.set :=
  View.cover_of_tiled [⟨r0_21, p0⟩, ⟨r0_20, p1⟩, ⟨r0_19, p2⟩, ⟨r0_18, p3⟩] S512x128.size (by rfl) y

/-- What the body leaves in the buffer of window 23. -/
def out0_23 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .bf16 :=
  View.canon [⟨r0_21, k0_pay67 (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (k0_pay109 x0 x1 x2 x3 x4 x5 x6 x7 x8 x9 x10 x11 x12 x13 x14 x15 x16 x17 x18 x19) (k0_pay66 (k0_pay108 x0 x1 x2 x3 x4 x5 x6 x7 x8 x9 x10 x11 x12 x13 x14 x15 x16 x17 x18 x19))⟩,
    ⟨r0_20, k0_pay65 (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (k0_pay108 x0 x1 x2 x3 x4 x5 x6 x7 x8 x9 x10 x11 x12 x13 x14 x15 x16 x17 x18 x19) (k0_pay109 x0 x1 x2 x3 x4 x5 x6 x7 x8 x9 x10 x11 x12 x13 x14 x15 x16 x17 x18 x19)⟩,
    ⟨r0_19, k0_pay64 (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (k0_pay108 x0 x1 x2 x3 x4 x5 x6 x7 x8 x9 x10 x11 x12 x13 x14 x15 x16 x17 x18 x19) (k0_pay109 x0 x1 x2 x3 x4 x5 x6 x7 x8 x9 x10 x11 x12 x13 x14 x15 x16 x17 x18 x19)⟩,
    ⟨r0_18, k0_pay63 (k0_pay89 x0 x1 x2 x3 x4 x5 x6 x7 x8 x9 x10 x11 x12 x13 x14 x15 x16 x17 x18 x19) (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (View.ld x4 r0_22) (View.ld x12 r0_16)⟩]

/-- The stores cover it. -/
theorem cover0_23 (p0 : Vec F S512x128 .bf16) (p1 : Vec F S512x128 .bf16) (p2 : Vec F S512x128 .bf16) (p3 : Vec F S512x128 .bf16) (y : S512x512.Idx) :
    ∃ pc ∈ ([⟨r0_21, p0⟩, ⟨r0_20, p1⟩, ⟨r0_19, p2⟩, ⟨r0_18, p3⟩] : List (View.Piece (Elt F) S512x512 .bf16)), y ∈ pc.1.set :=
  View.cover_of_tiled [⟨r0_21, p0⟩, ⟨r0_20, p1⟩, ⟨r0_19, p2⟩, ⟨r0_18, p3⟩] S512x128.size (by rfl) y

/-- What the body leaves in the buffer of window 24. -/
def out0_24 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x256 .bf16 :=
  View.canon [⟨r0_24, k0_pay71 (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (k0_pay110 x0 x1 x2 x3 x4 x5 x6 x7 x8 x9 x10 x11 x12 x13 x14 x15 x16 x17 x18 x19) (k0_pay69 (k0_pay108 x0 x1 x2 x3 x4 x5 x6 x7 x8 x9 x10 x11 x12 x13 x14 x15 x16 x17 x18 x19)) (k0_pay70 (k0_pay108 x0 x1 x2 x3 x4 x5 x6 x7 x8 x9 x10 x11 x12 x13 x14 x15 x16 x17 x18 x19)) (Scalar.ofBits .f32 0x43000000#32)⟩,
    ⟨r0_23, k0_pay68 (k0_pay93 x0 x1 x2 x3 x4 x5 x6 x7 x8 x9 x10 x11 x12 x13 x14 x15 x16 x17 x18 x19) (k0_pay94 x0 x1 x2 x3 x4 x5 x6 x7 x8 x9 x10 x11 x12 x13 x14 x15 x16 x17 x18 x19) (k0_pay108 x0 x1 x2 x3 x4 x5 x6 x7 x8 x9 x10 x11 x12 x13 x14 x15 x16 x17 x18 x19) (k0_pay110 x0 x1 x2 x3 x4 x5 x6 x7 x8 x9 x10 x11 x12 x13 x14 x15 x16 x17 x18 x19)⟩]

/-- The stores cover it. -/
theorem cover0_24 (p0 : Vec F S512x128 .bf16) (p1 : Vec F S512x128 .bf16) (y : S512x256.Idx) :
    ∃ pc ∈ ([⟨r0_24, p0⟩, ⟨r0_23, p1⟩] : List (View.Piece (Elt F) S512x256 .bf16)), y ∈ pc.1.set :=
  View.cover_of_tiled [⟨r0_24, p0⟩, ⟨r0_23, p1⟩] S512x128.size (by rfl) y

/-- What the body leaves in the buffer of window 25. -/
def out0_25 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x256 .bf16 :=
  View.canon [⟨r0_25, k0_pay72 (k0_pay108 x0 x1 x2 x3 x4 x5 x6 x7 x8 x9 x10 x11 x12 x13 x14 x15 x16 x17 x18 x19)⟩]

/-- The stores cover it. -/
theorem cover0_25 (p0 : Vec F S512x256 .bf16) (y : S512x256.Idx) :
    ∃ pc ∈ ([⟨r0_25, p0⟩] : List (View.Piece (Elt F) S512x256 .bf16)), y ∈ pc.1.set :=
  View.cover_of_tiled [⟨r0_25, p0⟩] S512x256.size (by rfl) y

/-- What the body leaves in the buffer of window 26. -/
def out0_26 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .f32 :=
  View.canon [⟨r0_27, k0_pay74 (k0_pay89 x0 x1 x2 x3 x4 x5 x6 x7 x8 x9 x10 x11 x12 x13 x14 x15 x16 x17 x18 x19) (View.ld x4 r0_26)⟩]

/-- The stores cover it. -/
theorem cover0_26 (p0 : Vec F S512x512 .f32) (y : S512x512.Idx) :
    ∃ pc ∈ ([⟨r0_27, p0⟩] : List (View.Piece (Elt F) S512x512 .f32)), y ∈ pc.1.set :=
  View.cover_of_tiled [⟨r0_27, p0⟩] S512x512.size (by rfl) y

/-- What the body leaves in the buffer of window 27. -/
def out0_27 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .f32 :=
  View.canon [⟨r0_27, k0_pay75 (k0_pay89 x0 x1 x2 x3 x4 x5 x6 x7 x8 x9 x10 x11 x12 x13 x14 x15 x16 x17 x18 x19) (View.ld x4 r0_26)⟩]

/-- The stores cover it. -/
theorem cover0_27 (p0 : Vec F S512x512 .f32) (y : S512x512.Idx) :
    ∃ pc ∈ ([⟨r0_27, p0⟩] : List (View.Piece (Elt F) S512x512 .f32)), y ∈ pc.1.set :=
  View.cover_of_tiled [⟨r0_27, p0⟩] S512x512.size (by rfl) y

/-- What the body leaves in the buffer of window 28. -/
def out0_28 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .bf16 :=
  View.canon [⟨r0_21, k0_pay88 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19)⟩,
    ⟨r0_20, k0_pay85 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19)⟩,
    ⟨r0_19, k0_pay82 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19)⟩,
    ⟨r0_18, k0_pay79 (k0_pay89 x0 x1 x2 x3 x4 x5 x6 x7 x8 x9 x10 x11 x12 x13 x14 x15 x16 x17 x18 x19) (View.ld x4 r0_28) (View.ld x19 r0_29)⟩]

/-- The stores cover it. -/
theorem cover0_28 (p0 : Vec F S512x128 .bf16) (p1 : Vec F S512x128 .bf16) (p2 : Vec F S512x128 .bf16) (p3 : Vec F S512x128 .bf16) (y : S512x512.Idx) :
    ∃ pc ∈ ([⟨r0_21, p0⟩, ⟨r0_20, p1⟩, ⟨r0_19, p2⟩, ⟨r0_18, p3⟩] : List (View.Piece (Elt F) S512x512 .bf16)), y ∈ pc.1.set :=
  View.cover_of_tiled [⟨r0_21, p0⟩, ⟨r0_20, p1⟩, ⟨r0_19, p2⟩, ⟨r0_18, p3⟩] S512x128.size (by rfl) y

/-- What the body leaves in the buffer of window 29. -/
def out0_29 (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) : Vec F S512x512 .bf16 :=
  View.canon [⟨r0_21, k0_pay1 (k0_pay87 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19))⟩,
    ⟨r0_20, k0_pay86 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19)⟩,
    ⟨r0_19, k0_pay83 (k0_pay111 x0 x1 x2 x3 x4 x5 x6 x7 x8 x9 x10 x11 x12 x13 x14 x15 x16 x17 x18 x19) (k0_pay112 x0 x1 x2 x3 x4 x5 x6 x7 x8 x9 x10 x11 x12 x13 x14 x15 x16 x17 x18 x19)⟩,
    ⟨r0_18, k0_pay80 (k0_pay78 (k0_pay89 x0 x1 x2 x3 x4 x5 x6 x7 x8 x9 x10 x11 x12 x13 x14 x15 x16 x17 x18 x19) (View.ld x4 r0_28) (View.ld x19 r0_29))⟩]

/-- The stores cover it. -/
theorem cover0_29 (p0 : Vec F S512x128 .bf16) (p1 : Vec F S512x128 .bf16) (p2 : Vec F S512x128 .bf16) (p3 : Vec F S512x128 .bf16) (y : S512x512.Idx) :
    ∃ pc ∈ ([⟨r0_21, p0⟩, ⟨r0_20, p1⟩, ⟨r0_19, p2⟩, ⟨r0_18, p3⟩] : List (View.Piece (Elt F) S512x512 .bf16)), y ∈ pc.1.set :=
  View.cover_of_tiled [⟨r0_21, p0⟩, ⟨r0_20, p1⟩, ⟨r0_19, p2⟩, ⟨r0_18, p3⟩] S512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S2048x3840 .bf16) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S1x256 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S128x256 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x256 .bf16) (harg25 : arg25.IsWhole) (arg26 : Memref sig .tc .vmem S512x256 .bf16) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .bf16) (harg29 : arg29.IsWhole) (arg30 : Memref sig .tc .vmem S512x512 .bf16) (harg30 : arg30.IsWhole)
    (x0 : Vec F S512x2048 .f32) (x1 : Vec F S1x2048 .f32) (x2 : Vec F S1x1x1x1x2048 .f32) (x3 : Vec F S1x1x1x1x2048 .f32) (x4 : Vec F S2048x3840 .bf16) (x5 : Vec F S1x512 .f32) (x6 : Vec F S512x1024 .bf16) (x7 : Vec F S1x128 .f32) (x8 : Vec F S128x1024 .bf16) (x9 : Vec F S1x256 .f32) (x10 : Vec F S1x128 .f32) (x11 : Vec F S1x128 .f32) (x12 : Vec F S1x128 .f32) (x13 : Vec F S1x128 .f32) (x14 : Vec F S512x128 .f32) (x15 : Vec F S512x128 .f32) (x16 : Vec F S512x128 .f32) (x17 : Vec F S512x128 .f32) (x18 : Vec F S512x128 .f32) (x19 : Vec F S128x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19) ∗ owns (c : Thread nD τ) arg26 fullShare (out0_25 x0 x1 x2 x3 x4 x5 x6 x7 x8 x9 x10 x11 x12 x13 x14 x15 x16 x17 x18 x19) ∗ owns (c : Thread nD τ) arg27 fullShare (out0_26 x0 x1 x2 x3 x4 x5 x6 x7 x8 x9 x10 x11 x12 x13 x14 x15 x16 x17 x18 x19) ∗ owns (c : Thread nD τ) arg28 fullShare (out0_27 x0 x1 x2 x3 x4 x5 x6 x7 x8 x9 x10 x11 x12 x13 x14 x15 x16 x17 x18 x19) ∗ owns (c : Thread nD τ) arg29 fullShare (out0_28 x0 x1 x2 x3 x4 x5 x6 x7 x8 x9 x10 x11 x12 x13 x14 x15 x16 x17 x18 x19) ∗ owns (c : Thread nD τ) arg30 fullShare (out0_29 x0 x1 x2 x3 x4 x5 x6 x7 x8 x9 x10 x11 x12 x13 x14 x15 x16 x17 x18 x19)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0_proj_eq_skeleton]; unfold cc0_proj_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _ _ _)).trans ?_
    rfl
  isplitl [H23]
  · iexists _; isplitr
    swap; · iexact H23
    ipureintro
    refine (View.read_writes_eq_canon _ _ _ (cover0_23 _ _ _ _)).trans ?_
    rfl
  isplitl [H24]
  · iexists _; isplitr
    swap; · iexact H24
    ipureintro
    refine (View.read_writes_eq_canon _ _ _ (cover0_24 _ _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _ _ _ _)).trans ?_
    rfl
  iexists _; isplitr
  swap; · iexact H29
  ipureintro
  refine (View.read_writes_eq_canon _ _ _ (cover0_29 _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 30, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body keeps the invariant at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- The run: what every array holds at the end, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The run ends with every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.ProjIdeal.Gen

end
-- ==== Proof.ProjEntry.lean ====
/- The projection kernel: its input weights as the call finds them. -/
module

public import proofs.«01_k».proof.Proof.ProjSpec
public import proofs.«01_k».proof.Proof.ProjJoin
public import proofs.«01_k».proof.Proof.Padded
public import proofs.«01_k».proof.Proof.ProjIdealFrame
public import Idealize.ShloMosaic.Lib.StableHlo.RunRead
public import Idealize.ShloMosaic.Lib.Pipeline.ValueKit

@[expose] public section

set_option maxRecDepth 65536

noncomputable section

namespace Cert.ProjIdeal.Rows

open Idealize.ShloMosaic.StableHlo Cert.ProjIdeal Cert.ProjIdeal.Gen Cert.Layer Idealize.ShloMosaic Idealize.ShloMosaic.TcCoe

variable (m : (ℓ : Loc nD τ sig) → Buf (Elt Ideal) ℓ) (c : Dev nD)

/-- The input projection's columns after the latent attention's, which the padding moves by 128. -/
theorem entry_w (d : Fin 2048) (p : Fin 3840) (h : 768 ≤ p.val) :
    V m c main_v39 (ix2 d p) = at2 (m ((c : Thread nD τ).loc main_arg3)) d (p.val - 128) := by
  have hp := p.isLt
  unfold V
  after_reads_simp
  generalize hU : upto (List.flatten _) _ 50 = U
  refine Eq.trans (joined (U (Proc.devRef (τ := τ) .tc main_v26)) (U (Proc.devRef (τ := τ) .tc main_v17)) (U (Proc.devRef (τ := τ) .tc main_v27)) (U (Proc.devRef (τ := τ) .tc main_v19)) (U (Proc.devRef (τ := τ) .tc main_v20)) (U (Proc.devRef (τ := τ) .tc main_v21)) (U (Proc.devRef (τ := τ) .tc main_v22)) (U (Proc.devRef (τ := τ) .tc main_v23)) (U (Proc.devRef (τ := τ) .tc main_v24)) (U (Proc.devRef (τ := τ) .tc main_v25))
    concatenates_S2048x512_S2048x128_S2048x128_S2048x512_S2048x256_S2048x256_S2048x512_S2048x512_S2048x512_S2048x512_S2048x3840_d1 d p) ?_
  rw [if_neg (by omega), if_neg (by omega), if_neg (by omega)]
  repeat' split
  all_goals
    subst hU
    after_reads_simp
    refine (slice_at2 _ _ (by decide) _ _).trans ?_
    rw [if_pos (by omega)]
    congr 1
    omega

end Cert.ProjIdeal.Rows

end
-- ==== Proof.ProjBlocks.lean ====
/- The projection kernel: its blocks, read off the launched arguments. -/
module

public import proofs.«01_k».proof.Proof.ProjSpec
public import proofs.«01_k».proof.Proof.ProjJoin
public import proofs.«01_k».proof.Proof.Padded
public import proofs.«01_k».proof.Proof.ProjEntry
public import Idealize.ShloMosaic.Lib.Pipeline.ValueKit

@[expose] public section

set_option maxRecDepth 16384

noncomputable section

namespace Cert.ProjIdeal.Rows

open Cert.ProjIdeal Cert.ProjIdeal.Gen Cert.Layer Idealize.ShloMosaic Idealize.ShloMosaic.TcCoe

/-- A rectangle of a matrix, at an element. -/
theorem ld_sub {e : EltTy} {R C R' C' : Nat} (X : (⟨2, ![R, C]⟩ : Shape).Idx → Elt Ideal e) (a b : Nat)
    (inb : ∀ k, (![a, b] : Fin 2 → Nat) k + (![R', C'] : Fin 2 → Nat) k ≤ (⟨2, ![R, C]⟩ : Shape).size k)
    (x : Fin R') (y : Fin C') (hx : a + x.val < R) (hy : b + y.val < C) :
    View.ld (Val := Elt Ideal) (S := ⟨2, ![R, C]⟩) (e' := e) X (Rect.unit ![a, b] ![R', C'] inb) (ix2 x y)
      = X (ix2 ⟨a + x.val, hx⟩ ⟨b + y.val, hy⟩) := by
  refine congrArg X (funext fun k => Fin.ext ?_)
  match k with
  | ⟨0, _⟩ => show a + 1 * x.val = a + x.val; omega
  | ⟨1, _⟩ => show b + 1 * y.val = b + y.val; omega

/-- A whole matrix through its rectangle, at an element. -/
theorem ld_all {e : EltTy} {R C : Nat} (X : (⟨2, ![R, C]⟩ : Shape).Idx → Elt Ideal e)
    (inb : ∀ k, (![0, 0] : Fin 2 → Nat) k + (![R, C] : Fin 2 → Nat) k ≤ (⟨2, ![R, C]⟩ : Shape).size k)
    (x : Fin R) (y : Fin C) :
    View.ld (Val := Elt Ideal) (S := ⟨2, ![R, C]⟩) (e' := e) X (Rect.unit ![0, 0] ![R, C] inb) (ix2 x y) = X (ix2 x y) := by
  refine congrArg X (funext fun k => Fin.ext ?_)
  match k with
  | ⟨0, _⟩ => show 0 + 1 * x.val = x.val; omega
  | ⟨1, _⟩ => show 0 + 1 * y.val = y.val; omega

/-- A modulation row through its rectangle. -/
theorem ld_mod (X : S1x1x1x1x2048.Idx → Elt Ideal .f32) (y : Fin 2048) :
    View.ld (Val := Elt Ideal) (S := S1x1x1x1x2048) (e' := .f32) X r0_2 (ix5 0 0 0 0 y) = X (ix5 0 0 0 0 y) := by
  refine congrArg X (funext fun k => Fin.ext ?_)
  match k with
  | ⟨0, _⟩ => rfl
  | ⟨1, _⟩ => rfl
  | ⟨2, _⟩ => rfl
  | ⟨3, _⟩ => rfl
  | ⟨4, _⟩ => show 0 + 1 * y.val = y.val; omega

variable (m : (ℓ : Loc nD τ sig) → Buf (Elt Ideal) ℓ) (c : Dev nD)

/-- The grid has 34 points. -/
theorem lt34 (t : Fin cfg0.N) : t.val < 34 := lt_of_lt_of_eq t.isLt (by decide)

/-- The block indices at a grid point: row block `t`; the tables' row block is its position in the batch, or the last one. -/
theorem idx : ∀ t : Fin cfg0.N,
    win0_0.index t = ![t.val, 0] ∧ win0_1.index t = ![0, 0]
    ∧ win0_2.index t = ![0, modRow (512 * t.val), 3, 0, 0] ∧ win0_3.index t = ![0, modRow (512 * t.val), 4, 0, 0]
    ∧ win0_4.index t = ![0, 0] ∧ win0_12.index t = ![0, 0] ∧ win0_13.index t = ![0, 0]
    ∧ win0_17.index t = ![if t.val < 32 then t.val % 8 else 8, 0] ∧ win0_18.index t = ![if t.val < 32 then t.val % 8 else 8, 0]
    ∧ win0_19.index t = ![0, 0] ∧ win0_23.index t = ![t.val, 0] ∧ win0_24.index t = ![t.val, 0]
    ∧ win0_25.index t = ![t.val, 0] ∧ win0_26.index t = ![t.val, 0] ∧ win0_27.index t = ![t.val, 0]
    ∧ win0_28.index t = ![t.val, 0] ∧ win0_29.index t = ![t.val, 0] :=
  (by decide +kernel : ∀ t : Fin grid0.N, _)

/-- A row block lies in one batch. -/
theorem modRow_block (b : Nat) (r : Fin 512) : modRow (512 * b + r) = modRow (512 * b) := by
  unfold modRow
  have h := r.isLt
  split <;> split <;> omega

theorem modRow_lt (R : Nat) (h : R < 17408) : modRow R < 8 := by
  unfold modRow
  split <;> omega

/-- The gain as the kernel's call finds it: a row. -/
theorem entry_gain (d : Fin 2048) : V m c main_v56 (ix2 0 d) = at1 (m ((c : Thread nD τ).loc main_arg2)) d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  refine Eq.trans ?_ (at1_ix1 (m ((c : Thread nD τ).loc main_arg2)) d)
  pointwise

/-- The queries' gain: a row. -/
theorem entry_gq (d : Fin 128) : V m c main_v52 (ix2 0 d) = at1 (m ((c : Thread nD τ).loc main_arg10)) d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  refine Eq.trans ?_ (at1_ix1 (m ((c : Thread nD τ).loc main_arg10)) d)
  pointwise

/-- The keys' gain: a row. -/
theorem entry_gk (d : Fin 128) : V m c main_v53 (ix2 0 d) = at1 (m ((c : Thread nD τ).loc main_arg11)) d := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  refine Eq.trans ?_ (at1_ix1 (m ((c : Thread nD τ).loc main_arg11)) d)
  pointwise

/-- The cosines' table: twice side by side, ones below for the context rows. -/
theorem entry_c (R : Fin 4608) (j : Fin 128) :
    V m c main_v14 (ix2 R j) = if R.val < 4096 then
      at2 (m ((c : Thread nD τ).loc main_arg14)) R (if j.val < 64 then j.val else j.val - 64) else 1 := by
  have hR := R.isLt
  have hj := j.isLt
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  pointwise
  repeat' split
  all_goals first
    | exact at2_idx _ _ _ _ rfl rfl
    | exact Ideal.ofBits_one_f32
    | rfl

/-- The sines' table: negated and not side by side, zeros below for the context rows. -/
theorem entry_s (R : Fin 4608) (j : Fin 128) :
    V m c main_v15 (ix2 R j) = if R.val < 4096 then
      (if j.val < 64 then -at2 (m ((c : Thread nD τ).loc main_arg15)) R j
        else at2 (m ((c : Thread nD τ).loc main_arg15)) R (j.val - 64)) else 0 := by
  have hR := R.isLt
  have hj := j.isLt
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  pointwise
  repeat' split
  all_goals first
    | exact at2_idx _ _ _ _ rfl rfl
    | exact congrArg (fun z : EReal => -z) (at2_idx _ _ _ _ rfl rfl)
    | exact Ideal.ofBits_zero_f32
    | rfl

/-- The channel transforms side by side. -/
theorem entry_f (y : Fin 128) (j : Fin 256) :
    V m c main_v55 (ix2 y j) = if j.val < 128 then at2 (m ((c : Thread nD τ).loc main_arg16)) y j
      else at2 (m ((c : Thread nD τ).loc main_arg17)) y (j.val - 128) := by
  have hj := j.isLt
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  entry_read
  pointwise
  repeat' split
  all_goals exact at2_idx _ _ _ _ rfl rfl

theorem blk0 (t : Fin cfg0.N) (r : Fin 512) (d : Fin 2048) :
    iblk m c 0 t (ix2 r d) = at2 (m ((c : Thread nD τ).loc main_arg0)) (512 * t.val + r) d := by
  have := lt34 t
  refine Eq.trans ?_ (at2_ix2 (m ((c : Thread nD τ).loc main_arg0)) ⟨512 * t.val + r, by omega⟩ d)
  blk_ext [iblk, V, idx t]

theorem blk2 (t : Fin cfg0.N) (d : Fin 2048) :
    iblk m c 2 t (ix5 0 0 0 0 d) = atm (m ((c : Thread nD τ).loc main_arg1)) (modRow (512 * t.val)) 3 d := by
  have := lt34 t
  refine Eq.trans ?_ (atm_idx (m ((c : Thread nD τ).loc main_arg1))
    (ix5 0 ⟨modRow (512 * t.val), modRow_lt _ (by omega)⟩ 3 0 d) _ _ _ rfl rfl rfl rfl rfl)
  blk_ext [iblk, V, idx t]

theorem blk3 (t : Fin cfg0.N) (d : Fin 2048) :
    iblk m c 3 t (ix5 0 0 0 0 d) = atm (m ((c : Thread nD τ).loc main_arg1)) (modRow (512 * t.val)) 4 d := by
  have := lt34 t
  refine Eq.trans ?_ (atm_idx (m ((c : Thread nD τ).loc main_arg1))
    (ix5 0 ⟨modRow (512 * t.val), modRow_lt _ (by omega)⟩ 4 0 d) _ _ _ rfl rfl rfl rfl rfl)
  blk_ext [iblk, V, idx t]

theorem blk1 (t : Fin cfg0.N) (d : Fin 2048) :
    iblk m c 1 t (ix2 0 d) = at1 (m ((c : Thread nD τ).loc main_arg2)) d := by
  have h : ∀ X : Buf (Elt Ideal) ((c : Thread nD τ).loc main_v56),
      (win0_1.blk t).view.read (Elt Ideal) X (ix2 0 d) = X (ix2 0 d) := fun X => by blk_ext [idx t]
  exact (h (V m c main_v56)).trans (entry_gain m c d)

theorem blk12 (t : Fin cfg0.N) (d : Fin 128) :
    iblk m c 12 t (ix2 0 d) = at1 (m ((c : Thread nD τ).loc main_arg10)) d := by
  have h : ∀ X : Buf (Elt Ideal) ((c : Thread nD τ).loc main_v52),
      (win0_12.blk t).view.read (Elt Ideal) X (ix2 0 d) = X (ix2 0 d) := fun X => by blk_ext [idx t]
  exact (h (V m c main_v52)).trans (entry_gq m c d)

theorem blk13 (t : Fin cfg0.N) (d : Fin 128) :
    iblk m c 13 t (ix2 0 d) = at1 (m ((c : Thread nD τ).loc main_arg11)) d := by
  have h : ∀ X : Buf (Elt Ideal) ((c : Thread nD τ).loc main_v53),
      (win0_13.blk t).view.read (Elt Ideal) X (ix2 0 d) = X (ix2 0 d) := fun X => by blk_ext [idx t]
  exact (h (V m c main_v53)).trans (entry_gk m c d)

theorem blk4 (t : Fin cfg0.N) (d : Fin 2048) (p : Fin 3840) (hp : 768 ≤ p.val) :
    iblk m c 4 t (ix2 d p) = at2 (m ((c : Thread nD τ).loc main_arg3)) d (p.val - 128) := by
  have h : ∀ X : Buf (Elt Ideal) ((c : Thread nD τ).loc main_v39),
      (win0_4.blk t).view.read (Elt Ideal) X (ix2 d p) = X (ix2 d p) := fun X => by blk_ext [idx t]
  exact (h (V m c main_v39)).trans (entry_w m c d p hp)

theorem blk19 (t : Fin cfg0.N) (y : Fin 128) (j : Fin 256) :
    iblk m c 19 t (ix2 y j) = if j.val < 128 then at2 (m ((c : Thread nD τ).loc main_arg16)) y j else at2 (m ((c : Thread nD τ).loc main_arg17)) y (j.val - 128) := by
  have h : ∀ X : Buf (Elt Ideal) ((c : Thread nD τ).loc main_v55),
      (win0_19.blk t).view.read (Elt Ideal) X (ix2 y j) = X (ix2 y j) := fun X => by blk_ext [idx t]
  exact (h (V m c main_v55)).trans (entry_f m c y j)

theorem blk17 (t : Fin cfg0.N) (r : Fin 512) (j : Fin 128) :
    iblk m c 17 t (ix2 r j) = if 512 * t.val + r.val < 16384 then
      at2 (m ((c : Thread nD τ).loc main_arg14)) ((512 * t.val + r) % 4096) (if j.val < 64 then j.val else j.val - 64) else 1 := by
  have ht := lt34 t
  have hr := r.isLt
  have hk : 512 * (if t.val < 32 then t.val % 8 else 8) + r.val < 4608 := by split <;> omega
  have h : ∀ X : Buf (Elt Ideal) ((c : Thread nD τ).loc main_v14),
      (win0_17.blk t).view.read (Elt Ideal) X (ix2 r j) = X (ix2 ⟨512 * (if t.val < 32 then t.val % 8 else 8) + r.val, hk⟩ j) :=
    fun X => by blk_ext [idx t]
  refine (h (V m c main_v14)).trans ((entry_c m c _ _).trans ?_)
  clear h
  generalize hq : (if t.val < 32 then t.val % 8 else 8) = q at hk
  dsimp only
  by_cases k : t.val < 32
  · rw [if_pos k] at hq
    subst hq
    rw [if_pos (show 512 * (t.val % 8) + r.val < 4096 by omega), if_pos (show 512 * t.val + r.val < 16384 by omega)]
    have e : 512 * (t.val % 8) + r.val = (512 * t.val + r.val) % 4096 := by omega
    rw [e]
  · rw [if_neg k] at hq
    subst hq
    rw [if_neg (show ¬(512 * 8 + r.val < 4096) by omega), if_neg (show ¬(512 * t.val + r.val < 16384) by omega)]

theorem blk18 (t : Fin cfg0.N) (r : Fin 512) (j : Fin 128) :
    iblk m c 18 t (ix2 r j) = if 512 * t.val + r.val < 16384 then
      (if j.val < 64 then -at2 (m ((c : Thread nD τ).loc main_arg15)) ((512 * t.val + r) % 4096) j
        else at2 (m ((c : Thread nD τ).loc main_arg15)) ((512 * t.val + r) % 4096) (j.val - 64)) else 0 := by
  have ht := lt34 t
  have hr := r.isLt
  have hk : 512 * (if t.val < 32 then t.val % 8 else 8) + r.val < 4608 := by split <;> omega
  have h : ∀ X : Buf (Elt Ideal) ((c : Thread nD τ).loc main_v15),
      (win0_18.blk t).view.read (Elt Ideal) X (ix2 r j) = X (ix2 ⟨512 * (if t.val < 32 then t.val % 8 else 8) + r.val, hk⟩ j) :=
    fun X => by blk_ext [idx t]
  refine (h (V m c main_v15)).trans ((entry_s m c _ _).trans ?_)
  clear h
  generalize hq : (if t.val < 32 then t.val % 8 else 8) = q at hk
  dsimp only
  by_cases k : t.val < 32
  · rw [if_pos k] at hq
    subst hq
    rw [if_pos (show 512 * (t.val % 8) + r.val < 4096 by omega), if_pos (show 512 * t.val + r.val < 16384 by omega)]
    have e : 512 * (t.val % 8) + r.val = (512 * t.val + r.val) % 4096 := by omega
    rw [e]
  · rw [if_neg k] at hq
    subst hq
    rw [if_neg (show ¬(512 * 8 + r.val < 4096) by omega), if_neg (show ¬(512 * t.val + r.val < 16384) by omega)]

end Cert.ProjIdeal.Rows

end
-- ==== Proof.ProjPieces.lean ====
/- The projection kernel: what its body computes from its blocks. -/
module

public import proofs.«01_k».proof.Proof.ProjPay
public import proofs.«01_k».proof.Proof.ProjBlocks

@[expose] public section

set_option maxRecDepth 16384

noncomputable section

namespace Cert.ProjIdeal.Rows

open Cert.ProjIdeal Cert.ProjIdeal.Gen Cert.Layer Idealize.ShloMosaic Idealize.ShloMosaic.TcCoe

theorem pay6_apply (v : Vec Ideal S512x128 .f32) (r : Fin 512) (j : Fin 128) : k0_pay6 (F := Ideal) v (ix2 r j) = v (ix2 r j) := by
  pointwise [k0_pay6]

theorem pay7_apply (v : Vec Ideal S512x128 .f32) (r : Fin 512) (j : Fin 128) : k0_pay7 (F := Ideal) v (ix2 r j) = v (ix2 r j) := by
  pointwise [k0_pay7]

theorem pay61_apply (v : Vec Ideal S1x128 .f32) (r : Fin 1) (j : Fin 128) : k0_pay61 (F := Ideal) v (ix2 r j) = v (ix2 r j) := by
  pointwise [k0_pay61]

theorem pay62_apply (v : Vec Ideal S1x128 .f32) (r : Fin 1) (j : Fin 128) : k0_pay62 (F := Ideal) v (ix2 r j) = v (ix2 r j) := by
  pointwise [k0_pay62]

theorem pay77_apply (v : Vec Ideal S128x256 .bf16) (r : Fin 128) (j : Fin 256) : k0_pay77 (F := Ideal) v (ix2 r j) = v (ix2 r j) := by
  pointwise [k0_pay77]

/-- A head rotated by the tables is the rotated head. -/
theorem tabled_eq (x14 x15 : (⟨2, ![4096, 64]⟩ : Shape).Idx → EReal) (R : Nat) (z g c s : Fin 128 → EReal)
    (hc : ∀ j : Fin 128, c j = if R < 16384 then at2 x14 (R % 4096) (if j.val < 64 then j.val else j.val - 64) else 1)
    (hs : ∀ j : Fin 128, s j = if R < 16384 then
      (if j.val < 64 then -at2 x15 (R % 4096) j else at2 x15 (R % 4096) (j.val - 64)) else 0) (j : Fin 128) :
    tabled z g c s j = rotated x14 x15 R (headNormed z g) j := by
  unfold tabled rotated
  rw [hc j, hs j]
  by_cases hR : R < 16384
  · rw [if_pos hR, if_pos hR, if_pos hR]
    by_cases hj : j.val < 64
    · rw [if_pos hj, if_pos hj, if_pos hj, mul_neg, ← sub_eq_add_neg]
    · rw [if_neg hj, if_neg hj, if_neg hj]
  · rw [if_neg hR, if_neg hR, if_neg hR, mul_one, mul_zero, add_zero]

variable (m : (ℓ : Loc nD τ sig) → Buf (Elt Ideal) ℓ) (c : Dev nD)

/-- The normalised rows of a block. -/
theorem norm_block (t : Fin cfg0.N) (r : Fin 512) (d : Fin 2048) :
    (k0_pay89 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r d)
      = mixNorm (m ((c : Thread nD τ).loc main_arg0)) (m ((c : Thread nD τ).loc main_arg1)) (m ((c : Thread nD τ).loc main_arg2)) (512 * t.val + r) d := by
  unfold k0_pay89
  rw [pay2_apply]
  unfold mixNorm
  rw [modRow_block]
  have e0 : (fun d => View.ld (Val := Elt Ideal) (e' := .f32) (iblk m c 0 t) r0_0 (ix2 r d))
      = fun d : Fin 2048 => at2 (m ((c : Thread nD τ).loc main_arg0)) (512 * t.val + r) d :=
    funext fun d => (ld_all (e := .f32) (iblk m c 0 t) _ r d).trans (blk0 m c t r d)
  have e1 : (fun d => View.ld (Val := Elt Ideal) (e' := .f32) (iblk m c 1 t) r0_1 (ix2 0 d))
      = fun d : Fin 2048 => at1 (m ((c : Thread nD τ).loc main_arg2)) d :=
    funext fun d => (ld_all (e := .f32) (iblk m c 1 t) _ 0 d).trans (blk1 m c t d)
  have e2 : (fun d => View.ld (Val := Elt Ideal) (e' := .f32) (iblk m c 2 t) r0_2 (ix5 0 0 0 0 d))
      = fun d : Fin 2048 => atm (m ((c : Thread nD τ).loc main_arg1)) (modRow (512 * t.val)) 3 d :=
    funext fun d => (ld_mod (iblk m c 2 t) d).trans (blk2 m c t d)
  have e3 : (fun d => View.ld (Val := Elt Ideal) (e' := .f32) (iblk m c 3 t) r0_2 (ix5 0 0 0 0 d))
      = fun d : Fin 2048 => atm (m ((c : Thread nD τ).loc main_arg1)) (modRow (512 * t.val)) 4 d :=
    funext fun d => (ld_mod (iblk m c 3 t) d).trans (blk3 m c t d)
  rw [e0, e1, e2, e3]

/-- The grouped-query columns of a block of rows. -/
theorem cols_b (t : Fin cfg0.N) (r : Fin 512) (j : Fin 1024) :
    (∑ d : Fin 2048, (k0_pay89 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r d)
        * View.ld (Val := Elt Ideal) (e' := .bf16) (iblk m c 4 t) r0_22 (ix2 d j))
      = inProj (m ((c : Thread nD τ).loc main_arg0)) (m ((c : Thread nD τ).loc main_arg1)) (m ((c : Thread nD τ).loc main_arg2)) (m ((c : Thread nD τ).loc main_arg3)) (512 * t.val + r) (640 + j.val) := by
  have hj := j.isLt
  refine Finset.sum_congr rfl fun d _ => congrArg₂ (· * ·) (norm_block m c t r d) ?_
  refine (ld_sub (e := .bf16) (iblk m c 4 t) 0 768 _ d j (by omega) (by omega)).trans ?_
  have e : (⟨0 + d.val, by omega⟩ : Fin 2048) = d := Fin.ext (Nat.zero_add _)
  rw [e]
  refine (blk4 m c t d ⟨768 + j.val, by omega⟩ (by show 768 ≤ 768 + j.val; omega)).trans ?_
  congr 1
  show 768 + j.val - 128 = 640 + j.val
  omega

/-- The convolution's columns of a block of rows. -/
theorem cols_c (t : Fin cfg0.N) (r : Fin 512) (j : Fin 1536) :
    (∑ d : Fin 2048, (k0_pay89 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r d)
        * View.ld (Val := Elt Ideal) (e' := .bf16) (iblk m c 4 t) r0_26 (ix2 d j))
      = inProj (m ((c : Thread nD τ).loc main_arg0)) (m ((c : Thread nD τ).loc main_arg1)) (m ((c : Thread nD τ).loc main_arg2)) (m ((c : Thread nD τ).loc main_arg3)) (512 * t.val + r) (1664 + j.val) := by
  have hj := j.isLt
  refine Finset.sum_congr rfl fun d _ => congrArg₂ (· * ·) (norm_block m c t r d) ?_
  refine (ld_sub (e := .bf16) (iblk m c 4 t) 0 1792 _ d j (by omega) (by omega)).trans ?_
  have e : (⟨0 + d.val, by omega⟩ : Fin 2048) = d := Fin.ext (Nat.zero_add _)
  rw [e]
  refine (blk4 m c t d ⟨1792 + j.val, by omega⟩ (by show 768 ≤ 1792 + j.val; omega)).trans ?_
  congr 1
  show 1792 + j.val - 128 = 1664 + j.val
  omega

/-- The Fourier branch's columns of a block of rows. -/
theorem cols_f (t : Fin cfg0.N) (r : Fin 512) (j : Fin 512) :
    (∑ d : Fin 2048, (k0_pay89 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r d)
        * View.ld (Val := Elt Ideal) (e' := .bf16) (iblk m c 4 t) r0_28 (ix2 d j))
      = inProj (m ((c : Thread nD τ).loc main_arg0)) (m ((c : Thread nD τ).loc main_arg1)) (m ((c : Thread nD τ).loc main_arg2)) (m ((c : Thread nD τ).loc main_arg3)) (512 * t.val + r) (3200 + j.val) := by
  have hj := j.isLt
  refine Finset.sum_congr rfl fun d _ => congrArg₂ (· * ·) (norm_block m c t r d) ?_
  refine (ld_sub (e := .bf16) (iblk m c 4 t) 0 3328 _ d j (by omega) (by omega)).trans ?_
  have e : (⟨0 + d.val, by omega⟩ : Fin 2048) = d := Fin.ext (Nat.zero_add _)
  rw [e]
  refine (blk4 m c t d ⟨3328 + j.val, by omega⟩ (by show 768 ≤ 3328 + j.val; omega)).trans ?_
  congr 1
  show 3328 + j.val - 128 = 3200 + j.val
  omega

theorem cols108 (t : Fin cfg0.N) (r : Fin 512) (j : Fin 1024) :
    (k0_pay108 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r j)
      = inProj (m ((c : Thread nD τ).loc main_arg0)) (m ((c : Thread nD τ).loc main_arg1)) (m ((c : Thread nD τ).loc main_arg2)) (m ((c : Thread nD τ).loc main_arg3)) (512 * t.val + r) (640 + j.val) := by
  unfold k0_pay108
  exact (pay60_apply _ _ r j).trans (cols_b m c t r j)

theorem cols111 (t : Fin cfg0.N) (r : Fin 512) (j : Fin 512) :
    (k0_pay111 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r j)
      = inProj (m ((c : Thread nD τ).loc main_arg0)) (m ((c : Thread nD τ).loc main_arg1)) (m ((c : Thread nD τ).loc main_arg2)) (m ((c : Thread nD τ).loc main_arg3)) (512 * t.val + r) (3200 + j.val) := by
  unfold k0_pay111
  exact (pay76_apply _ _ r j).trans (cols_f m c t r j)

theorem gain12 (t : Fin cfg0.N) (j : Fin 128) :
    View.ld (Val := Elt Ideal) (e' := .f32) (iblk m c 12 t) r0_16 (ix2 0 j) = at1 (m ((c : Thread nD τ).loc main_arg10)) j :=
  (ld_all (e := .f32) (iblk m c 12 t) _ 0 j).trans (blk12 m c t j)

theorem gain109 (t : Fin cfg0.N) (j : Fin 128) :
    (k0_pay109 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 0 j) = at1 (m ((c : Thread nD τ).loc main_arg10)) j := by
  unfold k0_pay109
  exact (pay61_apply _ 0 j).trans (gain12 m c t j)

theorem gain110 (t : Fin cfg0.N) (j : Fin 128) :
    (k0_pay110 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 0 j) = at1 (m ((c : Thread nD τ).loc main_arg11)) j := by
  unfold k0_pay110
  exact (pay62_apply _ 0 j).trans ((ld_all (e := .f32) (iblk m c 13 t) _ 0 j).trans (blk13 m c t j))

theorem tab93 (t : Fin cfg0.N) (r : Fin 512) (j : Fin 128) :
    (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r j) = if 512 * t.val + r.val < 16384 then
      at2 (m ((c : Thread nD τ).loc main_arg14)) ((512 * t.val + r) % 4096) (if j.val < 64 then j.val else j.val - 64) else 1 := by
  unfold k0_pay93
  exact (pay6_apply _ r j).trans ((ld_all (e := .f32) (iblk m c 17 t) _ r j).trans (blk17 m c t r j))

theorem tab94 (t : Fin cfg0.N) (r : Fin 512) (j : Fin 128) :
    (k0_pay94 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r j) = if 512 * t.val + r.val < 16384 then
      (if j.val < 64 then -at2 (m ((c : Thread nD τ).loc main_arg15)) ((512 * t.val + r) % 4096) j
        else at2 (m ((c : Thread nD τ).loc main_arg15)) ((512 * t.val + r) % 4096) (j.val - 64)) else 0 := by
  unfold k0_pay94
  exact (pay7_apply _ r j).trans ((ld_all (e := .f32) (iblk m c 18 t) _ r j).trans (blk18 m c t r j))

theorem trans_f (t : Fin cfg0.N) (y : Fin 128) (j : Fin 256) :
    View.ld (Val := Elt Ideal) (e' := .bf16) (iblk m c 19 t) r0_29 (ix2 y j)
      = if j.val < 128 then at2 (m ((c : Thread nD τ).loc main_arg16)) y j else at2 (m ((c : Thread nD τ).loc main_arg17)) y (j.val - 128) :=
  (ld_all (e := .bf16) (iblk m c 19 t) _ y j).trans (blk19 m c t y j)

theorem trans112 (t : Fin cfg0.N) (y : Fin 128) (j : Fin 256) :
    (k0_pay112 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 y j)
      = if j.val < 128 then at2 (m ((c : Thread nD τ).loc main_arg16)) y j else at2 (m ((c : Thread nD τ).loc main_arg17)) y (j.val - 128) := by
  unfold k0_pay112
  exact (pay77_apply _ y j).trans (trans_f m c t y j)

/-- Head `k` of the columns from `o` on, rotated by the tables. -/
theorem headed (t : Fin cfg0.N) (r : Fin 512) (x : (⟨1, ![128]⟩ : Shape).Idx → EReal) (o k : Nat) (z g : Fin 128 → EReal)
    (hz : ∀ y : Fin 128, z y = inProj (m ((c : Thread nD τ).loc main_arg0)) (m ((c : Thread nD τ).loc main_arg1)) (m ((c : Thread nD τ).loc main_arg2)) (m ((c : Thread nD τ).loc main_arg3)) (512 * t.val + r) (o + 128 * k + y.val))
    (hg : ∀ y : Fin 128, g y = at1 x y) (j : Fin 128) :
    tabled z g (fun y => (k0_pay93 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r y))
        (fun y => (k0_pay94 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 r y)) j
      = headOut (m ((c : Thread nD τ).loc main_arg0)) (m ((c : Thread nD τ).loc main_arg1)) (m ((c : Thread nD τ).loc main_arg2)) (m ((c : Thread nD τ).loc main_arg3)) x (m ((c : Thread nD τ).loc main_arg14)) (m ((c : Thread nD τ).loc main_arg15)) o (512 * t.val + r) (128 * k + j.val) := by
  have hj := j.isLt
  have hd : (128 * k + j.val) / 128 = k := by omega
  have hm : (⟨(128 * k + j.val) % 128, Nat.mod_lt _ (by decide)⟩ : Fin 128) = j := Fin.ext (by show (128 * k + j.val) % 128 = j.val; omega)
  obtain rfl : z = _ := funext hz
  obtain rfl : g = _ := funext hg
  unfold headOut
  rw [tabled_eq (m ((c : Thread nD τ).loc main_arg14)) (m ((c : Thread nD τ).loc main_arg15)) (512 * t.val + r) _ _ _ _ (tab93 m c t r) (tab94 m c t r) j, hd, hm]

/-- Group `k` of the channels under a transform. -/
theorem grouped (R k : Nat) (z w : Fin 128 → EReal) (x : (⟨2, ![128, 128]⟩ : Shape).Idx → EReal) (j : Fin 128)
    (hz : ∀ y : Fin 128, z y = inProj (m ((c : Thread nD τ).loc main_arg0)) (m ((c : Thread nD τ).loc main_arg1)) (m ((c : Thread nD τ).loc main_arg2)) (m ((c : Thread nD τ).loc main_arg3)) R (3200 + 128 * k + y.val))
    (hw : ∀ y : Fin 128, w y = at2 x y j) :
    (∑ y : Fin 128, z y * w y) = channelOut (m ((c : Thread nD τ).loc main_arg0)) (m ((c : Thread nD τ).loc main_arg1)) (m ((c : Thread nD τ).loc main_arg2)) (m ((c : Thread nD τ).loc main_arg3)) x R (128 * k + j.val) := by
  have hj := j.isLt
  have hd : (128 * k + j.val) / 128 = k := by omega
  have hm : (128 * k + j.val) % 128 = j.val := by omega
  unfold channelOut
  rw [hd, hm]
  exact Finset.sum_congr rfl fun y _ => congrArg₂ (· * ·) (hz y) (hw y)

end Cert.ProjIdeal.Rows

end
-- ==== Proof.ProjKernel.lean ====
/- The projection kernel: what its seven results hold. -/
module

public import proofs.«01_k».proof.Proof.ProjPieces

@[expose] public section

set_option maxRecDepth 16384

noncomputable section

namespace Cert.ProjIdeal.Rows

open Cert.ProjIdeal Cert.ProjIdeal.Gen Cert.Layer Idealize.ShloMosaic Idealize.ShloMosaic.TcCoe

variable (m : (ℓ : Loc nD τ sig) → Buf (Elt Ideal) ℓ) (c : Dev nD)

/-- The queries at a row and a column. -/
abbrev QUERIES : Nat → Nat → EReal := queryOut (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg14)) (m ((c : Thread nD τ).loc main_arg15))

/-- The keys at a row and a column. -/
abbrev KEYS : Nat → Nat → EReal := keyOut (m ((c : Thread nD τ).loc main_arg0)) (m ((c : Thread nD τ).loc main_arg1)) (m ((c : Thread nD τ).loc main_arg2)) (m ((c : Thread nD τ).loc main_arg3)) (m ((c : Thread nD τ).loc main_arg11)) (m ((c : Thread nD τ).loc main_arg14)) (m ((c : Thread nD τ).loc main_arg15))

/-- The values at a row and a column. -/
abbrev VALUES : Nat → Nat → EReal := fun R C => inProj (m ((c : Thread nD τ).loc main_arg0)) (m ((c : Thread nD τ).loc main_arg1)) (m ((c : Thread nD τ).loc main_arg2)) (m ((c : Thread nD τ).loc main_arg3)) R (1408 + C)

/-- The gates at a row and a column. -/
abbrev GATES : Nat → Nat → EReal := fun R C => inProj (m ((c : Thread nD τ).loc main_arg0)) (m ((c : Thread nD τ).loc main_arg1)) (m ((c : Thread nD τ).loc main_arg2)) (m ((c : Thread nD τ).loc main_arg3)) R (1664 + C)

/-- The gated at a row and a column. -/
abbrev GATED : Nat → Nat → EReal := gatedOut (m ((c : Thread nD τ).loc main_arg0)) (m ((c : Thread nD τ).loc main_arg1)) (m ((c : Thread nD τ).loc main_arg2)) (m ((c : Thread nD τ).loc main_arg3))

/-- The first at a row and a column. -/
abbrev FIRST : Nat → Nat → EReal := channelOut (m ((c : Thread nD τ).loc main_arg0)) (m ((c : Thread nD τ).loc main_arg1)) (m ((c : Thread nD τ).loc main_arg2)) (m ((c : Thread nD τ).loc main_arg3)) (m ((c : Thread nD τ).loc main_arg16))

/-- The second at a row and a column. -/
abbrev SECOND : Nat → Nat → EReal := channelOut (m ((c : Thread nD τ).loc main_arg0)) (m ((c : Thread nD τ).loc main_arg1)) (m ((c : Thread nD τ).loc main_arg2)) (m ((c : Thread nD τ).loc main_arg3)) (m ((c : Thread nD τ).loc main_arg17))

set_option maxHeartbeats 4000000 in
theorem block23 (t : Fin cfg0.N) (y : S512x512.Idx) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = QUERIES m c (512 * t.val + (y 0).val) (y 1).val := by
  unfold out0_23
  refine View.canon_apply_of_pieces (Val := Elt Ideal) (fun y : S512x512.Idx => QUERIES m c (512 * t.val + (y 0).val) (y 1).val) _ ?_ y
    (cover0_23 _ _ _ _ y)
  intro pc hpc
  rcases List.mem_cons.mp hpc with rfl | hpc
  · intro x
    show _ = QUERIES m c (512 * t.val + (0 + 1 * (x 0).val)) (384 + 1 * (x 1).val)
    have e0 : 512 * t.val + (0 + 1 * (x 0).val) = 512 * t.val + (x 0).val := by omega
    have e1 : 384 + 1 * (x 1).val = 384 + (x 1).val := by omega
    rw [e0, e1]
    refine (congrArg _ (eq_ix2 x)).trans ((pay67_apply _ _ _ _ (x 0) (x 1)).trans ?_)
    exact congrArg (· * _) (headed m c t (x 0) (m ((c : Thread nD τ).loc main_arg10)) 640 3 _ _ (fun y => (cols108 m c t (x 0) ⟨384 + y.val, by omega⟩).trans (congrArg _ (show 640 + (384 + y.val) = 640 + 128 * 3 + y.val by omega))) (gain109 m c t) (x 1))
  rcases List.mem_cons.mp hpc with rfl | hpc
  · intro x
    show _ = QUERIES m c (512 * t.val + (0 + 1 * (x 0).val)) (256 + 1 * (x 1).val)
    have e0 : 512 * t.val + (0 + 1 * (x 0).val) = 512 * t.val + (x 0).val := by omega
    have e1 : 256 + 1 * (x 1).val = 256 + (x 1).val := by omega
    rw [e0, e1]
    refine (congrArg _ (eq_ix2 x)).trans ((pay65_apply _ _ _ _ (x 0) (x 1)).trans ?_)
    exact congrArg (· * _) (headed m c t (x 0) (m ((c : Thread nD τ).loc main_arg10)) 640 2 _ _ (fun y => (cols108 m c t (x 0) ⟨256 + y.val, by omega⟩).trans (congrArg _ (show 640 + (256 + y.val) = 640 + 128 * 2 + y.val by omega))) (gain109 m c t) (x 1))
  rcases List.mem_cons.mp hpc with rfl | hpc
  · intro x
    show _ = QUERIES m c (512 * t.val + (0 + 1 * (x 0).val)) (128 + 1 * (x 1).val)
    have e0 : 512 * t.val + (0 + 1 * (x 0).val) = 512 * t.val + (x 0).val := by omega
    have e1 : 128 + 1 * (x 1).val = 128 + (x 1).val := by omega
    rw [e0, e1]
    refine (congrArg _ (eq_ix2 x)).trans ((pay64_apply _ _ _ _ (x 0) (x 1)).trans ?_)
    exact congrArg (· * _) (headed m c t (x 0) (m ((c : Thread nD τ).loc main_arg10)) 640 1 _ _ (fun y => (cols108 m c t (x 0) ⟨128 + y.val, by omega⟩).trans (congrArg _ (show 640 + (128 + y.val) = 640 + 128 * 1 + y.val by omega))) (gain109 m c t) (x 1))
  rcases List.mem_cons.mp hpc with rfl | hpc
  · intro x
    show _ = QUERIES m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    refine (congrArg _ (eq_ix2 x)).trans ((pay63_apply _ _ _ _ _ (x 0) (x 1)).trans ?_)
    exact congrArg (· * _) (headed m c t (x 0) (m ((c : Thread nD τ).loc main_arg10)) 640 0 _ _ (fun y => (pay60_apply _ _ (x 0) _).trans ((cols_b m c t (x 0) ⟨y.val, by omega⟩).trans (congrArg _ (show 640 + y.val = 640 + 128 * 0 + y.val by omega)))) (gain12 m c t) (x 1))
  exact absurd hpc (List.not_mem_nil)

theorem block24 (t : Fin cfg0.N) (y : S512x256.Idx) :
    out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = KEYS m c (512 * t.val + (y 0).val) (y 1).val := by
  unfold out0_24
  refine View.canon_apply_of_pieces (Val := Elt Ideal) (fun y : S512x256.Idx => KEYS m c (512 * t.val + (y 0).val) (y 1).val) _ ?_ y
    (cover0_24 _ _ y)
  intro pc hpc
  rcases List.mem_cons.mp hpc with rfl | hpc
  · intro x
    show _ = KEYS m c (512 * t.val + (0 + 1 * (x 0).val)) (128 + 1 * (x 1).val)
    have e0 : 512 * t.val + (0 + 1 * (x 0).val) = 512 * t.val + (x 0).val := by omega
    have e1 : 128 + 1 * (x 1).val = 128 + (x 1).val := by omega
    rw [e0, e1]
    refine (congrArg _ (eq_ix2 x)).trans ((pay71_apply _ _ _ _ (x 0) (x 1)).trans ?_)
    exact headed m c t (x 0) (m ((c : Thread nD τ).loc main_arg11)) 1152 1 _ _ (fun y => (cols108 m c t (x 0) ⟨640 + y.val, by omega⟩).trans (congrArg _ (show 640 + (640 + y.val) = 1152 + 128 * 1 + y.val by omega))) (gain110 m c t) (x 1)
  rcases List.mem_cons.mp hpc with rfl | hpc
  · intro x
    show _ = KEYS m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    refine (congrArg _ (eq_ix2 x)).trans ((pay68_apply _ _ _ _ (x 0) (x 1)).trans ?_)
    exact headed m c t (x 0) (m ((c : Thread nD τ).loc main_arg11)) 1152 0 _ _ (fun y => (cols108 m c t (x 0) ⟨512 + y.val, by omega⟩).trans (congrArg _ (show 640 + (512 + y.val) = 1152 + 128 * 0 + y.val by omega))) (gain110 m c t) (x 1)
  exact absurd hpc (List.not_mem_nil)

theorem block25 (t : Fin cfg0.N) (y : S512x256.Idx) :
    out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = VALUES m c (512 * t.val + (y 0).val) (y 1).val := by
  unfold out0_25
  refine View.canon_apply_of_pieces (Val := Elt Ideal) (fun y : S512x256.Idx => VALUES m c (512 * t.val + (y 0).val) (y 1).val) _ ?_ y
    (cover0_25 _ y)
  intro pc hpc
  rcases List.mem_cons.mp hpc with rfl | hpc
  · intro x
    show _ = VALUES m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    have h1 : (x 1).val < 256 := (x 1).isLt
    refine (congrArg _ (eq_ix2 x)).trans ((pay72_apply _ (x 0) (x 1)).trans ?_)
    refine (cols108 m c t (x 0) ⟨768 + (x 1).val, by omega⟩).trans (congrArg _ ?_)
    show 640 + (768 + (x 1).val) = 1408 + (0 + (x 1).val)
    omega
  exact absurd hpc (List.not_mem_nil)

theorem block26 (t : Fin cfg0.N) (y : S512x512.Idx) :
    out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = GATES m c (512 * t.val + (y 0).val) (y 1).val := by
  unfold out0_26
  refine View.canon_apply_of_pieces (Val := Elt Ideal) (fun y : S512x512.Idx => GATES m c (512 * t.val + (y 0).val) (y 1).val) _ ?_ y
    (cover0_26 _ y)
  intro pc hpc
  rcases List.mem_cons.mp hpc with rfl | hpc
  · intro x
    show _ = GATES m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    have h1 : (x 1).val < 512 := (x 1).isLt
    refine (congrArg _ (eq_ix2 x)).trans ((pay74_apply _ _ (x 0) (x 1)).trans ?_)
    refine (cols_c m c t (x 0) ⟨(x 1).val, by omega⟩).trans (congrArg _ ?_)
    show 1664 + (x 1).val = 1664 + (0 + (x 1).val)
    omega
  exact absurd hpc (List.not_mem_nil)

theorem block27 (t : Fin cfg0.N) (y : S512x512.Idx) :
    out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = GATED m c (512 * t.val + (y 0).val) (y 1).val := by
  unfold out0_27
  refine View.canon_apply_of_pieces (Val := Elt Ideal) (fun y : S512x512.Idx => GATED m c (512 * t.val + (y 0).val) (y 1).val) _ ?_ y
    (cover0_27 _ y)
  intro pc hpc
  rcases List.mem_cons.mp hpc with rfl | hpc
  · intro x
    show _ = GATED m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    have h1 : (x 1).val < 512 := (x 1).isLt
    refine (congrArg _ (eq_ix2 x)).trans ((pay75_apply _ _ (x 0) (x 1)).trans ?_)
    refine congrArg₂ (· * ·) ((cols_c m c t (x 0) ⟨512 + (x 1).val, by omega⟩).trans (congrArg _ ?_))
      ((cols_c m c t (x 0) ⟨1024 + (x 1).val, by omega⟩).trans (congrArg _ ?_))
    · show 1664 + (512 + (x 1).val) = 2176 + (0 + (x 1).val)
      omega
    · show 1664 + (1024 + (x 1).val) = 2688 + (0 + (x 1).val)
      omega
  exact absurd hpc (List.not_mem_nil)

theorem block28 (t : Fin cfg0.N) (y : S512x512.Idx) :
    out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = FIRST m c (512 * t.val + (y 0).val) (y 1).val := by
  unfold out0_28
  refine View.canon_apply_of_pieces (Val := Elt Ideal) (fun y : S512x512.Idx => FIRST m c (512 * t.val + (y 0).val) (y 1).val) _ ?_ y
    (cover0_28 _ _ _ _ y)
  intro pc hpc
  rcases List.mem_cons.mp hpc with rfl | hpc
  · intro x
    show _ = FIRST m c (512 * t.val + (0 + 1 * (x 0).val)) (384 + 1 * (x 1).val)
    have e0 : 512 * t.val + (0 + 1 * (x 0).val) = 512 * t.val + (x 0).val := by omega
    have e1 : 384 + 1 * (x 1).val = 384 + (x 1).val := by omega
    rw [e0, e1]
    have h1 : (x 1).val < 128 := (x 1).isLt
    refine (congrArg _ (eq_ix2 x)).trans ((pay88_apply _ _ (x 0) (x 1)).trans ?_)
    exact grouped m c (512 * t.val + (x 0).val) 3 _ _ (m ((c : Thread nD τ).loc main_arg16)) (x 1) (fun y => (cols111 m c t (x 0) ⟨384 + y.val, by omega⟩).trans (congrArg _ (show 3200 + (384 + y.val) = 3200 + 128 * 3 + y.val by omega)))
      (fun y => (trans112 m c t y ⟨(x 1).val, by omega⟩).trans (if_pos (show (x 1).val < 128 by omega)))
  rcases List.mem_cons.mp hpc with rfl | hpc
  · intro x
    show _ = FIRST m c (512 * t.val + (0 + 1 * (x 0).val)) (256 + 1 * (x 1).val)
    have e0 : 512 * t.val + (0 + 1 * (x 0).val) = 512 * t.val + (x 0).val := by omega
    have e1 : 256 + 1 * (x 1).val = 256 + (x 1).val := by omega
    rw [e0, e1]
    have h1 : (x 1).val < 128 := (x 1).isLt
    refine (congrArg _ (eq_ix2 x)).trans ((pay85_apply _ _ (x 0) (x 1)).trans ?_)
    exact grouped m c (512 * t.val + (x 0).val) 2 _ _ (m ((c : Thread nD τ).loc main_arg16)) (x 1) (fun y => (cols111 m c t (x 0) ⟨256 + y.val, by omega⟩).trans (congrArg _ (show 3200 + (256 + y.val) = 3200 + 128 * 2 + y.val by omega)))
      (fun y => (trans112 m c t y ⟨(x 1).val, by omega⟩).trans (if_pos (show (x 1).val < 128 by omega)))
  rcases List.mem_cons.mp hpc with rfl | hpc
  · intro x
    show _ = FIRST m c (512 * t.val + (0 + 1 * (x 0).val)) (128 + 1 * (x 1).val)
    have e0 : 512 * t.val + (0 + 1 * (x 0).val) = 512 * t.val + (x 0).val := by omega
    have e1 : 128 + 1 * (x 1).val = 128 + (x 1).val := by omega
    rw [e0, e1]
    have h1 : (x 1).val < 128 := (x 1).isLt
    refine (congrArg _ (eq_ix2 x)).trans ((pay82_apply _ _ (x 0) (x 1)).trans ?_)
    exact grouped m c (512 * t.val + (x 0).val) 1 _ _ (m ((c : Thread nD τ).loc main_arg16)) (x 1) (fun y => (cols111 m c t (x 0) ⟨128 + y.val, by omega⟩).trans (congrArg _ (show 3200 + (128 + y.val) = 3200 + 128 * 1 + y.val by omega)))
      (fun y => (trans112 m c t y ⟨(x 1).val, by omega⟩).trans (if_pos (show (x 1).val < 128 by omega)))
  rcases List.mem_cons.mp hpc with rfl | hpc
  · intro x
    show _ = FIRST m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    have h1 : (x 1).val < 128 := (x 1).isLt
    refine (congrArg _ (eq_ix2 x)).trans ((pay79_apply _ _ _ (x 0) (x 1)).trans ?_)
    exact grouped m c (512 * t.val + (x 0).val) 0 _ _ (m ((c : Thread nD τ).loc main_arg16)) (x 1) (fun y => (pay76_apply _ _ (x 0) _).trans ((cols_f m c t (x 0) ⟨y.val, by omega⟩).trans (congrArg _ (show 3200 + y.val = 3200 + 128 * 0 + y.val by omega))))
      (fun y => (trans_f m c t y ⟨(x 1).val, by omega⟩).trans (if_pos (show (x 1).val < 128 by omega)))
  exact absurd hpc (List.not_mem_nil)

theorem block29 (t : Fin cfg0.N) (y : S512x512.Idx) :
    out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y
      = SECOND m c (512 * t.val + (y 0).val) (y 1).val := by
  unfold out0_29
  refine View.canon_apply_of_pieces (Val := Elt Ideal) (fun y : S512x512.Idx => SECOND m c (512 * t.val + (y 0).val) (y 1).val) _ ?_ y
    (cover0_29 _ _ _ _ y)
  intro pc hpc
  rcases List.mem_cons.mp hpc with rfl | hpc
  · intro x
    show _ = SECOND m c (512 * t.val + (0 + 1 * (x 0).val)) (384 + 1 * (x 1).val)
    have e0 : 512 * t.val + (0 + 1 * (x 0).val) = 512 * t.val + (x 0).val := by omega
    have e1 : 384 + 1 * (x 1).val = 384 + (x 1).val := by omega
    rw [e0, e1]
    have h1 : (x 1).val < 128 := (x 1).isLt
    refine (congrArg _ (eq_ix2 x)).trans ((pay1_apply _ _ (x 0) (x 1)).trans ?_)
    exact grouped m c (512 * t.val + (x 0).val) 3 _ _ (m ((c : Thread nD τ).loc main_arg17)) (x 1) (fun y => (cols111 m c t (x 0) ⟨384 + y.val, by omega⟩).trans (congrArg _ (show 3200 + (384 + y.val) = 3200 + 128 * 3 + y.val by omega)))
      (fun y => (trans112 m c t y ⟨128 + (x 1).val, by omega⟩).trans ((if_neg (show ¬(128 + (x 1).val < 128) by omega)).trans (congrArg _ (show 128 + (x 1).val - 128 = (x 1).val by omega))))
  rcases List.mem_cons.mp hpc with rfl | hpc
  · intro x
    show _ = SECOND m c (512 * t.val + (0 + 1 * (x 0).val)) (256 + 1 * (x 1).val)
    have e0 : 512 * t.val + (0 + 1 * (x 0).val) = 512 * t.val + (x 0).val := by omega
    have e1 : 256 + 1 * (x 1).val = 256 + (x 1).val := by omega
    rw [e0, e1]
    have h1 : (x 1).val < 128 := (x 1).isLt
    refine (congrArg _ (eq_ix2 x)).trans ((pay86_apply _ _ (x 0) (x 1)).trans ?_)
    exact grouped m c (512 * t.val + (x 0).val) 2 _ _ (m ((c : Thread nD τ).loc main_arg17)) (x 1) (fun y => (cols111 m c t (x 0) ⟨256 + y.val, by omega⟩).trans (congrArg _ (show 3200 + (256 + y.val) = 3200 + 128 * 2 + y.val by omega)))
      (fun y => (trans112 m c t y ⟨128 + (x 1).val, by omega⟩).trans ((if_neg (show ¬(128 + (x 1).val < 128) by omega)).trans (congrArg _ (show 128 + (x 1).val - 128 = (x 1).val by omega))))
  rcases List.mem_cons.mp hpc with rfl | hpc
  · intro x
    show _ = SECOND m c (512 * t.val + (0 + 1 * (x 0).val)) (128 + 1 * (x 1).val)
    have e0 : 512 * t.val + (0 + 1 * (x 0).val) = 512 * t.val + (x 0).val := by omega
    have e1 : 128 + 1 * (x 1).val = 128 + (x 1).val := by omega
    rw [e0, e1]
    have h1 : (x 1).val < 128 := (x 1).isLt
    refine (congrArg _ (eq_ix2 x)).trans ((pay83_apply _ _ (x 0) (x 1)).trans ?_)
    exact grouped m c (512 * t.val + (x 0).val) 1 _ _ (m ((c : Thread nD τ).loc main_arg17)) (x 1) (fun y => (cols111 m c t (x 0) ⟨128 + y.val, by omega⟩).trans (congrArg _ (show 3200 + (128 + y.val) = 3200 + 128 * 1 + y.val by omega)))
      (fun y => (trans112 m c t y ⟨128 + (x 1).val, by omega⟩).trans ((if_neg (show ¬(128 + (x 1).val < 128) by omega)).trans (congrArg _ (show 128 + (x 1).val - 128 = (x 1).val by omega))))
  rcases List.mem_cons.mp hpc with rfl | hpc
  · intro x
    show _ = SECOND m c (512 * t.val + (0 + 1 * (x 0).val)) (0 + 1 * (x 1).val)
    have e0 : 512 * t.val + (0 + 1 * (x 0).val) = 512 * t.val + (x 0).val := by omega
    have e1 : 0 + 1 * (x 1).val = 0 + (x 1).val := by omega
    rw [e0, e1]
    have h1 : (x 1).val < 128 := (x 1).isLt
    refine (congrArg _ (eq_ix2 x)).trans ((pay80_apply _ _ _ (x 0) (x 1)).trans ?_)
    exact grouped m c (512 * t.val + (x 0).val) 0 _ _ (m ((c : Thread nD τ).loc main_arg17)) (x 1) (fun y => (pay76_apply _ _ (x 0) _).trans ((cols_f m c t (x 0) ⟨y.val, by omega⟩).trans (congrArg _ (show 3200 + y.val = 3200 + 128 * 0 + y.val by omega))))
      (fun y => (trans_f m c t y ⟨128 + (x 1).val, by omega⟩).trans ((if_neg (show ¬(128 + (x 1).val < 128) by omega)).trans (congrArg _ (show 128 + (x 1).val - 128 = (x 1).val by omega))))
  exact absurd hpc (List.not_mem_nil)

/-- The queries' array. -/
def RESULT23 : Buf (Elt Ideal) ((c : Thread nD τ).loc main_v57_3) := fun i => QUERIES m c (i 0).val (i 1).val

theorem final23 : (dats m 0 c).arrAt 23 cfg0.N = RESULT23 m c := by
  refine (dats m 0 c).arrAt_eq_of_covers 23 _ (by decide +kernel) fun t hf y => ?_
  blk_simp [idx t]
  rw [after0_23]
  refine (block23 m c t y).trans ?_
  unfold RESULT23
  congr 1 <;> simp [idx t] <;> omega

/-- The keys' array. -/
def RESULT24 : Buf (Elt Ideal) ((c : Thread nD τ).loc main_v57_4) := fun i => KEYS m c (i 0).val (i 1).val

theorem final24 : (dats m 0 c).arrAt 24 cfg0.N = RESULT24 m c := by
  refine (dats m 0 c).arrAt_eq_of_covers 24 _ (by decide +kernel) fun t hf y => ?_
  blk_simp [idx t]
  rw [after0_24]
  refine (block24 m c t y).trans ?_
  unfold RESULT24
  congr 1 <;> simp [idx t] <;> omega

/-- The values' array. -/
def RESULT25 : Buf (Elt Ideal) ((c : Thread nD τ).loc main_v57_5) := fun i => VALUES m c (i 0).val (i 1).val

theorem final25 : (dats m 0 c).arrAt 25 cfg0.N = RESULT25 m c := by
  refine (dats m 0 c).arrAt_eq_of_covers 25 _ (by decide +kernel) fun t hf y => ?_
  blk_simp [idx t]
  rw [after0_25]
  refine (block25 m c t y).trans ?_
  unfold RESULT25
  congr 1 <;> simp [idx t] <;> omega

/-- The gates' array. -/
def RESULT26 : Buf (Elt Ideal) ((c : Thread nD τ).loc main_v57_6) := fun i => GATES m c (i 0).val (i 1).val

theorem final26 : (dats m 0 c).arrAt 26 cfg0.N = RESULT26 m c := by
  refine (dats m 0 c).arrAt_eq_of_covers 26 _ (by decide +kernel) fun t hf y => ?_
  blk_simp [idx t]
  rw [after0_26]
  refine (block26 m c t y).trans ?_
  unfold RESULT26
  congr 1 <;> simp [idx t] <;> omega

/-- The gated' array. -/
def RESULT27 : Buf (Elt Ideal) ((c : Thread nD τ).loc main_v57_7) := fun i => GATED m c (i 0).val (i 1).val

theorem final27 : (dats m 0 c).arrAt 27 cfg0.N = RESULT27 m c := by
  refine (dats m 0 c).arrAt_eq_of_covers 27 _ (by decide +kernel) fun t hf y => ?_
  blk_simp [idx t]
  rw [after0_27]
  refine (block27 m c t y).trans ?_
  unfold RESULT27
  congr 1 <;> simp [idx t] <;> omega

/-- The first' array. -/
def RESULT28 : Buf (Elt Ideal) ((c : Thread nD τ).loc main_v57_8) := fun i => FIRST m c (i 0).val (i 1).val

theorem final28 : (dats m 0 c).arrAt 28 cfg0.N = RESULT28 m c := by
  refine (dats m 0 c).arrAt_eq_of_covers 28 _ (by decide +kernel) fun t hf y => ?_
  blk_simp [idx t]
  rw [after0_28]
  refine (block28 m c t y).trans ?_
  unfold RESULT28
  congr 1 <;> simp [idx t] <;> omega

/-- The second' array. -/
def RESULT29 : Buf (Elt Ideal) ((c : Thread nD τ).loc main_v57_9) := fun i => SECOND m c (i 0).val (i 1).val

theorem final29 : (dats m 0 c).arrAt 29 cfg0.N = RESULT29 m c := by
  refine (dats m 0 c).arrAt_eq_of_covers 29 _ (by decide +kernel) fun t hf y => ?_
  blk_simp [idx t]
  rw [after0_29]
  refine (block29 m c t y).trans ?_
  unfold RESULT29
  congr 1 <;> simp [idx t] <;> omega

set_option maxHeartbeats 4000000 in
/-- The run's seven result arrays, and its arguments as they were launched. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v57_3) = RESULT23 m c
      ∧ r.2.mem ((c.tc : Thread nD τ).loc main_v57_4) = RESULT24 m c
      ∧ r.2.mem ((c.tc : Thread nD τ).loc main_v57_5) = RESULT25 m c
      ∧ r.2.mem ((c.tc : Thread nD τ).loc main_v57_6) = RESULT26 m c
      ∧ r.2.mem ((c.tc : Thread nD τ).loc main_v57_7) = RESULT27 m c
      ∧ r.2.mem ((c.tc : Thread nD τ).loc main_v57_8) = RESULT28 m c
      ∧ r.2.mem ((c.tc : Thread nD τ).loc main_v57_9) = RESULT29 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ?_) (Gen.run_main (F := Ideal) m g)
  refine ⟨((h c).1 23).trans (final23 m c), ((h c).1 24).trans (final24 m c), ((h c).1 25).trans (final25 m c), ((h c).1 26).trans (final26 m c), ((h c).1 27).trans (final27 m c), ((h c).1 28).trans (final28 m c), ((h c).1 29).trans (final29 m c),
    ?_, ?_, ?_, ?_, ?_, ?_, ?_, ?_, ?_, ?_, ?_, ?_, ?_, ?_, ?_, ?_, ?_, ?_⟩
  · exact ((h c).1 0).trans (((dats m 0 c).arrAt_in 0 rfl _).trans ((A_eq m c 0).trans (V_main_arg0 m c)))
  · exact ((h c).1 3).trans (((dats m 0 c).arrAt_in 3 rfl _).trans ((A_eq m c 3).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)
  · exact ((h c).2 main_arg10 (Pipeline.mem_restRefs_of main_arg10 (by decide) (by decide))).trans (V_main_arg10 m c)
  · exact ((h c).2 main_arg11 (Pipeline.mem_restRefs_of main_arg11 (by decide) (by decide))).trans (V_main_arg11 m c)
  · exact ((h c).2 main_arg12 (Pipeline.mem_restRefs_of main_arg12 (by decide) (by decide))).trans (V_main_arg12 m c)
  · exact ((h c).2 main_arg13 (Pipeline.mem_restRefs_of main_arg13 (by decide) (by decide))).trans (V_main_arg13 m c)
  · exact ((h c).2 main_arg14 (Pipeline.mem_restRefs_of main_arg14 (by decide) (by decide))).trans (V_main_arg14 m c)
  · exact ((h c).2 main_arg15 (Pipeline.mem_restRefs_of main_arg15 (by decide) (by decide))).trans (V_main_arg15 m c)
  · exact ((h c).2 main_arg16 (Pipeline.mem_restRefs_of main_arg16 (by decide) (by decide))).trans (V_main_arg16 m c)
  · exact ((h c).2 main_arg17 (Pipeline.mem_restRefs_of main_arg17 (by decide) (by decide))).trans (V_main_arg17 m c)

end Cert.ProjIdeal.Rows

end
-- ==== Proof.ProjRefRows.lean ====
/- The projections' reference: what the two halves of its rows share. -/
module

public import proofs.«01_k».proof.Proof.Gen.RefProjIdeal.Read
public import proofs.«01_k».proof.Proof.ProjSpec
public import Idealize.ShloMosaic.Lib.Pointwise
public import Idealize.ShloMosaic.Lib.Pipeline.ValueKit

@[expose] public section

set_option maxRecDepth 16384

noncomputable section

namespace Cert.RefProjIdeal.Rows

open Cert.RefProjIdeal Cert.RefProjIdeal.Gen Cert.RefProjIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S2048x3712, .f32⟩ : BufTy).Contents (Elt Ideal))
  (x10 : (⟨S128, .f32⟩ : BufTy).Contents (Elt Ideal))
  (x11 : (⟨S128, .f32⟩ : BufTy).Contents (Elt Ideal))
  (x14 : (⟨S4096x64, .f32⟩ : BufTy).Contents (Elt Ideal))
  (x15 : (⟨S4096x64, .f32⟩ : BufTy).Contents (Elt Ideal))
  (x16 : (⟨S128x128, .f32⟩ : BufTy).Contents (Elt Ideal))
  (x17 : (⟨S128x128, .f32⟩ : BufTy).Contents (Elt Ideal))

/-- An array of four axes at two indices with the same coordinates. -/
theorem same4 {A B C D : Nat} (f : (⟨4, ![A, B, C, D]⟩ : Shape).Idx → EReal) (i j : (⟨4, ![A, B, C, D]⟩ : Shape).Idx)
    (h0 : (i 0).val = (j 0).val) (h1 : (i 1).val = (j 1).val) (h2 : (i 2).val = (j 2).val) (h3 : (i 3).val = (j 3).val) :
    f i = f j := by
  refine congrArg f (funext fun k => Fin.ext ?_)
  match k with
  | ⟨0, _⟩ => exact h0
  | ⟨1, _⟩ => exact h1
  | ⟨2, _⟩ => exact h2
  | ⟨3, _⟩ => exact h3

/-- Equal heads are normalised alike. -/
theorem headNormed_same (z z' g : Fin 128 → EReal) (j j' : Fin 128) (hz : ∀ y, z y = z' y) (hj : j.val = j'.val) :
    headNormed z g j = headNormed z' g j' := by
  obtain rfl : z = z' := funext hz
  obtain rfl : j = j' := Fin.ext hj
  rfl

/-- Equal heads at equal rows are rotated alike. -/
theorem rotated_same (R R' : Nat) (v v' : Fin 128 → EReal) (j j' : Fin 128) (hR : R = R') (hv : ∀ y, v y = v' y)
    (hj : j.val = j'.val) : rotated x14 x15 R v j = rotated x14 x15 R' v' j' := by
  subst hR
  obtain rfl : v = v' := funext hv
  obtain rfl : j = j' := Fin.ext hj
  rfl

/-- A context row is not rotated. -/
theorem rotated_ctx (R : Nat) (v : Fin 128 → EReal) (j : Fin 128) (h : 16384 ≤ R) : rotated x14 x15 R v j = v j := by
  unfold rotated
  rw [if_neg (by omega)]

/-- The latent row of index (b, r). -/
def latRow (b r : Nat) : Nat := 4096 * b + r

/-- The context row of index (b, r). -/
def ctxRow (b r : Nat) : Nat := 16384 + 256 * b + r

/-- The halves of four heads side by side. -/
theorem halves4 (a b : S4x4096x4x64.Idx → EReal)
    (h : Shape.Concatenates [S4x4096x4x64, S4x4096x4x64] S4x4096x4x128 3) (p : Fin 4) (q : Fin 4096) (r : Fin 4) (s : Fin 128) :
    concatenate S4x4096x4x128 3 [⟨S4x4096x4x64, a⟩, ⟨S4x4096x4x64, b⟩] h (ix4 p q r s)
      = if k : s.val < 64 then a (ix4 p q r ⟨s, k⟩) else b (ix4 p q r ⟨s - 64, by omega⟩) := by
  pointwise

/-- The halves of two heads side by side. -/
theorem halves2 (a b : S4x4096x2x64.Idx → EReal)
    (h : Shape.Concatenates [S4x4096x2x64, S4x4096x2x64] S4x4096x2x128 3) (p : Fin 4) (q : Fin 4096) (r : Fin 2) (s : Fin 128) :
    concatenate S4x4096x2x128 3 [⟨S4x4096x2x64, a⟩, ⟨S4x4096x2x64, b⟩] h (ix4 p q r s)
      = if k : s.val < 64 then a (ix4 p q r ⟨s, k⟩) else b (ix4 p q r ⟨s - 64, by omega⟩) := by
  pointwise

end Cert.RefProjIdeal.Rows

end
-- ==== Proof.ProjRefLatent.lean ====
/- The projections' reference: the latent rows at an element. -/
module

public import proofs.«01_k».proof.Proof.Gen.RefProjIdeal.Read
public import proofs.«01_k».proof.Proof.ProjSpec
public import Idealize.ShloMosaic.Lib.Pointwise
public import Idealize.ShloMosaic.Lib.Pipeline.ValueKit
public import proofs.«01_k».proof.Proof.ProjRefRows

@[expose] public section

set_option maxRecDepth 16384

noncomputable section

namespace Cert.RefProjIdeal.Rows

open Cert.RefProjIdeal Cert.RefProjIdeal.Gen Cert.RefProjIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S2048x3712, .f32⟩ : BufTy).Contents (Elt Ideal))
  (x10 : (⟨S128, .f32⟩ : BufTy).Contents (Elt Ideal))
  (x11 : (⟨S128, .f32⟩ : BufTy).Contents (Elt Ideal))
  (x14 : (⟨S4096x64, .f32⟩ : BufTy).Contents (Elt Ideal))
  (x15 : (⟨S4096x64, .f32⟩ : BufTy).Contents (Elt Ideal))
  (x16 : (⟨S128x128, .f32⟩ : BufTy).Contents (Elt Ideal))
  (x17 : (⟨S128x128, .f32⟩ : BufTy).Contents (Elt Ideal))

theorem lat_batch (b r : Nat) (hb : b < 4) (hr : r < 4096) : modRow (latRow b r) = b := by
  unfold modRow latRow
  split <;> omega

theorem lat_x (i : S4x4096x2048.Idx) : val_main_v7 (F := Ideal) x0 i = at2 x0 (latRow (i 0) (i 1)) (i 2) := by
  have h0 : (i 0).val < 4 := (i 0).isLt
  have h1 : (i 1).val < 4096 := (i 1).isLt
  have h2 : (i 2).val < 2048 := (i 2).isLt
  rw [val_main_v7_apply, val_main_v6_apply]
  refine at2_idx x0 _ _ _ ?_ ?_
  · unfold latRow; simp; omega
  · simp; omega

/-- The modulation row of kind `j`. -/
theorem lat_mod (i : S4x1x9x2048.Idx) (b j c : Nat) (h0 : (i 0).val = b) (h2 : (i 2).val = j) (h3 : (i 3).val = c) :
    val_main_v2 (F := Ideal) x1 i = atm x1 b j c := by
  have k0 : (i 0).val < 4 := (i 0).isLt
  have k1 : (i 1).val < 1 := (i 1).isLt
  have k2 : (i 2).val < 9 := (i 2).isLt
  have k3 : (i 3).val < 2048 := (i 3).isLt
  subst h0 h2 h3
  rw [val_main_v2_apply, val_main_v1_apply, val_main_v0_apply]
  refine atm_idx x1 _ _ _ _ ?_ ?_ ?_ ?_ ?_
  all_goals simp
  all_goals omega

theorem lat_shift (i : S4x1x2048.Idx) : val_main_v24 (F := Ideal) x1 i = atm x1 (i 0) 3 (i 2) := by
  have h0 : (i 0).val < 4 := (i 0).isLt
  have h1 : (i 1).val < 1 := (i 1).isLt
  have h2 : (i 2).val < 2048 := (i 2).isLt
  rw [val_main_v24_apply, val_main_v23_apply]
  refine lat_mod x1 _ _ _ _ ?_ ?_ ?_
  all_goals simp
  all_goals omega

theorem lat_scale (i : S4x1x2048.Idx) : val_main_v26 (F := Ideal) x1 i = atm x1 (i 0) 4 (i 2) := by
  have h0 : (i 0).val < 4 := (i 0).isLt
  have h1 : (i 1).val < 1 := (i 1).isLt
  have h2 : (i 2).val < 2048 := (i 2).isLt
  rw [val_main_v26_apply, val_main_v25_apply]
  refine lat_mod x1 _ _ _ _ ?_ ?_ ?_
  all_goals simp
  all_goals omega

/-- The root of the mean square. -/
theorem lat_root (i : S4x4096x1.Idx) : val_main_v17 (F := Ideal) x0 i = Ideal.rsqrt (Ideal.div
    (∑ d : Fin 2048, at2 x0 (latRow (i 0) (i 1)) d * at2 x0 (latRow (i 0) (i 1)) d) (Ideal.ofBits .f32 0x45000000#32)
      + Ideal.ofBits .f32 0x358637BD#32) := by
  rw [val_main_v17_apply, val_main_v16_apply, val_main_v14_apply]
  refine congrArg Ideal.rsqrt (congrArg₂ (· + ·) (congrArg₂ Ideal.div ?_ ?_) ?_)
  · refine ((val_main_v12_apply x0 i).trans (val_main_v11_apply x0 _)).trans ?_
    refine (congrArg₂ (· + ·) Ideal.ofBits_zero_f32 (Finset.sum_congr rfl fun d _ => ?_)).trans (zero_add _)
    exact congrArg₂ (· * ·) (lat_x x0 _) (lat_x x0 _)
  · rw [val_main_v13_apply]; rfl
  · rw [val_main_v15_apply]; rfl

/-- The normalised row. -/
theorem lat_normed (i : S4x4096x2048.Idx) : val_main_v32 (F := Ideal) x0 x1 x2 i = mixNorm x0 x1 x2 (latRow (i 0) (i 1)) (i 2) := by
  have hm := lat_batch (i 0) (i 1) (i 0).isLt (i 1).isLt
  unfold mixNorm normed
  rw [hm, val_main_v32_apply, val_main_v30_apply, val_main_v22_apply, val_main_v19_apply]
  refine congrArg₂ (· + ·) (congrArg₂ (· * ·) (congrArg₂ (· * ·) (congrArg₂ (· * ·) (lat_x x0 i) ?_) ?_) ?_) ?_
  · rw [val_main_v18_apply]; exact lat_root x0 _
  · rw [val_main_v21_apply, val_main_v20_apply]; exact at1_idx x2 _ _ rfl
  · rw [val_main_v29_apply, val_main_v28_apply]; exact congrArg₂ (· + ·) (val_main_v27_apply _) (lat_scale x1 _)
  · rw [val_main_v31_apply]; exact lat_shift x1 _

/-- The input projection. -/
theorem lat_in (i : S4x4096x3712.Idx) : val_main_v33 (F := Ideal) x0 x1 x2 x3 i = inProj x0 x1 x2 x3 (latRow (i 0) (i 1)) (i 2) := by
  refine (val_main_v33_apply x0 x1 x2 x3 i).trans (Finset.sum_congr rfl fun d _ => ?_)
  exact congrArg₂ (· * ·) (lat_normed x0 x1 x2 _) (at2_idx x3 _ _ _ rfl rfl)

theorem lat_q (i : S4x4096x512.Idx) :
    val_main_v35 (F := Ideal) x0 x1 x2 x3 i = inProj x0 x1 x2 x3 (latRow (i 0) (i 1)) (640 + (i 2).val) := by
  have h0 : (i 0).val < 4 := (i 0).isLt
  have h1 : (i 1).val < 4096 := (i 1).isLt
  have h2 : (i 2).val < 512 := (i 2).isLt
  rw [val_main_v35_apply, lat_in]

theorem lat_k (i : S4x4096x256.Idx) :
    val_main_v36 (F := Ideal) x0 x1 x2 x3 i = inProj x0 x1 x2 x3 (latRow (i 0) (i 1)) (1152 + (i 2).val) := by
  have h0 : (i 0).val < 4 := (i 0).isLt
  have h1 : (i 1).val < 4096 := (i 1).isLt
  have h2 : (i 2).val < 256 := (i 2).isLt
  rw [val_main_v36_apply, lat_in]

theorem lat_v (i : S4x4096x256.Idx) :
    val_main_v37 (F := Ideal) x0 x1 x2 x3 i = inProj x0 x1 x2 x3 (latRow (i 0) (i 1)) (1408 + (i 2).val) := by
  have h0 : (i 0).val < 4 := (i 0).isLt
  have h1 : (i 1).val < 4096 := (i 1).isLt
  have h2 : (i 2).val < 256 := (i 2).isLt
  rw [val_main_v37_apply, lat_in]

theorem lat_b (i : S4x4096x512.Idx) :
    val_main_v38 (F := Ideal) x0 x1 x2 x3 i = inProj x0 x1 x2 x3 (latRow (i 0) (i 1)) (1664 + (i 2).val) := by
  have h0 : (i 0).val < 4 := (i 0).isLt
  have h1 : (i 1).val < 4096 := (i 1).isLt
  have h2 : (i 2).val < 512 := (i 2).isLt
  rw [val_main_v38_apply, lat_in]

theorem lat_c (i : S4x4096x512.Idx) :
    val_main_v39 (F := Ideal) x0 x1 x2 x3 i = inProj x0 x1 x2 x3 (latRow (i 0) (i 1)) (2176 + (i 2).val) := by
  have h0 : (i 0).val < 4 := (i 0).isLt
  have h1 : (i 1).val < 4096 := (i 1).isLt
  have h2 : (i 2).val < 512 := (i 2).isLt
  rw [val_main_v39_apply, lat_in]

theorem lat_u (i : S4x4096x512.Idx) :
    val_main_v40 (F := Ideal) x0 x1 x2 x3 i = inProj x0 x1 x2 x3 (latRow (i 0) (i 1)) (2688 + (i 2).val) := by
  have h0 : (i 0).val < 4 := (i 0).isLt
  have h1 : (i 1).val < 4096 := (i 1).isLt
  have h2 : (i 2).val < 512 := (i 2).isLt
  rw [val_main_v40_apply, lat_in]

theorem lat_f (i : S4x4096x512.Idx) :
    val_main_v41 (F := Ideal) x0 x1 x2 x3 i = inProj x0 x1 x2 x3 (latRow (i 0) (i 1)) (3200 + (i 2).val) := by
  have h0 : (i 0).val < 4 := (i 0).isLt
  have h1 : (i 1).val < 4096 := (i 1).isLt
  have h2 : (i 2).val < 512 := (i 2).isLt
  rw [val_main_v41_apply, lat_in]

theorem lat_qcol (i : S4x4096x4x128.Idx) : val_main_v42 (F := Ideal) x0 x1 x2 x3 i
    = inProj x0 x1 x2 x3 (latRow (i 0) (i 1)) (640 + 128 * (i 2).val + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v42_apply, lat_q]
  unfold latRow
  congr 1 <;> simp <;> omega

theorem lat_qroot (i : S4x4096x4x1.Idx) : val_main_v50 (F := Ideal) x0 x1 x2 x3 i = Ideal.rsqrt (Ideal.div
    (∑ y : Fin 128, inProj x0 x1 x2 x3 (latRow (i 0) (i 1)) (640 + 128 * (i 2).val + y.val)
      * inProj x0 x1 x2 x3 (latRow (i 0) (i 1)) (640 + 128 * (i 2).val + y.val)) (Ideal.ofBits .f32 0x43000000#32)
      + Ideal.ofBits .f32 0x358637BD#32) := by
  rw [val_main_v50_apply, val_main_v49_apply, val_main_v47_apply]
  refine congrArg Ideal.rsqrt (congrArg₂ (· + ·) (congrArg₂ Ideal.div ?_ ?_) ?_)
  · refine ((val_main_v45_apply x0 x1 x2 x3 i).trans (val_main_v44_apply x0 x1 x2 x3 _)).trans ?_
    refine (congrArg₂ (· + ·) Ideal.ofBits_zero_f32 (Finset.sum_congr rfl fun d _ => ?_)).trans (zero_add _)
    exact congrArg₂ (· * ·) (lat_qcol x0 x1 x2 x3 _) (lat_qcol x0 x1 x2 x3 _)
  · rw [val_main_v46_apply]; rfl
  · rw [val_main_v48_apply]; rfl

/-- A normalised head. -/
theorem lat_qhead (i : S4x4096x4x128.Idx) : val_main_v55 (F := Ideal) x0 x1 x2 x3 x10 i
    = headNormed (fun y => inProj x0 x1 x2 x3 (latRow (i 0) (i 1)) (640 + 128 * (i 2).val + y.val)) (fun j => at1 x10 j) (i 3) := by
  unfold headNormed
  rw [val_main_v55_apply, val_main_v52_apply]
  refine congrArg₂ (· * ·) (congrArg₂ (· * ·) (lat_qcol x0 x1 x2 x3 i) ?_) ?_
  · rw [val_main_v51_apply]; exact lat_qroot x0 x1 x2 x3 _
  · rw [val_main_v54_apply, val_main_v53_apply]; exact at1_idx x10 _ _ rfl

/-- A rotated head. -/
theorem lat_qrot (i : S4x4096x4x128.Idx) : val_main_v88 (F := Ideal) x0 x1 x2 x3 x10 x14 x15 i
    = rotated x14 x15 (latRow (i 0) (i 1)) (fun j => val_main_v55 (F := Ideal) x0 x1 x2 x3 x10 (ix4 (i 0) (i 1) (i 2) j)) (i 3) := by
  have h0 : (i 0).val < 4 := (i 0).isLt
  have h1 : (i 1).val < 4096 := (i 1).isLt
  have h3 : (i 3).val < 128 := (i 3).isLt
  have hR : latRow (i 0) (i 1) % 4096 = (i 1).val := by unfold latRow; omega
  refine (congrArg _ (eq_ix4 i)).trans ?_
  unfold val_main_v88
  refine (halves4 _ _ _ (i 0) (i 1) (i 2) (i 3)).trans ?_
  unfold rotated
  rw [if_pos (by unfold latRow; omega), hR]
  split
  · next k =>
    rw [val_main_v80_apply, val_main_v76_apply, val_main_v79_apply, val_main_v70_apply, val_main_v71_apply, val_main_v75_apply, val_main_v74_apply, val_main_v72_apply, val_main_v78_apply, val_main_v77_apply, val_main_v73_apply]
    refine congrArg₂ (· - ·) (congrArg₂ (· * ·) ?_ ?_) (congrArg₂ (· * ·) ?_ ?_)
    · refine same4 _ _ _ rfl rfl rfl ?_
      simp
    · exact at2_idx x14 _ _ _ rfl rfl
    · refine same4 _ _ _ rfl rfl rfl ?_
      unfold opposite
      simp <;> omega
    · exact at2_idx x15 _ _ _ rfl rfl
  · next k =>
    rw [val_main_v87_apply, val_main_v83_apply, val_main_v86_apply, val_main_v70_apply, val_main_v71_apply, val_main_v82_apply, val_main_v81_apply, val_main_v72_apply, val_main_v85_apply, val_main_v84_apply, val_main_v73_apply]
    refine congrArg₂ (· + ·) (congrArg₂ (· * ·) ?_ ?_) (congrArg₂ (· * ·) ?_ ?_)
    · refine same4 _ _ _ rfl rfl rfl ?_
      simp <;> omega
    · exact at2_idx x14 _ _ _ rfl rfl
    · refine same4 _ _ _ rfl rfl rfl ?_
      unfold opposite
      simp <;> omega
    · exact at2_idx x15 _ _ _ rfl rfl

theorem lat_kcol (i : S4x4096x2x128.Idx) : val_main_v56 (F := Ideal) x0 x1 x2 x3 i
    = inProj x0 x1 x2 x3 (latRow (i 0) (i 1)) (1152 + 128 * (i 2).val + (i 3).val) := by
  have h0 : (i 0).val < 4 := (i 0).isLt
  have h1 : (i 1).val < 4096 := (i 1).isLt
  have h2 : (i 2).val < 2 := (i 2).isLt
  have h3 : (i 3).val < 128 := (i 3).isLt
  rw [val_main_v56_apply, lat_k]
  unfold latRow
  congr 1 <;> simp <;> omega

theorem lat_kroot (i : S4x4096x2x1.Idx) : val_main_v64 (F := Ideal) x0 x1 x2 x3 i = Ideal.rsqrt (Ideal.div
    (∑ y : Fin 128, inProj x0 x1 x2 x3 (latRow (i 0) (i 1)) (1152 + 128 * (i 2).val + y.val)
      * inProj x0 x1 x2 x3 (latRow (i 0) (i 1)) (1152 + 128 * (i 2).val + y.val)) (Ideal.ofBits .f32 0x43000000#32)
      + Ideal.ofBits .f32 0x358637BD#32) := by
  rw [val_main_v64_apply, val_main_v63_apply, val_main_v61_apply]
  refine congrArg Ideal.rsqrt (congrArg₂ (· + ·) (congrArg₂ Ideal.div ?_ ?_) ?_)
  · refine ((val_main_v59_apply x0 x1 x2 x3 i).trans (val_main_v58_apply x0 x1 x2 x3 _)).trans ?_
    refine (congrArg₂ (· + ·) Ideal.ofBits_zero_f32 (Finset.sum_congr rfl fun d _ => ?_)).trans (zero_add _)
    exact congrArg₂ (· * ·) (lat_kcol x0 x1 x2 x3 _) (lat_kcol x0 x1 x2 x3 _)
  · rw [val_main_v60_apply]; rfl
  · rw [val_main_v62_apply]; rfl

/-- A normalised head. -/
theorem lat_khead (i : S4x4096x2x128.Idx) : val_main_v69 (F := Ideal) x0 x1 x2 x3 x11 i
    = headNormed (fun y => inProj x0 x1 x2 x3 (latRow (i 0) (i 1)) (1152 + 128 * (i 2).val + y.val)) (fun j => at1 x11 j) (i 3) := by
  unfold headNormed
  rw [val_main_v69_apply, val_main_v66_apply]
  refine congrArg₂ (· * ·) (congrArg₂ (· * ·) (lat_kcol x0 x1 x2 x3 i) ?_) ?_
  · rw [val_main_v65_apply]; exact lat_kroot x0 x1 x2 x3 _
  · rw [val_main_v68_apply, val_main_v67_apply]; exact at1_idx x11 _ _ rfl

/-- A rotated head. -/
theorem lat_krot (i : S4x4096x2x128.Idx) : val_main_v107 (F := Ideal) x0 x1 x2 x3 x11 x14 x15 i
    = rotated x14 x15 (latRow (i 0) (i 1)) (fun j => val_main_v69 (F := Ideal) x0 x1 x2 x3 x11 (ix4 (i 0) (i 1) (i 2) j)) (i 3) := by
  have h0 : (i 0).val < 4 := (i 0).isLt
  have h1 : (i 1).val < 4096 := (i 1).isLt
  have h3 : (i 3).val < 128 := (i 3).isLt
  have hR : latRow (i 0) (i 1) % 4096 = (i 1).val := by unfold latRow; omega
  refine (congrArg _ (eq_ix4 i)).trans ?_
  unfold val_main_v107
  refine (halves2 _ _ _ (i 0) (i 1) (i 2) (i 3)).trans ?_
  unfold rotated
  rw [if_pos (by unfold latRow; omega), hR]
  split
  · next k =>
    rw [val_main_v99_apply, val_main_v95_apply, val_main_v98_apply, val_main_v89_apply, val_main_v90_apply, val_main_v94_apply, val_main_v93_apply, val_main_v91_apply, val_main_v97_apply, val_main_v96_apply, val_main_v92_apply]
    refine congrArg₂ (· - ·) (congrArg₂ (· * ·) ?_ ?_) (congrArg₂ (· * ·) ?_ ?_)
    · refine same4 _ _ _ rfl rfl rfl ?_
      simp
    · exact at2_idx x14 _ _ _ rfl rfl
    · refine same4 _ _ _ rfl rfl rfl ?_
      unfold opposite
      simp <;> omega
    · exact at2_idx x15 _ _ _ rfl rfl
  · next k =>
    rw [val_main_v106_apply, val_main_v102_apply, val_main_v105_apply, val_main_v89_apply, val_main_v90_apply, val_main_v101_apply, val_main_v100_apply, val_main_v91_apply, val_main_v104_apply, val_main_v103_apply, val_main_v92_apply]
    refine congrArg₂ (· + ·) (congrArg₂ (· * ·) ?_ ?_) (congrArg₂ (· * ·) ?_ ?_)
    · refine same4 _ _ _ rfl rfl rfl ?_
      simp <;> omega
    · exact at2_idx x14 _ _ _ rfl rfl
    · refine same4 _ _ _ rfl rfl rfl ?_
      unfold opposite
      simp <;> omega
    · exact at2_idx x15 _ _ _ rfl rfl

theorem lat_qout (i : S16384x512.Idx) : val_main_v114 (F := Ideal) x0 x1 x2 x3 x10 x14 x15 i = queryOut x0 x1 x2 x3 x10 x14 x15 (i 0).val (i 1).val := by
  have h0 : (i 0).val < 16384 := (i 0).isLt
  have h1 : (i 1).val < 512 := (i 1).isLt
  unfold queryOut headOut
  rw [val_main_v114_apply]
  rw [val_main_v110_apply]
  refine congrArg₂ (· * ·) ((lat_qrot x0 x1 x2 x3 x10 x14 x15 _).trans (rotated_same x14 x15 _ _ _ _ _ _ ?_ (fun j => ?_) ?_)) ((val_main_v109_apply _).trans rfl)
  · unfold latRow
    simp <;> omega
  · refine (lat_qhead x0 x1 x2 x3 x10 _).trans (headNormed_same _ _ _ _ _ (fun y => ?_) rfl)
    unfold latRow
    congr 1 <;> simp <;> omega
  · simp <;> omega

theorem lat_kout (i : S16384x256.Idx) : val_main_v115 (F := Ideal) x0 x1 x2 x3 x11 x14 x15 i = keyOut x0 x1 x2 x3 x11 x14 x15 (i 0).val (i 1).val := by
  have h0 : (i 0).val < 16384 := (i 0).isLt
  have h1 : (i 1).val < 256 := (i 1).isLt
  unfold keyOut headOut
  rw [val_main_v115_apply]
  refine (lat_krot x0 x1 x2 x3 x11 x14 x15 _).trans (rotated_same x14 x15 _ _ _ _ _ _ ?_ (fun j => ?_) ?_)
  · unfold latRow
    simp <;> omega
  · refine (lat_khead x0 x1 x2 x3 x11 _).trans (headNormed_same _ _ _ _ _ (fun y => ?_) rfl)
    unfold latRow
    congr 1 <;> simp <;> omega
  · simp <;> omega

theorem lat_vout (i : S16384x256.Idx) : val_main_v116 (F := Ideal) x0 x1 x2 x3 i = inProj x0 x1 x2 x3 (i 0).val (1408 + (i 1).val) := by
  have h0 : (i 0).val < 16384 := (i 0).isLt
  have h1 : (i 1).val < 256 := (i 1).isLt
  rw [val_main_v116_apply, lat_v]
  unfold latRow
  congr 1 <;> simp <;> omega

theorem lat_bout (i : S16384x512.Idx) : val_main_v117 (F := Ideal) x0 x1 x2 x3 i = inProj x0 x1 x2 x3 (i 0).val (1664 + (i 1).val) := by
  have h0 : (i 0).val < 16384 := (i 0).isLt
  have h1 : (i 1).val < 512 := (i 1).isLt
  rw [val_main_v117_apply, lat_b]
  unfold latRow
  congr 1 <;> simp <;> omega

theorem lat_gout (i : S16384x512.Idx) : val_main_v118 (F := Ideal) x0 x1 x2 x3 i = gatedOut x0 x1 x2 x3 (i 0).val (i 1).val := by
  have h0 : (i 0).val < 16384 := (i 0).isLt
  have h1 : (i 1).val < 512 := (i 1).isLt
  rw [val_main_v118_apply, val_main_v111_apply]
  refine congrArg₂ (· * ·) ((lat_c x0 x1 x2 x3 _).trans ?_) ((lat_u x0 x1 x2 x3 _).trans ?_)
  all_goals
    unfold latRow
    congr 1 <;> simp <;> omega

theorem lat_fcol (i : S4x4096x4x128.Idx) : val_main_v108 (F := Ideal) x0 x1 x2 x3 i
    = inProj x0 x1 x2 x3 (latRow (i 0) (i 1)) (3200 + 128 * (i 2).val + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v108_apply, lat_f]
  unfold latRow
  congr 1 <;> simp <;> omega

theorem lat_yout (i : S16384x512.Idx) :
    val_main_v119 (F := Ideal) x0 x1 x2 x3 x16 i = channelOut x0 x1 x2 x3 x16 (i 0).val (i 1).val := by
  have h0 : (i 0).val < 16384 := (i 0).isLt
  have h1 : (i 1).val < 512 := (i 1).isLt
  rw [val_main_v119_apply, val_main_v112_apply]
  refine Finset.sum_congr rfl fun y _ => congrArg₂ (· * ·) ((lat_fcol x0 x1 x2 x3 _).trans ?_) (at2_idx x16 _ _ _ rfl ?_)
  · unfold latRow
    congr 1 <;> simp <;> omega
  · simp <;> omega

theorem lat_zout (i : S16384x512.Idx) :
    val_main_v120 (F := Ideal) x0 x1 x2 x3 x17 i = channelOut x0 x1 x2 x3 x17 (i 0).val (i 1).val := by
  have h0 : (i 0).val < 16384 := (i 0).isLt
  have h1 : (i 1).val < 512 := (i 1).isLt
  rw [val_main_v120_apply, val_main_v113_apply]
  refine Finset.sum_congr rfl fun y _ => congrArg₂ (· * ·) ((lat_fcol x0 x1 x2 x3 _).trans ?_) (at2_idx x17 _ _ _ rfl ?_)
  · unfold latRow
    congr 1 <;> simp <;> omega
  · simp <;> omega

end Cert.RefProjIdeal.Rows

end
-- ==== Proof.ProjRefContext.lean ====
/- The projections' reference: the context rows at an element. -/
module

public import proofs.«01_k».proof.Proof.Gen.RefProjIdeal.Read
public import proofs.«01_k».proof.Proof.ProjSpec
public import Idealize.ShloMosaic.Lib.Pointwise
public import Idealize.ShloMosaic.Lib.Pipeline.ValueKit
public import proofs.«01_k».proof.Proof.ProjRefRows

@[expose] public section

set_option maxRecDepth 16384

noncomputable section

namespace Cert.RefProjIdeal.Rows

open Cert.RefProjIdeal Cert.RefProjIdeal.Gen Cert.RefProjIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S2048x3712, .f32⟩ : BufTy).Contents (Elt Ideal))
  (x10 : (⟨S128, .f32⟩ : BufTy).Contents (Elt Ideal))
  (x11 : (⟨S128, .f32⟩ : BufTy).Contents (Elt Ideal))
  (x14 : (⟨S4096x64, .f32⟩ : BufTy).Contents (Elt Ideal))
  (x15 : (⟨S4096x64, .f32⟩ : BufTy).Contents (Elt Ideal))
  (x16 : (⟨S128x128, .f32⟩ : BufTy).Contents (Elt Ideal))
  (x17 : (⟨S128x128, .f32⟩ : BufTy).Contents (Elt Ideal))

theorem ctx_batch (b r : Nat) (hb : b < 4) (hr : r < 256) : modRow (ctxRow b r) = 4 := by
  unfold modRow ctxRow
  split <;> omega

theorem ctx_x (i : S4x256x2048.Idx) : val_main_v9 (F := Ideal) x0 i = at2 x0 (ctxRow (i 0) (i 1)) (i 2) := by
  have h0 : (i 0).val < 4 := (i 0).isLt
  have h1 : (i 1).val < 256 := (i 1).isLt
  have h2 : (i 2).val < 2048 := (i 2).isLt
  rw [val_main_v9_apply, val_main_v8_apply]
  refine at2_idx x0 _ _ _ ?_ ?_
  · unfold ctxRow; simp; omega
  · simp; omega

/-- The modulation row of kind `j`. -/
theorem ctx_mod (i : S1x1x9x2048.Idx) (b j c : Nat) (h0 : 4 = b) (h2 : (i 2).val = j) (h3 : (i 3).val = c) :
    val_main_v5 (F := Ideal) x1 i = atm x1 b j c := by
  have k0 : (i 0).val < 1 := (i 0).isLt
  have k1 : (i 1).val < 1 := (i 1).isLt
  have k2 : (i 2).val < 9 := (i 2).isLt
  have k3 : (i 3).val < 2048 := (i 3).isLt
  subst h0 h2 h3
  rw [val_main_v5_apply, val_main_v4_apply, val_main_v3_apply]
  refine atm_idx x1 _ _ _ _ ?_ ?_ ?_ ?_ ?_
  all_goals simp
  all_goals omega

theorem ctx_shift (i : S1x1x2048.Idx) : val_main_v135 (F := Ideal) x1 i = atm x1 4 3 (i 2) := by
  have h0 : (i 0).val < 1 := (i 0).isLt
  have h1 : (i 1).val < 1 := (i 1).isLt
  have h2 : (i 2).val < 2048 := (i 2).isLt
  rw [val_main_v135_apply, val_main_v134_apply]
  refine ctx_mod x1 _ _ _ _ ?_ ?_ ?_
  all_goals simp
  all_goals omega

theorem ctx_scale (i : S1x1x2048.Idx) : val_main_v137 (F := Ideal) x1 i = atm x1 4 4 (i 2) := by
  have h0 : (i 0).val < 1 := (i 0).isLt
  have h1 : (i 1).val < 1 := (i 1).isLt
  have h2 : (i 2).val < 2048 := (i 2).isLt
  rw [val_main_v137_apply, val_main_v136_apply]
  refine ctx_mod x1 _ _ _ _ ?_ ?_ ?_
  all_goals simp
  all_goals omega

/-- The root of the mean square. -/
theorem ctx_root (i : S4x256x1.Idx) : val_main_v128 (F := Ideal) x0 i = Ideal.rsqrt (Ideal.div
    (∑ d : Fin 2048, at2 x0 (ctxRow (i 0) (i 1)) d * at2 x0 (ctxRow (i 0) (i 1)) d) (Ideal.ofBits .f32 0x45000000#32)
      + Ideal.ofBits .f32 0x358637BD#32) := by
  rw [val_main_v128_apply, val_main_v127_apply, val_main_v125_apply]
  refine congrArg Ideal.rsqrt (congrArg₂ (· + ·) (congrArg₂ Ideal.div ?_ ?_) ?_)
  · refine ((val_main_v123_apply x0 i).trans (val_main_v122_apply x0 _)).trans ?_
    refine (congrArg₂ (· + ·) Ideal.ofBits_zero_f32 (Finset.sum_congr rfl fun d _ => ?_)).trans (zero_add _)
    exact congrArg₂ (· * ·) (ctx_x x0 _) (ctx_x x0 _)
  · rw [val_main_v124_apply]; rfl
  · rw [val_main_v126_apply]; rfl

/-- The normalised row. -/
theorem ctx_normed (i : S4x256x2048.Idx) : val_main_v143 (F := Ideal) x0 x1 x2 i = mixNorm x0 x1 x2 (ctxRow (i 0) (i 1)) (i 2) := by
  have hm := ctx_batch (i 0) (i 1) (i 0).isLt (i 1).isLt
  unfold mixNorm normed
  rw [hm, val_main_v143_apply, val_main_v141_apply, val_main_v133_apply, val_main_v130_apply]
  refine congrArg₂ (· + ·) (congrArg₂ (· * ·) (congrArg₂ (· * ·) (congrArg₂ (· * ·) (ctx_x x0 i) ?_) ?_) ?_) ?_
  · rw [val_main_v129_apply]; exact ctx_root x0 _
  · rw [val_main_v132_apply, val_main_v131_apply]; exact at1_idx x2 _ _ rfl
  · rw [val_main_v140_apply, val_main_v139_apply]; exact congrArg₂ (· + ·) (val_main_v138_apply _) (ctx_scale x1 _)
  · rw [val_main_v142_apply]; exact ctx_shift x1 _

/-- The input projection. -/
theorem ctx_in (i : S4x256x3712.Idx) : val_main_v144 (F := Ideal) x0 x1 x2 x3 i = inProj x0 x1 x2 x3 (ctxRow (i 0) (i 1)) (i 2) := by
  refine (val_main_v144_apply x0 x1 x2 x3 i).trans (Finset.sum_congr rfl fun d _ => ?_)
  exact congrArg₂ (· * ·) (ctx_normed x0 x1 x2 _) (at2_idx x3 _ _ _ rfl rfl)

theorem ctx_q (i : S4x256x512.Idx) :
    val_main_v146 (F := Ideal) x0 x1 x2 x3 i = inProj x0 x1 x2 x3 (ctxRow (i 0) (i 1)) (640 + (i 2).val) := by
  have h0 : (i 0).val < 4 := (i 0).isLt
  have h1 : (i 1).val < 256 := (i 1).isLt
  have h2 : (i 2).val < 512 := (i 2).isLt
  rw [val_main_v146_apply, ctx_in]

theorem ctx_k (i : S4x256x256.Idx) :
    val_main_v147 (F := Ideal) x0 x1 x2 x3 i = inProj x0 x1 x2 x3 (ctxRow (i 0) (i 1)) (1152 + (i 2).val) := by
  have h0 : (i 0).val < 4 := (i 0).isLt
  have h1 : (i 1).val < 256 := (i 1).isLt
  have h2 : (i 2).val < 256 := (i 2).isLt
  rw [val_main_v147_apply, ctx_in]

theorem ctx_v (i : S4x256x256.Idx) :
    val_main_v148 (F := Ideal) x0 x1 x2 x3 i = inProj x0 x1 x2 x3 (ctxRow (i 0) (i 1)) (1408 + (i 2).val) := by
  have h0 : (i 0).val < 4 := (i 0).isLt
  have h1 : (i 1).val < 256 := (i 1).isLt
  have h2 : (i 2).val < 256 := (i 2).isLt
  rw [val_main_v148_apply, ctx_in]

theorem ctx_b (i : S4x256x512.Idx) :
    val_main_v149 (F := Ideal) x0 x1 x2 x3 i = inProj x0 x1 x2 x3 (ctxRow (i 0) (i 1)) (1664 + (i 2).val) := by
  have h0 : (i 0).val < 4 := (i 0).isLt
  have h1 : (i 1).val < 256 := (i 1).isLt
  have h2 : (i 2).val < 512 := (i 2).isLt
  rw [val_main_v149_apply, ctx_in]

theorem ctx_c (i : S4x256x512.Idx) :
    val_main_v150 (F := Ideal) x0 x1 x2 x3 i = inProj x0 x1 x2 x3 (ctxRow (i 0) (i 1)) (2176 + (i 2).val) := by
  have h0 : (i 0).val < 4 := (i 0).isLt
  have h1 : (i 1).val < 256 := (i 1).isLt
  have h2 : (i 2).val < 512 := (i 2).isLt
  rw [val_main_v150_apply, ctx_in]

theorem ctx_u (i : S4x256x512.Idx) :
    val_main_v151 (F := Ideal) x0 x1 x2 x3 i = inProj x0 x1 x2 x3 (ctxRow (i 0) (i 1)) (2688 + (i 2).val) := by
  have h0 : (i 0).val < 4 := (i 0).isLt
  have h1 : (i 1).val < 256 := (i 1).isLt
  have h2 : (i 2).val < 512 := (i 2).isLt
  rw [val_main_v151_apply, ctx_in]

theorem ctx_f (i : S4x256x512.Idx) :
    val_main_v152 (F := Ideal) x0 x1 x2 x3 i = inProj x0 x1 x2 x3 (ctxRow (i 0) (i 1)) (3200 + (i 2).val) := by
  have h0 : (i 0).val < 4 := (i 0).isLt
  have h1 : (i 1).val < 256 := (i 1).isLt
  have h2 : (i 2).val < 512 := (i 2).isLt
  rw [val_main_v152_apply, ctx_in]

theorem ctx_qcol (i : S4x256x4x128.Idx) : val_main_v153 (F := Ideal) x0 x1 x2 x3 i
    = inProj x0 x1 x2 x3 (ctxRow (i 0) (i 1)) (640 + 128 * (i 2).val + (i 3).val) := by
  have h0 : (i 0).val < 4 := (i 0).isLt
  have h1 : (i 1).val < 256 := (i 1).isLt
  have h2 : (i 2).val < 4 := (i 2).isLt
  have h3 : (i 3).val < 128 := (i 3).isLt
  rw [val_main_v153_apply, ctx_q]
  unfold ctxRow
  congr 1 <;> simp <;> omega

theorem ctx_qroot (i : S4x256x4x1.Idx) : val_main_v161 (F := Ideal) x0 x1 x2 x3 i = Ideal.rsqrt (Ideal.div
    (∑ y : Fin 128, inProj x0 x1 x2 x3 (ctxRow (i 0) (i 1)) (640 + 128 * (i 2).val + y.val)
      * inProj x0 x1 x2 x3 (ctxRow (i 0) (i 1)) (640 + 128 * (i 2).val + y.val)) (Ideal.ofBits .f32 0x43000000#32)
      + Ideal.ofBits .f32 0x358637BD#32) := by
  rw [val_main_v161_apply, val_main_v160_apply, val_main_v158_apply]
  refine congrArg Ideal.rsqrt (congrArg₂ (· + ·) (congrArg₂ Ideal.div ?_ ?_) ?_)
  · refine ((val_main_v156_apply x0 x1 x2 x3 i).trans (val_main_v155_apply x0 x1 x2 x3 _)).trans ?_
    refine (congrArg₂ (· + ·) Ideal.ofBits_zero_f32 (Finset.sum_congr rfl fun d _ => ?_)).trans (zero_add _)
    exact congrArg₂ (· * ·) (ctx_qcol x0 x1 x2 x3 _) (ctx_qcol x0 x1 x2 x3 _)
  · rw [val_main_v157_apply]; rfl
  · rw [val_main_v159_apply]; rfl

/-- A normalised head. -/
theorem ctx_qhead (i : S4x256x4x128.Idx) : val_main_v166 (F := Ideal) x0 x1 x2 x3 x10 i
    = headNormed (fun y => inProj x0 x1 x2 x3 (ctxRow (i 0) (i 1)) (640 + 128 * (i 2).val + y.val)) (fun j => at1 x10 j) (i 3) := by
  unfold headNormed
  rw [val_main_v166_apply, val_main_v163_apply]
  refine congrArg₂ (· * ·) (congrArg₂ (· * ·) (ctx_qcol x0 x1 x2 x3 i) ?_) ?_
  · rw [val_main_v162_apply]; exact ctx_qroot x0 x1 x2 x3 _
  · rw [val_main_v165_apply, val_main_v164_apply]; exact at1_idx x10 _ _ rfl

theorem ctx_kcol (i : S4x256x2x128.Idx) : val_main_v167 (F := Ideal) x0 x1 x2 x3 i
    = inProj x0 x1 x2 x3 (ctxRow (i 0) (i 1)) (1152 + 128 * (i 2).val + (i 3).val) := by
  have h0 : (i 0).val < 4 := (i 0).isLt
  have h1 : (i 1).val < 256 := (i 1).isLt
  have h2 : (i 2).val < 2 := (i 2).isLt
  have h3 : (i 3).val < 128 := (i 3).isLt
  rw [val_main_v167_apply, ctx_k]
  unfold ctxRow
  congr 1 <;> simp <;> omega

theorem ctx_kroot (i : S4x256x2x1.Idx) : val_main_v175 (F := Ideal) x0 x1 x2 x3 i = Ideal.rsqrt (Ideal.div
    (∑ y : Fin 128, inProj x0 x1 x2 x3 (ctxRow (i 0) (i 1)) (1152 + 128 * (i 2).val + y.val)
      * inProj x0 x1 x2 x3 (ctxRow (i 0) (i 1)) (1152 + 128 * (i 2).val + y.val)) (Ideal.ofBits .f32 0x43000000#32)
      + Ideal.ofBits .f32 0x358637BD#32) := by
  rw [val_main_v175_apply, val_main_v174_apply, val_main_v172_apply]
  refine congrArg Ideal.rsqrt (congrArg₂ (· + ·) (congrArg₂ Ideal.div ?_ ?_) ?_)
  · refine ((val_main_v170_apply x0 x1 x2 x3 i).trans (val_main_v169_apply x0 x1 x2 x3 _)).trans ?_
    refine (congrArg₂ (· + ·) Ideal.ofBits_zero_f32 (Finset.sum_congr rfl fun d _ => ?_)).trans (zero_add _)
    exact congrArg₂ (· * ·) (ctx_kcol x0 x1 x2 x3 _) (ctx_kcol x0 x1 x2 x3 _)
  · rw [val_main_v171_apply]; rfl
  · rw [val_main_v173_apply]; rfl

/-- A normalised head. -/
theorem ctx_khead (i : S4x256x2x128.Idx) : val_main_v180 (F := Ideal) x0 x1 x2 x3 x11 i
    = headNormed (fun y => inProj x0 x1 x2 x3 (ctxRow (i 0) (i 1)) (1152 + 128 * (i 2).val + y.val)) (fun j => at1 x11 j) (i 3) := by
  unfold headNormed
  rw [val_main_v180_apply, val_main_v177_apply]
  refine congrArg₂ (· * ·) (congrArg₂ (· * ·) (ctx_kcol x0 x1 x2 x3 i) ?_) ?_
  · rw [val_main_v176_apply]; exact ctx_kroot x0 x1 x2 x3 _
  · rw [val_main_v179_apply, val_main_v178_apply]; exact at1_idx x11 _ _ rfl

theorem ctx_qout (i : S1024x512.Idx) : val_main_v187 (F := Ideal) x0 x1 x2 x3 x10 i = queryOut x0 x1 x2 x3 x10 x14 x15 (16384 + (i 0).val) (i 1).val := by
  have h0 : (i 0).val < 1024 := (i 0).isLt
  have h1 : (i 1).val < 512 := (i 1).isLt
  unfold queryOut headOut
  rw [val_main_v187_apply]
  rw [val_main_v183_apply]
  refine congrArg₂ (· * ·) (((ctx_qhead x0 x1 x2 x3 x10 _).trans (headNormed_same _ _ _ _ _ (fun y => ?_) ?_)).trans
    (rotated_ctx x14 x15 _ _ _ (by omega)).symm) ((val_main_v182_apply _).trans rfl)
  · unfold ctxRow
    congr 1 <;> simp <;> omega
  · simp <;> omega

theorem ctx_kout (i : S1024x256.Idx) : val_main_v188 (F := Ideal) x0 x1 x2 x3 x11 i = keyOut x0 x1 x2 x3 x11 x14 x15 (16384 + (i 0).val) (i 1).val := by
  have h0 : (i 0).val < 1024 := (i 0).isLt
  have h1 : (i 1).val < 256 := (i 1).isLt
  unfold keyOut headOut
  rw [val_main_v188_apply]
  refine ((ctx_khead x0 x1 x2 x3 x11 _).trans (headNormed_same _ _ _ _ _ (fun y => ?_) ?_)).trans
    (rotated_ctx x14 x15 _ _ _ (by omega)).symm
  · unfold ctxRow
    congr 1 <;> simp <;> omega
  · simp <;> omega

theorem ctx_vout (i : S1024x256.Idx) : val_main_v189 (F := Ideal) x0 x1 x2 x3 i = inProj x0 x1 x2 x3 (16384 + (i 0).val) (1408 + (i 1).val) := by
  have h0 : (i 0).val < 1024 := (i 0).isLt
  have h1 : (i 1).val < 256 := (i 1).isLt
  rw [val_main_v189_apply, ctx_v]
  unfold ctxRow
  congr 1 <;> simp <;> omega

theorem ctx_bout (i : S1024x512.Idx) : val_main_v190 (F := Ideal) x0 x1 x2 x3 i = inProj x0 x1 x2 x3 (16384 + (i 0).val) (1664 + (i 1).val) := by
  have h0 : (i 0).val < 1024 := (i 0).isLt
  have h1 : (i 1).val < 512 := (i 1).isLt
  rw [val_main_v190_apply, ctx_b]
  unfold ctxRow
  congr 1 <;> simp <;> omega

theorem ctx_gout (i : S1024x512.Idx) : val_main_v191 (F := Ideal) x0 x1 x2 x3 i = gatedOut x0 x1 x2 x3 (16384 + (i 0).val) (i 1).val := by
  have h0 : (i 0).val < 1024 := (i 0).isLt
  have h1 : (i 1).val < 512 := (i 1).isLt
  rw [val_main_v191_apply, val_main_v184_apply]
  refine congrArg₂ (· * ·) ((ctx_c x0 x1 x2 x3 _).trans ?_) ((ctx_u x0 x1 x2 x3 _).trans ?_)
  all_goals
    unfold ctxRow
    congr 1 <;> simp <;> omega

theorem ctx_fcol (i : S4x256x4x128.Idx) : val_main_v181 (F := Ideal) x0 x1 x2 x3 i
    = inProj x0 x1 x2 x3 (ctxRow (i 0) (i 1)) (3200 + 128 * (i 2).val + (i 3).val) := by
  have h0 : (i 0).val < 4 := (i 0).isLt
  have h1 : (i 1).val < 256 := (i 1).isLt
  have h2 : (i 2).val < 4 := (i 2).isLt
  have h3 : (i 3).val < 128 := (i 3).isLt
  rw [val_main_v181_apply, ctx_f]
  unfold ctxRow
  congr 1 <;> simp <;> omega

theorem ctx_yout (i : S1024x512.Idx) :
    val_main_v192 (F := Ideal) x0 x1 x2 x3 x16 i = channelOut x0 x1 x2 x3 x16 (16384 + (i 0).val) (i 1).val := by
  have h0 : (i 0).val < 1024 := (i 0).isLt
  have h1 : (i 1).val < 512 := (i 1).isLt
  rw [val_main_v192_apply, val_main_v185_apply]
  refine Finset.sum_congr rfl fun y _ => congrArg₂ (· * ·) ((ctx_fcol x0 x1 x2 x3 _).trans ?_) (at2_idx x16 _ _ _ rfl ?_)
  · unfold ctxRow
    congr 1 <;> simp <;> omega
  · simp <;> omega

theorem ctx_zout (i : S1024x512.Idx) :
    val_main_v193 (F := Ideal) x0 x1 x2 x3 x17 i = channelOut x0 x1 x2 x3 x17 (16384 + (i 0).val) (i 1).val := by
  have h0 : (i 0).val < 1024 := (i 0).isLt
  have h1 : (i 1).val < 512 := (i 1).isLt
  rw [val_main_v193_apply, val_main_v186_apply]
  refine Finset.sum_congr rfl fun y _ => congrArg₂ (· * ·) ((ctx_fcol x0 x1 x2 x3 _).trans ?_) (at2_idx x17 _ _ _ rfl ?_)
  · unfold ctxRow
    congr 1 <;> simp <;> omega
  · simp <;> omega

end Cert.RefProjIdeal.Rows

end
-- ==== Proof.ProjRef.lean ====
/- The projections' reference: its results. -/
module

public import proofs.«01_k».proof.Proof.Gen.RefProjIdeal.Read
public import proofs.«01_k».proof.Proof.ProjSpec
public import Idealize.ShloMosaic.Lib.Pointwise
public import Idealize.ShloMosaic.Lib.Pipeline.ValueKit
public import proofs.«01_k».proof.Proof.ProjRefLatent
public import proofs.«01_k».proof.Proof.ProjRefContext

@[expose] public section

set_option maxRecDepth 16384

noncomputable section

namespace Cert.RefProjIdeal.Rows

open Cert.RefProjIdeal Cert.RefProjIdeal.Gen Cert.RefProjIdeal.Read Cert.Layer Idealize.ShloMosaic

variable (x0 : (⟨S17408x2048, .f32⟩ : BufTy).Contents (Elt Ideal))
  (x1 : (⟨S4x8x9x1x2048, .f32⟩ : BufTy).Contents (Elt Ideal))
  (x2 : (⟨S2048, .f32⟩ : BufTy).Contents (Elt Ideal))
  (x3 : (⟨S2048x3712, .f32⟩ : BufTy).Contents (Elt Ideal))
  (x10 : (⟨S128, .f32⟩ : BufTy).Contents (Elt Ideal))
  (x11 : (⟨S128, .f32⟩ : BufTy).Contents (Elt Ideal))
  (x14 : (⟨S4096x64, .f32⟩ : BufTy).Contents (Elt Ideal))
  (x15 : (⟨S4096x64, .f32⟩ : BufTy).Contents (Elt Ideal))
  (x16 : (⟨S128x128, .f32⟩ : BufTy).Contents (Elt Ideal))
  (x17 : (⟨S128x128, .f32⟩ : BufTy).Contents (Elt Ideal))

/-- Two matrices of 512 columns one above the other. -/
theorem above512 (a : S16384x512.Idx → EReal) (b : S1024x512.Idx → EReal)
    (h : Shape.Concatenates [S16384x512, S1024x512] S17408x512 0) (R : Fin 17408) (C : Fin 512) :
    concatenate S17408x512 0 [⟨S16384x512, a⟩, ⟨S1024x512, b⟩] h (ix2 R C)
      = if k : R.val < 16384 then a (ix2 ⟨R, k⟩ C) else b (ix2 ⟨R - 16384, by omega⟩ C) := by
  pointwise

/-- Both halves of a function of the row and the column are that function. -/
theorem whole512 (a : S16384x512.Idx → EReal) (b : S1024x512.Idx → EReal)
    (h : Shape.Concatenates [S16384x512, S1024x512] S17408x512 0) (G : Nat → Nat → EReal)
    (ha : ∀ i, a i = G (i 0).val (i 1).val) (hb : ∀ i, b i = G (16384 + (i 0).val) (i 1).val) (i : S17408x512.Idx) :
    concatenate S17408x512 0 [⟨S16384x512, a⟩, ⟨S1024x512, b⟩] h i = G (i 0).val (i 1).val := by
  refine (congrArg _ (eq_ix2 i)).trans ((above512 a b h (i 0) (i 1)).trans ?_)
  split
  · exact ha _
  · next k =>
    exact (hb _).trans (congrArg (fun R => G R (i 1).val) (Nat.add_sub_of_le (Nat.le_of_not_lt k)))

/-- Two matrices of 256 columns one above the other. -/
theorem above256 (a : S16384x256.Idx → EReal) (b : S1024x256.Idx → EReal)
    (h : Shape.Concatenates [S16384x256, S1024x256] S17408x256 0) (R : Fin 17408) (C : Fin 256) :
    concatenate S17408x256 0 [⟨S16384x256, a⟩, ⟨S1024x256, b⟩] h (ix2 R C)
      = if k : R.val < 16384 then a (ix2 ⟨R, k⟩ C) else b (ix2 ⟨R - 16384, by omega⟩ C) := by
  pointwise

/-- Both halves of a function of the row and the column are that function. -/
theorem whole256 (a : S16384x256.Idx → EReal) (b : S1024x256.Idx → EReal)
    (h : Shape.Concatenates [S16384x256, S1024x256] S17408x256 0) (G : Nat → Nat → EReal)
    (ha : ∀ i, a i = G (i 0).val (i 1).val) (hb : ∀ i, b i = G (16384 + (i 0).val) (i 1).val) (i : S17408x256.Idx) :
    concatenate S17408x256 0 [⟨S16384x256, a⟩, ⟨S1024x256, b⟩] h i = G (i 0).val (i 1).val := by
  refine (congrArg _ (eq_ix2 i)).trans ((above256 a b h (i 0) (i 1)).trans ?_)
  split
  · exact ha _
  · next k =>
    exact (hb _).trans (congrArg (fun R => G R (i 1).val) (Nat.add_sub_of_le (Nat.le_of_not_lt k)))

theorem queries (i : S17408x512.Idx) :
    val_main_v195 (F := Ideal) x0 x1 x2 x3 x10 x14 x15 i = (queryOut x0 x1 x2 x3 x10 x14 x15) (i 0).val (i 1).val := by
  refine (val_main_v195_apply x0 x1 x2 x3 x10 x14 x15 i).trans ?_
  show val_main_v194 (F := Ideal) x0 x1 x2 x3 x10 x14 x15 i = _
  unfold val_main_v194
  exact whole512 _ _ _ (queryOut x0 x1 x2 x3 x10 x14 x15) (lat_qout x0 x1 x2 x3 x10 x14 x15) (ctx_qout x0 x1 x2 x3 x10 x14 x15) i

theorem keys (i : S17408x256.Idx) :
    val_main_v197 (F := Ideal) x0 x1 x2 x3 x11 x14 x15 i = (keyOut x0 x1 x2 x3 x11 x14 x15) (i 0).val (i 1).val := by
  refine (val_main_v197_apply x0 x1 x2 x3 x11 x14 x15 i).trans ?_
  show val_main_v196 (F := Ideal) x0 x1 x2 x3 x11 x14 x15 i = _
  unfold val_main_v196
  exact whole256 _ _ _ (keyOut x0 x1 x2 x3 x11 x14 x15) (lat_kout x0 x1 x2 x3 x11 x14 x15) (ctx_kout x0 x1 x2 x3 x11 x14 x15) i

theorem values (i : S17408x256.Idx) :
    val_main_v199 (F := Ideal) x0 x1 x2 x3 i = (fun R C => inProj x0 x1 x2 x3 R (1408 + C)) (i 0).val (i 1).val := by
  refine (val_main_v199_apply x0 x1 x2 x3 i).trans ?_
  show val_main_v198 (F := Ideal) x0 x1 x2 x3 i = _
  unfold val_main_v198
  exact whole256 _ _ _ (fun R C => inProj x0 x1 x2 x3 R (1408 + C)) (lat_vout x0 x1 x2 x3) (ctx_vout x0 x1 x2 x3) i

theorem gates (i : S17408x512.Idx) :
    val_main_v200 (F := Ideal) x0 x1 x2 x3 i = (fun R C => inProj x0 x1 x2 x3 R (1664 + C)) (i 0).val (i 1).val := by
  unfold val_main_v200
  exact whole512 _ _ _ (fun R C => inProj x0 x1 x2 x3 R (1664 + C)) (lat_bout x0 x1 x2 x3) (ctx_bout x0 x1 x2 x3) i

theorem gated (i : S17408x512.Idx) :
    val_main_v201 (F := Ideal) x0 x1 x2 x3 i = (gatedOut x0 x1 x2 x3) (i 0).val (i 1).val := by
  unfold val_main_v201
  exact whole512 _ _ _ (gatedOut x0 x1 x2 x3) (lat_gout x0 x1 x2 x3) (ctx_gout x0 x1 x2 x3) i

theorem first (i : S17408x512.Idx) :
    val_main_v203 (F := Ideal) x0 x1 x2 x3 x16 i = (channelOut x0 x1 x2 x3 x16) (i 0).val (i 1).val := by
  refine (val_main_v203_apply x0 x1 x2 x3 x16 i).trans ?_
  show val_main_v202 (F := Ideal) x0 x1 x2 x3 x16 i = _
  unfold val_main_v202
  exact whole512 _ _ _ (channelOut x0 x1 x2 x3 x16) (lat_yout x0 x1 x2 x3 x16) (ctx_yout x0 x1 x2 x3 x16) i

theorem second (i : S17408x512.Idx) :
    val_main_v205 (F := Ideal) x0 x1 x2 x3 x17 i = (channelOut x0 x1 x2 x3 x17) (i 0).val (i 1).val := by
  refine (val_main_v205_apply x0 x1 x2 x3 x17 i).trans ?_
  show val_main_v204 (F := Ideal) x0 x1 x2 x3 x17 i = _
  unfold val_main_v204
  exact whole512 _ _ _ (channelOut x0 x1 x2 x3 x17) (lat_zout x0 x1 x2 x3 x17) (ctx_zout x0 x1 x2 x3 x17) i

end Cert.RefProjIdeal.Rows

end
-- ==== Proof.Proj.lean ====
/- The projections: the kernel computes the reference. -/
module

public import proofs.«01_k».proof.Proof.ProjKernel
public import proofs.«01_k».proof.Proof.ProjRef
public import proofs.«01_k».proof.Proof.Gen.RefProjIdeal.Run
public import proofs.«01_k».proof.Defs

@[expose] public section

set_option maxRecDepth 16384

noncomputable section

namespace Cert.ProjClaim

open Cert.Layer Idealize.ShloMosaic Idealize.ShloMosaic.TcCoe Idealize.SL.Sem

theorem algebraic : Cert.algebraic_ProjIdeal_RefProjIdeal := by
  intro m g m' g' hpre hagree
  have hker := Cert.ProjIdeal.Rows.run m g
  have href := Cert.RefProjIdeal.Value.run (F := Ideal) m' g'
  refine ⟨fun c => Cert.ProjIdeal.Rows.RESULT23 m c, fun c => Cert.ProjIdeal.Rows.RESULT24 m c, fun c => Cert.ProjIdeal.Rows.RESULT25 m c, fun c => Cert.ProjIdeal.Rows.RESULT26 m c, fun c => Cert.ProjIdeal.Rows.RESULT27 m c, fun c => Cert.ProjIdeal.Rows.RESULT28 m c, fun c => Cert.ProjIdeal.Rows.RESULT29 m c, hker, ?_⟩
  refine (θ_run Cert.RefProjIdeal.defs _ _).mono (fun _ h c => ?_) href
  obtain ⟨a0, a1, a2, a3, a4, a5, a6, a7, a8, a9, a10, a11, a12, a13, a14, a15, a16, a17⟩ := hagree c
  obtain ⟨h0, h1, h2, h3, h4, h5, h6, hrest⟩ := h c
  refine ⟨h0.trans ?_, h1.trans ?_, h2.trans ?_, h3.trans ?_, h4.trans ?_, h5.trans ?_, h6.trans ?_, hrest⟩
  · refine (Cert.RefProjIdeal.Read.val_main_v195_eq _).trans ?_
    refine (funext fun i => Cert.RefProjIdeal.Rows.queries _ _ _ _ _ _ _ i).trans ?_
    show (fun i : Cert.RefProjIdeal.S17408x512.Idx => queryOut (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (m' ((c.tc : Thread _ _).loc Cert.RefProjIdeal.main_arg10)) (m' ((c.tc : Thread _ _).loc Cert.RefProjIdeal.main_arg14)) (m' ((c.tc : Thread _ _).loc Cert.RefProjIdeal.main_arg15)) (i 0).val (i 1).val) = Cert.ProjIdeal.Rows.RESULT23 m c
    rw [a0, a1, a2, a3, a10, a14, a15]
    rfl
  · refine (Cert.RefProjIdeal.Read.val_main_v197_eq _).trans ?_
    refine (funext fun i => Cert.RefProjIdeal.Rows.keys _ _ _ _ _ _ _ i).trans ?_
    show (fun i : Cert.RefProjIdeal.S17408x256.Idx => keyOut (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (m' ((c.tc : Thread _ _).loc Cert.RefProjIdeal.main_arg11)) (m' ((c.tc : Thread _ _).loc Cert.RefProjIdeal.main_arg14)) (m' ((c.tc : Thread _ _).loc Cert.RefProjIdeal.main_arg15)) (i 0).val (i 1).val) = Cert.ProjIdeal.Rows.RESULT24 m c
    rw [a0, a1, a2, a3, a11, a14, a15]
    rfl
  · refine (Cert.RefProjIdeal.Read.val_main_v199_eq _).trans ?_
    refine (funext fun i => Cert.RefProjIdeal.Rows.values _ _ _ _ i).trans ?_
    show (fun i : Cert.RefProjIdeal.S17408x256.Idx => inProj (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (i 0).val (1408 + (i 1).val)) = Cert.ProjIdeal.Rows.RESULT25 m c
    rw [a0, a1, a2, a3]
    rfl
  · refine (Cert.RefProjIdeal.Read.val_main_v200_eq _).trans ?_
    refine (funext fun i => Cert.RefProjIdeal.Rows.gates _ _ _ _ i).trans ?_
    show (fun i : Cert.RefProjIdeal.S17408x512.Idx => inProj (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (i 0).val (1664 + (i 1).val)) = Cert.ProjIdeal.Rows.RESULT26 m c
    rw [a0, a1, a2, a3]
    rfl
  · refine (Cert.RefProjIdeal.Read.val_main_v201_eq _).trans ?_
    refine (funext fun i => Cert.RefProjIdeal.Rows.gated _ _ _ _ i).trans ?_
    show (fun i : Cert.RefProjIdeal.S17408x512.Idx => gatedOut (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (i 0).val (i 1).val) = Cert.ProjIdeal.Rows.RESULT27 m c
    rw [a0, a1, a2, a3]
    rfl
  · refine (Cert.RefProjIdeal.Read.val_main_v203_eq _).trans ?_
    refine (funext fun i => Cert.RefProjIdeal.Rows.first _ _ _ _ _ i).trans ?_
    show (fun i : Cert.RefProjIdeal.S17408x512.Idx => channelOut (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (m' ((c.tc : Thread _ _).loc Cert.RefProjIdeal.main_arg16)) (i 0).val (i 1).val) = Cert.ProjIdeal.Rows.RESULT28 m c
    rw [a0, a1, a2, a3, a16]
    rfl
  · refine (Cert.RefProjIdeal.Read.val_main_v205_eq _).trans ?_
    refine (funext fun i => Cert.RefProjIdeal.Rows.second _ _ _ _ _ i).trans ?_
    show (fun i : Cert.RefProjIdeal.S17408x512.Idx => channelOut (m' ((c.tc : Thread _ _).loc Cert.RefProjIdeal.main_arg0)) (m' ((c.tc : Thread _ _).loc Cert.RefProjIdeal.main_arg1)) (m' ((c.tc : Thread _ _).loc Cert.RefProjIdeal.main_arg2)) (m' ((c.tc : Thread _ _).loc Cert.RefProjIdeal.main_arg3)) (m' ((c.tc : Thread _ _).loc Cert.RefProjIdeal.main_arg17)) (i 0).val (i 1).val) = Cert.ProjIdeal.Rows.RESULT29 m c
    rw [a0, a1, a2, a3, a17]
    rfl

end Cert.ProjClaim

end
-- ==== Proof.lean ====
/- The certificate: the latent attention, the grouped-query attention, the feed-forward layer, the merge of the branches, the projections. Each kernel and each reference ends with its arguments and
   semaphores as they were, the ideal kernel is the kernel, and kernel and reference compute the same over the extended reals. -/
module

public import proofs.«01_k».proof.Defs
public import proofs.«01_k».proof.Proof.AttA
public import proofs.«01_k».proof.Proof.Gen.AttA
public import proofs.«01_k».proof.Proof.Gen.AttA.Frame
public import proofs.«01_k».proof.Proof.Gen.AttAIdeal
public import proofs.«01_k».proof.Proof.Gen.AttAIdeal.Frame
public import proofs.«01_k».proof.Proof.Gen.RefAIdeal
public import proofs.«01_k».proof.Proof.Gen.RefAIdeal.Run
public import proofs.«01_k».proof.Proof.AttB
public import proofs.«01_k».proof.Proof.Gen.AttB
public import proofs.«01_k».proof.Proof.Gen.AttB.Frame
public import proofs.«01_k».proof.Proof.Gen.AttBIdeal
public import proofs.«01_k».proof.Proof.Gen.AttBIdeal.Frame
public import proofs.«01_k».proof.Proof.Gen.RefBIdeal
public import proofs.«01_k».proof.Proof.Gen.RefBIdeal.Run
public import proofs.«01_k».proof.Proof.Ffn
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.RefFfnIdeal
public import proofs.«01_k».proof.Proof.Gen.RefFfnIdeal.Run
public import proofs.«01_k».proof.Proof.Merge
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.RefMergeIdeal
public import proofs.«01_k».proof.Proof.Gen.RefMergeIdeal.Run
public import proofs.«01_k».proof.Proof.Proj
public import proofs.«01_k».proof.Proof.Gen.Proj
public import proofs.«01_k».proof.Proof.ProjFrame
public import proofs.«01_k».proof.Proof.Gen.ProjIdeal
public import proofs.«01_k».proof.Proof.ProjIdealFrame
public import proofs.«01_k».proof.Proof.Gen.RefProjIdeal
public import proofs.«01_k».proof.Proof.Gen.RefProjIdeal.Run
public import proofs.«01_k».proof.Proof.Gen.Pre_finite_a
public import proofs.«01_k».proof.Proof.Gen.Pre_finite_b
public import proofs.«01_k».proof.Proof.Gen.On_latent_rows_AttAIdeal
public import proofs.«01_k».proof.Proof.Gen.On_latent_rows_AttBIdeal
public import Idealize.ShloMosaic.Adequacy
public import Idealize.ShloMosaic.Init

@[expose] public section

noncomputable section

namespace Cert.Proof

open Idealize.ShloMosaic Idealize.SL.Sem

theorem claim : Cert.Claim := ⟨Cert.AttA.Gen.facts,
  Cert.AttAIdeal.Gen.facts,
  Cert.RefAIdeal.Gen.facts,
  Cert.AttB.Gen.facts,
  Cert.AttBIdeal.Gen.facts,
  Cert.RefBIdeal.Gen.facts,
  Cert.Ffn.Gen.facts,
  Cert.FfnIdeal.Gen.facts,
  Cert.RefFfnIdeal.Gen.facts,
  Cert.Merge.Gen.facts,
  Cert.MergeIdeal.Gen.facts,
  Cert.RefMergeIdeal.Gen.facts,
  Cert.Proj.Gen.facts,
  Cert.ProjIdeal.Gen.facts,
  Cert.RefProjIdeal.Gen.facts,
  Cert.Pre_finite_a.Gen.facts,
  Cert.Pre_finite_b.Gen.facts,
  Cert.On_latent_rows_AttAIdeal.Gen.facts,
  Cert.On_latent_rows_AttBIdeal.Gen.facts,
  fun m ρ _ => Cert.AttA.Gen.frame m ρ,
  fun m ρ _ => Cert.AttAIdeal.Gen.frame m ρ,
  fun m ρ _ => Cert.AttAIdeal.Gen.frame m ρ,
  fun m ρ _ => (θ_run Cert.RefAIdeal.defs _ _).mono
      (fun s h => ⟨fun c => (h c).2, Idealize.ShloMosaic.sem_eq_zero_of_no_sems (by decide) s.2⟩)
      (Cert.RefAIdeal.Value.run (F := Ideal) m ρ),
  fun m ρ _ => Cert.AttB.Gen.frame m ρ,
  fun m ρ _ => Cert.AttBIdeal.Gen.frame m ρ,
  fun m ρ _ => Cert.AttBIdeal.Gen.frame m ρ,
  fun m ρ _ => (θ_run Cert.RefBIdeal.defs _ _).mono
      (fun s h => ⟨fun c => (h c).2, Idealize.ShloMosaic.sem_eq_zero_of_no_sems (by decide) s.2⟩)
      (Cert.RefBIdeal.Value.run (F := Ideal) m ρ),
  fun m ρ _ => Cert.Ffn.Gen.frame m ρ,
  fun m ρ _ => Cert.FfnIdeal.Gen.frame m ρ,
  fun m ρ _ => (θ_run Cert.RefFfnIdeal.defs _ _).mono
      (fun s h => ⟨fun c => (h c).2, Idealize.ShloMosaic.sem_eq_zero_of_no_sems (by decide) s.2⟩)
      (Cert.RefFfnIdeal.Value.run (F := Ideal) m ρ),
  fun m ρ _ => Cert.Merge.Gen.frame m ρ,
  fun m ρ _ => Cert.MergeIdeal.Gen.frame m ρ,
  fun m ρ _ => (θ_run Cert.RefMergeIdeal.defs _ _).mono
      (fun s h => ⟨fun c => (h c).2, Idealize.ShloMosaic.sem_eq_zero_of_no_sems (by decide) s.2⟩)
      (Cert.RefMergeIdeal.Value.run (F := Ideal) m ρ),
  fun m ρ _ => Cert.Proj.Gen.frame m ρ,
  fun m ρ _ => Cert.ProjIdeal.Gen.frame m ρ,
  fun m ρ _ => (θ_run Cert.RefProjIdeal.defs _ _).mono
      (fun s h => ⟨fun c => (h c).2.2.2.2.2.2.2, Idealize.ShloMosaic.sem_eq_zero_of_no_sems (by decide) s.2⟩)
      (Cert.RefProjIdeal.Value.run (F := Ideal) m ρ),
  trivial,
  Cert.AttAClaim.algebraic,
  trivial,
  Cert.AttBClaim.algebraic,
  trivial,
  Cert.FfnClaim.algebraic,
  trivial,
  Cert.MergeClaim.algebraic,
  trivial,
  Cert.ProjClaim.algebraic⟩

end Cert.Proof

end
